-- ==== Defs.lean ====
def Pre_Kernel [hPre_places_distinct : Cert.Pre_places_distinct.Facts] (m : (ℓ : Loc Cert.Kernel.nD Cert.Kernel.τ Cert.Kernel.sig) → Buf (Elt Bits) ℓ) : Prop :=
  ∀ c : Dev Cert.Kernel.nD,
    (Cert.Pre_places_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_places_distinct : Cert.Pre_places_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_places_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_places_distinct [hPre_places_distinct : Cert.Pre_places_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_places_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_places_distinct : Cert.Pre_places_distinct.Facts] (m : (ℓ : Loc Cert.Reference.nD Cert.Reference.τ Cert.Reference.sig) → Buf (Elt Bits) ℓ) : Prop :=
  ∀ c : Dev Cert.Reference.nD,
    (Cert.Pre_places_distinct.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_tables_in_range : Cert.Pre_tables_in_range.Facts] (m : (ℓ : Loc Cert.Kernel3.nD Cert.Kernel3.τ Cert.Kernel3.sig) → Buf (Elt Bits) ℓ) : Prop :=
  ∀ c : Dev Cert.Kernel3.nD,
    (Cert.Pre_tables_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_tables_in_range : Cert.Pre_tables_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_in_range [hPre_tables_in_range : Cert.Pre_tables_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 [hPre_places_in_range : Cert.Pre_places_in_range.Facts] (m : (ℓ : Loc Cert.Kernel4.nD Cert.Kernel4.τ Cert.Kernel4.sig) → Buf (Elt Bits) ℓ) : Prop :=
  ∀ c : Dev Cert.Kernel4.nD,
    (Cert.Pre_places_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_places_in_range : Cert.Pre_places_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_places_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_places_in_range [hPre_places_in_range : Cert.Pre_places_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_places_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_places_in_range : Cert.Pre_places_in_range.Facts] (m : (ℓ : Loc Cert.Kernel7.nD Cert.Kernel7.τ Cert.Kernel7.sig) → Buf (Elt Bits) ℓ) : Prop :=
  ∀ c : Dev Cert.Kernel7.nD,
    (Cert.Pre_places_in_range.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_places_in_range : Cert.Pre_places_in_range.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_places_in_range.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_places_in_range [hPre_places_in_range : Cert.Pre_places_in_range.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_places_in_range.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] [hPre_places_distinct : Cert.Pre_places_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_places_distinct : Cert.Pre_places_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_places_distinct [hReferenceIdeal : Cert.ReferenceIdeal.Facts] [hPre_places_distinct : Cert.Pre_places_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_places_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_places_distinct : Cert.Pre_places_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_tables_in_range : Cert.Pre_tables_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_tables_in_range [hReference3Ideal : Cert.Reference3Ideal.Facts] [hPre_tables_in_range : Cert.Pre_tables_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_places_in_range : Cert.Pre_places_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_places_in_range : Cert.Pre_places_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_places_in_range [hReference4Ideal : Cert.Reference4Ideal.Facts] [hPre_places_in_range : Cert.Pre_places_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_places_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] [hPre_places_in_range : Cert.Pre_places_in_range.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_places_in_range : Cert.Pre_places_in_range.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_places_in_range [hReference7Ideal : Cert.Reference7Ideal.Facts] [hPre_places_in_range : Cert.Pre_places_in_range.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_places_in_range m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_places_distinct : Cert.Pre_places_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_places_distinct : Cert.Pre_places_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_tables_in_range : Cert.Pre_tables_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_places_in_range : Cert.Pre_places_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v22)) (v2 : (c : Dev Cert.Kernel5Ideal.nD) → Buf (Elt Ideal) ((c.tc : Thread Cert.Kernel5Ideal.nD Cert.Kernel5Ideal.τ).loc Cert.Kernel5Ideal.main_v24)) (v3 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_v24) = v2 c
          ∧ r.2.mem ((c.tc : Thread Cert.Kernel5Ideal.nD Cert.Kernel5Ideal.τ).loc Cert.Kernel5Ideal.main_v26) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v93) = v1 c
          ∧ r.2.mem ((c.tc : Thread Cert.Reference5Ideal.nD Cert.Reference5Ideal.τ).loc Cert.Reference5Ideal.main_v95) = v2 c
          ∧ r.2.mem ((c.tc : Thread Cert.Reference5Ideal.nD Cert.Reference5Ideal.τ).loc Cert.Reference5Ideal.main_v96) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v19)) (v2 : (c : Dev Cert.Kernel6Ideal.nD) → Buf (Elt Ideal) ((c.tc : Thread Cert.Kernel6Ideal.nD Cert.Kernel6Ideal.τ).loc Cert.Kernel6Ideal.main_v21)) (v3 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v19) = v1 c
          ∧ r.2.mem ((c.tc : Thread Cert.Kernel6Ideal.nD Cert.Kernel6Ideal.τ).loc Cert.Kernel6Ideal.main_v21) = v2 c
          ∧ r.2.mem ((c.tc : Thread Cert.Kernel6Ideal.nD Cert.Kernel6Ideal.τ).loc Cert.Kernel6Ideal.main_v23) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v92) = v2 c
          ∧ r.2.mem ((c.tc : Thread Cert.Reference6Ideal.nD Cert.Reference6Ideal.τ).loc Cert.Reference6Ideal.main_v93) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] [hPre_places_in_range : Cert.Pre_places_in_range.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_places_distinct : Cert.Pre_places_distinct.Facts) (hPre_tables_in_range : Cert.Pre_tables_in_range.Facts) (hPre_places_in_range : Cert.Pre_places_in_range.Facts),
    quiescent_Kernel (hKernel := hKernel) (hPre_places_distinct := hPre_places_distinct)
    ∧ quiescent_KernelIdeal (hKernelIdeal := hKernelIdeal) (hPre_places_distinct := hPre_places_distinct)
    ∧ quiescent_ReferenceIdeal (hReferenceIdeal := hReferenceIdeal)
    ∧ quiescent_ReferenceIdeal_pre_places_distinct (hReferenceIdeal := hReferenceIdeal) (hPre_places_distinct := hPre_places_distinct)
    ∧ quiescent_Reference (hReference := hReference) (hPre_places_distinct := hPre_places_distinct)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3) (hPre_tables_in_range := hPre_tables_in_range)
    ∧ quiescent_Kernel3Ideal (hKernel3Ideal := hKernel3Ideal) (hPre_tables_in_range := hPre_tables_in_range)
    ∧ quiescent_Reference3Ideal (hReference3Ideal := hReference3Ideal)
    ∧ quiescent_Reference3Ideal_pre_tables_in_range (hReference3Ideal := hReference3Ideal) (hPre_tables_in_range := hPre_tables_in_range)
    ∧ quiescent_Kernel4 (hKernel4 := hKernel4) (hPre_places_in_range := hPre_places_in_range)
    ∧ quiescent_Kernel4Ideal (hKernel4Ideal := hKernel4Ideal) (hPre_places_in_range := hPre_places_in_range)
    ∧ quiescent_Reference4Ideal (hReference4Ideal := hReference4Ideal)
    ∧ quiescent_Reference4Ideal_pre_places_in_range (hReference4Ideal := hReference4Ideal) (hPre_places_in_range := hPre_places_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_places_in_range := hPre_places_in_range)
    ∧ quiescent_Kernel7Ideal (hKernel7Ideal := hKernel7Ideal) (hPre_places_in_range := hPre_places_in_range)
    ∧ quiescent_Reference7Ideal (hReference7Ideal := hReference7Ideal)
    ∧ quiescent_Reference7Ideal_pre_places_in_range (hReference7Ideal := hReference7Ideal) (hPre_places_in_range := hPre_places_in_range)
    ∧ preserves_Kernel_KernelIdeal
    ∧ algebraic_KernelIdeal_ReferenceIdeal (hKernelIdeal := hKernelIdeal) (hReferenceIdeal := hReferenceIdeal) (hPre_places_distinct := hPre_places_distinct)
    ∧ bitexact_Kernel_Reference (hKernel := hKernel) (hReference := hReference) (hPre_places_distinct := hPre_places_distinct)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal) (hPre_tables_in_range := hPre_tables_in_range)
    ∧ preserves_Kernel4_Kernel4Ideal
    ∧ algebraic_Kernel4Ideal_Reference4Ideal (hKernel4Ideal := hKernel4Ideal) (hReference4Ideal := hReference4Ideal) (hPre_places_in_range := hPre_places_in_range)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_places_in_range := hPre_places_in_range)
-- ==== Pre_places_distinct.lean ====
abbrev S33x2x512 : Shape := ⟨3, ![33, 2, 512]⟩
abbrev S16896x512 : Shape := ⟨2, ![16896, 512]⟩
abbrev S33792 : Shape := ⟨1, ![33792]⟩
abbrev S_ : Shape := ⟨0, ![]⟩
abbrev S33792x1 : Shape := ⟨2, ![33792, 1]⟩
abbrev S1x33792 : Shape := ⟨2, ![1, 33792]⟩
abbrev S33792x33792 : Shape := ⟨2, ![33792, 33792]⟩

class Facts : Prop where
  shapeCasts_S33x2x512_S33792 : S33x2x512.ShapeCasts S33792
  bcast_S_S33792 : S_.BroadcastsInDim S33792 (![] : Fin 0 → Fin S33792.rank)
  bcast_S33792_S33792x1_0 : S33792.BroadcastsInDim S33792x1 (![0] : Fin 1 → Fin S33792x1.rank)
  bcast_S33792_S1x33792_1 : S33792.BroadcastsInDim S1x33792 (![1] : Fin 1 → Fin S1x33792.rank)
  bcast_S33792x1_S33792x33792_0_1 : S33792x1.BroadcastsInDim S33792x33792 (![0, 1] : Fin 2 → Fin S33792x33792.rank)
  bcast_S1x33792_S33792x33792_0_1 : S1x33792.BroadcastsInDim S33792x33792 (![0, 1] : Fin 2 → Fin S33792x33792.rank)
  reducesTo_S33792_S_d0 : S33792.ReducesTo [0] S_
  h_S_ : 0 < S_.numel
  reducesTo_S33792x33792_S_d0_1 : S33792x33792.ReducesTo [0, 1] S_

variable [Facts]

def fn_part1 {F : FTy → Type} [FloatOps F] (main_v18 : IVec S_ 1) (main_v19 : IVec S_ 1) : IVec S_ 1 :=
  let main_v20 : IVec S_ 1 := andi main_v18 main_v19
  main_v20

def fn {F : FTy → Type} [FloatOps F] (main_arg0 : IVec S33x2x512 32) (main_arg1 : IVec S16896x512 32) : IVec S_ 1 :=
  let main_v0 : IVec S33792 32 := shapeCast S33792 main_arg0 shapeCasts_S33x2x512_S33792
  let main_v1 : IVec S33792 32 := iotaInDim S33792 32 0
  let main_c : IVec S_ 32 := constantI S_ 32 0#32
  let main_v2 : IVec S33792 32 := broadcastInDim S33792 ![] bcast_S_S33792 main_c
  let main_v3 : IVec S33792 1 := cmpi .sge main_v0 main_v2
  let main_c_0 : IVec S_ 32 := constantI S_ 32 41984#32
  let main_v4 : IVec S33792 32 := broadcastInDim S33792 ![] bcast_S_S33792 main_c_0
  let main_v5 : IVec S33792 1 := cmpi .slt main_v0 main_v4
  let main_v6 : IVec S33792 1 := andi main_v3 main_v5
  let main_v7 : IVec S33792x1 32 := broadcastInDim S33792x1 ![0] bcast_S33792_S33792x1_0 main_v0
  let main_v8 : IVec S1x33792 32 := broadcastInDim S1x33792 ![1] bcast_S33792_S1x33792_1 main_v0
  let main_v9 : IVec S33792x33792 32 := broadcastInDim S33792x33792 ![0, 1] bcast_S33792x1_S33792x33792_0_1 main_v7
  let main_v10 : IVec S33792x33792 32 := broadcastInDim S33792x33792 ![0, 1] bcast_S1x33792_S33792x33792_0_1 main_v8
  let main_v11 : IVec S33792x33792 1 := cmpi .ne main_v9 main_v10
  let main_v12 : IVec S33792x1 32 := broadcastInDim S33792x1 ![0] bcast_S33792_S33792x1_0 main_v1
  let main_v13 : IVec S1x33792 32 := broadcastInDim S1x33792 ![1] bcast_S33792_S1x33792_1 main_v1
  let main_v14 : IVec S33792x33792 32 := broadcastInDim S33792x33792 ![0, 1] bcast_S33792x1_S33792x33792_0_1 main_v12
  let main_v15 : IVec S33792x33792 32 := broadcastInDim S33792x33792 ![0, 1] bcast_S1x33792_S33792x33792_0_1 main_v13
  let main_v16 : IVec S33792x33792 1 := cmpi .eq main_v14 main_v15
  let main_v17 : IVec S33792x33792 1 := ori main_v11 main_v16
  let main_c_1 : IVec S_ 1 := constantI S_ 1 1#1
  let main_v18 : IVec S_ 1 := (fun x v => Host.reduce IntOp.andi x v reducesTo_S33792_S_d0 h_S_) main_v6 main_c_1
  let main_c_2 : IVec S_ 1 := constantI S_ 1 1#1
  let main_v19 : IVec S_ 1 := (fun x v => Host.reduce IntOp.andi x v reducesTo_S33792x33792_S_d0_1 h_S_) main_v17 main_c_2
  fn_part1 (F := F) main_v18 main_v19
-- ==== Pre_places_in_range.lean ====
abbrev S33x2x512 : Shape := ⟨3, ![33, 2, 512]⟩
abbrev S16896x1024 : Shape := ⟨2, ![16896, 1024]⟩
abbrev S8x16896 : Shape := ⟨2, ![8, 16896]⟩
abbrev S1024 : Shape := ⟨1, ![1024]⟩
abbrev S41984x1024 : Shape := ⟨2, ![41984, 1024]⟩
abbrev S_ : Shape := ⟨0, ![]⟩

class Facts : Prop where
  bcast_S_S33x2x512 : S_.BroadcastsInDim S33x2x512 (![] : Fin 0 → Fin S33x2x512.rank)
  reducesTo_S33x2x512_S_d0_1_2 : S33x2x512.ReducesTo [0, 1, 2] S_
  h_S_ : 0 < S_.numel

variable [Facts]

def fn {F : FTy → Type} [FloatOps F] (main_arg0 : IVec S33x2x512 32) (main_arg1 : FVec F S16896x1024 .f32) (main_arg2 : FVec F S8x16896 .f32) (main_arg3 : FVec F S1024 .f32) (main_arg4 : FVec F S41984x1024 .f32) : IVec S_ 1 :=
  let main_c : IVec S_ 32 := constantI S_ 32 0#32
  let main_v0 : IVec S33x2x512 32 := broadcastInDim S33x2x512 ![] bcast_S_S33x2x512 main_c
  let main_v1 : IVec S33x2x512 1 := cmpi .sge main_arg0 main_v0
  let main_c_0 : IVec S_ 32 := constantI S_ 32 41984#32
  let main_v2 : IVec S33x2x512 32 := broadcastInDim S33x2x512 ![] bcast_S_S33x2x512 main_c_0
  let main_v3 : IVec S33x2x512 1 := cmpi .slt main_arg0 main_v2
  let main_v4 : IVec S33x2x512 1 := andi main_v1 main_v3
  let main_c_1 : IVec S_ 1 := constantI S_ 1 1#1
  let main_v5 : IVec S_ 1 := (fun x v => Host.reduce IntOp.andi x v reducesTo_S33x2x512_S_d0_1_2 h_S_) main_v4 main_c_1
  main_v5
-- ==== Pre_tables_in_range.lean ====
abbrev S164 : Shape := ⟨1, ![164]⟩
abbrev S1 : Shape := ⟨1, ![1]⟩
abbrev S41984x512 : Shape := ⟨2, ![41984, 512]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S164 32) (main_arg1 : IVec S1 32) (main_arg2 : IVec S41984x512 32) (main_arg3 : FVec F S2x32x1024x512 .f32) (main_arg4 : FVec F S2x32x1024x512 .f32) (main_arg5 : FVec F S2x32x512x1024 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 164#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S33x2x512 : Shape := ⟨3, ![33, 2, 512]⟩
abbrev S16896x512 : Shape := ⟨2, ![16896, 512]⟩
abbrev S_ : Shape := ⟨0, ![]⟩
abbrev S41984x512 : Shape := ⟨2, ![41984, 512]⟩
abbrev S1x2x512 : Shape := ⟨3, ![1, 2, 512]⟩
abbrev S512x512 : Shape := ⟨2, ![512, 512]⟩
abbrev S1x1x1 : Shape := ⟨3, ![1, 1, 1]⟩
abbrev S1x512 : Shape := ⟨2, ![1, 512]⟩

abbrev nBuf : Space → Nat
  | .hbm => 4
  | .vmem => 2
  | .smem => 2
  | _ => 0

abbrev bufTy : (tb : Table) → Fin (tcTables nBuf tb) → BufTy
  | .hbm, ⟨0, _⟩ => ⟨S33x2x512, .i32⟩
  | .hbm, ⟨1, _⟩ => ⟨S16896x512, .i32⟩
  | .hbm, ⟨2, _⟩ => ⟨S_, .i32⟩
  | .hbm, ⟨3, _⟩ => ⟨S41984x512, .i32⟩
  | .local _ .vmem, ⟨0, _⟩ => ⟨S512x512, .i32⟩
  | .local _ .vmem, ⟨1, _⟩ => ⟨S512x512, .i32⟩
  | .local _ .smem, ⟨0, _⟩ => ⟨S1x2x512, .i32⟩
  | .local _ .smem, ⟨1, _⟩ => ⟨S1x2x512, .i32⟩
  | _, _ => ⟨S33x2x512, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0 : Index := 0#32
  let c0_5 : Index := 0#32
  let c0_i32 : BitVec 32 := 0#32
  let c1_i32 : BitVec 32 := 1#32
  let arg6 : BitVec 32 := Scf.iv c0_i32 c1_i32 k0_t1
  let v2 : Index := Scalar.indexCast arg6
  ![0, 0, v2.toNat]
def k0_off2 (v3 : BitVec 32) : Fin 2 → Nat :=
  let c0_i32_6 : BitVec 32 := 0#32
  ![v3.toNat, 0]

def k0_chk1 (v3 : BitVec 32) : Prop :=
  (∀ a, (k0_off2 v3) a + S1x512.size a ≤ S41984x512.size a)
theorem k0_off2_inb : ∀ (v3 : BitVec 32) (k0_hw1 : k0_chk1 v3), ∀ a, (k0_off2 v3) a + S1x512.size a ≤ S41984x512.size a := fun v3 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_7 : BitVec 32 := 0#32
  ![arg6.toNat, 0]
def k0_off4 (k0_t1 : Fin k0_t1_loop.trips) : Fin 3 → Nat :=
  let c0_8 : Index := 0#32
  let c1 : Index := 1#32
  let c0_i32 : BitVec 32 := 0#32
  let c1_i32 : BitVec 32 := 1#32
  let arg6 : BitVec 32 := Scf.iv c0_i32 c1_i32 k0_t1
  let v6 : Index := Scalar.indexCast arg6
  ![0, 1, v6.toNat]
def k0_off5 (v7 : BitVec 32) : Fin 2 → Nat :=
  let c0_i32_9 : BitVec 32 := 0#32
  ![v7.toNat, 0]

def k0_chk2 (v7 : BitVec 32) : Prop :=
  (∀ a, (k0_off5 v7) a + S1x512.size a ≤ S41984x512.size a)
theorem k0_off5_inb : ∀ (v7 : BitVec 32) (k0_hw2 : k0_chk2 v7), ∀ a, (k0_off5 v7) a + S1x512.size a ≤ S41984x512.size a := fun v7 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_10 : BitVec 32 := 0#32
  ![arg6.toNat, 0]
@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off7 (k0_t2 : Fin k0_t2_loop.trips) : Fin 3 → Nat :=
  let c0 : Index := 0#32
  let c0_5 : Index := 0#32
  let c0_i32_1 : BitVec 32 := 0#32
  let c1_i32_3 : BitVec 32 := 1#32
  let arg6 : BitVec 32 := Scf.iv c0_i32_1 c1_i32_3 k0_t2
  let v2 : Index := Scalar.indexCast arg6
  ![0, 0, v2.toNat]
def k0_off8 (v3 : BitVec 32) : Fin 2 → Nat :=
  let c0_i32_6 : BitVec 32 := 0#32
  ![v3.toNat, 0]

def k0_chk3 (v3 : BitVec 32) : Prop :=
  (∀ a, (k0_off8 v3) a + S1x512.size a ≤ S41984x512.size a)
theorem k0_off8_inb : ∀ (v3 : BitVec 32) (k0_hw3 : k0_chk3 v3), ∀ a, (k0_off8 v3) a + S1x512.size a ≤ S41984x512.size a := fun v3 k0_hw3 => k0_hw3

def k0_off9 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_7 : BitVec 32 := 0#32
  ![arg6.toNat, 0]
def k0_off10 (k0_t2 : Fin k0_t2_loop.trips) : Fin 3 → Nat :=
  let c0_8 : Index := 0#32
  let c1 : Index := 1#32
  let c0_i32_1 : BitVec 32 := 0#32
  let c1_i32_3 : BitVec 32 := 1#32
  let arg6 : BitVec 32 := Scf.iv c0_i32_1 c1_i32_3 k0_t2
  let v6 : Index := Scalar.indexCast arg6
  ![0, 1, v6.toNat]
def k0_off11 (v7 : BitVec 32) : Fin 2 → Nat :=
  let c0_i32_9 : BitVec 32 := 0#32
  ![v7.toNat, 0]

def k0_chk4 (v7 : BitVec 32) : Prop :=
  (∀ a, (k0_off11 v7) a + S1x512.size a ≤ S41984x512.size a)
theorem k0_off11_inb : ∀ (v7 : BitVec 32) (k0_hw4 : k0_chk4 v7), ∀ a, (k0_off11 v7) a + S1x512.size a ≤ S41984x512.size a := fun v7 k0_hw4 => k0_hw4

def k0_off12 (k0_t2 : Fin k0_t2_loop.trips) : Fin 2 → Nat :=
  let c0_i32_1 : BitVec 32 := 0#32
  let c1_i32_3 : BitVec 32 := 1#32
  let arg6 : BitVec 32 := Scf.iv c0_i32_1 c1_i32_3 k0_t2
  let c0_i32_10 : BitVec 32 := 0#32
  ![arg6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S33x2x512 : Shape := ⟨3, ![33, 2, 512]⟩
abbrev S16896x512 : Shape := ⟨2, ![16896, 512]⟩
abbrev S2x33x512 : Shape := ⟨3, ![2, 33, 512]⟩
abbrev S2x16896 : Shape := ⟨2, ![2, 16896]⟩
abbrev S_ : Shape := ⟨0, ![]⟩
abbrev S41984x512 : Shape := ⟨2, ![41984, 512]⟩
abbrev S1x16896 : Shape := ⟨2, ![1, 16896]⟩
abbrev S16896 : Shape := ⟨1, ![16896]⟩
abbrev S16896x1 : Shape := ⟨2, ![16896, 1]⟩

abbrev nBuf : Space → Nat
  | .hbm => 28
  | .vmem => 0
  | .smem => 0
  | _ => 0

abbrev bufTy : (tb : Table) → Fin (tcTables nBuf tb) → BufTy
  | .hbm, ⟨0, _⟩ => ⟨S33x2x512, .i32⟩
  | .hbm, ⟨1, _⟩ => ⟨S16896x512, .i32⟩
  | .hbm, ⟨2, _⟩ => ⟨S2x33x512, .i32⟩
  | .hbm, ⟨3, _⟩ => ⟨S2x16896, .i32⟩
  | .hbm, ⟨4, _⟩ => ⟨S_, .i32⟩
  | .hbm, ⟨5, _⟩ => ⟨S41984x512, .i32⟩
  | .hbm, ⟨6, _⟩ => ⟨S1x16896, .i32⟩
  | .hbm, ⟨7, _⟩ => ⟨S16896, .i32⟩
  | .hbm, ⟨8, _⟩ => ⟨S_, .i32⟩
  | .hbm, ⟨9, _⟩ => ⟨S16896, .i32⟩
  | .hbm, ⟨10, _⟩ => ⟨S16896, .i1⟩
  | .hbm, ⟨11, _⟩ => ⟨S_, .i32⟩
  | .hbm, ⟨12, _⟩ => ⟨S16896, .i32⟩
  | .hbm, ⟨13, _⟩ => ⟨S16896, .i32⟩
  | .hbm, ⟨14, _⟩ => ⟨S16896, .i32⟩
  | .hbm, ⟨15, _⟩ => ⟨S16896x1, .i32⟩
  | .hbm, ⟨16, _⟩ => ⟨S41984x512, .i32⟩
  | .hbm, ⟨17, _⟩ => ⟨S1x16896, .i32⟩
  | .hbm, ⟨18, _⟩ => ⟨S16896, .i32⟩
  | .hbm, ⟨19, _⟩ => ⟨S_, .i32⟩
  | .hbm, ⟨20, _⟩ => ⟨S16896, .i32⟩
  | .hbm, ⟨21, _⟩ => ⟨S16896, .i1⟩
  | .hbm, ⟨22, _⟩ => ⟨S_, .i32⟩
  | .hbm, ⟨23, _⟩ => ⟨S16896, .i32⟩
  | .hbm, ⟨24, _⟩ => ⟨S16896, .i32⟩
  | .hbm, ⟨25, _⟩ => ⟨S16896, .i32⟩
  | .hbm, ⟨26, _⟩ => ⟨S16896x1, .i32⟩
  | .hbm, ⟨27, _⟩ => ⟨S41984x512, .i32⟩
  | _, _ => ⟨S33x2x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S164 : Shape := ⟨1, ![164]⟩
abbrev S1 : Shape := ⟨1, ![1]⟩
abbrev S41984x512 : Shape := ⟨2, ![41984, 512]⟩
abbrev S2x32x1024x512 : Shape := ⟨4, ![2, 32, 1024, 512]⟩
abbrev S2x32x512x1024 : Shape := ⟨4, ![2, 32, 512, 1024]⟩
abbrev S41984x1024 : Shape := ⟨2, ![41984, 1024]⟩
abbrev S256x512 : Shape := ⟨2, ![256, 512]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S41984x512, .i32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S41984x1024, .f32⟩
  | .local _ .vmem, ⟨0, _⟩ => ⟨S256x512, .i32⟩
  | .local _ .vmem, ⟨1, _⟩ => ⟨S256x512, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S164, .i32⟩
  | .local _ .smem, ⟨1, _⟩ => ⟨S1, .i32⟩
  | _, _ => ⟨S41984x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v11 : BitVec 32) : BitVec 1 :=
  let arg0 : BitVec 32 := BitVec.ofNat 32 (i 0).val
  let v12 : BitVec 1 := Scalar.cmpi .slt arg0 v11
  let v_true : BitVec 1 := 1#1
  let v15 : BitVec 1 := Scalar.xori v12 v_true
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S164 : Shape := ⟨1, ![164]⟩
abbrev S1 : Shape := ⟨1, ![1]⟩
abbrev S41984x512 : Shape := ⟨2, ![41984, 512]⟩
abbrev S2x32x1024x512 : Shape := ⟨4, ![2, 32, 1024, 512]⟩
abbrev S2x32x512x1024 : Shape := ⟨4, ![2, 32, 512, 1024]⟩
abbrev S164x256 : Shape := ⟨2, ![164, 256]⟩
abbrev S41984 : Shape := ⟨1, ![41984]⟩
abbrev S_ : Shape := ⟨0, ![]⟩
abbrev S41984x512x2 : Shape := ⟨3, ![41984, 512, 2]⟩
abbrev S41984x2x512 : Shape := ⟨3, ![41984, 2, 512]⟩
abbrev S41984x1024 : Shape := ⟨2, ![41984, 1024]⟩
abbrev S1x32x1024x512 : Shape := ⟨4, ![1, 32, 1024, 512]⟩
abbrev S32x1024x512 : Shape := ⟨3, ![32, 1024, 512]⟩
abbrev S41984x1 : Shape := ⟨2, ![41984, 1]⟩
abbrev S41984x1024x512 : Shape := ⟨3, ![41984, 1024, 512]⟩
abbrev S1x32x512x1024 : Shape := ⟨4, ![1, 32, 512, 1024]⟩
abbrev S32x512x1024 : Shape := ⟨3, ![32, 512, 1024]⟩
abbrev S41984x512x1024 : Shape := ⟨3, ![41984, 512, 1024]⟩

abbrev nBuf : Space → Nat
  | .hbm => 70
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S41984x512, .i32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S164x256, .i32⟩
  | .hbm, ⟨7, _⟩ => ⟨S41984, .i32⟩
  | .hbm, ⟨8, _⟩ => ⟨S41984, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S41984, .i32⟩
  | .hbm, ⟨13, _⟩ => ⟨S41984, .i1⟩
  | .hbm, ⟨14, _⟩ => ⟨S41984x512x2, .bf16⟩
  | .hbm, ⟨15, _⟩ => ⟨S41984x2x512, .bf16⟩
  | .hbm, ⟨16, _⟩ => ⟨S41984x1024, .bf16⟩
  | .hbm, ⟨17, _⟩ => ⟨S41984x1024, .f32⟩
  | .hbm, ⟨18, _⟩ => ⟨S1x32x1024x512, .f32⟩
  | .hbm, ⟨19, _⟩ => ⟨S32x1024x512, .f32⟩
  | .hbm, ⟨20, _⟩ => ⟨S_, .i32⟩
  | .hbm, ⟨21, _⟩ => ⟨S41984, .i32⟩
  | .hbm, ⟨22, _⟩ => ⟨S41984, .i1⟩
  | .hbm, ⟨23, _⟩ => ⟨S_, .i32⟩
  | .hbm, ⟨24, _⟩ => ⟨S41984, .i32⟩
  | .hbm, ⟨25, _⟩ => ⟨S41984, .i32⟩
  | .hbm, ⟨26, _⟩ => ⟨S41984, .i32⟩
  | .hbm, ⟨27, _⟩ => ⟨S41984x1, .i32⟩
  | .hbm, ⟨28, _⟩ => ⟨S41984x1024x512, .f32⟩
  | .hbm, ⟨29, _⟩ => ⟨S1x32x1024x512, .f32⟩
  | .hbm, ⟨30, _⟩ => ⟨S32x1024x512, .f32⟩
  | .hbm, ⟨31, _⟩ => ⟨S_, .i32⟩
  | .hbm, ⟨32, _⟩ => ⟨S41984, .i32⟩
  | .hbm, ⟨33, _⟩ => ⟨S41984, .i1⟩
  | .hbm, ⟨34, _⟩ => ⟨S_, .i32⟩
  | .hbm, ⟨35, _⟩ => ⟨S41984, .i32⟩
  | .hbm, ⟨36, _⟩ => ⟨S41984, .i32⟩
  | .hbm, ⟨37, _⟩ => ⟨S41984, .i32⟩
  | .hbm, ⟨38, _⟩ => ⟨S41984x1, .i32⟩
  | .hbm, ⟨39, _⟩ => ⟨S41984x1024x512, .f32⟩
  | .hbm, ⟨40, _⟩ => ⟨S1x32x512x1024, .f32⟩
  | .hbm, ⟨41, _⟩ => ⟨S32x512x1024, .f32⟩
  | .hbm, ⟨42, _⟩ => ⟨S_, .i32⟩
  | .hbm, ⟨43, _⟩ => ⟨S41984, .i32⟩
  | .hbm, ⟨44, _⟩ => ⟨S41984, .i1⟩
  | .hbm, ⟨45, _⟩ => ⟨S_, .i32⟩
  | .hbm, ⟨46, _⟩ => ⟨S41984, .i32⟩
  | .hbm, ⟨47, _⟩ => ⟨S41984, .i32⟩
  | .hbm, ⟨48, _⟩ => ⟨S41984, .i32⟩
  | .hbm, ⟨49, _⟩ => ⟨S41984x1, .i32⟩
  | .hbm, ⟨50, _⟩ => ⟨S41984x512x1024, .f32⟩
  | .hbm, ⟨51, _⟩ => ⟨S41984x512, .f32⟩
  | .hbm, ⟨52, _⟩ => ⟨S41984x512, .f32⟩
  | .hbm, ⟨53, _⟩ => ⟨S41984x512, .f32⟩
  | .hbm, ⟨54, _⟩ => ⟨S_, .f32⟩
  | .hbm, ⟨55, _⟩ => ⟨S41984x512, .f32⟩
  | .hbm, ⟨56, _⟩ => ⟨S41984x512, .f32⟩
  | .hbm, ⟨57, _⟩ => ⟨S_, .f32⟩
  | .hbm, ⟨58, _⟩ => ⟨S41984x512, .f32⟩
  | .hbm, ⟨59, _⟩ => ⟨S41984x512, .f32⟩
  | .hbm, ⟨60, _⟩ => ⟨S41984x512, .f32⟩
  | .hbm, ⟨61, _⟩ => ⟨S41984x512, .f32⟩
  | .hbm, ⟨62, _⟩ => ⟨S41984x512, .f32⟩
  | .hbm, ⟨63, _⟩ => ⟨S41984x1, .i1⟩
  | .hbm, ⟨64, _⟩ => ⟨S41984x1024, .f32⟩
  | .hbm, ⟨65, _⟩ => ⟨S_, .f32⟩
  | .hbm, ⟨66, _⟩ => ⟨S_, .f32⟩
  | .hbm, ⟨67, _⟩ => ⟨S41984x1024, .i1⟩
  | .hbm, ⟨68, _⟩ => ⟨S41984x1024, .f32⟩
  | .hbm, ⟨69, _⟩ => ⟨S41984x1024, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Kernel3.lean ====
abbrev S164 : Shape := ⟨1, ![164]⟩
abbrev S1 : Shape := ⟨1, ![1]⟩
abbrev S41984x512 : Shape := ⟨2, ![41984, 512]⟩
abbrev S2x32x1024x512 : Shape := ⟨4, ![2, 32, 1024, 512]⟩
abbrev S2x32x512x1024 : Shape := ⟨4, ![2, 32, 512, 1024]⟩
abbrev S41984x1024 : Shape := ⟨2, ![41984, 1024]⟩
abbrev S256x512 : Shape := ⟨2, ![256, 512]⟩
abbrev S1x1x1024x512 : Shape := ⟨4, ![1, 1, 1024, 512]⟩
abbrev S1x1x512x1024 : Shape := ⟨4, ![1, 1, 512, 1024]⟩
abbrev S256x1024 : Shape := ⟨2, ![256, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S41984x512, .i32⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S41984x1024, .f32⟩
  | .local _ .vmem, ⟨0, _⟩ => ⟨S256x512, .i32⟩
  | .local _ .vmem, ⟨1, _⟩ => ⟨S256x512, .i32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S164, .i32⟩
  | .local _ .smem, ⟨1, _⟩ => ⟨S1, .i32⟩
  | _, _ => ⟨S41984x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v11 : BitVec 32) : BitVec 1 :=
  let arg0 : BitVec 32 := BitVec.ofNat 32 (i 0).val
  let v12 : BitVec 1 := Scalar.cmpi .slt arg0 v11
  let v_true : BitVec 1 := 1#1
  let v15 : BitVec 1 := Scalar.xori v12 v_true
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S164 : Shape := ⟨1, ![164]⟩
abbrev S1 : Shape := ⟨1, ![1]⟩
abbrev S41984x512 : Shape := ⟨2, ![41984, 512]⟩
abbrev S2x32x1024x512 : Shape := ⟨4, ![2, 32, 1024, 512]⟩
abbrev S2x32x512x1024 : Shape := ⟨4, ![2, 32, 512, 1024]⟩
abbrev S164x256 : Shape := ⟨2, ![164, 256]⟩
abbrev S41984 : Shape := ⟨1, ![41984]⟩
abbrev S_ : Shape := ⟨0, ![]⟩
abbrev S41984x512x2 : Shape := ⟨3, ![41984, 512, 2]⟩
abbrev S41984x2x512 : Shape := ⟨3, ![41984, 2, 512]⟩
abbrev S41984x1024 : Shape := ⟨2, ![41984, 1024]⟩
abbrev S1x32x1024x512 : Shape := ⟨4, ![1, 32, 1024, 512]⟩
abbrev S32x1024x512 : Shape := ⟨3, ![32, 1024, 512]⟩
abbrev S41984x1 : Shape := ⟨2, ![41984, 1]⟩
abbrev S41984x1024x512 : Shape := ⟨3, ![41984, 1024, 512]⟩
abbrev S1x32x512x1024 : Shape := ⟨4, ![1, 32, 512, 1024]⟩
abbrev S32x512x1024 : Shape := ⟨3, ![32, 512, 1024]⟩
abbrev S41984x512x1024 : Shape := ⟨3, ![41984, 512, 1024]⟩

abbrev nBuf : Space → Nat
  | .hbm => 70
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S41984x512, .i32⟩
  | .hbm, ⟨3, _⟩ => ⟨S2x32x1024x512, .f32⟩
  | .hbm, ⟨4, _⟩ => ⟨S2x32x1024x512, .f32⟩
  | .hbm, ⟨5, _⟩ => ⟨S2x32x512x1024, .f32⟩
  | .hbm, ⟨6, _⟩ => ⟨S164x256, .i32⟩
  | .hbm, ⟨7, _⟩ => ⟨S41984, .i32⟩
  | .hbm, ⟨8, _⟩ => ⟨S41984, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S41984, .i32⟩
  | .hbm, ⟨13, _⟩ => ⟨S41984, .i1⟩
  | .hbm, ⟨14, _⟩ => ⟨S41984x512x2, .bf16⟩
  | .hbm, ⟨15, _⟩ => ⟨S41984x2x512, .bf16⟩
  | .hbm, ⟨16, _⟩ => ⟨S41984x1024, .bf16⟩
  | .hbm, ⟨17, _⟩ => ⟨S41984x1024, .f32⟩
  | .hbm, ⟨18, _⟩ => ⟨S1x32x1024x512, .f32⟩
  | .hbm, ⟨19, _⟩ => ⟨S32x1024x512, .f32⟩
  | .hbm, ⟨20, _⟩ => ⟨S_, .i32⟩
  | .hbm, ⟨21, _⟩ => ⟨S41984, .i32⟩
  | .hbm, ⟨22, _⟩ => ⟨S41984, .i1⟩
  | .hbm, ⟨23, _⟩ => ⟨S_, .i32⟩
  | .hbm, ⟨24, _⟩ => ⟨S41984, .i32⟩
  | .hbm, ⟨25, _⟩ => ⟨S41984, .i32⟩
  | .hbm, ⟨26, _⟩ => ⟨S41984, .i32⟩
  | .hbm, ⟨27, _⟩ => ⟨S41984x1, .i32⟩
  | .hbm, ⟨28, _⟩ => ⟨S41984x1024x512, .f32⟩
  | .hbm, ⟨29, _⟩ => ⟨S1x32x1024x512, .f32⟩
  | .hbm, ⟨30, _⟩ => ⟨S32x1024x512, .f32⟩
  | .hbm, ⟨31, _⟩ => ⟨S_, .i32⟩
  | .hbm, ⟨32, _⟩ => ⟨S41984, .i32⟩
  | .hbm, ⟨33, _⟩ => ⟨S41984, .i1⟩
  | .hbm, ⟨34, _⟩ => ⟨S_, .i32⟩
  | .hbm, ⟨35, _⟩ => ⟨S41984, .i32⟩
  | .hbm, ⟨36, _⟩ => ⟨S41984, .i32⟩
  | .hbm, ⟨37, _⟩ => ⟨S41984, .i32⟩
  | .hbm, ⟨38, _⟩ => ⟨S41984x1, .i32⟩
  | .hbm, ⟨39, _⟩ => ⟨S41984x1024x512, .f32⟩
  | .hbm, ⟨40, _⟩ => ⟨S1x32x512x1024, .f32⟩
  | .hbm, ⟨41, _⟩ => ⟨S32x512x1024, .f32⟩
  | .hbm, ⟨42, _⟩ => ⟨S_, .i32⟩
  | .hbm, ⟨43, _⟩ => ⟨S41984, .i32⟩
  | .hbm, ⟨44, _⟩ => ⟨S41984, .i1⟩
  | .hbm, ⟨45, _⟩ => ⟨S_, .i32⟩
  | .hbm, ⟨46, _⟩ => ⟨S41984, .i32⟩
  | .hbm, ⟨47, _⟩ => ⟨S41984, .i32⟩
  | .hbm, ⟨48, _⟩ => ⟨S41984, .i32⟩
  | .hbm, ⟨49, _⟩ => ⟨S41984x1, .i32⟩
  | .hbm, ⟨50, _⟩ => ⟨S41984x512x1024, .f32⟩
  | .hbm, ⟨51, _⟩ => ⟨S41984x512, .f32⟩
  | .hbm, ⟨52, _⟩ => ⟨S41984x512, .f32⟩
  | .hbm, ⟨53, _⟩ => ⟨S41984x512, .f32⟩
  | .hbm, ⟨54, _⟩ => ⟨S_, .f32⟩
  | .hbm, ⟨55, _⟩ => ⟨S41984x512, .f32⟩
  | .hbm, ⟨56, _⟩ => ⟨S41984x512, .f32⟩
  | .hbm, ⟨57, _⟩ => ⟨S_, .f32⟩
  | .hbm, ⟨58, _⟩ => ⟨S41984x512, .f32⟩
  | .hbm, ⟨59, _⟩ => ⟨S41984x512, .f32⟩
  | .hbm, ⟨60, _⟩ => ⟨S41984x512, .f32⟩
  | .hbm, ⟨61, _⟩ => ⟨S41984x512, .f32⟩
  | .hbm, ⟨62, _⟩ => ⟨S41984x512, .f32⟩
  | .hbm, ⟨63, _⟩ => ⟨S41984x1, .i1⟩
  | .hbm, ⟨64, _⟩ => ⟨S41984x1024, .f32⟩
  | .hbm, ⟨65, _⟩ => ⟨S_, .f32⟩
  | .hbm, ⟨66, _⟩ => ⟨S_, .f32⟩
  | .hbm, ⟨67, _⟩ => ⟨S41984x1024, .i1⟩
  | .hbm, ⟨68, _⟩ => ⟨S41984x1024, .f32⟩
  | .hbm, ⟨69, _⟩ => ⟨S41984x1024, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Kernel4.lean ====
abbrev S33x2x512 : Shape := ⟨3, ![33, 2, 512]⟩
abbrev S16896x1024 : Shape := ⟨2, ![16896, 1024]⟩
abbrev S8x16896 : Shape := ⟨2, ![8, 16896]⟩
abbrev S1024 : Shape := ⟨1, ![1024]⟩
abbrev S41984x1024 : Shape := ⟨2, ![41984, 1024]⟩
abbrev S2x16896 : Shape := ⟨2, ![2, 16896]⟩
abbrev S16896x2 : Shape := ⟨2, ![16896, 2]⟩
abbrev S1x1024 : Shape := ⟨2, ![1, 1024]⟩
abbrev S1x2x512 : Shape := ⟨3, ![1, 2, 512]⟩
abbrev S512x1024 : Shape := ⟨2, ![512, 1024]⟩
abbrev S512x2 : Shape := ⟨2, ![512, 2]⟩
abbrev S2x512x1024 : Shape := ⟨3, ![2, 512, 1024]⟩
abbrev S_ : Shape := ⟨0, ![]⟩
abbrev S1x1x1 : Shape := ⟨3, ![1, 1, 1]⟩
abbrev S1x1x1024 : Shape := ⟨3, ![1, 1, 1024]⟩
abbrev S512x1 : Shape := ⟨2, ![512, 1]⟩
abbrev S1x512x1024 : Shape := ⟨3, ![1, 512, 1024]⟩
abbrev S512 : Shape := ⟨1, ![512]⟩
abbrev S16384x1024 : Shape := ⟨2, ![16384, 1024]⟩
abbrev S1x16384x1024 : Shape := ⟨3, ![1, 16384, 1024]⟩
abbrev S32x16x1024 : Shape := ⟨3, ![32, 16, 1024]⟩

abbrev nBuf : Space → Nat
  | .hbm => 13
  | .vmem => 8
  | .smem => 2
  | _ => 0

abbrev bufTy : (tb : Table) → Fin (tcTables nBuf tb) → BufTy
  | .hbm, ⟨0, _⟩ => ⟨S33x2x512, .i32⟩
  | .hbm, ⟨1, _⟩ => ⟨S16896x1024, .f32⟩
  | .hbm, ⟨2, _⟩ => ⟨S8x16896, .f32⟩
  | .hbm, ⟨3, _⟩ => ⟨S1024, .f32⟩
  | .hbm, ⟨4, _⟩ => ⟨S41984x1024, .f32⟩
  | .hbm, ⟨5, _⟩ => ⟨S2x16896, .f32⟩
  | .hbm, ⟨6, _⟩ => ⟨S16896x2, .f32⟩
  | .hbm, ⟨7, _⟩ => ⟨S1x1024, .f32⟩
  | .hbm, ⟨8, _⟩ => ⟨S16896x1024, .f32⟩
  | .hbm, ⟨9, _⟩ => ⟨S16384x1024, .f32⟩
  | .hbm, ⟨10, _⟩ => ⟨S1x16384x1024, .f32⟩
  | .hbm, ⟨11, _⟩ => ⟨S512x1024, .f32⟩
  | .hbm, ⟨12, _⟩ => ⟨S32x16x1024, .f32⟩
  | .local _ .vmem, ⟨0, _⟩ => ⟨S512x1024, .f32⟩
  | .local _ .vmem, ⟨1, _⟩ => ⟨S512x1024, .f32⟩
  | .local _ .vmem, ⟨2, _⟩ => ⟨S512x2, .f32⟩
  | .local _ .vmem, ⟨3, _⟩ => ⟨S512x2, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x512x1024, .f32⟩
  | .local _ .smem, ⟨0, _⟩ => ⟨S1x2x512, .i32⟩
  | .local _ .smem, ⟨1, _⟩ => ⟨S1x2x512, .i32⟩
  | _, _ => ⟨S33x2x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0_19 : Index := 0#32
  let c0_20 : Index := 0#32
  let c0_i32 : BitVec 32 := 0#32
  let c1_i32 : BitVec 32 := 1#32
  let arg9 : BitVec 32 := Scf.iv c0_i32 c1_i32 k0_t1
  let v32 : Index := Scalar.indexCast arg9
  ![0, 0, v32.toNat]
def k0_off2 (k0_t1 : Fin k0_t1_loop.trips) : Fin 3 → Nat :=
  let c0_i32_21 : BitVec 32 := 0#32
  let c0_i32 : BitVec 32 := 0#32
  let c1_i32 : BitVec 32 := 1#32
  let arg9 : BitVec 32 := Scf.iv c0_i32 c1_i32 k0_t1
  let c0_i32_22 : BitVec 32 := 0#32
  ![0, arg9.toNat, 0]
def k0_off3 (v33 : BitVec 32) : Fin 2 → Nat :=
  let c0_i32_23 : BitVec 32 := 0#32
  ![v33.toNat, 0]

def k0_chk1 (v33 : BitVec 32) : Prop :=
  (∀ a, (k0_off3 v33) a + S1x1024.size a ≤ S41984x1024.size a)
theorem k0_off3_inb : ∀ (v33 : BitVec 32) (k0_hw1 : k0_chk1 v33), ∀ a, (k0_off3 v33) a + S1x1024.size a ≤ S41984x1024.size a := fun v33 k0_hw1 => k0_hw1

def k0_off4 (k0_t1 : Fin k0_t1_loop.trips) : Fin 3 → Nat :=
  let c0_24 : Index := 0#32
  let c1_25 : Index := 1#32
  let c0_i32 : BitVec 32 := 0#32
  let c1_i32 : BitVec 32 := 1#32
  let arg9 : BitVec 32 := Scf.iv c0_i32 c1_i32 k0_t1
  let v37 : Index := Scalar.indexCast arg9
  ![0, 1, v37.toNat]
def k0_off5 (k0_t1 : Fin k0_t1_loop.trips) : Fin 3 → Nat :=
  let c1_i32_26 : BitVec 32 := 1#32
  let c0_i32 : BitVec 32 := 0#32
  let c1_i32 : BitVec 32 := 1#32
  let arg9 : BitVec 32 := Scf.iv c0_i32 c1_i32 k0_t1
  let c0_i32_27 : BitVec 32 := 0#32
  ![1, arg9.toNat, 0]
def k0_off6 (v38 : BitVec 32) : Fin 2 → Nat :=
  let c0_i32_28 : BitVec 32 := 0#32
  ![v38.toNat, 0]

def k0_chk2 (v38 : BitVec 32) : Prop :=
  (∀ a, (k0_off6 v38) a + S1x1024.size a ≤ S41984x1024.size a)
theorem k0_off6_inb : ∀ (v38 : BitVec 32) (k0_hw2 : k0_chk2 v38), ∀ a, (k0_off6 v38) a + S1x1024.size a ≤ S41984x1024.size a := fun v38 k0_hw2 => k0_hw2

@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off7 (k0_t2 : Fin k0_t2_loop.trips) : Fin 3 → Nat :=
  let c0_19 : Index := 0#32
  let c0_20 : Index := 0#32
  let c0_i32_1 : BitVec 32 := 0#32
  let c1_i32_3 : BitVec 32 := 1#32
  let arg9 : BitVec 32 := Scf.iv c0_i32_1 c1_i32_3 k0_t2
  let v32 : Index := Scalar.indexCast arg9
  ![0, 0, v32.toNat]
def k0_off8 (k0_t2 : Fin k0_t2_loop.trips) : Fin 3 → Nat :=
  let c0_i32_21 : BitVec 32 := 0#32
  let c0_i32_1 : BitVec 32 := 0#32
  let c1_i32_3 : BitVec 32 := 1#32
  let arg9 : BitVec 32 := Scf.iv c0_i32_1 c1_i32_3 k0_t2
  let c0_i32_22 : BitVec 32 := 0#32
  ![0, arg9.toNat, 0]
def k0_off9 (v33 : BitVec 32) : Fin 2 → Nat :=
  let c0_i32_23 : BitVec 32 := 0#32
  ![v33.toNat, 0]

def k0_chk3 (v33 : BitVec 32) : Prop :=
  (∀ a, (k0_off9 v33) a + S1x1024.size a ≤ S41984x1024.size a)
theorem k0_off9_inb : ∀ (v33 : BitVec 32) (k0_hw3 : k0_chk3 v33), ∀ a, (k0_off9 v33) a + S1x1024.size a ≤ S41984x1024.size a := fun v33 k0_hw3 => k0_hw3

def k0_off10 (k0_t2 : Fin k0_t2_loop.trips) : Fin 3 → Nat :=
  let c0_24 : Index := 0#32
  let c1_25 : Index := 1#32
  let c0_i32_1 : BitVec 32 := 0#32
  let c1_i32_3 : BitVec 32 := 1#32
  let arg9 : BitVec 32 := Scf.iv c0_i32_1 c1_i32_3 k0_t2
  let v37 : Index := Scalar.indexCast arg9
  ![0, 1, v37.toNat]
def k0_off11 (k0_t2 : Fin k0_t2_loop.trips) : Fin 3 → Nat :=
  let c1_i32_26 : BitVec 32 := 1#32
  let c0_i32_1 : BitVec 32 := 0#32
  let c1_i32_3 : BitVec 32 := 1#32
  let arg9 : BitVec 32 := Scf.iv c0_i32_1 c1_i32_3 k0_t2
  let c0_i32_27 : BitVec 32 := 0#32
  ![1, arg9.toNat, 0]
def k0_off12 (v38 : BitVec 32) : Fin 2 → Nat :=
  let c0_i32_28 : BitVec 32 := 0#32
  ![v38.toNat, 0]

def k0_chk4 (v38 : BitVec 32) : Prop :=
  (∀ a, (k0_off12 v38) a + S1x1024.size a ≤ S41984x1024.size a)
theorem k0_off12_inb : ∀ (v38 : BitVec 32) (k0_hw4 : k0_chk4 v38), ∀ a, (k0_off12 v38) a + S1x1024.size a ≤ S41984x1024.size a := fun v38 k0_hw4 => k0_hw4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S33x2x512 : Shape := ⟨3, ![33, 2, 512]⟩
abbrev S16896x1024 : Shape := ⟨2, ![16896, 1024]⟩
abbrev S8x16896 : Shape := ⟨2, ![8, 16896]⟩
abbrev S1024 : Shape := ⟨1, ![1024]⟩
abbrev S41984x1024 : Shape := ⟨2, ![41984, 1024]⟩
abbrev S2x33x512 : Shape := ⟨3, ![2, 33, 512]⟩
abbrev S2x16896 : Shape := ⟨2, ![2, 16896]⟩
abbrev S1x16896 : Shape := ⟨2, ![1, 16896]⟩
abbrev S16896 : Shape := ⟨1, ![16896]⟩
abbrev S16896x1 : Shape := ⟨2, ![16896, 1]⟩
abbrev S_ : Shape := ⟨0, ![]⟩
abbrev S1x1024 : Shape := ⟨2, ![1, 1024]⟩
abbrev S16384x1024 : Shape := ⟨2, ![16384, 1024]⟩
abbrev S1x16384x1024 : Shape := ⟨3, ![1, 16384, 1024]⟩
abbrev S512x1024 : Shape := ⟨2, ![512, 1024]⟩
abbrev S32x16x1024 : Shape := ⟨3, ![32, 16, 1024]⟩

abbrev nBuf : Space → Nat
  | .hbm => 61
  | .vmem => 0
  | .smem => 0
  | _ => 0

abbrev bufTy : (tb : Table) → Fin (tcTables nBuf tb) → BufTy
  | .hbm, ⟨0, _⟩ => ⟨S33x2x512, .i32⟩
  | .hbm, ⟨1, _⟩ => ⟨S16896x1024, .f32⟩
  | .hbm, ⟨2, _⟩ => ⟨S8x16896, .f32⟩
  | .hbm, ⟨3, _⟩ => ⟨S1024, .f32⟩
  | .hbm, ⟨4, _⟩ => ⟨S41984x1024, .f32⟩
  | .hbm, ⟨5, _⟩ => ⟨S2x33x512, .i32⟩
  | .hbm, ⟨6, _⟩ => ⟨S2x16896, .i32⟩
  | .hbm, ⟨7, _⟩ => ⟨S1x16896, .f32⟩
  | .hbm, ⟨8, _⟩ => ⟨S16896, .f32⟩
  | .hbm, ⟨9, _⟩ => ⟨S16896x1, .f32⟩
  | .hbm, ⟨10, _⟩ => ⟨S1x16896, .i32⟩
  | .hbm, ⟨11, _⟩ => ⟨S16896, .i32⟩
  | .hbm, ⟨12, _⟩ => ⟨S_, .i32⟩
  | .hbm, ⟨13, _⟩ => ⟨S16896, .i32⟩
  | .hbm, ⟨14, _⟩ => ⟨S16896, .i1⟩
  | .hbm, ⟨15, _⟩ => ⟨S_, .i32⟩
  | .hbm, ⟨16, _⟩ => ⟨S16896, .i32⟩
  | .hbm, ⟨17, _⟩ => ⟨S16896, .i32⟩
  | .hbm, ⟨18, _⟩ => ⟨S16896, .i32⟩
  | .hbm, ⟨19, _⟩ => ⟨S16896x1, .i32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S1x16896, .f32⟩
  | .hbm, ⟨25, _⟩ => ⟨S16896, .f32⟩
  | .hbm, ⟨26, _⟩ => ⟨S16896x1, .f32⟩
  | .hbm, ⟨27, _⟩ => ⟨S1x16896, .i32⟩
  | .hbm, ⟨28, _⟩ => ⟨S16896, .i32⟩
  | .hbm, ⟨29, _⟩ => ⟨S_, .i32⟩
  | .hbm, ⟨30, _⟩ => ⟨S16896, .i32⟩
  | .hbm, ⟨31, _⟩ => ⟨S16896, .i1⟩
  | .hbm, ⟨32, _⟩ => ⟨S_, .i32⟩
  | .hbm, ⟨33, _⟩ => ⟨S16896, .i32⟩
  | .hbm, ⟨34, _⟩ => ⟨S16896, .i32⟩
  | .hbm, ⟨35, _⟩ => ⟨S16896, .i32⟩
  | .hbm, ⟨36, _⟩ => ⟨S16896x1, .i32⟩
  | .hbm, ⟨37, _⟩ => ⟨S16896x1024, .f32⟩
  | .hbm, ⟨38, _⟩ => ⟨S16896x1024, .f32⟩
  | .hbm, ⟨39, _⟩ => ⟨S16896x1024, .f32⟩
  | .hbm, ⟨40, _⟩ => ⟨S16896x1024, .f32⟩
  | .hbm, ⟨41, _⟩ => ⟨S16896x1024, .f32⟩
  | .hbm, ⟨42, _⟩ => ⟨S_, .f32⟩
  | .hbm, ⟨43, _⟩ => ⟨S16896, .f32⟩
  | .hbm, ⟨44, _⟩ => ⟨S16896x1, .f32⟩
  | .hbm, ⟨45, _⟩ => ⟨S_, .f32⟩
  | .hbm, ⟨46, _⟩ => ⟨S16896x1, .f32⟩
  | .hbm, ⟨47, _⟩ => ⟨S16896x1, .f32⟩
  | .hbm, ⟨48, _⟩ => ⟨S_, .f32⟩
  | .hbm, ⟨49, _⟩ => ⟨S16896x1, .f32⟩
  | .hbm, ⟨50, _⟩ => ⟨S16896x1, .f32⟩
  | .hbm, ⟨51, _⟩ => ⟨S16896x1, .f32⟩
  | .hbm, ⟨52, _⟩ => ⟨S16896x1024, .f32⟩
  | .hbm, ⟨53, _⟩ => ⟨S16896x1024, .f32⟩
  | .hbm, ⟨54, _⟩ => ⟨S1x1024, .f32⟩
  | .hbm, ⟨55, _⟩ => ⟨S16896x1024, .f32⟩
  | .hbm, ⟨56, _⟩ => ⟨S16896x1024, .f32⟩
  | .hbm, ⟨57, _⟩ => ⟨S16384x1024, .f32⟩
  | .hbm, ⟨58, _⟩ => ⟨S1x16384x1024, .f32⟩
  | .hbm, ⟨59, _⟩ => ⟨S512x1024, .f32⟩
  | .hbm, ⟨60, _⟩ => ⟨S32x16x1024, .f32⟩
  | _, _ => ⟨S33x2x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel5.lean ====
abbrev S1x16384x1024 : Shape := ⟨3, ![1, 16384, 1024]⟩
abbrev S32x16x1024 : Shape := ⟨3, ![32, 16, 1024]⟩
abbrev S2x32x2x512 : Shape := ⟨4, ![2, 32, 2, 512]⟩
abbrev S2x1024 : Shape := ⟨2, ![2, 1024]⟩
abbrev S2x1024x2048 : Shape := ⟨3, ![2, 1024, 2048]⟩
abbrev S2x3x512 : Shape := ⟨3, ![2, 3, 512]⟩
abbrev S2x512 : Shape := ⟨2, ![2, 512]⟩
abbrev S16384x1024 : Shape := ⟨2, ![16384, 1024]⟩
abbrev S512x1024 : Shape := ⟨2, ![512, 1024]⟩
abbrev S16896x1024 : Shape := ⟨2, ![16896, 1024]⟩
abbrev S1x32x2x512 : Shape := ⟨4, ![1, 32, 2, 512]⟩
abbrev S32x2x512 : Shape := ⟨3, ![32, 2, 512]⟩
abbrev S32x1x512 : Shape := ⟨3, ![32, 1, 512]⟩
abbrev S_ : Shape := ⟨0, ![]⟩
abbrev S32x16x512 : Shape := ⟨3, ![32, 16, 512]⟩
abbrev S512x512 : Shape := ⟨2, ![512, 512]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S16896x512 : Shape := ⟨2, ![16896, 512]⟩
abbrev S8x512 : Shape := ⟨2, ![8, 512]⟩
abbrev S512x1 : Shape := ⟨2, ![512, 1]⟩
abbrev S512x2048 : Shape := ⟨2, ![512, 2048]⟩
abbrev S1x2x512 : Shape := ⟨3, ![1, 2, 512]⟩

abbrev nBuf : Space → Nat
  | .hbm => 41
  | .vmem => 15
  | .smem => 0
  | _ => 0

abbrev bufTy : (tb : Table) → Fin (tcTables nBuf tb) → BufTy
  | .hbm, ⟨0, _⟩ => ⟨S1x16384x1024, .f32⟩
  | .hbm, ⟨1, _⟩ => ⟨S32x16x1024, .f32⟩
  | .hbm, ⟨2, _⟩ => ⟨S2x32x2x512, .f32⟩
  | .hbm, ⟨3, _⟩ => ⟨S2x1024, .f32⟩
  | .hbm, ⟨4, _⟩ => ⟨S2x1024x2048, .f32⟩
  | .hbm, ⟨5, _⟩ => ⟨S2x3x512, .f32⟩
  | .hbm, ⟨6, _⟩ => ⟨S2x512, .f32⟩
  | .hbm, ⟨7, _⟩ => ⟨S16384x1024, .f32⟩
  | .hbm, ⟨8, _⟩ => ⟨S512x1024, .f32⟩
  | .hbm, ⟨9, _⟩ => ⟨S16896x1024, .f32⟩
  | .hbm, ⟨10, _⟩ => ⟨S1x32x2x512, .f32⟩
  | .hbm, ⟨11, _⟩ => ⟨S32x2x512, .f32⟩
  | .hbm, ⟨12, _⟩ => ⟨S32x1x512, .f32⟩
  | .hbm, ⟨13, _⟩ => ⟨S_, .i32⟩
  | .hbm, ⟨14, _⟩ => ⟨S_, .f32⟩
  | .hbm, ⟨15, _⟩ => ⟨S32x16x512, .f32⟩
  | .hbm, ⟨16, _⟩ => ⟨S512x512, .f32⟩
  | .hbm, ⟨17, _⟩ => ⟨S_, .i32⟩
  | .hbm, ⟨18, _⟩ => ⟨S_, .f32⟩
  | .hbm, ⟨19, _⟩ => ⟨S32x16x512, .f32⟩
  | .hbm, ⟨20, _⟩ => ⟨S512x512, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024x2048, .f32⟩
  | .hbm, ⟨25, _⟩ => ⟨S1024x2048, .f32⟩
  | .hbm, ⟨26, _⟩ => ⟨S1024x2048, .bf16⟩
  | .hbm, ⟨27, _⟩ => ⟨S1x3x512, .f32⟩
  | .hbm, ⟨28, _⟩ => ⟨S3x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S16896x512, .f32⟩
  | .hbm, ⟨33, _⟩ => ⟨S16896x512, .bf16⟩
  | .hbm, ⟨34, _⟩ => ⟨S8x512, .f32⟩
  | .hbm, ⟨35, _⟩ => ⟨S512x512, .f32⟩
  | .hbm, ⟨36, _⟩ => ⟨S16896x512, .f32⟩
  | .hbm, ⟨37, _⟩ => ⟨S2x512, .f32⟩
  | .hbm, ⟨38, _⟩ => ⟨S1x2x512, .f32⟩
  | .hbm, ⟨39, _⟩ => ⟨S32x16x512, .f32⟩
  | .hbm, ⟨40, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S3x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | .local _ .vmem, ⟨13, _⟩ => ⟨S512x512, .f32⟩
  | .local _ .vmem, ⟨14, _⟩ => ⟨S8x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c31_i32 : BitVec 32 := 31#32
  let v122 : BitVec 1 := Scalar.cmpi .eq arg0 c31_i32
  let v123 : BitVec 32 := Scalar.extui v122
  let c0_i32_38 : BitVec 32 := 0#32
  let v124 : BitVec 1 := Scalar.cmpi .ne v123 c0_i32_38
  v124

def k0_cond3 (i : grid0.Coords) : BitVec 1 :=
  let arg0 : BitVec 32 := BitVec.ofNat 32 (i 0).val
  let c32_i32_39 : BitVec 32 := 32#32
  let v125 : BitVec 1 := Scalar.cmpi .eq arg0 c32_i32_39
  let v126 : BitVec 32 := Scalar.extui v125
  let c0_i32_40 : BitVec 32 := 0#32
  let v127 : BitVec 1 := Scalar.cmpi .ne v126 c0_i32_40
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S1x16384x1024 : Shape := ⟨3, ![1, 16384, 1024]⟩
abbrev S32x16x1024 : Shape := ⟨3, ![32, 16, 1024]⟩
abbrev S2x32x2x512 : Shape := ⟨4, ![2, 32, 2, 512]⟩
abbrev S2x1024 : Shape := ⟨2, ![2, 1024]⟩
abbrev S2x1024x2048 : Shape := ⟨3, ![2, 1024, 2048]⟩
abbrev S2x3x512 : Shape := ⟨3, ![2, 3, 512]⟩
abbrev S2x512 : Shape := ⟨2, ![2, 512]⟩
abbrev S16384x1024 : Shape := ⟨2, ![16384, 1024]⟩
abbrev S512x1024 : Shape := ⟨2, ![512, 1024]⟩
abbrev S16896x1024 : Shape := ⟨2, ![16896, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x2048 : Shape := ⟨3, ![1, 1024, 2048]⟩
abbrev S1024x2048 : Shape := ⟨2, ![1024, 2048]⟩
abbrev S16896x2048 : Shape := ⟨2, ![16896, 2048]⟩
abbrev S16896x512 : Shape := ⟨2, ![16896, 512]⟩
abbrev S1x3x512 : Shape := ⟨3, ![1, 3, 512]⟩
abbrev S3x512 : Shape := ⟨2, ![3, 512]⟩
abbrev S16384x512 : Shape := ⟨2, ![16384, 512]⟩
abbrev S16386x512 : Shape := ⟨2, ![16386, 512]⟩
abbrev S1x32x2x512 : Shape := ⟨4, ![1, 32, 2, 512]⟩
abbrev S32x2x512 : Shape := ⟨3, ![32, 2, 512]⟩
abbrev S512x512 : Shape := ⟨2, ![512, 512]⟩
abbrev S32x16x512 : Shape := ⟨3, ![32, 16, 512]⟩
abbrev S32x18x512 : Shape := ⟨3, ![32, 18, 512]⟩
abbrev S1x512 : Shape := ⟨2, ![1, 512]⟩
abbrev S512 : Shape := ⟨1, ![512]⟩
abbrev S1x1x512 : Shape := ⟨3, ![1, 1, 512]⟩
abbrev S1x2x512 : Shape := ⟨3, ![1, 2, 512]⟩

abbrev nBuf : Space → Nat
  | .hbm => 111
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S32x16x1024, .f32⟩
  | .hbm, ⟨2, _⟩ => ⟨S2x32x2x512, .f32⟩
  | .hbm, ⟨3, _⟩ => ⟨S2x1024, .f32⟩
  | .hbm, ⟨4, _⟩ => ⟨S2x1024x2048, .f32⟩
  | .hbm, ⟨5, _⟩ => ⟨S2x3x512, .f32⟩
  | .hbm, ⟨6, _⟩ => ⟨S2x512, .f32⟩
  | .hbm, ⟨7, _⟩ => ⟨S16384x1024, .f32⟩
  | .hbm, ⟨8, _⟩ => ⟨S512x1024, .f32⟩
  | .hbm, ⟨9, _⟩ => ⟨S16896x1024, .f32⟩
  | .hbm, ⟨10, _⟩ => ⟨S1x1024, .f32⟩
  | .hbm, ⟨11, _⟩ => ⟨S1024, .f32⟩
  | .hbm, ⟨12, _⟩ => ⟨S16896x1024, .f32⟩
  | .hbm, ⟨13, _⟩ => ⟨S_, .f32⟩
  | .hbm, ⟨14, _⟩ => ⟨S16896, .f32⟩
  | .hbm, ⟨15, _⟩ => ⟨S16896x1, .f32⟩
  | .hbm, ⟨16, _⟩ => ⟨S_, .f32⟩
  | .hbm, ⟨17, _⟩ => ⟨S16896x1, .f32⟩
  | .hbm, ⟨18, _⟩ => ⟨S16896x1, .f32⟩
  | .hbm, ⟨19, _⟩ => ⟨S_, .f32⟩
  | .hbm, ⟨20, _⟩ => ⟨S16896x1, .f32⟩
  | .hbm, ⟨21, _⟩ => ⟨S16896x1, .f32⟩
  | .hbm, ⟨22, _⟩ => ⟨S16896x1, .f32⟩
  | .hbm, ⟨23, _⟩ => ⟨S16896x1024, .f32⟩
  | .hbm, ⟨24, _⟩ => ⟨S16896x1024, .f32⟩
  | .hbm, ⟨25, _⟩ => ⟨S1x1024, .f32⟩
  | .hbm, ⟨26, _⟩ => ⟨S16896x1024, .f32⟩
  | .hbm, ⟨27, _⟩ => ⟨S16896x1024, .f32⟩
  | .hbm, ⟨28, _⟩ => ⟨S1x1024x2048, .f32⟩
  | .hbm, ⟨29, _⟩ => ⟨S1024x2048, .f32⟩
  | .hbm, ⟨30, _⟩ => ⟨S16896x2048, .f32⟩
  | .hbm, ⟨31, _⟩ => ⟨S16896x512, .f32⟩
  | .hbm, ⟨32, _⟩ => ⟨S16896x512, .f32⟩
  | .hbm, ⟨33, _⟩ => ⟨S16896x512, .f32⟩
  | .hbm, ⟨34, _⟩ => ⟨S16896x512, .f32⟩
  | .hbm, ⟨35, _⟩ => ⟨S16896x512, .f32⟩
  | .hbm, ⟨36, _⟩ => ⟨S1x3x512, .f32⟩
  | .hbm, ⟨37, _⟩ => ⟨S3x512, .f32⟩
  | .hbm, ⟨38, _⟩ => ⟨S_, .f32⟩
  | .hbm, ⟨39, _⟩ => ⟨S2x512, .f32⟩
  | .hbm, ⟨40, _⟩ => ⟨S16384x512, .f32⟩
  | .hbm, ⟨41, _⟩ => ⟨S16386x512, .f32⟩
  | .hbm, ⟨42, _⟩ => ⟨S1x32x2x512, .f32⟩
  | .hbm, ⟨43, _⟩ => ⟨S32x2x512, .f32⟩
  | .hbm, ⟨44, _⟩ => ⟨S512x512, .f32⟩
  | .hbm, ⟨45, _⟩ => ⟨S32x16x512, .f32⟩
  | .hbm, ⟨46, _⟩ => ⟨S32x18x512, .f32⟩
  | .hbm, ⟨47, _⟩ => ⟨S1x512, .f32⟩
  | .hbm, ⟨48, _⟩ => ⟨S512, .f32⟩
  | .hbm, ⟨49, _⟩ => ⟨S16384x512, .f32⟩
  | .hbm, ⟨50, _⟩ => ⟨S1x512, .f32⟩
  | .hbm, ⟨51, _⟩ => ⟨S16384x512, .f32⟩
  | .hbm, ⟨52, _⟩ => ⟨S16384x512, .f32⟩
  | .hbm, ⟨53, _⟩ => ⟨S1x512, .f32⟩
  | .hbm, ⟨54, _⟩ => ⟨S512, .f32⟩
  | .hbm, ⟨55, _⟩ => ⟨S16384x512, .f32⟩
  | .hbm, ⟨56, _⟩ => ⟨S1x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S1x512, .f32⟩
  | .hbm, ⟨61, _⟩ => ⟨S512, .f32⟩
  | .hbm, ⟨62, _⟩ => ⟨S16384x512, .f32⟩
  | .hbm, ⟨63, _⟩ => ⟨S1x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S1x512, .f32⟩
  | .hbm, ⟨68, _⟩ => ⟨S512, .f32⟩
  | .hbm, ⟨69, _⟩ => ⟨S32x16x512, .f32⟩
  | .hbm, ⟨70, _⟩ => ⟨S1x1x512, .f32⟩
  | .hbm, ⟨71, _⟩ => ⟨S32x16x512, .f32⟩
  | .hbm, ⟨72, _⟩ => ⟨S32x16x512, .f32⟩
  | .hbm, ⟨73, _⟩ => ⟨S1x512, .f32⟩
  | .hbm, ⟨74, _⟩ => ⟨S512, .f32⟩
  | .hbm, ⟨75, _⟩ => ⟨S32x16x512, .f32⟩
  | .hbm, ⟨76, _⟩ => ⟨S1x1x512, .f32⟩
  | .hbm, ⟨77, _⟩ => ⟨S32x16x512, .f32⟩
  | .hbm, ⟨78, _⟩ => ⟨S32x16x512, .f32⟩
  | .hbm, ⟨79, _⟩ => ⟨S32x16x512, .f32⟩
  | .hbm, ⟨80, _⟩ => ⟨S1x512, .f32⟩
  | .hbm, ⟨81, _⟩ => ⟨S512, .f32⟩
  | .hbm, ⟨82, _⟩ => ⟨S32x16x512, .f32⟩
  | .hbm, ⟨83, _⟩ => ⟨S1x1x512, .f32⟩
  | .hbm, ⟨84, _⟩ => ⟨S32x16x512, .f32⟩
  | .hbm, ⟨85, _⟩ => ⟨S32x16x512, .f32⟩
  | .hbm, ⟨86, _⟩ => ⟨S32x16x512, .f32⟩
  | .hbm, ⟨87, _⟩ => ⟨S512x512, .f32⟩
  | .hbm, ⟨88, _⟩ => ⟨S16896x512, .f32⟩
  | .hbm, ⟨89, _⟩ => ⟨S16896x512, .f32⟩
  | .hbm, ⟨90, _⟩ => ⟨S1x512, .f32⟩
  | .hbm, ⟨91, _⟩ => ⟨S512, .f32⟩
  | .hbm, ⟨92, _⟩ => ⟨S16896x512, .f32⟩
  | .hbm, ⟨93, _⟩ => ⟨S_, .f32⟩
  | .hbm, ⟨94, _⟩ => ⟨S16896, .f32⟩
  | .hbm, ⟨95, _⟩ => ⟨S16896x1, .f32⟩
  | .hbm, ⟨96, _⟩ => ⟨S_, .f32⟩
  | .hbm, ⟨97, _⟩ => ⟨S16896x1, .f32⟩
  | .hbm, ⟨98, _⟩ => ⟨S16896x1, .f32⟩
  | .hbm, ⟨99, _⟩ => ⟨S_, .f32⟩
  | .hbm, ⟨100, _⟩ => ⟨S16896x1, .f32⟩
  | .hbm, ⟨101, _⟩ => ⟨S16896x1, .f32⟩
  | .hbm, ⟨102, _⟩ => ⟨S16896x1, .f32⟩
  | .hbm, ⟨103, _⟩ => ⟨S16896x512, .f32⟩
  | .hbm, ⟨104, _⟩ => ⟨S16896x512, .f32⟩
  | .hbm, ⟨105, _⟩ => ⟨S1x512, .f32⟩
  | .hbm, ⟨106, _⟩ => ⟨S16896x512, .f32⟩
  | .hbm, ⟨107, _⟩ => ⟨S16896x512, .f32⟩
  | .hbm, ⟨108, _⟩ => ⟨S2x512, .f32⟩
  | .hbm, ⟨109, _⟩ => ⟨S1x2x512, .f32⟩
  | .hbm, ⟨110, _⟩ => ⟨S32x2x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_3 : Ref sig .tc := ⟨.hbm, 93, rfl⟩
abbrev main_v82 : Ref sig .tc := ⟨.hbm, 94, rfl⟩
abbrev main_v83 : Ref sig .tc := ⟨.hbm, 95, rfl⟩
abbrev main_cst_4 : Ref sig .tc := ⟨.hbm, 96, rfl⟩
abbrev main_v84 : Ref sig .tc := ⟨.hbm, 97, rfl⟩
abbrev main_v85 : Ref sig .tc := ⟨.hbm, 98, rfl⟩
abbrev main_cst_5 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== Kernel6.lean ====
abbrev S16896x1024 : Shape := ⟨2, ![16896, 1024]⟩
abbrev S2x32x2x512 : Shape := ⟨4, ![2, 32, 2, 512]⟩
abbrev S2x1024 : Shape := ⟨2, ![2, 1024]⟩
abbrev S2x1024x2048 : Shape := ⟨3, ![2, 1024, 2048]⟩
abbrev S2x3x512 : Shape := ⟨3, ![2, 3, 512]⟩
abbrev S2x512 : Shape := ⟨2, ![2, 512]⟩
abbrev S1x32x2x512 : Shape := ⟨4, ![1, 32, 2, 512]⟩
abbrev S32x2x512 : Shape := ⟨3, ![32, 2, 512]⟩
abbrev S32x1x512 : Shape := ⟨3, ![32, 1, 512]⟩
abbrev S_ : Shape := ⟨0, ![]⟩
abbrev S32x16x512 : Shape := ⟨3, ![32, 16, 512]⟩
abbrev S512x512 : Shape := ⟨2, ![512, 512]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S16896x512 : Shape := ⟨2, ![16896, 512]⟩
abbrev S8x512 : Shape := ⟨2, ![8, 512]⟩
abbrev S512x1024 : Shape := ⟨2, ![512, 1024]⟩
abbrev S512x1 : Shape := ⟨2, ![512, 1]⟩
abbrev S512x2048 : Shape := ⟨2, ![512, 2048]⟩
abbrev S1x2x512 : Shape := ⟨3, ![1, 2, 512]⟩

abbrev nBuf : Space → Nat
  | .hbm => 37
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S2x32x2x512, .f32⟩
  | .hbm, ⟨2, _⟩ => ⟨S2x1024, .f32⟩
  | .hbm, ⟨3, _⟩ => ⟨S2x1024x2048, .f32⟩
  | .hbm, ⟨4, _⟩ => ⟨S2x3x512, .f32⟩
  | .hbm, ⟨5, _⟩ => ⟨S2x512, .f32⟩
  | .hbm, ⟨6, _⟩ => ⟨S1x32x2x512, .f32⟩
  | .hbm, ⟨7, _⟩ => ⟨S32x2x512, .f32⟩
  | .hbm, ⟨8, _⟩ => ⟨S32x1x512, .f32⟩
  | .hbm, ⟨9, _⟩ => ⟨S_, .i32⟩
  | .hbm, ⟨10, _⟩ => ⟨S_, .f32⟩
  | .hbm, ⟨11, _⟩ => ⟨S32x16x512, .f32⟩
  | .hbm, ⟨12, _⟩ => ⟨S512x512, .f32⟩
  | .hbm, ⟨13, _⟩ => ⟨S_, .i32⟩
  | .hbm, ⟨14, _⟩ => ⟨S_, .f32⟩
  | .hbm, ⟨15, _⟩ => ⟨S32x16x512, .f32⟩
  | .hbm, ⟨16, _⟩ => ⟨S512x512, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024x2048, .f32⟩
  | .hbm, ⟨21, _⟩ => ⟨S1024x2048, .f32⟩
  | .hbm, ⟨22, _⟩ => ⟨S1024x2048, .bf16⟩
  | .hbm, ⟨23, _⟩ => ⟨S1x3x512, .f32⟩
  | .hbm, ⟨24, _⟩ => ⟨S3x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S16896x512, .f32⟩
  | .hbm, ⟨29, _⟩ => ⟨S16896x512, .bf16⟩
  | .hbm, ⟨30, _⟩ => ⟨S8x512, .f32⟩
  | .hbm, ⟨31, _⟩ => ⟨S512x512, .f32⟩
  | .hbm, ⟨32, _⟩ => ⟨S16896x512, .f32⟩
  | .hbm, ⟨33, _⟩ => ⟨S2x512, .f32⟩
  | .hbm, ⟨34, _⟩ => ⟨S1x2x512, .f32⟩
  | .hbm, ⟨35, _⟩ => ⟨S32x16x512, .f32⟩
  | .hbm, ⟨36, _⟩ => ⟨S32x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S3x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | .local _ .vmem, ⟨13, _⟩ => ⟨S512x512, .f32⟩
  | .local _ .vmem, ⟨14, _⟩ => ⟨S8x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c31_i32 : BitVec 32 := 31#32
  let v121 : BitVec 1 := Scalar.cmpi .eq arg0 c31_i32
  let v122 : BitVec 32 := Scalar.extui v121
  let c0_i32_38 : BitVec 32 := 0#32
  let v123 : BitVec 1 := Scalar.cmpi .ne v122 c0_i32_38
  v123

def k0_cond3 (i : grid0.Coords) : BitVec 1 :=
  let arg0 : BitVec 32 := BitVec.ofNat 32 (i 0).val
  let c32_i32_39 : BitVec 32 := 32#32
  let v124 : BitVec 1 := Scalar.cmpi .eq arg0 c32_i32_39
  let v125 : BitVec 32 := Scalar.extui v124
  let c0_i32_40 : BitVec 32 := 0#32
  let v126 : BitVec 1 := Scalar.cmpi .ne v125 c0_i32_40
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S16896x1024 : Shape := ⟨2, ![16896, 1024]⟩
abbrev S2x32x2x512 : Shape := ⟨4, ![2, 32, 2, 512]⟩
abbrev S2x1024 : Shape := ⟨2, ![2, 1024]⟩
abbrev S2x1024x2048 : Shape := ⟨3, ![2, 1024, 2048]⟩
abbrev S2x3x512 : Shape := ⟨3, ![2, 3, 512]⟩
abbrev S2x512 : Shape := ⟨2, ![2, 512]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x2048 : Shape := ⟨3, ![1, 1024, 2048]⟩
abbrev S1024x2048 : Shape := ⟨2, ![1024, 2048]⟩
abbrev S16896x2048 : Shape := ⟨2, ![16896, 2048]⟩
abbrev S16896x512 : Shape := ⟨2, ![16896, 512]⟩
abbrev S1x3x512 : Shape := ⟨3, ![1, 3, 512]⟩
abbrev S3x512 : Shape := ⟨2, ![3, 512]⟩
abbrev S16384x512 : Shape := ⟨2, ![16384, 512]⟩
abbrev S16386x512 : Shape := ⟨2, ![16386, 512]⟩
abbrev S1x32x2x512 : Shape := ⟨4, ![1, 32, 2, 512]⟩
abbrev S32x2x512 : Shape := ⟨3, ![32, 2, 512]⟩
abbrev S512x512 : Shape := ⟨2, ![512, 512]⟩
abbrev S32x16x512 : Shape := ⟨3, ![32, 16, 512]⟩
abbrev S32x18x512 : Shape := ⟨3, ![32, 18, 512]⟩
abbrev S1x512 : Shape := ⟨2, ![1, 512]⟩
abbrev S512 : Shape := ⟨1, ![512]⟩
abbrev S1x1x512 : Shape := ⟨3, ![1, 1, 512]⟩
abbrev S1x2x512 : Shape := ⟨3, ![1, 2, 512]⟩

abbrev nBuf : Space → Nat
  | .hbm => 107
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S2x32x2x512, .f32⟩
  | .hbm, ⟨2, _⟩ => ⟨S2x1024, .f32⟩
  | .hbm, ⟨3, _⟩ => ⟨S2x1024x2048, .f32⟩
  | .hbm, ⟨4, _⟩ => ⟨S2x3x512, .f32⟩
  | .hbm, ⟨5, _⟩ => ⟨S2x512, .f32⟩
  | .hbm, ⟨6, _⟩ => ⟨S1x1024, .f32⟩
  | .hbm, ⟨7, _⟩ => ⟨S1024, .f32⟩
  | .hbm, ⟨8, _⟩ => ⟨S16896x1024, .f32⟩
  | .hbm, ⟨9, _⟩ => ⟨S_, .f32⟩
  | .hbm, ⟨10, _⟩ => ⟨S16896, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S16896x1, .f32⟩
  | .hbm, ⟨19, _⟩ => ⟨S16896x1024, .f32⟩
  | .hbm, ⟨20, _⟩ => ⟨S16896x1024, .f32⟩
  | .hbm, ⟨21, _⟩ => ⟨S1x1024, .f32⟩
  | .hbm, ⟨22, _⟩ => ⟨S16896x1024, .f32⟩
  | .hbm, ⟨23, _⟩ => ⟨S16896x1024, .f32⟩
  | .hbm, ⟨24, _⟩ => ⟨S1x1024x2048, .f32⟩
  | .hbm, ⟨25, _⟩ => ⟨S1024x2048, .f32⟩
  | .hbm, ⟨26, _⟩ => ⟨S16896x2048, .f32⟩
  | .hbm, ⟨27, _⟩ => ⟨S16896x512, .f32⟩
  | .hbm, ⟨28, _⟩ => ⟨S16896x512, .f32⟩
  | .hbm, ⟨29, _⟩ => ⟨S16896x512, .f32⟩
  | .hbm, ⟨30, _⟩ => ⟨S16896x512, .f32⟩
  | .hbm, ⟨31, _⟩ => ⟨S16896x512, .f32⟩
  | .hbm, ⟨32, _⟩ => ⟨S1x3x512, .f32⟩
  | .hbm, ⟨33, _⟩ => ⟨S3x512, .f32⟩
  | .hbm, ⟨34, _⟩ => ⟨S_, .f32⟩
  | .hbm, ⟨35, _⟩ => ⟨S2x512, .f32⟩
  | .hbm, ⟨36, _⟩ => ⟨S16384x512, .f32⟩
  | .hbm, ⟨37, _⟩ => ⟨S16386x512, .f32⟩
  | .hbm, ⟨38, _⟩ => ⟨S1x32x2x512, .f32⟩
  | .hbm, ⟨39, _⟩ => ⟨S32x2x512, .f32⟩
  | .hbm, ⟨40, _⟩ => ⟨S512x512, .f32⟩
  | .hbm, ⟨41, _⟩ => ⟨S32x16x512, .f32⟩
  | .hbm, ⟨42, _⟩ => ⟨S32x18x512, .f32⟩
  | .hbm, ⟨43, _⟩ => ⟨S1x512, .f32⟩
  | .hbm, ⟨44, _⟩ => ⟨S512, .f32⟩
  | .hbm, ⟨45, _⟩ => ⟨S16384x512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S1x512, .f32⟩
  | .hbm, ⟨50, _⟩ => ⟨S512, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S1x512, .f32⟩
  | .hbm, ⟨57, _⟩ => ⟨S512, .f32⟩
  | .hbm, ⟨58, _⟩ => ⟨S16384x512, .f32⟩
  | .hbm, ⟨59, _⟩ => ⟨S1x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S1x512, .f32⟩
  | .hbm, ⟨64, _⟩ => ⟨S512, .f32⟩
  | .hbm, ⟨65, _⟩ => ⟨S32x16x512, .f32⟩
  | .hbm, ⟨66, _⟩ => ⟨S1x1x512, .f32⟩
  | .hbm, ⟨67, _⟩ => ⟨S32x16x512, .f32⟩
  | .hbm, ⟨68, _⟩ => ⟨S32x16x512, .f32⟩
  | .hbm, ⟨69, _⟩ => ⟨S1x512, .f32⟩
  | .hbm, ⟨70, _⟩ => ⟨S512, .f32⟩
  | .hbm, ⟨71, _⟩ => ⟨S32x16x512, .f32⟩
  | .hbm, ⟨72, _⟩ => ⟨S1x1x512, .f32⟩
  | .hbm, ⟨73, _⟩ => ⟨S32x16x512, .f32⟩
  | .hbm, ⟨74, _⟩ => ⟨S32x16x512, .f32⟩
  | .hbm, ⟨75, _⟩ => ⟨S32x16x512, .f32⟩
  | .hbm, ⟨76, _⟩ => ⟨S1x512, .f32⟩
  | .hbm, ⟨77, _⟩ => ⟨S512, .f32⟩
  | .hbm, ⟨78, _⟩ => ⟨S32x16x512, .f32⟩
  | .hbm, ⟨79, _⟩ => ⟨S1x1x512, .f32⟩
  | .hbm, ⟨80, _⟩ => ⟨S32x16x512, .f32⟩
  | .hbm, ⟨81, _⟩ => ⟨S32x16x512, .f32⟩
  | .hbm, ⟨82, _⟩ => ⟨S32x16x512, .f32⟩
  | .hbm, ⟨83, _⟩ => ⟨S512x512, .f32⟩
  | .hbm, ⟨84, _⟩ => ⟨S16896x512, .f32⟩
  | .hbm, ⟨85, _⟩ => ⟨S16896x512, .f32⟩
  | .hbm, ⟨86, _⟩ => ⟨S1x512, .f32⟩
  | .hbm, ⟨87, _⟩ => ⟨S512, .f32⟩
  | .hbm, ⟨88, _⟩ => ⟨S16896x512, .f32⟩
  | .hbm, ⟨89, _⟩ => ⟨S_, .f32⟩
  | .hbm, ⟨90, _⟩ => ⟨S16896, .f32⟩
  | .hbm, ⟨91, _⟩ => ⟨S16896x1, .f32⟩
  | .hbm, ⟨92, _⟩ => ⟨S_, .f32⟩
  | .hbm, ⟨93, _⟩ => ⟨S16896x1, .f32⟩
  | .hbm, ⟨94, _⟩ => ⟨S16896x1, .f32⟩
  | .hbm, ⟨95, _⟩ => ⟨S_, .f32⟩
  | .hbm, ⟨96, _⟩ => ⟨S16896x1, .f32⟩
  | .hbm, ⟨97, _⟩ => ⟨S16896x1, .f32⟩
  | .hbm, ⟨98, _⟩ => ⟨S16896x1, .f32⟩
  | .hbm, ⟨99, _⟩ => ⟨S16896x512, .f32⟩
  | .hbm, ⟨100, _⟩ => ⟨S16896x512, .f32⟩
  | .hbm, ⟨101, _⟩ => ⟨S1x512, .f32⟩
  | .hbm, ⟨102, _⟩ => ⟨S16896x512, .f32⟩
  | .hbm, ⟨103, _⟩ => ⟨S16896x512, .f32⟩
  | .hbm, ⟨104, _⟩ => ⟨S2x512, .f32⟩
  | .hbm, ⟨105, _⟩ => ⟨S1x2x512, .f32⟩
  | .hbm, ⟨106, _⟩ => ⟨S32x2x512, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_3 : Ref sig .tc := ⟨.hbm, 89, rfl⟩
abbrev main_v79 : Ref sig .tc := ⟨.hbm, 90, rfl⟩
abbrev main_v80 : Ref sig .tc := ⟨.hbm, 91, rfl⟩
abbrev main_cst_4 : Ref sig .tc := ⟨.hbm, 92, rfl⟩
abbrev main_v81 : Ref sig .tc := ⟨.hbm, 93, rfl⟩
abbrev main_v82 : Ref sig .tc := ⟨.hbm, 94, rfl⟩
abbrev main_cst_5 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩

abbrev nD : Nat := 1
abbrev τ : Topo := Topo.v7x

variable {F : FTy → Type} [FloatOps F]
-- ==== Kernel7.lean ====
abbrev S33x2x512 : Shape := ⟨3, ![33, 2, 512]⟩
abbrev S16896x1024 : Shape := ⟨2, ![16896, 1024]⟩
abbrev S8x16896 : Shape := ⟨2, ![8, 16896]⟩
abbrev S1024 : Shape := ⟨1, ![1024]⟩
abbrev S41984x1024 : Shape := ⟨2, ![41984, 1024]⟩
abbrev S2x16896 : Shape := ⟨2, ![2, 16896]⟩
abbrev S16896x2 : Shape := ⟨2, ![16896, 2]⟩
abbrev S1x1024 : Shape := ⟨2, ![1, 1024]⟩
abbrev S1x2x512 : Shape := ⟨3, ![1, 2, 512]⟩
abbrev S512x1024 : Shape := ⟨2, ![512, 1024]⟩
abbrev S512x2 : Shape := ⟨2, ![512, 2]⟩
abbrev S2x512x1024 : Shape := ⟨3, ![2, 512, 1024]⟩
abbrev S_ : Shape := ⟨0, ![]⟩
abbrev S1x1x1 : Shape := ⟨3, ![1, 1, 1]⟩
abbrev S1x1x1024 : Shape := ⟨3, ![1, 1, 1024]⟩
abbrev S512x1 : Shape := ⟨2, ![512, 1]⟩
abbrev S1x512x1024 : Shape := ⟨3, ![1, 512, 1024]⟩

abbrev nBuf : Space → Nat
  | .hbm => 9
  | .vmem => 8
  | .smem => 2
  | _ => 0

abbrev bufTy : (tb : Table) → Fin (tcTables nBuf tb) → BufTy
  | .hbm, ⟨0, _⟩ => ⟨S33x2x512, .i32⟩
  | .hbm, ⟨1, _⟩ => ⟨S16896x1024, .f32⟩
  | .hbm, ⟨2, _⟩ => ⟨S8x16896, .f32⟩
  | .hbm, ⟨3, _⟩ => ⟨S1024, .f32⟩
  | .hbm, ⟨4, _⟩ => ⟨S41984x1024, .f32⟩
  | .hbm, ⟨5, _⟩ => ⟨S2x16896, .f32⟩
  | .hbm, ⟨6, _⟩ => ⟨S16896x2, .f32⟩
  | .hbm, ⟨7, _⟩ => ⟨S1x1024, .f32⟩
  | .hbm, ⟨8, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x2, .f32⟩
  | .local _ .vmem, ⟨3, _⟩ => ⟨S512x2, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x512x1024, .f32⟩
  | .local _ .smem, ⟨0, _⟩ => ⟨S1x2x512, .i32⟩
  | .local _ .smem, ⟨1, _⟩ => ⟨S1x2x512, .i32⟩
  | _, _ => ⟨S33x2x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0_15 : Index := 0#32
  let c0_16 : Index := 0#32
  let c0_i32 : BitVec 32 := 0#32
  let c1_i32 : BitVec 32 := 1#32
  let arg9 : BitVec 32 := Scf.iv c0_i32 c1_i32 k0_t1
  let v18 : Index := Scalar.indexCast arg9
  ![0, 0, v18.toNat]
def k0_off2 (k0_t1 : Fin k0_t1_loop.trips) : Fin 3 → Nat :=
  let c0_i32_17 : BitVec 32 := 0#32
  let c0_i32 : BitVec 32 := 0#32
  let c1_i32 : BitVec 32 := 1#32
  let arg9 : BitVec 32 := Scf.iv c0_i32 c1_i32 k0_t1
  let c0_i32_18 : BitVec 32 := 0#32
  ![0, arg9.toNat, 0]
def k0_off3 (v19 : BitVec 32) : Fin 2 → Nat :=
  let c0_i32_19 : BitVec 32 := 0#32
  ![v19.toNat, 0]

def k0_chk1 (v19 : BitVec 32) : Prop :=
  (∀ a, (k0_off3 v19) a + S1x1024.size a ≤ S41984x1024.size a)
theorem k0_off3_inb : ∀ (v19 : BitVec 32) (k0_hw1 : k0_chk1 v19), ∀ a, (k0_off3 v19) a + S1x1024.size a ≤ S41984x1024.size a := fun v19 k0_hw1 => k0_hw1

def k0_off4 (k0_t1 : Fin k0_t1_loop.trips) : Fin 3 → Nat :=
  let c0_20 : Index := 0#32
  let c1_21 : Index := 1#32
  let c0_i32 : BitVec 32 := 0#32
  let c1_i32 : BitVec 32 := 1#32
  let arg9 : BitVec 32 := Scf.iv c0_i32 c1_i32 k0_t1
  let v23 : Index := Scalar.indexCast arg9
  ![0, 1, v23.toNat]
def k0_off5 (k0_t1 : Fin k0_t1_loop.trips) : Fin 3 → Nat :=
  let c1_i32_22 : BitVec 32 := 1#32
  let c0_i32 : BitVec 32 := 0#32
  let c1_i32 : BitVec 32 := 1#32
  let arg9 : BitVec 32 := Scf.iv c0_i32 c1_i32 k0_t1
  let c0_i32_23 : BitVec 32 := 0#32
  ![1, arg9.toNat, 0]
def k0_off6 (v24 : BitVec 32) : Fin 2 → Nat :=
  let c0_i32_24 : BitVec 32 := 0#32
  ![v24.toNat, 0]

def k0_chk2 (v24 : BitVec 32) : Prop :=
  (∀ a, (k0_off6 v24) a + S1x1024.size a ≤ S41984x1024.size a)
theorem k0_off6_inb : ∀ (v24 : BitVec 32) (k0_hw2 : k0_chk2 v24), ∀ a, (k0_off6 v24) a + S1x1024.size a ≤ S41984x1024.size a := fun v24 k0_hw2 => k0_hw2

@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off7 (k0_t2 : Fin k0_t2_loop.trips) : Fin 3 → Nat :=
  let c0_15 : Index := 0#32
  let c0_16 : Index := 0#32
  let c0_i32_1 : BitVec 32 := 0#32
  let c1_i32_3 : BitVec 32 := 1#32
  let arg9 : BitVec 32 := Scf.iv c0_i32_1 c1_i32_3 k0_t2
  let v18 : Index := Scalar.indexCast arg9
  ![0, 0, v18.toNat]
def k0_off8 (k0_t2 : Fin k0_t2_loop.trips) : Fin 3 → Nat :=
  let c0_i32_17 : BitVec 32 := 0#32
  let c0_i32_1 : BitVec 32 := 0#32
  let c1_i32_3 : BitVec 32 := 1#32
  let arg9 : BitVec 32 := Scf.iv c0_i32_1 c1_i32_3 k0_t2
  let c0_i32_18 : BitVec 32 := 0#32
  ![0, arg9.toNat, 0]
def k0_off9 (v19 : BitVec 32) : Fin 2 → Nat :=
  let c0_i32_19 : BitVec 32 := 0#32
  ![v19.toNat, 0]

def k0_chk3 (v19 : BitVec 32) : Prop :=
  (∀ a, (k0_off9 v19) a + S1x1024.size a ≤ S41984x1024.size a)
theorem k0_off9_inb : ∀ (v19 : BitVec 32) (k0_hw3 : k0_chk3 v19), ∀ a, (k0_off9 v19) a + S1x1024.size a ≤ S41984x1024.size a := fun v19 k0_hw3 => k0_hw3

def k0_off10 (k0_t2 : Fin k0_t2_loop.trips) : Fin 3 → Nat :=
  let c0_20 : Index := 0#32
  let c1_21 : Index := 1#32
  let c0_i32_1 : BitVec 32 := 0#32
  let c1_i32_3 : BitVec 32 := 1#32
  let arg9 : BitVec 32 := Scf.iv c0_i32_1 c1_i32_3 k0_t2
  let v23 : Index := Scalar.indexCast arg9
  ![0, 1, v23.toNat]
def k0_off11 (k0_t2 : Fin k0_t2_loop.trips) : Fin 3 → Nat :=
  let c1_i32_22 : BitVec 32 := 1#32
  let c0_i32_1 : BitVec 32 := 0#32
  let c1_i32_3 : BitVec 32 := 1#32
  let arg9 : BitVec 32 := Scf.iv c0_i32_1 c1_i32_3 k0_t2
  let c0_i32_23 : BitVec 32 := 0#32
  ![1, arg9.toNat, 0]
def k0_off12 (v24 : BitVec 32) : Fin 2 → Nat :=
  let c0_i32_24 : BitVec 32 := 0#32
  ![v24.toNat, 0]

def k0_chk4 (v24 : BitVec 32) : Prop :=
  (∀ a, (k0_off12 v24) a + S1x1024.size a ≤ S41984x1024.size a)
theorem k0_off12_inb : ∀ (v24 : BitVec 32) (k0_hw4 : k0_chk4 v24), ∀ a, (k0_off12 v24) a + S1x1024.size a ≤ S41984x1024.size a := fun v24 k0_hw4 => k0_hw4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S33x2x512 : Shape := ⟨3, ![33, 2, 512]⟩
abbrev S16896x1024 : Shape := ⟨2, ![16896, 1024]⟩
abbrev S8x16896 : Shape := ⟨2, ![8, 16896]⟩
abbrev S1024 : Shape := ⟨1, ![1024]⟩
abbrev S41984x1024 : Shape := ⟨2, ![41984, 1024]⟩
abbrev S2x33x512 : Shape := ⟨3, ![2, 33, 512]⟩
abbrev S2x16896 : Shape := ⟨2, ![2, 16896]⟩
abbrev S1x16896 : Shape := ⟨2, ![1, 16896]⟩
abbrev S16896 : Shape := ⟨1, ![16896]⟩
abbrev S16896x1 : Shape := ⟨2, ![16896, 1]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S33x2x512, .i32⟩
  | .hbm, ⟨1, _⟩ => ⟨S16896x1024, .f32⟩
  | .hbm, ⟨2, _⟩ => ⟨S8x16896, .f32⟩
  | .hbm, ⟨3, _⟩ => ⟨S1024, .f32⟩
  | .hbm, ⟨4, _⟩ => ⟨S41984x1024, .f32⟩
  | .hbm, ⟨5, _⟩ => ⟨S2x33x512, .i32⟩
  | .hbm, ⟨6, _⟩ => ⟨S2x16896, .i32⟩
  | .hbm, ⟨7, _⟩ => ⟨S1x16896, .f32⟩
  | .hbm, ⟨8, _⟩ => ⟨S16896, .f32⟩
  | .hbm, ⟨9, _⟩ => ⟨S16896x1, .f32⟩
  | .hbm, ⟨10, _⟩ => ⟨S1x16896, .i32⟩
  | .hbm, ⟨11, _⟩ => ⟨S16896, .i32⟩
  | .hbm, ⟨12, _⟩ => ⟨S_, .i32⟩
  | .hbm, ⟨13, _⟩ => ⟨S16896, .i32⟩
  | .hbm, ⟨14, _⟩ => ⟨S16896, .i1⟩
  | .hbm, ⟨15, _⟩ => ⟨S_, .i32⟩
  | .hbm, ⟨16, _⟩ => ⟨S16896, .i32⟩
  | .hbm, ⟨17, _⟩ => ⟨S16896, .i32⟩
  | .hbm, ⟨18, _⟩ => ⟨S16896, .i32⟩
  | .hbm, ⟨19, _⟩ => ⟨S16896x1, .i32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S1x16896, .f32⟩
  | .hbm, ⟨25, _⟩ => ⟨S16896, .f32⟩
  | .hbm, ⟨26, _⟩ => ⟨S16896x1, .f32⟩
  | .hbm, ⟨27, _⟩ => ⟨S1x16896, .i32⟩
  | .hbm, ⟨28, _⟩ => ⟨S16896, .i32⟩
  | .hbm, ⟨29, _⟩ => ⟨S_, .i32⟩
  | .hbm, ⟨30, _⟩ => ⟨S16896, .i32⟩
  | .hbm, ⟨31, _⟩ => ⟨S16896, .i1⟩
  | .hbm, ⟨32, _⟩ => ⟨S_, .i32⟩
  | .hbm, ⟨33, _⟩ => ⟨S16896, .i32⟩
  | .hbm, ⟨34, _⟩ => ⟨S16896, .i32⟩
  | .hbm, ⟨35, _⟩ => ⟨S16896, .i32⟩
  | .hbm, ⟨36, _⟩ => ⟨S16896x1, .i32⟩
  | .hbm, ⟨37, _⟩ => ⟨S16896x1024, .f32⟩
  | .hbm, ⟨38, _⟩ => ⟨S16896x1024, .f32⟩
  | .hbm, ⟨39, _⟩ => ⟨S16896x1024, .f32⟩
  | .hbm, ⟨40, _⟩ => ⟨S16896x1024, .f32⟩
  | _, _ => ⟨S33x2x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Access.lean ====
/-
  Loads and stores of owned memrefs, and parts of a held buffer taken out, for any program, resource and float instance: the rules the
  bodies of the calls take their steps by.
-/
module

public import Idealize.ShloMosaic.Lib.Pipeline.FrameBody
public import Idealize.ShloMosaic.Lib.Batch
public import Idealize.ShloMosaic.Lib.Tactic
public import Idealize.ShloMosaic.Lib.ViewIndex
public import Idealize.ShloMosaic.Lib.Pipeline.ValueKit.Geometry

@[expose] public section

noncomputable section

namespace Cert.Access

open Idealize.ShloMosaic Idealize.ShloMosaic.TcCoe Idealize.ShloMosaic.Tactic
open Idealize.ShloMosaic.ValueKit
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {U : Type} [URA U]

/-- The program's resources. -/
local notation "𝕄" => MT nD τ sig Unit (Elt F) ℕ U ℕ

section Access

variable {Λ : Labels} {defs : Defs nD τ sig (Elt F) Λ}
variable (c : Dev nD) {cs : CoreSpace} {s : Shape} {e : EltTy} (m : Memref sig .tc cs s e)

/-- A load from an owned memref reads the rectangle's part of its contents, and leaves it as it was. -/
theorem load_owned (r : Rect s) {hl : m.view.LoadsAt r} (q : PosShare TreeShare) (X : s.Idx → Elt F e)
    {Q : PUnit → sProp 𝕄} {k : (r.shape.Idx → Elt F e) → Prog (TpuEff nD τ sig (Elt F) Λ (c : Thread nD τ).2) PUnit} :
    (owns (c : Thread nD τ) m q X : sProp 𝕄)
      ⊢ iprop(((owns (c : Thread nD τ) m q X : sProp 𝕄) -∗ wp frame (wpE defs Variants.none (c : Thread nD τ) none) Set.univ (k fun y => X (r.emb y)) Q)
        -∗ wp frame (wpE defs Variants.none (c : Thread nD τ) none) Set.univ (.op (.load m r hl) k) Q) := by
  unfold owns
  iintro ⟨%f, %hf, H⟩ Hk
  have e0 : (m.access r).read (Elt F) f = fun y => X (r.emb y) := by rw [← hf]; rfl
  iapply (wp_load_rect Variants.none (c : Thread nD τ) none Set.univ (m := m) (r := r) (S := m.view.set) (View.set_slice_subset _ _)) $$ H
  iintro H
  rw [e0]
  iapply Hk
  iexists f
  isplitr; · ipureintro; exact hf
  iexact H

/-- A store of an owned memref's own shape leaves it holding the stored value. -/
theorem store_owned {off : Fin s.rank → ℕ} (inb : ∀ a, off a + s.size a ≤ s.size a) (w : (Rect.unit off s.size inb).shape.Idx → Elt F e)
    {hx : (m.access (Rect.unit off s.size inb)).Stores Finset.univ}
    {hm : (Finset.univ : Finset (Rect.unit off s.size inb).shape.Idx) = Finset.univ ∨ ∀ a, (Rect.unit off s.size inb).stride a = 1} (X : s.Idx → Elt F e)
    {Q : PUnit → sProp 𝕄} {k : PUnit → Prog (TpuEff nD τ sig (Elt F) Λ (c : Thread nD τ).2) PUnit} :
    (owns (c : Thread nD τ) m fullShare X : sProp 𝕄)
      ⊢ iprop(((owns (c : Thread nD τ) m fullShare w : sProp 𝕄) -∗ wp frame (wpE defs Variants.none (c : Thread nD τ) none) Set.univ (k ⟨⟩) Q)
        -∗ wp frame (wpE defs Variants.none (c : Thread nD τ) none) Set.univ (.op (.store m (Rect.unit off s.size inb) w Finset.univ hx hm) k) Q) := by
  unfold owns
  iintro ⟨%f, %hf, H⟩ Hk
  have e0 : m.view.read (Elt F) ((m.access (Rect.unit off s.size inb)).write (Elt F) f w Finset.univ) = w := by
    funext y
    have h := View.read_slice_write_emb (v := m.view) (Val := Elt F) (Rect.unit off s.size inb) f w (Finset.mem_univ y)
    have e1 : (Rect.unit off s.size inb).emb y = y := by
      funext a
      apply Fin.ext
      have := inb a
      rw [rect_emb_unit_val]; omega
    rw [e1] at h
    exact h
  iapply (wp_store Variants.none (c : Thread nD τ) none Set.univ (m := m) (r := Rect.unit off s.size inb) (w := w) (S := m.view.set)
    (by rw [View.setOn_univ]; exact View.set_slice_subset _ _)) $$ H
  iintro H
  iapply Hk
  iexists _
  isplitr; · ipureintro; exact e0
  iexact H

/-- A load of an owned memref's own shape reads its contents. -/
theorem load_whole {off : Fin s.rank → ℕ} (inb : ∀ a, off a + s.size a ≤ s.size a) {hl : m.view.LoadsAt (Rect.unit off s.size inb)} (X : s.Idx → Elt F e)
    {Q : PUnit → sProp 𝕄} {k : ((Rect.unit off s.size inb).shape.Idx → Elt F e) → Prog (TpuEff nD τ sig (Elt F) Λ (c : Thread nD τ).2) PUnit} :
    (owns (c : Thread nD τ) m fullShare X : sProp 𝕄)
      ⊢ iprop(((owns (c : Thread nD τ) m fullShare X : sProp 𝕄) -∗ wp frame (wpE defs Variants.none (c : Thread nD τ) none) Set.univ (k X) Q)
        -∗ wp frame (wpE defs Variants.none (c : Thread nD τ) none) Set.univ (.op (.load m (Rect.unit off s.size inb) hl) k) Q) := by
  have h := load_owned (defs := defs) c m (Rect.unit off s.size inb) (hl := hl) fullShare X (Q := Q) (k := k)
  rwa [show (fun y => X ((Rect.unit off s.size inb).emb y)) = X from funext fun y => congrArg X (by
    funext a
    apply Fin.ext
    have := inb a
    rw [rect_emb_unit_val]; omega)] at h

end Access

/-- A family over the first `n` naturals is one over the `n` indices. -/
theorem bigSep_naturals (n : ℕ) (Φ : ℕ → sProp 𝕄) :
    bigSep (Finset.range n) Φ = bigSep (Finset.univ : Finset (Fin n)) (fun q => Φ q.val) := by
  have e : Finset.range n = (Finset.univ : Finset (Fin n)).map Fin.valEmbedding := by
    ext a; simp only [Finset.mem_range, Finset.mem_map, Finset.mem_univ, true_and, Fin.valEmbedding_apply]
    exact ⟨fun h => ⟨⟨a, h⟩, rfl⟩, fun ⟨b, h⟩ => h ▸ b.isLt⟩
  rw [e, BI.bigSep_map]; rfl

/-- Part `I` of the elements `S` held, taken out. -/
theorem take_part {ℓ : Loc nD τ sig} {I S : Finset (Idx ℓ)} (q : PosShare TreeShare) (f : Buf (Elt F) ℓ) (h : I ⊆ S) :
    (ℓ ↦[S]{q} f : sProp 𝕄) = iprop((ℓ ↦[I]{q} f) ∗ ℓ ↦[S \ I]{q} f) :=
  have e := pointsTo_split_subset (Ix := Unit) (Name := ℕ) (U := U) (Lvl := ℕ) (ℓ := ℓ) (q := q) (f := f) h
  equiv_iff.mp ⟨e.1, e.2⟩

end Cert.Access
-- ==== Proof.Dispatch.lean ====
/-
  The dispatch kernel's body: one grid point copies each of its 512 packed token rows to the two slots of the expert
  buffer its position words name, 1024 row transfers in flight on one DMA semaphore, all of them awaited before the point
  ends. Here: the rows as element sets, the transfers' deliveries, the two loops and the whole body, at any float
  instance (no float is computed).
-/
module

public import proofs.«01_k».proof.Proof.Access
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.Pipeline.ValueKit.Geometry
public import Idealize.ShloMosaic.Lib.ViewIndex
public import Idealize.ShloMosaic.Lib.ValueIdxCore

@[expose] public section

set_option maxRecDepth 16384

noncomputable section

namespace Cert.KernelIdeal.Hand

open Cert.KernelIdeal Cert.KernelIdeal.Gen
open Cert.Access (bigSep_naturals take_part)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The program's resources: the pipeline's beside the transfers' counters. -/
local notation "𝕄" => MT nD τ sig Unit (Elt F) ℕ (Pipeline.UD sig nD τ) ℕ

/-! ## The loops and the offsets in closed form -/

theorem trips1 : k0_t1_loop.trips = 512 := by decide
theorem trips2 : k0_t2_loop.trips = 512 := by decide
theorem trip_lt (k : Fin k0_t1_loop.trips) : k.val < 512 := Nat.lt_of_lt_of_eq k.isLt trips1
theorem iv_val (k : Fin 512) : (Scf.iv (0#32) (1#32) k.val).toNat = k.val := by
  revert k; decide +kernel
theorem off1_eq (k : Fin k0_t1_loop.trips) : k0_off1 k = ![0, 0, k.val] :=
  congrArg (fun n => ![0, 0, n]) (iv_val k)
theorem off3_eq (k : Fin k0_t1_loop.trips) : k0_off3 k = ![k.val, 0] :=
  congrArg (fun n => ![n, 0]) (iv_val k)
theorem off4_eq (k : Fin k0_t1_loop.trips) : k0_off4 k = ![0, 1, k.val] :=
  congrArg (fun n => ![0, 1, n]) (iv_val k)

/-! ## The position words and the slots they name -/

/-- The position words of one grid point: two planes of 512 words. -/
abbrev Words := S1x2x512.Idx → BitVec 32

/-- Transfer number `q` carries row `q / 2` to the slot that plane `q % 2` names: its word. -/
def word (p : Words) (q : Fin 1024) : BitVec 32 := p (ix3 0 ⟨q.val % 2, by omega⟩ ⟨q.val / 2, by omega⟩)

/-- Every word names a slot of the buffer. -/
def InRange (p : Words) : Prop := ∀ q, (word p q).toNat < 41984
/-- No two words name the same slot. -/
def Distinct (p : Words) : Prop := ∀ q q', (word p q).toNat = (word p q').toNat → q = q'

theorem chk_of (w : BitVec 32) (h : w.toNat < 41984) : k0_chk1 w := by
  intro a; fin_cases a
  · show w.toNat + 1 ≤ 41984; omega
  · show 0 + 512 ≤ 512; omega

/-- The elements of slot `n`: row `n` of the buffer. -/
def slot (n : ℕ) : Finset S41984x512.Idx := Finset.univ.filter fun i => (i 0).val = n
theorem mem_slot {n : ℕ} {i : S41984x512.Idx} : i ∈ slot n ↔ (i 0).val = n := by simp [slot]

/-- The buffer's row that the word `w` names, as the program's transfers name it. -/
abbrev dst (w : BitVec 32) (h : k0_chk1 w) : Memref sig .tc .hbm S1x512 .i32 :=
  (Memref.whole main_v0).slice (Rect.unit (s := S41984x512) (k0_off2 w) S1x512.size (k0_off2_inb w h)) (fun _ => rfl)

theorem dst_emb0 (w : BitVec 32) (h : k0_chk1 w) (y : S1x512.Idx) : (((dst w h).view.emb y) 0 : Fin 41984).val = w.toNat := by
  have e := rect_emb_unit_val (s := S41984x512) (k0_off2 w) S1x512.size (k0_off2_inb w h) y 0
  have h0 : (y 0).val = 0 := by have : (y 0).val < 1 := (y 0).isLt; omega
  refine e.trans ?_
  show w.toNat + (y 0).val = _; omega
theorem dst_emb1 (w : BitVec 32) (h : k0_chk1 w) (y : S1x512.Idx) : (((dst w h).view.emb y) 1 : Fin 512).val = (y 1).val := by
  have e := rect_emb_unit_val (s := S41984x512) (k0_off2 w) S1x512.size (k0_off2_inb w h) y 1
  refine e.trans ?_
  show 0 + (y 1).val = _; omega

theorem dst_set (w : BitVec 32) (h : k0_chk1 w) : (dst w h).view.set ⊆ slot w.toNat := by
  intro i hi
  obtain ⟨y, -, rfl⟩ := Finset.mem_map.mp hi
  exact mem_slot.mpr (dst_emb0 w h y)

theorem dst_of_slot (w : BitVec 32) (h : k0_chk1 w) (i : S41984x512.Idx) (hi : i ∈ slot w.toNat) :
    (dst w h).view.emb (ix2 0 (i 1)) = i := by
  have hi' := mem_slot.mp hi
  funext a
  match a with
  | ⟨0, _⟩ => exact Fin.ext ((dst_emb0 w h _).trans hi'.symm)
  | ⟨1, _⟩ => exact Fin.ext (dst_emb1 w h (ix2 0 (i 1)))

/-- One row's credit on the semaphore, and that it is some. -/
def credit : ℕ := (dst 0#32 (chk_of 0#32 (by decide))).view.dmaCredit
theorem credit_pos : 0 < credit := View.dmaCredit_pos _ (by decide)

/-! ## The source rows -/

section Body

variable (c : Dev nD) (arg1 : Memref sig .tc .smem S1x2x512 .i32) (arg2 : Memref sig .tc .vmem S512x512 .i32)

/-- Row `k` of the point's token block, as the transfers name it. -/
abbrev src (k : Fin k0_t1_loop.trips) : Memref sig .tc .vmem S1x512 .i32 :=
  arg2.slice (Rect.unit (s := S512x512) (k0_off3 k) S1x512.size (k0_off3_inb k)) (fun _ => rfl)

/-- The trip that issues transfer `q`. -/
abbrev tripOf (q : Fin 1024) : Fin k0_t1_loop.trips := ⟨q.val / 2, by rw [trips1]; omega⟩

theorem src_emb (k : Fin k0_t1_loop.trips) (y : S1x512.Idx) :
    (src arg2 k).view.emb y = arg2.view.emb (ix2 (n0 := 512) (n1 := 512) ⟨k.val, trip_lt k⟩ (y 1)) := by
  show arg2.view.emb ((Rect.unit (s := S512x512) (k0_off3 k) S1x512.size (k0_off3_inb k)).emb y) = _
  congr 1
  have e := fun a => rect_emb_unit_val (s := S512x512) (k0_off3 k) S1x512.size (k0_off3_inb k) y a
  have h0 : (y 0).val = 0 := by have : (y 0).val < 1 := (y 0).isLt; omega
  funext a
  match a with
  | ⟨0, _⟩ => refine Fin.ext ((e 0).trans ((congrArg (· + (y 0).val) (congrFun (off3_eq k) 0)).trans ?_)); show k.val + (y 0).val = k.val; omega
  | ⟨1, _⟩ => refine Fin.ext ((e 1).trans ((congrArg (· + (y 1).val) (congrFun (off3_eq k) 1)).trans ?_)); show 0 + (y 1).val = (y 1).val; omega

/-- What the load of plane 0's (1's) word `k` reads. -/
theorem read_word (p : Words) (k : Fin k0_t1_loop.trips) (fp : Buf (Elt F) (arg1.view.loc (c : Thread nD τ)))
    (hp : arg1.view.read (Elt F) fp = p) (x) :
    (arg1.access (Rect.unit (s := S1x2x512) (k0_off1 k) S1x1x1.size (k0_off1_inb k))).read (Elt F) fp x
      = word p ⟨2 * k.val, by have := trip_lt k; omega⟩ := by
  subst hp
  have hk := trip_lt k
  unfold word
  rw [View.read_apply, View.read_apply]
  refine congrArg (fun j => _root_.cast _ (fp (arg1.view.emb j))) ?_
  have e := fun a => rect_emb_unit_val (s := S1x2x512) (k0_off1 k) S1x1x1.size (k0_off1_inb k) x a
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  funext a
  match a with
  | ⟨0, _⟩ => refine Fin.ext ((e 0).trans ((congrArg (· + (x 0).val) (congrFun (off1_eq k) 0)).trans ?_)); show 0 + (x 0).val = 0; omega
  | ⟨1, _⟩ => refine Fin.ext ((e 1).trans ((congrArg (· + (x 1).val) (congrFun (off1_eq k) 1)).trans ?_)); show 0 + (x 1).val = 2 * k.val % 2; omega
  | ⟨2, _⟩ => refine Fin.ext ((e 2).trans ((congrArg (· + (x 2).val) (congrFun (off1_eq k) 2)).trans ?_)); show k.val + (x 2).val = 2 * k.val / 2; omega
theorem read_word' (p : Words) (k : Fin k0_t1_loop.trips) (fp : Buf (Elt F) (arg1.view.loc (c : Thread nD τ)))
    (hp : arg1.view.read (Elt F) fp = p) (x) :
    (arg1.access (Rect.unit (s := S1x2x512) (k0_off4 k) S1x1x1.size (k0_off4_inb k))).read (Elt F) fp x
      = word p ⟨2 * k.val + 1, by have := trip_lt k; omega⟩ := by
  subst hp
  have hk := trip_lt k
  unfold word
  rw [View.read_apply, View.read_apply]
  refine congrArg (fun j => _root_.cast _ (fp (arg1.view.emb j))) ?_
  have e := fun a => rect_emb_unit_val (s := S1x2x512) (k0_off4 k) S1x1x1.size (k0_off4_inb k) x a
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  funext a
  match a with
  | ⟨0, _⟩ => refine Fin.ext ((e 0).trans ((congrArg (· + (x 0).val) (congrFun (off4_eq k) 0)).trans ?_)); show 0 + (x 0).val = 0; omega
  | ⟨1, _⟩ => refine Fin.ext ((e 1).trans ((congrArg (· + (x 1).val) (congrFun (off4_eq k) 1)).trans ?_)); show 1 + (x 1).val = (2 * k.val + 1) % 2; omega
  | ⟨2, _⟩ => refine Fin.ext ((e 2).trans ((congrArg (· + (x 2).val) (congrFun (off4_eq k) 2)).trans ?_)); show k.val + (x 2).val = (2 * k.val + 1) / 2; omega

/-! ## The deliveries -/

/-- The expert buffer's contents. -/
abbrev Rows (F : FTy → Type) := S41984x512.Idx → Elt F .i32

/-- Slot `word p q` of the expert buffer, held at the contents `f`. -/
abbrev slotAt (p : Words) (f : Rows F) (q : Fin 1024) : sProp 𝕄 :=
  (Memref.whole main_v0 : Memref sig .tc .hbm S41984x512 .i32).view.loc (c : Thread nD τ) ↦[slot (word p q).toNat]{fullShare} f

/-- The row transfer `q` reads, held under read token `q`. -/
abbrev rowTok (fx : Buf (Elt F) (arg2.view.loc (c : Thread nD τ))) (q : Fin 1024) : sProp 𝕄 :=
  (src arg2 (tripOf q)).view.loc (c : Thread nD τ) ↦[(src arg2 (tripOf q)).view.set]{Transfers.shareTokN fullShare q.val} fx

/-- What transfer `q` delivers: its slot at the final contents `g`, and its row back. -/
def deliv (p : Words) (g : Rows F) (fx : Buf (Elt F) (arg2.view.loc (c : Thread nD τ))) (q : Fin 1024) : sProp 𝕄 :=
  iprop(slotAt c p g q ∗ rowTok c arg2 fx q)

instance deliv_storable (p : Words) (g : Rows F) (fx : Buf (Elt F) (arg2.view.loc (c : Thread nD τ))) (q : Fin 1024) :
    BI.Storable (upEmb : UEmb _ 𝕄) (deliv c arg2 p g fx q) := by
  unfold deliv; infer_instance

/-- The batch of one point: 1024 transfers of one row each, `j` issued, `u` units consumed. -/
abbrev batch (p : Words) (g : Rows F) (fx : Buf (Elt F) (arg2.view.loc (c : Thread nD τ))) (j u : ℕ) : sProp 𝕄 :=
  Transfers.Batch (countersEmb (U := Pipeline.UD sig nD τ)) (c : Thread nD τ) (.dma cc0_scratch0.sem) () credit (deliv c arg2 p g fx) j u

/-- The final contents `g` hold, in each slot named by the point's words, the row sent there. -/
def Lands (p : Words) (g : Rows F) (x : S512x512.Idx → Elt F .i32) : Prop :=
  ∀ (q : Fin 1024) (i : S41984x512.Idx), i ∈ slot (word p q).toNat → g i = x (ix2 ⟨q.val / 2, by omega⟩ (i 1))

/-- The slot written by transfer `q` is the slot at `g`. -/
theorem landed (p : Words) (f g : Rows F) (fx : Buf (Elt F) (arg2.view.loc (c : Thread nD τ)))
    (hg : Lands p g (arg2.view.read (Elt F) fx)) (q : Fin 1024) (w : BitVec 32) (hw : w = word p q) (h : k0_chk1 w) :
    ∀ i ∈ slot (word p q).toNat,
      (dst w h).view.write (Elt F) f ((src arg2 (tripOf q)).view.read (Elt F) fx) Finset.univ i = g i := by
  subst hw
  intro i hi
  have e := dst_of_slot _ h i hi
  rw [hg q i hi]
  conv_lhs => rw [← e]
  rw [View.write_emb_of_mem _ _ (Finset.mem_univ _), View.read_apply, View.read_apply, src_emb]
  rfl

/-- The read token, its row named by the trip. -/
theorem rowTok_eq (fx : Buf (Elt F) (arg2.view.loc (c : Thread nD τ))) (q : Fin 1024) (k : Fin k0_t1_loop.trips) (hk : k.val = q.val / 2) :
    rowTok c arg2 fx q
      = ((src arg2 k).view.loc (c : Thread nD τ) ↦[(src arg2 k).view.set]{Transfers.shareTokN fullShare q.val} fx : sProp 𝕄) := by
  obtain rfl : k = tripOf q := Fin.ext hk
  rfl

/-- A landed transfer is its delivery. -/
theorem delivers (p : Words) (f g : Rows F) (fx : Buf (Elt F) (arg2.view.loc (c : Thread nD τ)))
    (hg : Lands p g (arg2.view.read (Elt F) fx)) (q : Fin 1024) (k : Fin k0_t1_loop.trips) (hk : k.val = q.val / 2)
    (h : k0_chk1 (word p q)) :
    iprop(((dst (word p q) h).view.loc (c : Thread nD τ) ↦[slot (word p q).toNat]{fullShare}
        (dst (word p q) h).view.write (Elt F) f (ReadAs.same.apply ((src arg2 k).view.read (Elt F) fx)) Finset.univ)
      ∗ ((src arg2 k).view.loc (c : Thread nD τ) ↦[(src arg2 k).view.set]{Transfers.shareTokN fullShare q.val} fx))
      ⊢ (deliv c arg2 p g fx q : sProp 𝕄) := by
  obtain rfl : k = tripOf q := Fin.ext hk
  unfold deliv
  iintro ⟨Hd, Hs⟩
  isplitl [Hd]
  · iapply (Entails.of_eq (pointsTo_congr (landed c arg2 p f g fx hg q _ rfl h))) $$ Hd
  iexact Hs

/-! ## The issue loop -/

/-- The position words held whole. -/
abbrev wordsAt (fp : Buf (Elt F) (arg1.view.loc (c : Thread nD τ))) : sProp 𝕄 :=
  arg1.view.loc (c : Thread nD τ) ↦[arg1.view.set]{fullShare} fp

/-- Before trip `k` of the issue loop: `2 k` transfers issued; the slots and the read tokens of the others in hand. -/
def issueAt (p : Words) (f g : Rows F) (fp : Buf (Elt F) (arg1.view.loc (c : Thread nD τ)))
    (fx : Buf (Elt F) (arg2.view.loc (c : Thread nD τ))) (k : ℕ) (_ : Unit) : sProp 𝕄 :=
  iprop(wordsAt c arg1 fp ∗ batch c arg2 p g fx (2 * k) 0
    ∗ bigSep (Transfers.pending (2 * k)) (slotAt (F := F) c p f) ∗ bigSep (Transfers.pending (2 * k)) (rowTok c arg2 fx))

variable (i : grid0.Coords) (harg1 : arg1.IsWhole) (harg2 : arg2.IsWhole)

/-- One trip: the two words of row `k` read, each a slot, and the two transfers of row `k` issued. -/
theorem issue_step (p : Words) (hr : InRange p) (f g : Rows F) (fp : Buf (Elt F) (arg1.view.loc (c : Thread nD τ)))
    (hp : arg1.view.read (Elt F) fp = p)
    (fx : Buf (Elt F) (arg2.view.loc (c : Thread nD τ))) (hg : Lands p g (arg2.view.read (Elt F) fx))
    (k : Fin k0_t1_loop.trips) (acc : Unit) :
    issueAt c arg1 arg2 p f g fp fx k.val acc
      ⊢ wp frame (wpE (defs₀ (F := F)) Variants.none (c : Thread nD τ) none) Set.univ
        (k0_t1_body i arg1 harg1 arg2 harg2 (Memref.whole main_v0) (Memref.isWhole_whole _) (Memref.whole main_v0) (Memref.isWhole_whole _) cc0_scratch0 k acc)
        (issueAt c arg1 arg2 p f g fp fx (k.val + 1)) := by
  have hk := trip_lt k
  have h0 : 2 * k.val < 1024 := by omega
  have h1 : 2 * k.val + 1 < 1024 := by omega
  unfold issueAt
  rw [Transfers.bigSep_pending_step (slotAt (F := F) c p f) (2 * k.val) h0, Transfers.bigSep_pending_step (rowTok c arg2 fx) (2 * k.val) h0,
    Transfers.bigSep_pending_step (slotAt (F := F) c p f) (2 * k.val + 1) h1, Transfers.bigSep_pending_step (rowTok c arg2 fx) (2 * k.val + 1) h1,
    show 2 * (k.val + 1) = 2 * k.val + 1 + 1 by omega]
  iintro ⟨Hw, HB, ⟨Hs0, Hs1, Hs⟩, ⟨Ht0, Ht1, Ht⟩⟩
  unfold k0_t1_body
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x2x512) (k0_off1 k) S1x1x1.size (k0_off1_inb k))
    (S := arg1.view.set) (View.set_slice_subset _ _)) $$ Hw
  iintro Hw
  rw [read_word c arg1 p k fp hp]
  iapply (wp_assume Variants.none (c : Thread nD τ) none Set.univ (chk_of _ (hr ⟨2 * k.val, h0⟩)))
  iapply (Transfers.wp_dmaBatch (countersEmb (U := Pipeline.UD sig nD τ)) Variants.none (c : Thread nD τ) none
    (src := src arg2 k) (dst := dst (word p ⟨2 * k.val, h0⟩) (chk_of _ (hr _))) () credit rfl
    (Sd := slot (word p ⟨2 * k.val, h0⟩).toNat) (dst_set _ _)
    (D := deliv c arg2 p g fx) (j := 2 * k.val) (u := 0) h0 (Nat.zero_le _)
    (delivers c arg2 p f g fx hg ⟨2 * k.val, h0⟩ k (by show k.val = 2 * k.val / 2; omega) _)) $$ [Hs0 Ht0 HB]
  · isplitl [Ht0]; · rw [← rowTok_eq c arg2 fx ⟨2 * k.val, h0⟩ k (by show k.val = 2 * k.val / 2; omega)]; iexact Ht0
    isplitl [Hs0]; · iexact Hs0
    iexact HB
  iintro HB
  iapply (wp_load_rect Variants.none (c : Thread nD τ) none Set.univ (m := arg1) (r := Rect.unit (s := S1x2x512) (k0_off4 k) S1x1x1.size (k0_off4_inb k))
    (S := arg1.view.set) (View.set_slice_subset _ _)) $$ Hw
  iintro Hw
  rw [read_word' c arg1 p k fp hp]
  iapply (wp_assume Variants.none (c : Thread nD τ) none Set.univ (chk_of _ (hr ⟨2 * k.val + 1, h1⟩)))
  iapply (Transfers.wp_dmaBatch (countersEmb (U := Pipeline.UD sig nD τ)) Variants.none (c : Thread nD τ) none
    (src := src arg2 k) (dst := dst (word p ⟨2 * k.val + 1, h1⟩) (chk_of _ (hr _))) () credit rfl
    (Sd := slot (word p ⟨2 * k.val + 1, h1⟩).toNat) (dst_set _ _)
    (D := deliv c arg2 p g fx) (j := 2 * k.val + 1) (u := 0) h1 (Nat.zero_le _)
    (delivers c arg2 p f g fx hg ⟨2 * k.val + 1, h1⟩ k (by show k.val = (2 * k.val + 1) / 2; omega) _)) $$ [Hs1 Ht1 HB]
  · isplitl [Ht1]; · rw [← rowTok_eq c arg2 fx ⟨2 * k.val + 1, h1⟩ k (by show k.val = (2 * k.val + 1) / 2; omega)]; iexact Ht1
    isplitl [Hs1]; · iexact Hs1
    iexact HB
  iintro HB
  sl_step
  isplitl [Hw]; · iexact Hw
  isplitl [HB]; · iexact HB
  isplitl [Hs]; · iexact Hs
  iexact Ht

/-! ## The drain loop -/

/-- Before trip `k` of the drain loop: the waits so far recorded, the position words, and either (`k < 512`) the batch with
    `2 k` rows consumed or (after the last trip) the semaphore at zero and every delivery. -/
def drainAt (p : Words) (g : Rows F) (fp : Buf (Elt F) (arg1.view.loc (c : Thread nD τ)))
    (fx : Buf (Elt F) (arg2.view.loc (c : Thread nD τ))) (k : ℕ) (_ : Unit) : sProp 𝕄 :=
  iprop(wordsAt c arg1 fp ∗ (∃ W, owes (c : Thread nD τ) 0 W)
    ∗ (if k < 512 then batch c arg2 p g fx 1024 (2 * k * credit)
       else iprop(semVal ((c : Thread nD τ), SemLoc.dma cc0_scratch0.sem) 0 ∗ bigSep Finset.univ (deliv c arg2 p g fx))))

/-- One trip: the two words of row `k` read again, each a slot, and one row's bytes awaited twice; the last trip's second
    wait is the batch's last. -/
theorem drain_step (p : Words) (hr : InRange p) (g : Rows F) (fp : Buf (Elt F) (arg1.view.loc (c : Thread nD τ)))
    (hp : arg1.view.read (Elt F) fp = p)
    (fx : Buf (Elt F) (arg2.view.loc (c : Thread nD τ)))
    (k : Fin k0_t2_loop.trips) (acc : Unit) :
    drainAt c arg1 arg2 p g fp fx k.val acc
      ⊢ wp frame (wpE (defs₀ (F := F)) Variants.none (c : Thread nD τ) none) Set.univ
        (k0_t2_body i arg1 harg1 arg2 harg2 (Memref.whole main_v0) (Memref.isWhole_whole _) (Memref.whole main_v0) (Memref.isWhole_whole _) cc0_scratch0 k acc)
        (drainAt c arg1 arg2 p g fp fx (k.val + 1)) := by
  have hk : k.val < 512 := trip_lt k
  have h0 : 2 * k.val < 1024 := by omega
  have h1 : 2 * k.val + 1 < 1024 := by omega
  have hc := credit_pos
  have e2 : 2 * k.val * credit + credit + credit = 2 * (k.val + 1) * credit := by
    rw [show 2 * (k.val + 1) = 2 * k.val + 1 + 1 by omega, Nat.add_mul, Nat.add_mul, Nat.one_mul]
  have hle : 2 * (k.val + 1) * credit ≤ credit * 1024 := by
    rw [Nat.mul_comm]; exact Nat.mul_le_mul_left _ (by omega)
  have hlt : 2 * k.val * credit + credit < credit * 1024 := by omega
  unfold drainAt
  rw [if_pos hk]
  iintro ⟨Hw, ⟨%W, HO⟩, HB⟩
  unfold k0_t2_body
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x2x512) (k0_off7 k) S1x1x1.size (k0_off7_inb k))
    (S := arg1.view.set) (View.set_slice_subset _ _)) $$ Hw
  iintro Hw
  rw [show (arg1.access (Rect.unit (s := S1x2x512) (k0_off7 k) S1x1x1.size (k0_off7_inb k))).read (Elt F) fp _
    = word p ⟨2 * k.val, h0⟩ from read_word c arg1 p k fp hp _]
  iapply (wp_assume Variants.none (c : Thread nD τ) none Set.univ (chk_of _ (hr ⟨2 * k.val, h0⟩)))
  iapply (Transfers.wp_waitBatch (countersEmb (U := Pipeline.UD sig nD τ)) Variants.none (c : Thread nD τ) none
    (srcw := src arg2 k) (dstw := dst (word p ⟨2 * k.val, h0⟩) (chk_of _ (hr _))) (hsrc := View.wordExact_bits rfl)
      (hdst := View.wordExact_bits rfl) () (N := credit) rfl (D := deliv c arg2 p g fx) (u := 2 * k.val * credit) hlt) $$ [HB HO]
  · isplitl [HB] <;> iassumption
  iintro ⟨HB, HO⟩
  iapply (wp_load_rect Variants.none (c : Thread nD τ) none Set.univ (m := arg1) (r := Rect.unit (s := S1x2x512) (k0_off10 k) S1x1x1.size (k0_off10_inb k))
    (S := arg1.view.set) (View.set_slice_subset _ _)) $$ Hw
  iintro Hw
  rw [show (arg1.access (Rect.unit (s := S1x2x512) (k0_off10 k) S1x1x1.size (k0_off10_inb k))).read (Elt F) fp _
    = word p ⟨2 * k.val + 1, h1⟩ from read_word' c arg1 p k fp hp _]
  iapply (wp_assume Variants.none (c : Thread nD τ) none Set.univ (chk_of _ (hr ⟨2 * k.val + 1, h1⟩)))
  rcases Nat.lt_or_ge (k.val + 1) 512 with h | h
  · rw [if_pos h]
    iapply (Transfers.wp_waitBatch (countersEmb (U := Pipeline.UD sig nD τ)) Variants.none (c : Thread nD τ) none
      (srcw := src arg2 k) (dstw := dst (word p ⟨2 * k.val + 1, h1⟩) (chk_of _ (hr _))) (hsrc := View.wordExact_bits rfl)
      (hdst := View.wordExact_bits rfl) () (N := credit) rfl (D := deliv c arg2 p g fx) (u := 2 * k.val * credit + credit)
      (by rw [e2, Nat.mul_comm]; exact Nat.mul_lt_mul_of_pos_left (by omega) hc)) $$ [HB HO]
    · isplitl [HB] <;> iassumption
    iintro ⟨HB, HO⟩
    sl_step
    isplitl [Hw]; · iexact Hw
    isplitl [HO]; · iexists _; iexact HO
    rw [← e2]; iexact HB
  · rw [if_neg (Nat.not_lt.mpr h)]
    iapply (Transfers.wp_waitBatchLast (countersEmb (U := Pipeline.UD sig nD τ)) Variants.none (c : Thread nD τ) none
      (srcw := src arg2 k) (dstw := dst (word p ⟨2 * k.val + 1, h1⟩) (chk_of _ (hr _))) (hsrc := View.wordExact_bits rfl)
      (hdst := View.wordExact_bits rfl) () (N := credit) rfl credit_pos (D := deliv c arg2 p g fx) (u := 2 * k.val * credit + credit)
      (by rw [e2, show k.val + 1 = 512 by omega, Nat.mul_comm])) $$ [HB HO]
    · isplitl [HB] <;> iassumption
    iintro ⟨HD, Hv, HO⟩
    sl_step
    isplitl [Hw]; · iexact Hw
    isplitl [HO]; · iexists _; iexact HO
    isplitl [Hv]; · iexact Hv
    iexact HD

/-! ## The buffers taken apart and put back -/

/-- What is left of the token block while its 1024 rows are lent: the share kept, and each token's other rows. -/
def kept (fx : Buf (Elt F) (arg2.view.loc (c : Thread nD τ))) : sProp 𝕄 :=
  iprop((arg2.view.loc (c : Thread nD τ) ↦[arg2.view.set]{Transfers.shareDrop fullShare 1024} fx)
    ∗ bigSep (Finset.univ : Finset (Fin 1024)) (fun q =>
        (arg2.view.loc (c : Thread nD τ) ↦[arg2.view.set \ (src arg2 (tripOf q)).view.set]{Transfers.shareTokN fullShare q.val} fx : sProp 𝕄)))

/-- The token block is what is kept and the 1024 lent rows. -/
theorem rows_eq (fx : Buf (Elt F) (arg2.view.loc (c : Thread nD τ))) :
    (arg2.view.loc (c : Thread nD τ) ↦[arg2.view.set]{fullShare} fx : sProp 𝕄)
      ⊣⊢ iprop(kept c arg2 fx ∗ bigSep Finset.univ (rowTok c arg2 fx)) := by
  have hq : ∀ q : Fin 1024, (arg2.view.loc (c : Thread nD τ) ↦[arg2.view.set]{Transfers.shareTokN fullShare q.val} fx : sProp 𝕄)
      = iprop(rowTok c arg2 fx q
        ∗ (arg2.view.loc (c : Thread nD τ) ↦[arg2.view.set \ (src arg2 (tripOf q)).view.set]{Transfers.shareTokN fullShare q.val} fx)) :=
    fun q => take_part (ℓ := arg2.view.loc (c : Thread nD τ)) _ fx (View.set_slice_subset arg2.view _)
  have hall : bigSep (Finset.range 1024) (fun q => (arg2.view.loc (c : Thread nD τ) ↦[arg2.view.set]{Transfers.shareTokN fullShare q} fx : sProp 𝕄))
      = iprop(bigSep Finset.univ (rowTok c arg2 fx) ∗ bigSep (Finset.univ : Finset (Fin 1024)) (fun q =>
        (arg2.view.loc (c : Thread nD τ) ↦[arg2.view.set \ (src arg2 (tripOf q)).view.set]{Transfers.shareTokN fullShare q.val} fx : sProp 𝕄))) := by
    rw [bigSep_naturals]; exact (BI.bigSep_congr fun q _ => hq q).trans (BI.bigSep_sep _ _ _)
  unfold kept
  constructor
  · iintro H
    ihave H' := (Transfers.pointsTo_toks_range fullShare 1024).1 $$ H
    rw [hall]
    icases H' with ⟨Hk, Hr, Hs⟩
    isplitl [Hk Hs]
    · isplitl [Hk] <;> iassumption
    iexact Hr
  · iintro ⟨⟨Hk, Hs⟩, Hr⟩
    iapply (Transfers.pointsTo_toks_range fullShare 1024).2
    rw [hall]
    isplitl [Hk]; · iexact Hk
    isplitl [Hr] <;> iassumption

/-- The elements of the slots the point's words name. -/
def named (p : Words) : Finset S41984x512.Idx := Finset.univ.biUnion fun q => slot (word p q).toNat

theorem slots_disjoint (p : Words) (hd : Distinct p) (q q' : Fin 1024) (hne : q ≠ q') :
    Disjoint (slot (word p q).toNat) (slot (word p q').toNat) := by
  rw [Finset.disjoint_left]; intro i h h'
  exact hne (hd q q' ((mem_slot.mp h).symm.trans (mem_slot.mp h')))

/-- The expert buffer is the named slots one by one and the rest of it. -/
theorem slots_eq (p : Words) (hd : Distinct p) (f : Rows F) :
    ((Memref.whole main_v0 : Memref sig .tc .hbm S41984x512 .i32).view.loc (c : Thread nD τ) ↦{fullShare} f : sProp 𝕄)
      = iprop(bigSep Finset.univ (slotAt (F := F) c p f)
        ∗ ((Memref.whole main_v0 : Memref sig .tc .hbm S41984x512 .i32).view.loc (c : Thread nD τ) ↦[Finset.univ \ named p]{fullShare} f)) := by
  have h := pointsTo_biUnion (ℓ := (Memref.whole main_v0 : Memref sig .tc .hbm S41984x512 .i32).view.loc (c : Thread nD τ)) (q := fullShare) (f := f)
    (Ix := Unit) (Name := ℕ) (U := Pipeline.UD sig nD τ) (Lvl := ℕ)
    (Finset.univ : Finset (Fin 1024)) (fun q => slot (word p q).toNat) (fun q _ q' _ hne => slots_disjoint p hd q q' hne)
  rw [← h]
  exact take_part (ℓ := (Memref.whole main_v0 : Memref sig .tc .hbm S41984x512 .i32).view.loc (c : Thread nD τ)) _ f (Finset.subset_univ (named p))

/-! ## The body -/

/-- After the issue loop every transfer is in flight. -/
theorem issued (p : Words) (f g : Rows F) (fp : Buf (Elt F) (arg1.view.loc (c : Thread nD τ)))
    (fx : Buf (Elt F) (arg2.view.loc (c : Thread nD τ))) (acc : Unit) :
    issueAt c arg1 arg2 p f g fp fx k0_t1_loop.trips acc ⊢ iprop(wordsAt c arg1 fp ∗ batch c arg2 p g fx 1024 0) := by
  unfold issueAt
  rw [trips1]
  iintro ⟨Hw, HB, -, -⟩
  isplitl [Hw] <;> iassumption

/-- After the drain loop every slot holds its row and every lent row is back. -/
theorem drained (p : Words) (g : Rows F) (fp : Buf (Elt F) (arg1.view.loc (c : Thread nD τ)))
    (fx : Buf (Elt F) (arg2.view.loc (c : Thread nD τ))) (acc : Unit) :
    drainAt c arg1 arg2 p g fp fx k0_t2_loop.trips acc
      ⊢ iprop(wordsAt c arg1 fp ∗ (∃ W, owes (c : Thread nD τ) 0 W) ∗ semVal ((c : Thread nD τ), SemLoc.dma cc0_scratch0.sem) 0
        ∗ bigSep Finset.univ (slotAt (F := F) c p g) ∗ bigSep Finset.univ (rowTok c arg2 fx)) := by
  unfold drainAt
  rw [trips2, if_neg (Nat.lt_irrefl _)]
  have e : bigSep Finset.univ (deliv c arg2 p g fx)
      = iprop(bigSep Finset.univ (slotAt (F := F) c p g) ∗ bigSep Finset.univ (rowTok c arg2 fx)) := BI.bigSep_sep _ _ _
  rw [e]

/-- THE BODY of one point: from the position words, the token block, the expert buffer at `f` and the semaphore at zero it
    runs to the expert buffer at `g` — the token rows in the named slots, `f` elsewhere —, the rest as it was. -/
theorem body_run (p : Words) (hr : InRange p) (hd : Distinct p) (x : S512x512.Idx → Elt F .i32) (f g : Rows F)
    (hg : Lands p g x) (hoff : ∀ i, i ∉ named p → f i = g i) (W : Waits sig Unit) :
    (iprop(owns (c : Thread nD τ) arg1 fullShare p ∗ owns (c : Thread nD τ) arg2 fullShare x
      ∗ ((Memref.whole main_v0 : Memref sig .tc .hbm S41984x512 .i32).view.loc (c : Thread nD τ) ↦{fullShare} f)
      ∗ semVal ((c : Thread nD τ), SemLoc.dma cc0_scratch0.sem) 0 ∗ owes (c : Thread nD τ) 0 W) : sProp 𝕄)
      ⊢ wp frame (wpE (defs₀ (F := F)) Variants.none (c : Thread nD τ) none) Set.univ
        (cc0_dispatch i arg1 harg1 arg2 harg2 (Memref.whole main_v0) (Memref.isWhole_whole _) (Memref.whole main_v0) (Memref.isWhole_whole _) cc0_scratch0)
        (fun _ => iprop(owns (c : Thread nD τ) arg1 fullShare p ∗ owns (c : Thread nD τ) arg2 fullShare x
          ∗ ((Memref.whole main_v0 : Memref sig .tc .hbm S41984x512 .i32).view.loc (c : Thread nD τ) ↦{fullShare} g)
          ∗ semVal ((c : Thread nD τ), SemLoc.dma cc0_scratch0.sem) 0 ∗ ∃ W', owes (c : Thread nD τ) 0 W')) := by
  rw [cc0_dispatch_eq_skeleton]
  unfold cc0_dispatch_skel owns
  iintro ⟨⟨%fp, %hp, Hw⟩, ⟨%fx, %hx, Hx⟩, Hv, Hq, HO⟩
  have hg' : Lands p g (arg2.view.read (Elt F) fx) := hx ▸ hg
  ihave Hv' := (Entails.of_eq (slots_eq c p hd f)) $$ Hv
  icases Hv' with ⟨Hs, Hrest⟩
  ihave Hx' := (rows_eq c arg2 fx).1 $$ Hx
  icases Hx' with ⟨Hkept, Hr⟩
  imod (Transfers.batch_alloc' (Lvl := ℕ) (countersEmb (U := Pipeline.UD sig nD τ)) (c : Thread nD τ) () credit (deliv c arg2 p g fx)
    (sm := .dma cc0_scratch0.sem) (E := Set.univ)) $$ Hq with HB
  sl_for (issueAt c arg1 arg2 p f g fp fx) $$ [Hw HB Hs Hr]
  · intro k acc; exact issue_step c arg1 arg2 i harg1 harg2 p hr f g fp hp fx hg' k acc
  · unfold issueAt
    isplitl [Hw]; · iexact Hw
    isplitl [HB]; · iexact HB
    rw [show 2 * 0 = 0 from rfl, Transfers.pending_zero]
    isplitl [Hs] <;> iassumption
  iintro %acc HI
  ihave HI' := (issued c arg1 arg2 p f g fp fx acc) $$ HI
  icases HI' with ⟨Hw, HB⟩
  sl_for (drainAt c arg1 arg2 p g fp fx) $$ [Hw HB HO]
  · intro k acc; exact drain_step c arg1 arg2 i harg1 harg2 p hr g fp hp fx k acc
  · unfold drainAt
    rw [if_pos (by decide)]
    isplitl [Hw]; · iexact Hw
    isplitl [HO]; · iexists _; iexact HO
    iexact HB
  iintro %acc' HD
  ihave HD' := (drained c arg1 arg2 p g fp fx acc') $$ HD
  icases HD' with ⟨Hw, HO, Hq, Hs, Hr⟩
  sl_step
  isplitl [Hw]
  · iexists fp; isplitr; · ipureintro; exact hp
    iexact Hw
  isplitl [Hkept Hr]
  · iexists fx; isplitr; · ipureintro; exact hx
    iapply (rows_eq c arg2 fx).2
    isplitl [Hkept] <;> iassumption
  isplitl [Hs Hrest]
  · iapply (Entails.of_eq (slots_eq c p hd g).symm)
    isplitl [Hs]; · iexact Hs
    iapply (Entails.of_eq (pointsTo_congr (fun i hi => hoff i (Finset.mem_sdiff.mp hi).2))) $$ Hrest
  isplitl [Hq]; · iexact Hq
  iexact HO

end Body

end Cert.KernelIdeal.Hand
-- ==== Proof.DispatchRun.lean ====
/-
  The dispatch program's run, at any float instance, for position words that are slots and pairwise distinct: what each of
  the 33 points leaves in the expert buffer, the invariant between points, and the run of the whole program to a state with
  the arguments unchanged, every semaphore at zero and the buffer at `placed` — the token rows in the slots their words
  name, zeros elsewhere.
-/
module

public import proofs.«01_k».proof.Proof.Dispatch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The contents the points leave -/

/-- The position words name slots, no two the same. -/
def Places (P : S33x2x512.Idx → BitVec 32) : Prop :=
  (∀ i, (P i).toNat < 41984) ∧ ∀ i j, (P i).toNat = (P j).toNat → i = j

/-- The token of the packed rows that the word at `j` sends: token `512 s + r` for row `r` of point `s`. -/
def tokenOf (j : S33x2x512.Idx) : Fin 16896 :=
  ⟨512 * (j 0).val + (j 2).val, by have : (j 0).val < 33 := (j 0).isLt; have : (j 2).val < 512 := (j 2).isLt; omega⟩

open Classical in
/-- The expert buffer after the first `n` points: a slot that a word of theirs names holds the token row sent to it, every
    other slot zeros. -/
def placed (P : S33x2x512.Idx → BitVec 32) (X : S16896x512.Idx → Elt F .i32) (n : ℕ) : Rows F := fun i =>
  if h : ∃ j : S33x2x512.Idx, (j 0).val < n ∧ (P j).toNat = (i 0).val then X (ix2 (tokenOf h.choose) (i 1)) else (0#32 : BitVec 32)

theorem placed_at {P : S33x2x512.Idx → BitVec 32} (hP : Places P) (X : S16896x512.Idx → Elt F .i32) {n : ℕ} {i : S41984x512.Idx}
    (j : S33x2x512.Idx) (hj : (j 0).val < n) (hi : (P j).toNat = (i 0).val) : placed P X n i = X (ix2 (tokenOf j) (i 1)) := by
  have h : ∃ j : S33x2x512.Idx, (j 0).val < n ∧ (P j).toNat = (i 0).val := ⟨j, hj, hi⟩
  unfold placed
  rw [dif_pos h, hP.2 h.choose j (h.choose_spec.2.trans hi.symm)]

theorem placed_off {P : S33x2x512.Idx → BitVec 32} (X : S16896x512.Idx → Elt F .i32) {n : ℕ} {i : S41984x512.Idx}
    (h : ¬ ∃ j : S33x2x512.Idx, (j 0).val < n ∧ (P j).toNat = (i 0).val) : placed P X n i = (0#32 : BitVec 32) := by
  unfold placed; rw [dif_neg h]

/-- Off the slots that point `t` names, the contents after it are those before it. -/
theorem placed_succ {P : S33x2x512.Idx → BitVec 32} (hP : Places P) (X : S16896x512.Idx → Elt F .i32) (t : ℕ) (i : S41984x512.Idx)
    (h : ∀ j : S33x2x512.Idx, (j 0).val = t → (P j).toNat ≠ (i 0).val) : placed P X t i = placed P X (t + 1) i := by
  by_cases hx : ∃ j : S33x2x512.Idx, (j 0).val < t ∧ (P j).toNat = (i 0).val
  · obtain ⟨j, hj, hi⟩ := hx
    rw [placed_at hP X j hj hi, placed_at hP X j (by omega) hi]
  · rw [placed_off X hx, placed_off X]
    rintro ⟨j, hj, hi⟩
    rcases Nat.lt_or_ge (j 0).val t with h' | h'
    · exact hx ⟨j, h', hi⟩
    · exact h j (by omega) hi

/-! ## @main up to the region -/

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The region finds the expert buffer at zeros. -/
theorem V_main_v0 (c : Dev nD) : V m c main_v0 = fun _ => (0#32 : BitVec 32) := by
  show StableHlo.after hostOps0 (fun b => m (c, b)) (Proc.devRef .tc main_v0) = _
  after_results
  rfl

/-- The words and the token rows as launched. -/
abbrev posOf (c : Dev nD) : S33x2x512.Idx → BitVec 32 := m ((c : Thread nD τ).loc main_arg0)
abbrev rowsOf (c : Dev nD) : S16896x512.Idx → Elt F .i32 := m ((c : Thread nD τ).loc main_arg1)

theorem coord_val (t : Fin cfg0.N) : (grid0.coords t 0).val = t.val := by
  revert t; decide +kernel

theorem point_lt (t : Fin cfg0.N) : t.val < 33 := Nat.lt_of_lt_of_eq t.isLt N_0

theorem index0 : ∀ t : Fin cfg0.N, win0_0.index t = ![t.val, 0, 0] := by decide +kernel
theorem index1 : ∀ t : Fin cfg0.N, win0_1.index t = ![t.val, 0] := by decide +kernel

/-- Point `t`'s words are plane `t` of the words. -/
theorem iblk_words (c : Dev nD) (t : Fin cfg0.N) (y : S1x2x512.Idx) :
    (iblk m c 0 t : S1x2x512.Idx → BitVec 32) y = posOf m c (ix3 ⟨t.val, point_lt t⟩ (y 1) (y 2)) := by
  unfold iblk
  rw [View.read_apply, cast_eq]
  refine (congrFun (V_main_arg0 m c) _).trans (congrArg (posOf m c) ?_)
  funext a
  apply Fin.ext
  have h0 : (y 0).val = 0 := by have : (y 0).val < 1 := (y 0).isLt; omega
  match a with
  | ⟨0, _⟩ => blk_simp [index0]; try rfl
  | ⟨1, _⟩ => blk_simp [index0]; try rfl
  | ⟨2, _⟩ => blk_simp [index0]; try rfl

/-- Point `t`'s token block is rows `512 t` to `512 t + 511` of the token rows. -/
theorem iblk_rows (c : Dev nD) (t : Fin cfg0.N) (y : S512x512.Idx) :
    (iblk m c 1 t : S512x512.Idx → Elt F .i32) y
      = rowsOf m c (ix2 ⟨512 * t.val + (y 0).val, by have := point_lt t; have : (y 0).val < 512 := (y 0).isLt; omega⟩ (y 1)) := by
  unfold iblk
  rw [View.read_apply, cast_eq]
  refine (congrFun (V_main_arg1 m c) _).trans (congrArg (rowsOf m c) ?_)
  funext a
  apply Fin.ext
  match a with
  | ⟨0, _⟩ => blk_simp [index1]; show t.val * 512 + (y 0).val = 512 * t.val + (y 0).val; omega
  | ⟨1, _⟩ => blk_simp [index1]; rfl

/-! ## The proof data -/

/-- What the unscoped buffers hold before point `n`: the expert buffer `placed`, every other as the region found it. -/
def contents (n : ℕ) (c : Dev nD) (b : Ref sig .tc) : Buf (Elt F) ((c : Thread nD τ).loc b) :=
  Function.update (β := fun b : Ref sig .tc => Buf (Elt F) ((c : Thread nD τ).loc b)) (V m c) main_v0 (placed (posOf m c) (rowsOf m c) n) b

theorem contents_v0 (n : ℕ) (c : Dev nD) : contents m n c main_v0 = placed (posOf m c) (rowsOf m c) n := Function.update_self ..

theorem contents_zero : contents m 0 = V m := by
  funext c b
  have e : placed (posOf m c) (rowsOf m c) 0 = V m c main_v0 := by
    rw [V_main_v0]; funext i; exact placed_off _ (by rintro ⟨j, hj, -⟩; omega)
  unfold contents
  rw [e, Function.update_eq_self]

abbrev osem0 : Fin 1 → SemLoc sig := fun j => (![SemLoc.dma 4] : Fin 1 → SemLoc sig) j
theorem ownSemFacts0 : Pipeline.OwnSemFacts spec0 osem0 := by decide

theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 4) 0 := by
  rw [Pipeline.ownSems0_eq_of_list c osem0 [0] (by decide) (by decide)]; rfl

theorem routed_eq (c : Dev nD) (n : ℕ) :
    (Pipeline.routed ({main_v0} : Finset (Ref sig .tc)) c (contents m n c) : sProp 𝕄)
      = iprop((c : Thread nD τ).loc main_v0 ↦{fullShare} placed (posOf m c) (rowsOf m c) n) := by
  unfold Pipeline.routed
  rw [BI.bigSep_eq_bigSepL_of_eq [main_v0] (by decide) (by decide)]
  rw [← contents_v0]
  rfl

/-- Between points: the program's own semaphore at zero, the expert buffer at what the points so far have placed. -/
def Inv (c : Dev nD) (n : ℕ) : sProp 𝕄 := Pipeline.ΦDRG osem0 spec0 (∅ : Finset (Ref sig .tc)) {main_v0} (V m) (contents m n) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem found0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem found1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## One point -/

/-- Word `q` of point `t` among all the words. -/
abbrev wordIx (t : Fin cfg0.N) (q : Fin 1024) : S33x2x512.Idx :=
  ix3 ⟨t.val, point_lt t⟩ ⟨q.val % 2, Nat.mod_lt _ (by omega)⟩ ⟨q.val / 2, by have := q.isLt; omega⟩

theorem word_eq (c : Dev nD) (t : Fin cfg0.N) (q : Fin 1024) : word (iblk m c 0 t) q = posOf m c (wordIx t q) :=
  iblk_words m c t _

theorem inRange_point {c : Dev nD} (h : Places (posOf m c)) (t : Fin cfg0.N) : InRange (iblk m c 0 t) := fun q => by
  rw [word_eq]; exact h.1 _

theorem distinct_point {c : Dev nD} (h : Places (posOf m c)) (t : Fin cfg0.N) : Distinct (iblk m c 0 t) := fun q q' e => by
  rw [word_eq, word_eq] at e
  have e' := h.2 _ _ e
  have e1 : q.val % 2 = q'.val % 2 := congrArg Fin.val (congrFun e' 1)
  have e2 : q.val / 2 = q'.val / 2 := congrArg Fin.val (congrFun e' 2)
  exact Fin.ext (by omega)

theorem lands_point {c : Dev nD} (h : Places (posOf m c)) (t : Fin cfg0.N) :
    Lands (iblk m c 0 t) (placed (posOf m c) (rowsOf m c) (t.val + 1)) (iblk m c 1 t) := fun q i hi => by
  rw [mem_slot, word_eq] at hi
  rw [placed_at h (rowsOf m c) (wordIx t q) (Nat.lt_succ_self _) hi.symm]
  exact (iblk_rows m c t (ix2 ⟨q.val / 2, by have := q.isLt; omega⟩ (i 1))).symm

theorem off_point {c : Dev nD} (h : Places (posOf m c)) (t : Fin cfg0.N) (i : S41984x512.Idx) (hi : i ∉ named (iblk m c 0 t)) :
    placed (posOf m c) (rowsOf m c) t.val i = placed (posOf m c) (rowsOf m c) (t.val + 1) i := by
  refine placed_succ h _ _ _ fun j hj e => hi ?_
  have h1 : (j 1).val < 2 := (j 1).isLt
  have h2 : (j 2).val < 512 := (j 2).isLt
  refine Finset.mem_biUnion.mpr ⟨⟨2 * (j 2).val + (j 1).val, by omega⟩, Finset.mem_univ _, ?_⟩
  rw [mem_slot, word_eq, ← e]
  congr 2
  funext a
  apply Fin.ext
  match a with
  | ⟨0, _⟩ => exact hj
  | ⟨1, _⟩ => show (j 1).val = (2 * (j 2).val + (j 1).val) % 2; omega
  | ⟨2, _⟩ => show (j 2).val = (2 * (j 2).val + (j 1).val) / 2; omega

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

theorem inv_eq (c : Dev nD) (n : ℕ) :
    Inv m c n = iprop(emp ∗ (∃ r, prngReg c r) ∗ semVal ((c : Thread nD τ), SemLoc.dma 4) 0 ∗ emp
      ∗ ((c : Thread nD τ).loc main_v0 ↦{fullShare} placed (posOf m c) (rowsOf m c) n)) := by
  unfold Inv
  rw [Pipeline.ΦDRG_eq, routed_eq, ownSems00_eq, scopedRest0_eq, BI.bigSep_empty]
  rfl

/-- What one run of the body leaves at point `t`. -/
def runPost (c : Dev nD) (t : Fin cfg0.N) : PUnit → sProp 𝕄 := fun _ =>
  iprop(owns (c : Thread nD τ) (win0_0.stage (cfg0.slots t 0)) fullShare (iblk m c 0 t)
    ∗ owns (c : Thread nD τ) (win0_1.stage (cfg0.slots t 1)) fullShare (iblk m c 1 t)
    ∗ ((Memref.whole main_v0 : Memref sig .tc .hbm S41984x512 .i32).view.loc (c : Thread nD τ) ↦{fullShare} placed (posOf m c) (rowsOf m c) (t.val + 1))
    ∗ semVal ((c : Thread nD τ), SemLoc.dma cc0_scratch0.sem) 0 ∗ ∃ W', owes (c : Thread nD τ) 0 W')

variable (hP : ∀ c : Dev nD, Places (posOf m c))
include hP

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, after0_0, after0_1]
  rw [show (dats m 0 c).Φ t.castSucc = Inv m c t.val from rfl, inv_eq, inv_eq]
  unfold Dat.owesAt Pipeline.owesWithin
  rw [show (dats m 0 c).owed t.castSucc = 0 from rfl, show (dats m 0 c).owed t.succ = 0 from rfl]
  simp only [found0, found1]
  refine BIBase.Entails.trans (Q := iprop(wp frame (wpE (defs₀ (F := F)) Variants.none c none) Set.univ
      (cc0_dispatch (grid0.coords t) (win0_0.stage (cfg0.slots t 0)) (hstage0_0 ((cfg0.slots t 0))) (win0_1.stage (cfg0.slots t 1)) (hstage0_1 ((cfg0.slots t 1)))
        (Memref.whole main_v0) (Memref.isWhole_whole _) (Memref.whole main_v0) (Memref.isWhole_whole _) cc0_scratch0) (runPost m c t)
      ∗ (∃ r, prngReg c r) ∗ emp ∗ emp)) ?_ ((wp_frame_r _ _ _).trans (wp_mono _ _ _ ?_))
  · iintro ⟨⟨He, Hg, Hs, He', Hv⟩, ⟨%W, -, HW⟩, ⟨%d0, H0⟩, ⟨%d1, H1⟩⟩
    isplitr [Hg He He']
    · iapply (body_run c _ _ (grid0.coords t) _ _ _ (inRange_point m (hP c) t) (distinct_point m (hP c) t) _ _ _
        (lands_point m (hP c) t) (off_point m (hP c) t) W)
      isplitl [H0]; · iexact H0
      isplitl [H1]; · iexact H1
      isplitl [Hv]; · iexact Hv
      isplitl [Hs]; · iexact Hs
      iexact HW
    isplitl [Hg]; · iexact Hg
    isplitl [He]; · iexact He
    iexact He'
  intro _
  unfold runPost
  iintro ⟨⟨H0, H1, Hv, Hs, ⟨%W', HW'⟩⟩, Hg, He, He'⟩
  isplitl [Hg Hs Hv He He']
  · isplitl [He]; · iexact He
    isplitl [Hg]; · iexact Hg
    isplitl [Hs]; · iexact Hs
    isplitl [He']; · iexact He'
    iexact Hv
  isplitl [HW']
  · iexists W'; isplitr; · ipureintro; exact fun _ _ => Or.inl trivial
    iexact HW'
  isplitl [H0]; · iexact H0
  iexact H1

omit hP in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row t]
  exact triple_restated (sound_body m hP c t) rfl .rfl fun _ => .rfl

/-! ## The run -/

set_option backward.isDefEq.respectTransparency.types false in
theorem run_main : θ_run defs (onTc (τ := τ) (main (F := F))) (s₀ m ρ)
    (fun r => Pipeline.FramePostRG cfgs (dats m) 0 {main_v0} (V m) (contents m 33) r ∧ r.2.sem = fun _ => 0) :=
  Pipeline.θ_run_frame_dmaRG (Q' := _) cfgs (dats m) (0 : Fin 1) launch0 osem0 defs₀ Variants.none ownSemFacts0 (∅ : Finset (Ref sig .tc)) {main_v0}
    (by decide) (by decide) m ρ main
    (hbody := fun c => (body_obligation m hP c).loose) (hshare := fun c => (dats m 0 c).share_full fun _ => rfl)
    (howed := fun _ _ => rfl) (V := V m) (hmain := hmain m Variants.none) (hA := A_eq m) (G := contents m 33)
    (hin := fun c => Entails.of_eq (by show _ = Inv m c 0; unfold Inv; rw [contents_zero]))
    (hout := fun c => Entails.of_eq (by show Inv m c _ = _; rw [show (Fin.last cfg0.N).val = 33 from N_0]; rfl))

/-- The whole program: the arguments end as launched, the semaphores at zero, and the result holds in every slot that a
    position word names the token row it sends there, zeros in every other slot. -/
theorem run_value : θ_run defs (onTc (τ := τ) (main (F := F))) ⟨m, fun _ => 0, ρ⟩ (fun r => (∀ c : Dev nD,
      r.2.mem ((c.tc : Thread nD τ).loc main_v0) = placed (posOf m c) (rowsOf m c) 33
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.written c (Finset.mem_singleton_self _)).trans (contents_v0 m 33 c),
     ((h.1.toR c).1 0).trans (((dats m 0 c).arrAt_in 0 rfl _).trans ((A_eq m c 0).trans (V_main_arg0 m c))),
     ((h.1.toR c).1 1).trans (((dats m 0 c).arrAt_in 1 rfl _).trans ((A_eq m c 1).trans (V_main_arg1 m c)))⟩, h.2⟩) (run_main m ρ hP)

end Cert.KernelIdeal.Hand
-- ==== Proof.DispatchSpec.lean ====
/-
  What the dispatch's precondition says of the position words, and the reference's two scatters read at an element: for words
  that are slots and pairwise distinct, `placed` of all 33 points. No program runs here.
-/
module

public import proofs.«01_k».proof.Proof.DispatchRun
public import proofs.«01_k».proof.Proof.Gen.Pre_places_distinct
public import proofs.«01_k».proof.Proof.Gen.Reference.Run
public import proofs.«01_k».proof.Proof.Gen.ReferenceIdeal.Run
public import Idealize.ShloMosaic.Lib.Routing.OpsSet
public import Idealize.ShloMosaic.Lib.ReduceAll
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Routing

variable {F : FTy → Type} [FloatOps F]

/-! ## The precondition -/

theorem idx3_val {a b c : ℕ} (i : (⟨3, ![a, b, c]⟩ : Shape).Idx) : (i 0).val < a ∧ (i 1).val < b ∧ (i 2).val < c :=
  ⟨(i 0).isLt, (i 1).isLt, (i 2).isLt⟩

/-- The place of a word in the flattened words. -/
def flatPos (i : S33x2x512.Idx) : Fin 33792 :=
  ⟨1024 * (i 0).val + 512 * (i 1).val + (i 2).val, by have := idx3_val i; omega⟩

theorem flatPos_inj {i j : S33x2x512.Idx} (h : (flatPos i).val = (flatPos j).val) : i = j := by
  have hi := idx3_val i
  have hj := idx3_val j
  have e : 1024 * (i 0).val + 512 * (i 1).val + (i 2).val = 1024 * (j 0).val + 512 * (j 1).val + (j 2).val := h
  funext a
  apply Fin.ext
  match a with
  | ⟨0, _⟩ => show (i 0).val = (j 0).val; omega
  | ⟨1, _⟩ => show (i 1).val = (j 1).val; omega
  | ⟨2, _⟩ => show (i 2).val = (j 2).val; omega

theorem flat_word (P : S33x2x512.Idx → BitVec 32) (i : S33x2x512.Idx) (h : S33x2x512.ShapeCasts Cert.Pre_places_distinct.S33792) :
    shapeCast Cert.Pre_places_distinct.S33792 P h (ix1 (flatPos i)) = P i := by
  refine shapeCast_apply P h _ _ ?_
  rw [Shape.rowMajor_val_one, Shape.rowMajor_val_three]
  show ((i 0).val * 2 + (i 1).val) * 512 + (i 2).val = 1024 * (i 0).val + 512 * (i 1).val + (i 2).val
  omega

theorem bit_and {p q : BitVec 1} (h : IntOp.andi p q = 1#1) : p = 1#1 ∧ q = 1#1 := by
  revert p q; decide
theorem bit_or {p q : BitVec 1} (h : IntOp.ori p q = 1#1) : p = 1#1 ∨ q = 1#1 := by
  revert p q; decide
theorem bit_ofBool {p : Bool} (h : BitVec.ofBool p = 1#1) : p = true := by
  revert p; decide

/-- A vector repeated along the rows' axis of a square reads its entry at the row; -/
theorem row_apply (v : Cert.Pre_places_distinct.S33792.Idx → BitVec 32) (a b : Fin 33792) :
    broadcastInDim Cert.Pre_places_distinct.S33792x33792 ![0, 1] Cert.Pre_places_distinct.Gen.bcast_S33792x1_S33792x33792_0_1
      (broadcastInDim Cert.Pre_places_distinct.S33792x1 ![0] Cert.Pre_places_distinct.Gen.bcast_S33792_S33792x1_0 v) (ix2 a b) = v (ix1 a) := by
  refine (broadcastInDim_apply _ _ _ _ (ix2 a 0) fun x => ?_).trans (broadcastInDim_apply _ _ _ _ (ix1 a) fun x => ?_)
  · match x with
    | ⟨0, _⟩ => rfl
    | ⟨1, _⟩ => rfl
  · match x with
    | ⟨0, _⟩ => rfl
/-- along the columns' axis, at the column. -/
theorem col_apply (v : Cert.Pre_places_distinct.S33792.Idx → BitVec 32) (a b : Fin 33792) :
    broadcastInDim Cert.Pre_places_distinct.S33792x33792 ![0, 1] Cert.Pre_places_distinct.Gen.bcast_S1x33792_S33792x33792_0_1
      (broadcastInDim Cert.Pre_places_distinct.S1x33792 ![1] Cert.Pre_places_distinct.Gen.bcast_S33792_S1x33792_1 v) (ix2 a b) = v (ix1 b) := by
  refine (broadcastInDim_apply _ _ _ _ (ix2 0 b) fun x => ?_).trans (broadcastInDim_apply _ _ _ _ (ix1 b) fun x => ?_)
  · match x with
    | ⟨0, _⟩ => rfl
    | ⟨1, _⟩ => rfl
  · match x with
    | ⟨0, _⟩ => rfl

/-- The precondition says that the words are slots of the expert buffer, no two the same. -/
theorem places_of_pre (P : S33x2x512.Idx → BitVec 32) (X : S16896x512.Idx → BitVec 32)
    (h : Cert.Pre_places_distinct.fn (F := F) P X = fun _ => 1#1) : Places P := by
  have h0 := congrFun h ix0
  unfold Cert.Pre_places_distinct.fn Cert.Pre_places_distinct.fn_part1 at h0
  obtain ⟨ha, hb⟩ := bit_and h0
  haveI : Subsingleton Cert.Pre_places_distinct.S_.Idx := ⟨fun a b => funext fun k => k.elim0⟩
  constructor
  · intro i
    have e := Host.reduce_andi_all _ _ _ _ _ ha (ix1 (flatPos i))
    obtain ⟨e1, e2⟩ := bit_and e
    simp only [cmpi, broadcastInDim, constantI, IntOp.cmpi, flat_word] at e1 e2
    have e1 := bit_ofBool e1
    have e2 := bit_ofBool e2
    simp only [BitVec.sle, BitVec.slt, decide_eq_true_eq, BitVec.toInt, BitVec.toNat_ofNat] at e1 e2
    have := (P i).isLt
    omega
  · intro i j hij
    have e := Host.reduce_andi_all _ _ _ _ _ hb (ix2 (flatPos i) (flatPos j))
    have hp1 : broadcastInDim Cert.Pre_places_distinct.S33792x33792 ![0, 1] Cert.Pre_places_distinct.Gen.bcast_S33792x1_S33792x33792_0_1
        (broadcastInDim Cert.Pre_places_distinct.S33792x1 ![0] Cert.Pre_places_distinct.Gen.bcast_S33792_S33792x1_0
          (shapeCast Cert.Pre_places_distinct.S33792 P Cert.Pre_places_distinct.Gen.shapeCasts_S33x2x512_S33792)) (ix2 (flatPos i) (flatPos j)) = P i :=
      (row_apply _ _ _).trans (flat_word P i _)
    have hp2 : broadcastInDim Cert.Pre_places_distinct.S33792x33792 ![0, 1] Cert.Pre_places_distinct.Gen.bcast_S1x33792_S33792x33792_0_1
        (broadcastInDim Cert.Pre_places_distinct.S1x33792 ![1] Cert.Pre_places_distinct.Gen.bcast_S33792_S1x33792_1
          (shapeCast Cert.Pre_places_distinct.S33792 P Cert.Pre_places_distinct.Gen.shapeCasts_S33x2x512_S33792)) (ix2 (flatPos i) (flatPos j)) = P j :=
      (col_apply _ _ _).trans (flat_word P j _)
    rcases bit_or e with e | e
    · have e := bit_ofBool e
      rw [hp1, hp2, BitVec.eq_of_toNat_eq hij] at e
      simp at e
    · have e := bit_ofBool e
      rw [row_apply, col_apply, beq_iff_eq] at e
      have e := congrArg BitVec.toNat e
      simp only [iotaInDim, BitVec.toNat_ofNat] at e
      have hi := (flatPos i).isLt
      have hj := (flatPos j).isLt
      refine flatPos_inj ?_
      have e : (flatPos i).val % 2 ^ 32 = (flatPos j).val % 2 ^ 32 := e
      omega

/-! ## The reference -/

/-- A row scatter's update `(n, c)` lands at `(r, c')` exactly when its index word, read signed, is `r`, and `c = c'`. -/
theorem lands_row {R C N : ℕ} (wf : ScatterDims.WF (shape2 R C) (shape2 N 1) (shape2 N C) [1] [0] [0] 1)
    (idx : IVec (shape2 N 1) 32) (n : Fin N) (c c' : Fin C) (r : Fin R) :
    (⟨[1], [0], [0], 1, wf⟩ : ScatterDims (shape2 R C) (shape2 N 1) (shape2 N C)).resultIdx? (ix2 n c) idx = some (ix2 r c')
      ↔ (idx (ix2 n 0)).toInt = (r.val : Int) ∧ c = c' := by
  have hwin0 : (⟨[1], [0], [0], 1, wf⟩ : ScatterDims (shape2 R C) (shape2 N 1) (shape2 N C)).window (ix2 n c) 0 = 0 := rfl
  have hwin1 : (⟨[1], [0], [0], 1, wf⟩ : ScatterDims (shape2 R C) (shape2 N 1) (shape2 N C)).window (ix2 n c) 1 = c.val := rfl
  have hstart1 : (⟨[1], [0], [0], 1, wf⟩ : ScatterDims (shape2 R C) (shape2 N 1) (shape2 N C)).start (ix2 n c) idx 1 = 0 := rfl
  have hstart0 : (⟨[1], [0], [0], 1, wf⟩ : ScatterDims (shape2 R C) (shape2 N 1) (shape2 N C)).start (ix2 n c) idx 0 = (idx (ix2 n 0)).toInt := by
    refine congrArg (fun k => (idx k).toInt) (funext fun b => ?_)
    match b with
    | ⟨0, _⟩ => rfl
    | ⟨1, _⟩ => exact Subsingleton.elim (α := Fin 1) _ _
  rw [resultIdx?_ix2, hstart0, hwin0, hstart1, hwin1, Fin.ext_iff]
  omega

/-- Word `k` of every token, as the reference indexes with it: jnp's wrap of plane `k` of the transposed, flattened words. -/
abbrev indexOf (P : S33x2x512.Idx → BitVec 32) (k : ℕ) (hs : Cert.Reference.S2x16896.Slices ![k, 0] Cert.Reference.S1x16896) :
    Cert.Reference.S16896x1.Idx → BitVec 32 :=
  broadcastInDim Cert.Reference.S16896x1 ![0] Cert.Reference.Gen.bcast_S16896_S16896x1_0
    (select (cmpi .slt (shapeCast Cert.Reference.S16896 (extractStridedSlice Cert.Reference.S1x16896 ![k, 0]
        (shapeCast Cert.Reference.S2x16896 (transpose Cert.Reference.S2x33x512 [1, 0, 2] P Cert.Reference.Gen.transposes_S33x2x512_S2x33x512_1_0_2) Cert.Reference.Gen.shapeCasts_S2x33x512_S2x16896) hs) Cert.Reference.Gen.shapeCasts_S1x16896_S16896)
        (broadcastInDim Cert.Reference.S16896 ![] Cert.Reference.Gen.bcast_S_S16896 (constantI Cert.Reference.S_ 32 0#32)))
      (addi (shapeCast Cert.Reference.S16896 (extractStridedSlice Cert.Reference.S1x16896 ![k, 0]
        (shapeCast Cert.Reference.S2x16896 (transpose Cert.Reference.S2x33x512 [1, 0, 2] P Cert.Reference.Gen.transposes_S33x2x512_S2x33x512_1_0_2) Cert.Reference.Gen.shapeCasts_S2x33x512_S2x16896) hs) Cert.Reference.Gen.shapeCasts_S1x16896_S16896)
        (broadcastInDim Cert.Reference.S16896 ![] Cert.Reference.Gen.bcast_S_S16896 (constantI Cert.Reference.S_ 32 41984#32)))
      (shapeCast Cert.Reference.S16896 (extractStridedSlice Cert.Reference.S1x16896 ![k, 0]
        (shapeCast Cert.Reference.S2x16896 (transpose Cert.Reference.S2x33x512 [1, 0, 2] P Cert.Reference.Gen.transposes_S33x2x512_S2x33x512_1_0_2) Cert.Reference.Gen.shapeCasts_S2x33x512_S2x16896) hs) Cert.Reference.Gen.shapeCasts_S1x16896_S16896))

/-- The word of token `n` in plane `k`. -/
abbrev wordOf (k : Fin 2) (n : Fin 16896) : S33x2x512.Idx :=
  ix3 ⟨n.val / 512, by have := n.isLt; omega⟩ k ⟨n.val % 512, Nat.mod_lt _ (by omega)⟩

theorem tokenOf_wordOf (k : Fin 2) (n : Fin 16896) : tokenOf (wordOf k n) = n :=
  Fin.ext (by show 512 * (n.val / 512) + n.val % 512 = n.val; omega)

theorem indexOf_apply {P : S33x2x512.Idx → BitVec 32} (hP : Places P) (k : Fin 2) (hs) (n : Fin 16896) :
    indexOf P k.val hs (ix2 n 0) = P (wordOf k n) := by
  have e : shapeCast Cert.Reference.S16896 (extractStridedSlice Cert.Reference.S1x16896 ![k.val, 0]
        (shapeCast Cert.Reference.S2x16896 (transpose Cert.Reference.S2x33x512 [1, 0, 2] P Cert.Reference.Gen.transposes_S33x2x512_S2x33x512_1_0_2) Cert.Reference.Gen.shapeCasts_S2x33x512_S2x16896) hs) Cert.Reference.Gen.shapeCasts_S1x16896_S16896
        (ix1 n) = P (wordOf k n) := by
    have e1 := shapeCast_apply (extractStridedSlice Cert.Reference.S1x16896 ![k.val, 0]
        (shapeCast Cert.Reference.S2x16896 (transpose Cert.Reference.S2x33x512 [1, 0, 2] P Cert.Reference.Gen.transposes_S33x2x512_S2x33x512_1_0_2) Cert.Reference.Gen.shapeCasts_S2x33x512_S2x16896) hs)
      Cert.Reference.Gen.shapeCasts_S1x16896_S16896 (ix1 n) (ix2 0 n) (by
        rw [Shape.rowMajor_val_one, Shape.rowMajor_val_two]
        show 0 * 16896 + n.val = n.val
        omega)
    refine e1.trans ?_
    refine (extractStridedSlice_apply _ _ hs _ (ix2 k n) (fun a => ?_)).trans ?_
    · match a with
      | ⟨0, _⟩ => show k.val = k.val + 0; omega
      | ⟨1, _⟩ => show n.val = 0 + n.val; omega
    refine (shapeCast_apply _ _ _ (ix3 k ⟨n.val / 512, by have := n.isLt; omega⟩ ⟨n.val % 512, Nat.mod_lt _ (by omega)⟩) ?_).trans ?_
    · rw [Shape.rowMajor_val_three, Shape.rowMajor_val_two]
      show (k.val * 33 + n.val / 512) * 512 + n.val % 512 = k.val * 16896 + n.val
      omega
    refine transpose_apply _ _ _ _ _ fun b => ?_
    match b with
    | ⟨0, _⟩ => rfl
    | ⟨1, _⟩ => rfl
    | ⟨2, _⟩ => rfl
  unfold indexOf
  refine (broadcastInDim_apply _ _ _ _ (ix1 n) fun a => ?_).trans ?_
  · match a with
    | ⟨0, _⟩ => rfl
  show Scalar.select (IntOp.cmpi .slt (shapeCast Cert.Reference.S16896 _ _ (ix1 n)) 0#32) _ (shapeCast Cert.Reference.S16896 _ _ (ix1 n)) = _
  rw [e, wrap_of_lt]
  have := hP.1 (wordOf k n)
  omega

/-- The reference's two scatters leave what the 33 points leave. -/
theorem scatters_eq {P : S33x2x512.Idx → BitVec 32} (hP : Places P) (X : S16896x512.Idx → Elt F .i32) (hs0) (hs1) :
    Host.scatter Cert.Reference.scatter_S41984x512_S16896x1_S16896x512_1_0_0_1 (fun _ b => b)
      (Host.scatter Cert.Reference.scatter_S41984x512_S16896x1_S16896x512_1_0_0_1 (fun _ b => b)
        (broadcastInDim Cert.Reference.S41984x512 ![] Cert.Reference.Gen.bcast_S_S41984x512 (constantI Cert.Reference.S_ 32 0#32))
        (indexOf P 0 hs0) X) (indexOf P 1 hs1) X
      = placed P X 33 := by
  have lands : ∀ (k : Fin 2) (hs) (u : S16896x512.Idx) (i : S41984x512.Idx),
      Cert.Reference.scatter_S41984x512_S16896x1_S16896x512_1_0_0_1.resultIdx? u (indexOf P k.val hs) = some i
        ↔ (P (wordOf k (u 0))).toNat = (i 0).val ∧ u 1 = i 1 := by
    intro k hs u i
    obtain ⟨n, c, rfl⟩ : ∃ (n : Fin 16896) (c : Fin 512), u = ix2 n c := ⟨u 0, u 1, eq_ix2 u⟩
    obtain ⟨r, c', rfl⟩ : ∃ (r : Fin 41984) (c' : Fin 512), i = ix2 r c' := ⟨i 0, i 1, eq_ix2 i⟩
    refine (lands_row _ (indexOf P k.val hs) n c c' r).trans ?_
    rw [indexOf_apply hP]
    have := hP.1 (wordOf k n)
    refine and_congr_left fun _ => ?_
    show (P (wordOf k n)).toInt = (r.val : Int) ↔ (P (wordOf k n)).toNat = r.val
    rw [BitVec.toInt]
    omega
  have hit : ∀ (k : Fin 2) (hs) (x0 : S41984x512.Idx → BitVec 32) (i : S41984x512.Idx) (n : Fin 16896), (P (wordOf k n)).toNat = (i 0).val →
      Host.scatter Cert.Reference.scatter_S41984x512_S16896x1_S16896x512_1_0_0_1 (fun _ b => b) x0 (indexOf P k.val hs) X i = placed P X 33 i := by
    intro k hs x0 i n hn
    refine scatter_set_hit _ _ _ _ _ _ (fun u hu => ?_) (ix2 n (i 1)) ((lands k hs _ i).2 ⟨hn, rfl⟩)
    obtain ⟨hu0, hu1⟩ := (lands k hs u i).1 hu
    rw [placed_at (n := 33) hP X (wordOf k (u 0)) (wordOf k (u 0) 0).isLt hu0]
    exact congrArg X ((eq_ix2 u).trans (congrArg₂ ix2 (tokenOf_wordOf k (u 0)).symm hu1))
  have miss : ∀ (k : Fin 2) (hs) (x0 : S41984x512.Idx → BitVec 32) (i : S41984x512.Idx), (∀ n, (P (wordOf k n)).toNat ≠ (i 0).val) →
      Host.scatter Cert.Reference.scatter_S41984x512_S16896x1_S16896x512_1_0_0_1 (fun _ b => b) x0 (indexOf P k.val hs) X i = x0 i := by
    intro k hs x0 i hn
    exact scatter_set_miss _ _ _ _ _ fun u hu => hn _ ((lands k hs u i).1 hu).1
  funext i
  by_cases h1 : ∃ n, (P (wordOf 1 n)).toNat = (i 0).val
  · obtain ⟨n, hn⟩ := h1
    exact hit 1 hs1 _ i n hn
  refine (miss 1 hs1 _ i fun n hn => h1 ⟨n, hn⟩).trans ?_
  by_cases h0 : ∃ n, (P (wordOf 0 n)).toNat = (i 0).val
  · obtain ⟨n, hn⟩ := h0
    exact hit 0 hs0 _ i n hn
  refine (miss 0 hs0 _ i fun n hn => h0 ⟨n, hn⟩).trans ?_
  rw [placed_off X]
  · rfl
  rintro ⟨j, -, hj⟩
  have hb := idx3_val j
  have e : j = wordOf (j 1) (tokenOf j) := by
    funext a
    apply Fin.ext
    match a with
    | ⟨0, _⟩ => show (j 0).val = (512 * (j 0).val + (j 2).val) / 512; omega
    | ⟨1, _⟩ => rfl
    | ⟨2, _⟩ => show (j 2).val = (512 * (j 0).val + (j 2).val) % 512; omega
  have hk : ∀ k : Fin 2, k = 0 ∨ k = 1 := by decide
  rcases hk (j 1) with hk | hk
  · exact h0 ⟨tokenOf j, by rw [← hj]; rw [hk] at e; exact congrArg (fun x => (P x).toNat) e.symm⟩
  · exact h1 ⟨tokenOf j, by rw [← hj]; rw [hk] at e; exact congrArg (fun x => (P x).toNat) e.symm⟩

end Cert.KernelIdeal.Hand
-- ==== Proof.Expert.lean ====
/-
  The expert kernel's body: one grid point takes a tile of 256 packed rows and the three weight matrices of the tile's
  expert. It narrows the matrices into scratch when the expert differs from the point before, and writes either the gated
  product of the tile or, past the tiles in use, zeros. Here: the whole body, at
  any float instance.
-/
module

public import proofs.«01_k».proof.Proof.Access
public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.Kit
public import Idealize.ShloMosaic.Lib.Pipeline.FrameBody
public import Idealize.ShloMosaic.Lib.Pipeline.FrameValue
public import Idealize.ShloMosaic.Lib.Tactic
public import Idealize.ShloMosaic.Lib.Pipeline.ValueKit.Geometry
public import Idealize.ShloMosaic.Lib.ViewIndex
public import Idealize.ShloMosaic.Lib.ValueIdxCore

@[expose] public section

set_option maxRecDepth 16384

noncomputable section

namespace Cert.Kernel2Ideal.Hand

open Cert.Kernel2Ideal Cert.Kernel2Ideal.Gen
open Cert.Access (load_owned store_owned)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The program's resources. -/
local notation "𝕄" => MT nD τ sig Unit (Elt F) ℕ (UR sig nD τ) ℕ

/-! ## What one point does -/

/-- The expert words of the tiles, and the one word holding how many tiles are in use. -/
abbrev Experts := S164.Idx → Elt F .i32
abbrev Count := S1.Idx → Elt F .i32

/-- The one index of a one-element block. -/
abbrev only : S1.Idx := Shape.Idx.first (numel1_S1.symm ▸ Nat.one_pos)

/-- The point's expert, the expert of the point before it (its own at the first point), and the count. -/
abbrev cur (i : grid0.Coords) (T : Experts (F := F)) : BitVec 32 := T ((Rect.unit (s := S164) (k0_off1 i) S1.size (k0_off1_inb i)).emb only)
abbrev prev (i : grid0.Coords) (T : Experts (F := F)) : BitVec 32 := T ((Rect.unit (s := S164) (k0_off2 i) S1.size (k0_off2_inb i)).emb only)
abbrev count (N : Count (F := F)) : BitVec 32 := N ((Rect.unit (s := S1) ![0] S1.size inb_S1_S1_0).emb only)

/-- Whether the point narrows its weights into scratch: at the first point, and where the expert changes. -/
abbrev fresh (i : grid0.Coords) (T : Experts (F := F)) : BitVec 1 :=
  Scalar.cmpi .ne (Scalar.extui (Scalar.ori (Scalar.cmpi .eq (BitVec.ofNat 32 (i 0).val) 0#32) (Scalar.cmpi .ne (cur i T) (prev i T))) : BitVec 32) 0#32

/-- The upper and the lower half of a narrowed matrix. -/
def upper (G : S1024x512.Idx → Elt F .bf16) : S512x512.Idx → Elt F .bf16 :=
  fun y => G ((Rect.unit (s := S1024x512) ![0, 0] S512x512.size inb_S1024x512_S512x512_0_0).emb y)
def lower (G : S1024x512.Idx → Elt F .bf16) : S512x512.Idx → Elt F .bf16 :=
  fun y => G ((Rect.unit (s := S1024x512) ![512, 0] S512x512.size inb_S1024x512_S512x512_512_0).emb y)

/-- The gated product of a tile of packed rows `X` under the narrowed matrices. -/
def tile (X : S256x512.Idx → Elt F .i32) (G U : S1024x512.Idx → Elt F .bf16) (D : S512x1024.Idx → Elt F .bf16) : S256x1024.Idx → Elt F .f32 :=
  k0_pay4 X (upper G) (lower G) (upper U) (lower U) D

theorem emb_own {s : Shape} {off : Fin s.rank → ℕ} (inb : ∀ a, off a + s.size a ≤ s.size a) (y : s.Idx) :
    (Rect.unit off s.size inb).emb y = y := by
  funext a
  apply Fin.ext
  have := inb a
  rw [rect_emb_unit_val]; omega

theorem read_own {s : Shape} {β : Type} {off : Fin s.rank → ℕ} (inb : ∀ a, off a + s.size a ≤ s.size a) (X : s.Idx → β) :
    (fun y => X ((Rect.unit off s.size inb).emb y)) = X := funext fun y => congrArg X (emb_own inb y)

section Body

variable (c : Dev nD) (i : grid0.Coords)
variable (arg1 : Memref sig .tc .smem S164 .i32) (harg1 : arg1.IsWhole) (arg2 : Memref sig .tc .smem S1 .i32) (harg2 : arg2.IsWhole)
  (arg3 : Memref sig .tc .vmem S256x512 .i32) (harg3 : arg3.IsWhole) (arg4 : Memref sig .tc .vmem S1x1x1024x512 .f32) (harg4 : arg4.IsWhole)
  (arg5 : Memref sig .tc .vmem S1x1x1024x512 .f32) (harg5 : arg5.IsWhole) (arg6 : Memref sig .tc .vmem S1x1x512x1024 .f32) (harg6 : arg6.IsWhole)
  (arg7 : Memref sig .tc .vmem S256x1024 .f32) (harg7 : arg7.IsWhole) (arg8 : Memref sig .tc .vmem S1024x512 .bf16) (harg8 : arg8.IsWhole)
  (arg9 : Memref sig .tc .vmem S1024x512 .bf16) (harg9 : arg9.IsWhole) (arg10 : Memref sig .tc .vmem S512x1024 .bf16) (harg10 : arg10.IsWhole)

/-- What a point holds: its tables, its tile, its weights, its result tile and the scratch. -/
def holds (q : PosShare TreeShare) (T : Experts (F := F)) (N : Count (F := F)) (X : S256x512.Idx → Elt F .i32) (Wg Wu : S1x1x1024x512.Idx → Elt F .f32)
    (Wd : S1x1x512x1024.Idx → Elt F .f32) (Y : S256x1024.Idx → Elt F .f32) (G U : S1024x512.Idx → Elt F .bf16) (D : S512x1024.Idx → Elt F .bf16) : sProp 𝕄 :=
  iprop(owns (c : Thread nD τ) arg1 q T ∗ owns (c : Thread nD τ) arg2 q N ∗ owns (c : Thread nD τ) arg3 fullShare X
    ∗ owns (c : Thread nD τ) arg4 fullShare Wg ∗ owns (c : Thread nD τ) arg5 fullShare Wu ∗ owns (c : Thread nD τ) arg6 fullShare Wd
    ∗ owns (c : Thread nD τ) arg7 fullShare Y ∗ owns (c : Thread nD τ) arg8 fullShare G ∗ owns (c : Thread nD τ) arg9 fullShare U
    ∗ owns (c : Thread nD τ) arg10 fullShare D)

/-- The result tile, from the tile's rows and the matrices in scratch: the gated product if the tile is in use, zeros if not. -/
def outTile (N : Count (F := F)) (X : S256x512.Idx → Elt F .i32) (G U : S1024x512.Idx → Elt F .bf16) (D : S512x1024.Idx → Elt F .bf16) : S256x1024.Idx → Elt F .f32 :=
  if k0_cond2 i (count N) = 1#1 then tile X G U D else k0_pay5 (F := F)

/-- One run of the body: the scratch is refilled from the point's weights where the expert is fresh, and the result tile is
    written from the scratch. -/
theorem body_run (q : PosShare TreeShare) (T : Experts (F := F)) (N : Count (F := F)) (X : S256x512.Idx → Elt F .i32) (Wg Wu : S1x1x1024x512.Idx → Elt F .f32)
    (Wd : S1x1x512x1024.Idx → Elt F .f32) (Y : S256x1024.Idx → Elt F .f32) (G U : S1024x512.Idx → Elt F .bf16) (D : S512x1024.Idx → Elt F .bf16)
    (G' U' : S1024x512.Idx → Elt F .bf16) (D' : S512x1024.Idx → Elt F .bf16)
    (hG : G' = if fresh i T = 1#1 then k0_pay1 Wg else G) (hU : U' = if fresh i T = 1#1 then k0_pay2 Wu else U)
    (hD : D' = if fresh i T = 1#1 then k0_pay3 Wd else D)
    (h3 : k0_cond3 i (count N) = 1#1 ↔ ¬ k0_cond2 i (count N) = 1#1) :
    holds c arg1 arg2 arg3 arg4 arg5 arg6 arg7 arg8 arg9 arg10 q T N X Wg Wu Wd Y G U D
      ⊢ wp frame (wpE (defs₀ (F := F)) Variants.none (c : Thread nD τ) none) Set.univ
        (cc0_experts i arg1 harg1 arg2 harg2 arg3 harg3 arg4 harg4 arg5 harg5 arg6 harg6 arg7 harg7 arg8 harg8 arg9 harg9 arg10 harg10)
        (fun _ => holds c arg1 arg2 arg3 arg4 arg5 arg6 arg7 arg8 arg9 arg10 q T N X Wg Wu Wd (outTile i N X G' U' D') G' U' D') := by
  rw [cc0_experts_eq_skeleton]
  unfold cc0_experts_skel holds
  simp only [smemLoad, smemLoadElt, Prog.lift, Prog.bind_op, Prog.bind_ret, Prog.pure_eq_ret, Prog.bind_assoc]
  iintro ⟨H1, H2, H3, H4, H5, H6, H7, H8, H9, H10⟩
  iapply (load_owned c arg1 (Rect.unit (s := S164) (k0_off2 i) S1.size (k0_off2_inb i)) q T) $$ H1
  iintro H1
  iapply (load_owned c arg1 (Rect.unit (s := S164) (k0_off1 i) S1.size (k0_off1_inb i)) q T) $$ H1
  iintro H1
  by_cases hf : fresh i T = 1#1
  rw [if_pos hf] at hG hU hD
  rw [if_pos hf]
  simp only [Prog.bind_op, Prog.bind_ret, Prog.bind_assoc]
  iapply (load_owned c arg4 _ fullShare Wg) $$ H4
  iintro H4
  iapply (load_owned c arg8 _ fullShare G) $$ H8
  iintro H8
  iapply (store_owned c arg8 inb_S1024x512_S1024x512_0_0 _ G) $$ H8
  iintro H8
  rw [read_own inb_S1x1x1024x512_S1x1x1024x512_0_0_0_0 Wg]
  iapply (load_owned c arg5 _ fullShare Wu) $$ H5
  iintro H5
  iapply (load_owned c arg9 _ fullShare U) $$ H9
  iintro H9
  iapply (store_owned c arg9 inb_S1024x512_S1024x512_0_0 _ U) $$ H9
  iintro H9
  rw [read_own inb_S1x1x1024x512_S1x1x1024x512_0_0_0_0 Wu]
  iapply (load_owned c arg6 _ fullShare Wd) $$ H6
  iintro H6
  iapply (load_owned c arg10 _ fullShare D) $$ H10
  iintro H10
  iapply (store_owned c arg10 inb_S512x1024_S512x1024_0_0 _ D) $$ H10
  iintro H10
  rw [read_own inb_S1x1x512x1024_S1x1x512x1024_0_0_0_0 Wd]
  rw [← hG, ← hU, ← hD]
  rotate_left
  rw [if_neg hf] at hG hU hD
  rw [if_neg hf]
  simp only [Prog.bind_op, Prog.bind_ret, Prog.bind_assoc]
  rw [← hG, ← hU, ← hD]
  all_goals
    iapply (load_owned c arg2 (Rect.unit (s := S1) ![0] S1.size inb_S1_S1_0) q N) $$ H2
    iintro H2
    unfold outTile
    by_cases hu : k0_cond2 i (count N) = 1#1
    · rw [dif_pos hu, if_pos hu]
      simp only [Prog.bind_op, Prog.bind_ret, Prog.bind_assoc]
      iapply (load_owned c arg3 _ fullShare X) $$ H3
      iintro H3
      iapply (load_owned c arg8 _ fullShare G') $$ H8
      iintro H8
      iapply (load_owned c arg8 _ fullShare G') $$ H8
      iintro H8
      iapply (load_owned c arg9 _ fullShare U') $$ H9
      iintro H9
      iapply (load_owned c arg9 _ fullShare U') $$ H9
      iintro H9
      iapply (load_owned c arg10 _ fullShare D') $$ H10
      iintro H10
      iapply (load_owned c arg7 _ fullShare Y) $$ H7
      iintro H7
      iapply (store_owned c arg7 inb_S256x1024_S256x1024_0_0 _ Y) $$ H7
      iintro H7
      rw [read_own inb_S256x512_S256x512_0_0 X, read_own inb_S512x1024_S512x1024_0_0 D']
      rw [dif_neg (fun h => h3.mp h hu)]
      sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [dif_neg hu, if_neg hu]
      rw [dif_pos (h3.mpr hu)]
      iapply (load_owned c arg7 _ fullShare Y) $$ H7
      iintro H7
      iapply (store_owned c arg7 inb_S256x1024_S256x1024_0_0 _ Y) $$ H7
      iintro H7
      sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

end Body

end Cert.Kernel2Ideal.Hand
-- ==== Proof.ExpertWords.lean ====
/-
  The words that a point of the expert program reads: its tile's expert, the expert of the tile before, and the count of
  tiles in use; when they send the body through each of its branches, and the blocks that they name.
-/
module

public import proofs.«01_k».proof.Proof.Expert
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The words of a point -/

/-- The expert words name experts, and the count is of some tiles and of no more than there are. -/
structure InRange (T : Experts (F := F)) (N : Count (F := F)) : Prop where
  expert : ∀ j, (T j : BitVec 32).toNat < 32
  pos : 1 ≤ (count N).toNat
  le : (count N).toNat ≤ 164

theorem word_of_point : ∀ n : Fin 164, (Scalar.indexCast (BitVec.ofNat 32 n.val)).toNat = n.val := by decide +kernel
theorem word_before : ∀ n : Fin 164, (Scalar.indexCast (Scalar.maxsi (Scalar.subi (BitVec.ofNat 32 n.val) 1#32) 0#32)).toNat = n.val - 1 := by
  decide +kernel
theorem min_words : ∀ n k : Fin 164, (Scalar.minsi (BitVec.ofNat 32 n.val) (Scalar.subi (BitVec.ofNat 32 (k.val + 1)) 1#32)).toNat = min n.val k.val := by
  decide +kernel
theorem first_word : ∀ n : Fin 164, Scalar.cmpi .eq (BitVec.ofNat 32 n.val) 0#32 = BitVec.ofBool (decide (n.val = 0)) := by decide +kernel

theorem off1_eq (i : grid0.Coords) : k0_off1 i = ![(i 0).val] := congrArg (fun n => ![n]) (word_of_point (i 0))
theorem off2_eq (i : grid0.Coords) : k0_off2 i = ![(i 0).val - 1] := congrArg (fun n => ![n]) (word_before (i 0))

theorem only_val : (only 0 : Fin 1).val = 0 := by have : (only 0 : Fin 1).val < 1 := (only 0).isLt; omega

theorem cur_eq (i : grid0.Coords) (T : Experts (F := F)) : cur i T = T (ix1 (n := 164) (i 0)) := by
  refine congrArg T ?_
  funext a
  match a with
  | ⟨0, _⟩ =>
    refine Fin.ext ((rect_emb_unit_val (s := S164) (k0_off1 i) S1.size (k0_off1_inb i) only 0).trans ?_)
    have h1 : k0_off1 i 0 = (i 0).val := congrFun (off1_eq i) 0
    have h2 := only_val
    show k0_off1 i 0 + (only 0 : Fin 1).val = (i 0).val
    omega

theorem prev_eq (i : grid0.Coords) (T : Experts (F := F)) (n : Fin 164) (hn : n.val = (i 0).val - 1) : prev i T = T (ix1 (n := 164) n) := by
  refine congrArg T ?_
  funext a
  match a with
  | ⟨0, _⟩ =>
    refine Fin.ext ((rect_emb_unit_val (s := S164) (k0_off2 i) S1.size (k0_off2_inb i) only 0).trans ?_)
    have h1 : k0_off2 i 0 = (i 0).val - 1 := congrFun (off2_eq i) 0
    have h2 := only_val
    show k0_off2 i 0 + (only 0 : Fin 1).val = n.val
    omega

theorem bit_cases : ∀ a b : BitVec 1, Scalar.cmpi .ne (Scalar.extui (Scalar.ori a b) : BitVec 32) 0#32 = 1#1 ↔ a = 1#1 ∨ b = 1#1 := by decide +kernel
theorem bit_not : ∀ a : BitVec 1, Scalar.cmpi .ne (Scalar.extui (Scalar.xori a 1#1) : BitVec 32) 0#32 = 1#1
    ↔ ¬ Scalar.cmpi .ne (Scalar.extui a : BitVec 32) 0#32 = 1#1 := by decide +kernel
theorem bit_self : ∀ a : BitVec 1, Scalar.cmpi .ne (Scalar.extui a : BitVec 32) 0#32 = a := by decide +kernel

/-- Of the two ends of a point exactly one runs. -/
theorem cond3_iff (i : grid0.Coords) (w : BitVec 32) : k0_cond3 i w = 1#1 ↔ ¬ k0_cond2 i w = 1#1 := bit_not _

/-- A point is fresh when it is the first or its expert differs from the one before. -/
theorem fresh_iff (i : grid0.Coords) (T : Experts (F := F)) : fresh i T = 1#1 ↔ (i 0).val = 0 ∨ cur i T ≠ prev i T := by
  refine (bit_cases _ _).trans ?_
  refine or_congr ?_ ?_
  · rw [first_word (i 0)]
    by_cases h : (i 0).val = 0 <;> simp [h]
  · exact IntOp.cmpi_ne (x := (cur i T : BitVec 32)) (y := (prev i T : BitVec 32))

/-- A tile is in use when it is below the count. -/
theorem cond2_iff (i : grid0.Coords) (w : BitVec 32) (hw : w.toNat ≤ 164) : k0_cond2 i w = 1#1 ↔ (i 0).val < w.toNat := by
  have hi : (i 0).val < 164 := (i 0).isLt
  have e : BitVec.ofNat 32 w.toNat = w := by simp
  show Scalar.cmpi .ne (Scalar.extui (Scalar.cmpi .slt (BitVec.ofNat 32 (i 0).val) w) : BitVec 32) 0#32 = 1#1 ↔ _
  rw [bit_self]
  unfold Scalar.cmpi
  conv_lhs => rw [← e]
  exact WordCmp.cmpi_slt_ofNat_eq_one_iff (by omega) (by omega)

/-! ## The index maps at the tables -/

theorem map0 (pf : pre0.Contents (Elt F)) (i : grid0.Coords) : cc0_transform_0 inb_S1_S1_0 numel1_S1 pf i
    = ![(Scalar.minsi (BitVec.ofNat 32 (i 0).val) (Scalar.subi (count (pf 1)) 1#32)).toNat, 0] := rfl
theorem map1 (pf : pre0.Contents (Elt F)) (i : grid0.Coords) : cc0_transform_1 k0_off1_inb numel1_S1 pf i = ![1, (cur i (pf 0)).toNat, 0, 0] := rfl
theorem map2 (pf : pre0.Contents (Elt F)) (i : grid0.Coords) : cc0_transform_2 k0_off1_inb numel1_S1 pf i = ![1, (cur i (pf 0)).toNat, 0, 0] := rfl
theorem map3 (pf : pre0.Contents (Elt F)) (i : grid0.Coords) : cc0_transform_3 k0_off1_inb numel1_S1 pf i = ![1, (cur i (pf 0)).toNat, 0, 0] := rfl

theorem min_eq (i : grid0.Coords) (w : BitVec 32) (h1 : 1 ≤ w.toNat) (h2 : w.toNat ≤ 164) :
    (Scalar.minsi (BitVec.ofNat 32 (i 0).val) (Scalar.subi w 1#32)).toNat = min (i 0).val (w.toNat - 1) := by
  have h := min_words (i 0) ⟨w.toNat - 1, by omega⟩
  have e : BitVec.ofNat 32 (w.toNat - 1 + 1) = w := by rw [Nat.sub_add_cancel h1]; simp
  rw [show (⟨w.toNat - 1, by omega⟩ : Fin 164).val = w.toNat - 1 from rfl, e] at h
  exact h

/-- Tables in range keep every block inside its array. -/
theorem ok_of (pf : pre0.Contents (Elt F)) (h : InRange (pf 0) (pf 1)) : ok0 pf := by
  have he : ∀ i : grid0.Coords, (cur i (pf 0)).toNat < 32 := fun i => h.expert _
  have h1 := h.pos
  have h2 := h.le
  refine ⟨fun i => ⟨fun a => ?_, .inl rfl⟩, fun i => ⟨fun a => ?_, .inl rfl⟩, fun i => ⟨fun a => ?_, .inl rfl⟩, fun i => ⟨fun a => ?_, .inl rfl⟩⟩
  · have hi : (i 0).val < 164 := (i 0).isLt
    rw [map0, min_eq i _ h1 h2]
    match a with
    | ⟨0, _⟩ => show (min (i 0).val ((count (pf 1)).toNat - 1) + 1) * 256 ≤ 41984; omega
    | ⟨1, _⟩ => show (0 + 1) * 512 ≤ 512; omega
  · have := he i
    rw [map1]
    match a with
    | ⟨0, _⟩ => show (1 + 1) * 1 ≤ 2; omega
    | ⟨1, _⟩ => show ((cur i (pf 0)).toNat + 1) * 1 ≤ 32; omega
    | ⟨2, _⟩ => show (0 + 1) * 1024 ≤ 1024; omega
    | ⟨3, _⟩ => show (0 + 1) * 512 ≤ 512; omega
  · have := he i
    rw [map2]
    match a with
    | ⟨0, _⟩ => show (1 + 1) * 1 ≤ 2; omega
    | ⟨1, _⟩ => show ((cur i (pf 0)).toNat + 1) * 1 ≤ 32; omega
    | ⟨2, _⟩ => show (0 + 1) * 1024 ≤ 1024; omega
    | ⟨3, _⟩ => show (0 + 1) * 512 ≤ 512; omega
  · have := he i
    rw [map3]
    match a with
    | ⟨0, _⟩ => show (1 + 1) * 1 ≤ 2; omega
    | ⟨1, _⟩ => show ((cur i (pf 0)).toNat + 1) * 1 ≤ 32; omega
    | ⟨2, _⟩ => show (0 + 1) * 512 ≤ 512; omega
    | ⟨3, _⟩ => show (0 + 1) * 1024 ≤ 1024; omega

end Cert.Kernel2Ideal.Hand
-- ==== Proof.ExpertRun.lean ====
/-
  The expert program's run, at any float instance, for expert words below 32 and a count of tiles in use from 1 to 164:
  which blocks the windows stage at a point, what is in scratch between points, and the run of the whole program to a state
  with the arguments unchanged, every semaphore at zero and the result at its tiles' values.
-/
module

public import proofs.«01_k».proof.Proof.ExpertWords

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The launch's data -/

variable (m : (ℓ : Loc nD τ sig) → Buf (Elt F) ℓ) (ρ : Dev nD → PrngReg)

/-- What the buffers hold at launch. -/
abbrev V (c : Dev nD) (b : Ref sig .tc) : Buf (Elt F) ((c : Thread nD τ).loc b) := m ((c : Thread nD τ).loc b)

/-- The two tables' contents. -/
def tbl : pre0.Contents (Elt F) := fun j => V m (0 : Dev nD) (pre0.ref j)
theorem V_pre (c : Dev nD) (j : Fin 2) : V m c (pre0.ref j) = tbl m j := by obtain rfl : c = 0 := Subsingleton.elim _ _; rfl

/-- The expert words and the count as launched. -/
abbrev expOf : Experts (F := F) := tbl m 0
abbrev cntOf : Count (F := F) := tbl m 1

variable (hR : InRange (expOf m) (cntOf m))

/-- The tables, admissible. -/
abbrev adm : (pcfg0 (F := F)).Adm := ⟨tbl m, ok_of (tbl m) hR⟩
/-- The pipeline at the tables. -/
abbrev cfgM : Pipeline.Cfg sig Λ₀ := cfg0 (adm m hR)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main (fun _ => rfl)

/-- Window `w`'s block of its array at point `t`, as launched. -/
abbrev iblk (c : Dev nD) (w : Fin 5) (t : Fin grid0.N) : ((cfgM m hR).win w).block.Idx → Elt F ((cfgM m hR).win w).elt :=
  (((cfgM m hR).win w).blk t).view.read (Elt F) (V m c (Pipeline.arrRef spec0 w))

theorem coord_val : ∀ t : Fin grid0.N, (grid0.coords t 0).val = t.val := by decide +kernel
theorem point_lt (t : Fin grid0.N) : t.val < 164 := Nat.lt_of_lt_of_eq t.isLt N_0

/-- The expert of tile `n`. -/
def expertOf (n : Fin 164) : Fin 32 := ⟨(expOf m (ix1 (n := 164) n) : BitVec 32).toNat, hR.expert _⟩

theorem cur_point (t : Fin grid0.N) : (cur (grid0.coords t) (expOf m)).toNat = (expertOf m hR ⟨t.val, point_lt t⟩).val := by
  rw [cur_eq]
  unfold expertOf
  congr 3
  exact Fin.ext (coord_val t)

theorem index0 (t : Fin grid0.N) : ((cfgM m hR).win 0).index t = ![min t.val ((count (cntOf m)).toNat - 1), 0] := by
  have h := min_eq (grid0.coords t) (count (cntOf m)) hR.pos hR.le
  rw [coord_val] at h
  rw [← h, ← coord_val t]
  exact map0 (tbl m) (grid0.coords t)

theorem index1 (t : Fin grid0.N) : ((cfgM m hR).win 1).index t = ![1, (expertOf m hR ⟨t.val, point_lt t⟩).val, 0, 0] := by
  rw [← cur_point]; exact map1 (tbl m) (grid0.coords t)
theorem index2 (t : Fin grid0.N) : ((cfgM m hR).win 2).index t = ![1, (expertOf m hR ⟨t.val, point_lt t⟩).val, 0, 0] := by
  rw [← cur_point]; exact map2 (tbl m) (grid0.coords t)
theorem index3 (t : Fin grid0.N) : ((cfgM m hR).win 3).index t = ![1, (expertOf m hR ⟨t.val, point_lt t⟩).val, 0, 0] := by
  rw [← cur_point]; exact map3 (tbl m) (grid0.coords t)
theorem map4 : ∀ t : Fin grid0.N, cc0_transform_4 (grid0.coords t) = ![t.val, 0] := by decide +kernel
theorem index4 (t : Fin grid0.N) : ((cfgM m hR).win 4).index t = ![t.val, 0] := map4 t

theorem place {n k v : ℕ} (e : n = 0) : n * k + v = v := by rw [e, Nat.zero_mul, Nat.zero_add]
theorem place_at {n k v p : ℕ} (e : n = p) : n * k + v = k * p + v := by rw [e, Nat.mul_comm]

/-- A tile in use takes rows `256 t` to `256 t + 255`. -/
theorem iblk_rows (c : Dev nD) (t : Fin grid0.N) (ht : t.val < (count (cntOf m)).toNat) (y : S256x512.Idx) :
    (iblk m hR c 0 t : S256x512.Idx → Elt F .i32) y
      = (V m c main_arg2 : S41984x512.Idx → Elt F .i32)
        (ix2 ⟨256 * t.val + (y 0).val, by have := point_lt t; have : (y 0).val < 256 := (y 0).isLt; omega⟩ (y 1)) := by
  unfold iblk
  rw [View.read_apply, cast_eq]
  refine congrArg (V m c main_arg2) ?_
  funext a
  apply Fin.ext
  match a with
  | ⟨0, _⟩ => blk_simp; exact place_at ((congrFun (index0 m hR t) (0 : Fin 2)).trans (Nat.min_eq_left (by omega)))
  | ⟨1, _⟩ => blk_simp; exact place (congrFun (index0 m hR t) (1 : Fin 2))

/-- Point `t`'s gate matrix is the second layer's gate matrix of the tile's expert. -/
theorem iblk_gate (c : Dev nD) (t : Fin grid0.N) (y : S1x1x1024x512.Idx) :
    (iblk m hR c 1 t : S1x1x1024x512.Idx → Elt F .f32) y
      = (V m c main_arg3 : S2x32x1024x512.Idx → Elt F .f32) (ix4 1 (expertOf m hR ⟨t.val, point_lt t⟩) (y 2) (y 3)) := by
  unfold iblk
  rw [View.read_apply, cast_eq]
  refine congrArg (V m c main_arg3) ?_
  funext a
  apply Fin.ext
  match a with
  | ⟨0, _⟩ => blk_simp; exact congrFun (index1 m hR t) (0 : Fin 4)
  | ⟨1, _⟩ => blk_simp; exact congrFun (index1 m hR t) (1 : Fin 4)
  | ⟨2, _⟩ => blk_simp; exact place (congrFun (index1 m hR t) (2 : Fin 4))
  | ⟨3, _⟩ => blk_simp; exact place (congrFun (index1 m hR t) (3 : Fin 4))

/-- Point `t`'s up matrix is the second layer's up matrix of the tile's expert. -/
theorem iblk_up (c : Dev nD) (t : Fin grid0.N) (y : S1x1x1024x512.Idx) :
    (iblk m hR c 2 t : S1x1x1024x512.Idx → Elt F .f32) y
      = (V m c main_arg4 : S2x32x1024x512.Idx → Elt F .f32) (ix4 1 (expertOf m hR ⟨t.val, point_lt t⟩) (y 2) (y 3)) := by
  unfold iblk
  rw [View.read_apply, cast_eq]
  refine congrArg (V m c main_arg4) ?_
  funext a
  apply Fin.ext
  match a with
  | ⟨0, _⟩ => blk_simp; exact congrFun (index2 m hR t) (0 : Fin 4)
  | ⟨1, _⟩ => blk_simp; exact congrFun (index2 m hR t) (1 : Fin 4)
  | ⟨2, _⟩ => blk_simp; exact place (congrFun (index2 m hR t) (2 : Fin 4))
  | ⟨3, _⟩ => blk_simp; exact place (congrFun (index2 m hR t) (3 : Fin 4))

/-- Point `t`'s down matrix is the second layer's down matrix of the tile's expert. -/
theorem iblk_down (c : Dev nD) (t : Fin grid0.N) (y : S1x1x512x1024.Idx) :
    (iblk m hR c 3 t : S1x1x512x1024.Idx → Elt F .f32) y
      = (V m c main_arg5 : S2x32x512x1024.Idx → Elt F .f32) (ix4 1 (expertOf m hR ⟨t.val, point_lt t⟩) (y 2) (y 3)) := by
  unfold iblk
  rw [View.read_apply, cast_eq]
  refine congrArg (V m c main_arg5) ?_
  funext a
  apply Fin.ext
  match a with
  | ⟨0, _⟩ => blk_simp; exact congrFun (index3 m hR t) (0 : Fin 4)
  | ⟨1, _⟩ => blk_simp; exact congrFun (index3 m hR t) (1 : Fin 4)
  | ⟨2, _⟩ => blk_simp; exact place (congrFun (index3 m hR t) (2 : Fin 4))
  | ⟨3, _⟩ => blk_simp; exact place (congrFun (index3 m hR t) (3 : Fin 4))

/-- Two points with the same expert stage the same matrices. -/
theorem iblk_same (c : Dev nD) (t s : Fin grid0.N) (h : expertOf m hR ⟨t.val, point_lt t⟩ = expertOf m hR ⟨s.val, point_lt s⟩) :
    (iblk m hR c 1 t : S1x1x1024x512.Idx → Elt F .f32) = iblk m hR c 1 s ∧ (iblk m hR c 2 t : S1x1x1024x512.Idx → Elt F .f32) = iblk m hR c 2 s
      ∧ (iblk m hR c 3 t : S1x1x512x1024.Idx → Elt F .f32) = iblk m hR c 3 s :=
  ⟨funext fun y => by rw [iblk_gate, iblk_gate, h], funext fun y => by rw [iblk_up, iblk_up, h], funext fun y => by rw [iblk_down, iblk_down, h]⟩

/-! ## The proof data -/

/-- What scratch holds after point `t`: the point's matrices, rounded. -/
def Held (c : Dev nD) (n : ℕ) (G U : S1024x512.Idx → Elt F .bf16) (D : S512x1024.Idx → Elt F .bf16) : Prop :=
  ∀ t : Fin grid0.N, t.val + 1 = n → G = k0_pay1 (iblk m hR c 1 t) ∧ U = k0_pay2 (iblk m hR c 2 t) ∧ D = k0_pay3 (iblk m hR c 3 t)

/-- Between points: scratch at the matrices of the point before, the tables as launched. -/
def Inv (c : Dev nD) (n : ℕ) : sProp 𝕄 :=
  iprop((∃ G U D, ⌜Held m hR c n G U D⌝ ∗ owns (c : Thread nD τ) (Memref.whole cc0_scratch0) fullShare G
      ∗ owns (c : Thread nD τ) (Memref.whole cc0_scratch1) fullShare U ∗ owns (c : Thread nD τ) (Memref.whole cc0_scratch2) fullShare D)
    ∗ (∃ r, prngReg c r) ∗ owns (c : Thread nD τ) (Memref.whole main_arg0) fullShare.right (expOf m)
    ∗ owns (c : Thread nD τ) (Memref.whole main_arg1) fullShare.right (cntOf m))

/-- The result tile of point `t`. -/
def result (c : Dev nD) (t : Fin grid0.N) : S256x1024.Idx → Elt F .f32 :=
  outTile (grid0.coords t) (cntOf m) (iblk m hR c 0 t) (k0_pay1 (iblk m hR c 1 t)) (k0_pay2 (iblk m hR c 2 t)) (k0_pay3 (iblk m hR c 3 t))

def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => result m hR c t
  Φ t := Inv m hR c t.val
  q _ := fullShare
  owed _ := 0

theorem A_eq (c : Dev nD) (w : Fin (cfgM m hR).W) : (dats m hR 0 c).A w = V m c (Pipeline.arrRef spec0 w) := by
  dsimp only [dats]
theorem after0_0 (c : Dev nD) (t : Fin (cfgM m hR).N) : (dats m hR 0 c).after 0 t = iblk m hR c 0 t := rfl
theorem after0_1 (c : Dev nD) (t : Fin (cfgM m hR).N) : (dats m hR 0 c).after 1 t = iblk m hR c 1 t := rfl
theorem after0_2 (c : Dev nD) (t : Fin (cfgM m hR).N) : (dats m hR 0 c).after 2 t = iblk m hR c 2 t := rfl
theorem after0_3 (c : Dev nD) (t : Fin (cfgM m hR).N) : (dats m hR 0 c).after 3 t = iblk m hR c 3 t := rfl
theorem after0_4 (c : Dev nD) (t : Fin (cfgM m hR).N) : (dats m hR 0 c).after 4 t = result m hR c t := rfl

theorem found0 (c : Dev nD) (t : Fin (cfgM m hR).N) (d) : (dats m hR 0 c).before 0 t d = iblk m hR c 0 t :=
  ((dats m hR 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem found1 (c : Dev nD) (t : Fin (cfgM m hR).N) (d) : (dats m hR 0 c).before 1 t d = iblk m hR c 1 t :=
  ((dats m hR 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem found2 (c : Dev nD) (t : Fin (cfgM m hR).N) (d) : (dats m hR 0 c).before 2 t d = iblk m hR c 2 t :=
  ((dats m hR 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem found3 (c : Dev nD) (t : Fin (cfgM m hR).N) (d) : (dats m hR 0 c).before 3 t d = iblk m hR c 3 t :=
  ((dats m hR 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## One point -/

/-- What scratch holds after a point: refilled where the expert is fresh, else still the same expert's matrices. -/
theorem refill (c : Dev nD) (t : Fin grid0.N) (G U : S1024x512.Idx → Elt F .bf16) (D : S512x1024.Idx → Elt F .bf16) (h : Held m hR c t.val G U D) :
    k0_pay1 (iblk m hR c 1 t) = (if fresh (grid0.coords t) (expOf m) = 1#1 then k0_pay1 (iblk m hR c 1 t) else G)
    ∧ k0_pay2 (iblk m hR c 2 t) = (if fresh (grid0.coords t) (expOf m) = 1#1 then k0_pay2 (iblk m hR c 2 t) else U)
    ∧ k0_pay3 (iblk m hR c 3 t) = (if fresh (grid0.coords t) (expOf m) = 1#1 then k0_pay3 (iblk m hR c 3 t) else D) := by
  by_cases hf : fresh (grid0.coords t) (expOf m) = 1#1
  · exact ⟨(if_pos hf).symm, (if_pos hf).symm, (if_pos hf).symm⟩
  rw [if_neg hf, if_neg hf, if_neg hf]
  rw [fresh_iff, coord_val] at hf
  have ht : t.val ≠ 0 := fun e => hf (Or.inl e)
  have he : cur (grid0.coords t) (expOf m) = prev (grid0.coords t) (expOf m) := by
    by_contra e; exact hf (Or.inr e)
  have hl := point_lt t
  have hN := N_0
  let s : Fin grid0.N := ⟨t.val - 1, by omega⟩
  obtain ⟨hG, hU, hD⟩ := h s (by show t.val - 1 + 1 = t.val; omega)
  have hsame : expertOf m hR ⟨t.val, point_lt t⟩ = expertOf m hR ⟨s.val, point_lt s⟩ := by
    apply Fin.ext
    rw [← cur_point, he, prev_eq (grid0.coords t) (expOf m) ⟨s.val, point_lt s⟩ (by rw [coord_val])]
    rfl
  obtain ⟨e1, e2, e3⟩ := iblk_same m hR c t s hsame
  rw [e1, e2, e3]
  exact ⟨hG.symm, hU.symm, hD.symm⟩

/-- The body at point `t` on the point's staging buffers. -/
abbrev bodyAt (t : Fin (cfgM m hR).N) : Prog (TpuEff nD τ sig (Elt F) Λ₀ .tc) PUnit :=
  cc0_experts (grid0.coords t) (Memref.whole main_arg0) (Memref.isWhole_whole _) (Memref.whole main_arg1) (Memref.isWhole_whole _)
    (spec0_0.stage ((cfgM m hR).slots t 0)) (hstage0_0 (((cfgM m hR).slots t 0).cast nbuf0_0))
    (spec0_1.stage ((cfgM m hR).slots t 1)) (hstage0_1 (((cfgM m hR).slots t 1).cast nbuf0_1))
    (spec0_2.stage ((cfgM m hR).slots t 2)) (hstage0_2 (((cfgM m hR).slots t 2).cast nbuf0_2))
    (spec0_3.stage ((cfgM m hR).slots t 3)) (hstage0_3 (((cfgM m hR).slots t 3).cast nbuf0_3))
    (spec0_4.stage ((cfgM m hR).slots t 4)) (hstage0_4 (((cfgM m hR).slots t 4).cast nbuf0_4))
    (Memref.whole cc0_scratch0) (Memref.isWhole_whole _) (Memref.whole cc0_scratch1) (Memref.isWhole_whole _) (Memref.whole cc0_scratch2) (Memref.isWhole_whole _)

def bodyPre (c : Dev nD) (t : Fin (cfgM m hR).N) : sProp 𝕄 :=
  iprop((dats m hR 0 c).Φ t.castSucc ∗ (dats m hR 0 c).owesAt () t.castSucc
    ∗ (∃ d, owns (c : Thread nD τ) (spec0_0.stage ((cfgM m hR).slots t 0)) fullShare ((dats m hR 0 c).before 0 t d))
    ∗ (∃ d, owns (c : Thread nD τ) (spec0_1.stage ((cfgM m hR).slots t 1)) fullShare ((dats m hR 0 c).before 1 t d))
    ∗ (∃ d, owns (c : Thread nD τ) (spec0_2.stage ((cfgM m hR).slots t 2)) fullShare ((dats m hR 0 c).before 2 t d))
    ∗ (∃ d, owns (c : Thread nD τ) (spec0_3.stage ((cfgM m hR).slots t 3)) fullShare ((dats m hR 0 c).before 3 t d))
    ∗ (∃ d, owns (c : Thread nD τ) (spec0_4.stage ((cfgM m hR).slots t 4)) fullShare ((dats m hR 0 c).before 4 t d)))
def bodyPost (c : Dev nD) (t : Fin (cfgM m hR).N) : sProp 𝕄 :=
  iprop((dats m hR 0 c).Φ t.succ ∗ (dats m hR 0 c).owesAt () t.succ
    ∗ owns (c : Thread nD τ) (spec0_0.stage ((cfgM m hR).slots t 0)) fullShare ((dats m hR 0 c).after 0 t)
    ∗ owns (c : Thread nD τ) (spec0_1.stage ((cfgM m hR).slots t 1)) fullShare ((dats m hR 0 c).after 1 t)
    ∗ owns (c : Thread nD τ) (spec0_2.stage ((cfgM m hR).slots t 2)) fullShare ((dats m hR 0 c).after 2 t)
    ∗ owns (c : Thread nD τ) (spec0_3.stage ((cfgM m hR).slots t 3)) fullShare ((dats m hR 0 c).after 3 t)
    ∗ owns (c : Thread nD τ) (spec0_4.stage ((cfgM m hR).slots t 4)) fullShare ((dats m hR 0 c).after 4 t))

/-- What one run of the body leaves at point `t`. -/
def runPost (c : Dev nD) (t : Fin (cfgM m hR).N) : sProp 𝕄 :=
  holds c (Memref.whole main_arg0) (Memref.whole main_arg1) (spec0_0.stage ((cfgM m hR).slots t 0)) (spec0_1.stage ((cfgM m hR).slots t 1)) (spec0_2.stage ((cfgM m hR).slots t 2)) (spec0_3.stage ((cfgM m hR).slots t 3)) (spec0_4.stage ((cfgM m hR).slots t 4)) (Memref.whole cc0_scratch0) (Memref.whole cc0_scratch1) (Memref.whole cc0_scratch2)
    fullShare.right (expOf m) (cntOf m) (iblk m hR c 0 t) (iblk m hR c 1 t) (iblk m hR c 2 t) (iblk m hR c 3 t) (result m hR c t)
    (k0_pay1 (iblk m hR c 1 t)) (k0_pay2 (iblk m hR c 2 t)) (k0_pay3 (iblk m hR c 3 t))

theorem run_point (c : Dev nD) (t : Fin (cfgM m hR).N) (Y : S256x1024.Idx → Elt F .f32) (G U : S1024x512.Idx → Elt F .bf16) (D : S512x1024.Idx → Elt F .bf16)
    (h : Held m hR c t.val G U D) :
    holds c (Memref.whole main_arg0) (Memref.whole main_arg1) (spec0_0.stage ((cfgM m hR).slots t 0)) (spec0_1.stage ((cfgM m hR).slots t 1)) (spec0_2.stage ((cfgM m hR).slots t 2)) (spec0_3.stage ((cfgM m hR).slots t 3)) (spec0_4.stage ((cfgM m hR).slots t 4)) (Memref.whole cc0_scratch0) (Memref.whole cc0_scratch1) (Memref.whole cc0_scratch2)
      fullShare.right (expOf m) (cntOf m) (iblk m hR c 0 t) (iblk m hR c 1 t) (iblk m hR c 2 t) (iblk m hR c 3 t) Y G U D
      ⊢ wp frame (wpE (defs₀ (F := F)) Variants.none (c : Thread nD τ) none) Set.univ (bodyAt m hR t) (fun _ => runPost m hR c t) := by
  obtain ⟨hG, hU, hD⟩ := refill m hR c t G U D h
  exact body_run c (grid0.coords t) _ _ _ _ _ _ _ _ _ _ _ _ _ _ _ _ _ _ _ _ fullShare.right (expOf m) (cntOf m) (iblk m hR c 0 t) (iblk m hR c 1 t) (iblk m hR c 2 t) (iblk m hR c 3 t) Y G U D
    (k0_pay1 (iblk m hR c 1 t)) (k0_pay2 (iblk m hR c 2 t)) (k0_pay3 (iblk m hR c 3 t)) hG hU hD (cond3_iff _ _)

theorem held_succ (c : Dev nD) (t : Fin (cfgM m hR).N) : Held m hR c (t.val + 1) (k0_pay1 (iblk m hR c 1 t)) (k0_pay2 (iblk m hR c 2 t)) (k0_pay3 (iblk m hR c 3 t)) := by
  intro s hs
  obtain rfl : s = t := Fin.ext (by omega)
  exact ⟨rfl, rfl, rfl⟩

theorem leave_point (c : Dev nD) (t : Fin (cfgM m hR).N) (W : Waits sig Unit) :
    (iprop(wp frame (wpE (defs₀ (F := F)) Variants.none (c : Thread nD τ) none) Set.univ (bodyAt m hR t) (fun _ => runPost m hR c t)
      ∗ (∃ r, prngReg c r) ∗ owes (c : Thread nD τ) 0 W) : sProp 𝕄)
      ⊢ wp frame (wpE (defs₀ (F := F)) Variants.none (c : Thread nD τ) none) Set.univ (bodyAt m hR t) (fun _ => bodyPost m hR c t) := by
  refine BIBase.Entails.trans (wp_frame_r _ _ _) (wp_mono _ _ _ fun _ => ?_)
  unfold bodyPost runPost holds
  rw [show (dats m hR 0 c).Φ t.succ = Inv m hR c (t.val + 1) from rfl, after0_0, after0_1, after0_2, after0_3, after0_4]
  unfold Dat.owesAt Pipeline.owesWithin
  rw [show (dats m hR 0 c).owed t.succ = 0 from rfl]
  unfold Inv
  iintro ⟨⟨HT, HN, H0, H1, H2, H3, H4, HG, HU, HD⟩, Hg, HW⟩
  isplitl [HG HU HD Hg HT HN]
  · isplitl [HG HU HD]
    · iexists (k0_pay1 (iblk m hR c 1 t)); iexists (k0_pay2 (iblk m hR c 2 t)); iexists (k0_pay3 (iblk m hR c 3 t))
      isplitr; · ipureintro; exact held_succ m hR c t
      isplitl [HG]; · iexact HG
      isplitl [HU]; · iexact HU
      iexact HD
    isplitl [Hg]; · iexact Hg
    isplitl [HT]; · iexact HT
    iexact HN
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_body (c : Dev nD) (t : Fin (cfgM m hR).N) :
    bodyPre m hR c t ⊢ wp frame (wpE (defs₀ (F := F)) Variants.none c none) Set.univ (bodyAt m hR t) (fun _ => bodyPost m hR c t) := by
  unfold bodyPre
  rw [show (dats m hR 0 c).Φ t.castSucc = Inv m hR c t.val from rfl]
  unfold Dat.owesAt Pipeline.owesWithin
  rw [show (dats m hR 0 c).owed t.castSucc = 0 from rfl]
  simp only [found0, found1, found2, found3]
  unfold Inv
  iintro ⟨⟨⟨%G, %U, %D, %hheld, HG, HU, HD⟩, Hg, HT, HN⟩, ⟨%W, -, HW⟩, ⟨%d0, H0⟩, ⟨%d1, H1⟩, ⟨%d2, H2⟩, ⟨%d3, H3⟩, ⟨%d4, H4⟩⟩
  iapply (leave_point m hR c t W)
  isplitl [HG HU HD HT HN H0 H1 H2 H3 H4]
  · iapply (run_point m hR c t _ G U D hheld)
    unfold holds
    isplitl [HT]; · iexact HT
    isplitl [HN]; · iexact HN
    isplitl [H0]; · iexact H0
    isplitl [H1]; · iexact H1
    isplitl [H2]; · iexact H2
    isplitl [H3]; · iexact H3
    isplitl [H4]; · iexact H4
    isplitl [HG]; · iexact HG
    isplitl [HU]; · iexact HU
    iexact HD
  · isplitl [Hg]; · iexact Hg
    iexact HW

theorem defs₀_row (t : Fin (cfgM m hR).N) :
    defs₀ (F := F) .tc (cfgM m hR).body ((cfgM m hR).bodyArgs t ((cfgM m hR).slots t)) = bodyAt m hR t := by
  unfold defs₀; rw [Defs.onTc_tc]

/-- No point leaves its result tile unwritten. -/
theorem never_idle (t : Fin (cfgM m hR).N) : (cfgM m hR).idle (4 : Fin 5) ((cfgM m hR).grid.coords t) = false := by
  show (!(k0_cond2 (grid0.coords t) ((tbl m).atD 1 ![0]) == 1#1) && !(k0_cond3 (grid0.coords t) ((tbl m).atD 1 ![0]) == 1#1)) = false
  have h := cond3_iff (grid0.coords t) ((tbl m).atD 1 ![0])
  by_cases h2 : k0_cond2 (grid0.coords t) ((tbl m).atD 1 ![0]) = 1#1
  · rw [h2]; rfl
  · rw [h.mpr h2]; simp

theorem body_obligation (c : Dev nD) : BodyObligation (dats (F := F) m hR 0 c) (defs₀ (F := F)) Variants.none () Set.univ := fun t => by
  rw [bigSep_W0, bigSep_W0, defs₀_row m hR t, never_idle m hR t]
  exact triple_restated (sound_body m hR c t) rfl .rfl fun _ => .rfl

/-! ## The run -/

theorem PhiT0_eq (c : Dev nD) : (Pipeline.ΦT pre0 (tbl m) c : sProp 𝕄)
    = iprop(owns (c : Thread nD τ) (Memref.whole main_arg0) fullShare.right (expOf m) ∗ owns (c : Thread nD τ) (Memref.whole main_arg1) fullShare.right (cntOf m)) := by
  unfold Pipeline.ΦT Pipeline.prefHeld
  rw [show (Finset.univ : Finset (Fin 2)) = insert (0 : Fin 2) {(1 : Fin 2)} from by decide, bigSep_insert (by decide), bigSep_singleton,
    owns_whole, owns_whole]
  rfl

theorem enter (c : Dev nD) : (iprop(Pipeline.ΦA (cfgM m hR).spec c ∗ Pipeline.ΦT pre0 (tbl m) c) : sProp 𝕄) ⊢ Inv m hR c 0 := by
  rw [PhiT0_eq]
  unfold Inv Pipeline.ΦA
  rw [show (Pipeline.scopedRest (cfgM m hR).spec c : sProp 𝕄) = Pipeline.scopedRest spec0 c from rfl, scopedRest0_eq]
  iintro ⟨⟨⟨⟨%G, HG⟩, ⟨%U, HU⟩, ⟨%D, HD⟩⟩, Hg⟩, HT, HN⟩
  isplitl [HG HU HD]
  · iexists G; iexists U; iexists D
    rw [owns_whole, owns_whole, owns_whole]
    isplitr; · ipureintro; exact fun t ht => absurd ht (Nat.succ_ne_zero _)
    isplitl [HG]; · iexact HG
    isplitl [HU]; · iexact HU
    iexact HD
  isplitl [Hg]; · iexact Hg
  isplitl [HT]; · iexact HT
  iexact HN

theorem exit (c : Dev nD) (n : ℕ) : (Inv m hR c n : sProp 𝕄) ⊢ Pipeline.ΦA (cfgM m hR).spec c := by
  unfold Inv Pipeline.ΦA
  rw [show (Pipeline.scopedRest (cfgM m hR).spec c : sProp 𝕄) = Pipeline.scopedRest spec0 c from rfl, scopedRest0_eq]
  simp only [owns_whole]
  iintro ⟨⟨%G, %U, %D, -, HG, HU, HD⟩, Hg, -, -⟩
  isplitl [HG HU HD]
  · isplitl [HG]; · iexists G; iexact HG
    isplitl [HU]; · iexists U; iexact HU
    iexists D; iexact HD
  iexact Hg

set_option backward.isDefEq.respectTransparency.types false in
theorem run_main : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP_track (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := enter m hR) (hout := fun c => exit m hR c _)

/-- The whole result: row `r` is row `r % 256` of tile `r / 256`. -/
def resultOf (c : Dev nD) : S41984x1024.Idx → Elt F .f32 := fun i =>
  result m hR c ⟨(i 0).val / 256, by have h : (i 0).val < 41984 := (i 0).isLt; have := N_0; omega⟩
    (ix2 ⟨(i 0).val % 256, Nat.mod_lt _ (by omega)⟩ (i 1))

theorem flushes4 : ∀ t : Fin grid0.N, Pipeline.Window.flushOf grid0 true cc0_transform_4 t = true := by decide +kernel
theorem flush4 (t : Fin (cfgM m hR).N) : ((cfgM m hR).win (4 : Fin 5)).flush t = true :=
  (Pipeline.Window.flush_eq_flushOf _ t).trans (flushes4 t)

theorem result_at (c : Dev nD) (t s : Fin grid0.N) (y x : S256x1024.Idx) (hs : s = t) (hx : x = y) : result m hR c t y = result m hR c s x := by
  rw [hs, hx]

theorem box_row {n v : ℕ} (e : n = v / 256) : n * 256 ≤ v ∧ v < n * 256 + 256 := by omega
theorem box_col {n v : ℕ} (e : n = 0) (h : v < 1024) : n * 1024 ≤ v ∧ v < n * 1024 + 1024 := by omega

theorem arr4 (c : Dev nD) : (dats m hR 0 c).arrAt (4 : Fin 5) (cfgM m hR).N = resultOf m hR c := by
  refine (dats m hR 0 c).arrAt_eq_of_emb (4 : Fin 5) (resultOf m hR c) (fun t hf y => ?_) (fun i => ?_)
  · have h0 : ((((cfgM m hR).win (4 : Fin 5)).blk t).view.emb y (0 : Fin 2)).val = 256 * t.val + (y (0 : Fin 2)).val := by
      blk_simp; exact place_at (congrFun (index4 m hR t) (0 : Fin 2))
    have h1 : ((((cfgM m hR).win (4 : Fin 5)).blk t).view.emb y (1 : Fin 2)).val = (y (1 : Fin 2)).val := by
      blk_simp; exact place (congrFun (index4 m hR t) (1 : Fin 2))
    have hy : (y (0 : Fin 2)).val < 256 := (y (0 : Fin 2)).isLt
    refine result_at m hR c t _ y _ (Fin.ext ?_) (funext fun a => Fin.ext ?_)
    · show ((((cfgM m hR).win (4 : Fin 5)).blk t).view.emb y (0 : Fin 2)).val / 256 = t.val
      rw [h0]; omega
    · match a with
      | ⟨0, _⟩ =>
        show ((((cfgM m hR).win (4 : Fin 5)).blk t).view.emb y (0 : Fin 2)).val % 256 = (y (0 : Fin 2)).val
        rw [h0]; omega
      | ⟨1, _⟩ => exact h1
  · have hi : (i (0 : Fin 2)).val < 41984 := (i (0 : Fin 2)).isLt
    have hi1 : (i (1 : Fin 2)).val < 1024 := (i (1 : Fin 2)).isLt
    have hN := N_0
    let t : Fin grid0.N := ⟨(i (0 : Fin 2)).val / 256, by rw [hN]; omega⟩
    refine ⟨t, flush4 m hR _, ?_⟩
    mem_blk
    exact ⟨box_row (congrFun (index4 m hR t) (0 : Fin 2)), box_col (congrFun (index4 m hR t) (1 : Fin 2)) hi1⟩

theorem rest_tables : main_arg0 ∈ Pipeline.restRefs sig spec0 ∧ main_arg1 ∈ Pipeline.restRefs sig spec0 :=
  ⟨Pipeline.mem_restRefs_of _ (by decide) (by decide), Pipeline.mem_restRefs_of _ (by decide) (by decide)⟩

/-- The whole program: the arguments end as launched, the semaphores at zero, and the result at its tiles' values. -/
theorem run_value : θ_run defs (onTc (τ := τ) (main (F := F))) ⟨m, fun _ => 0, ρ⟩ (fun r => (∀ c : Dev nD,
      r.2.mem ((c.tc : Thread nD τ).loc main_v0) = resultOf m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).1 (4 : Fin 5)).trans (arr4 m hR c),
     (h.1 c).2 main_arg0 rest_tables.1,
     (h.1 c).2 main_arg1 rest_tables.2,
     ((h.1 c).1 (0 : Fin 5)).trans (((dats m hR 0 c).arrAt_in (0 : Fin 5) rfl _).trans (A_eq m hR c (0 : Fin 5))),
     ((h.1 c).1 (1 : Fin 5)).trans (((dats m hR 0 c).arrAt_in (1 : Fin 5) rfl _).trans (A_eq m hR c (1 : Fin 5))),
     ((h.1 c).1 (2 : Fin 5)).trans (((dats m hR 0 c).arrAt_in (2 : Fin 5) rfl _).trans (A_eq m hR c (2 : Fin 5))),
     ((h.1 c).1 (3 : Fin 5)).trans (((dats m hR 0 c).arrAt_in (3 : Fin 5) rfl _).trans (A_eq m hR c (3 : Fin 5)))⟩, h.2⟩) (run_main m ρ hR)

end Cert.Kernel2Ideal.Hand
-- ==== Proof.Gated.lean ====
/-
  The gated product of one packed row, over the extended reals: what the halves of words denote, the product with an expert's
  matrices, and two of the reference's operations read at an element. Both layers' experts use it; no program is named here.
-/
module

public import Idealize.ShloMosaic.PureOps
public import Idealize.ShloMosaic.Lib.StableHlo
public import Idealize.ShloMosaic.PureOps.Ideal.Laws
public import Idealize.ShloMosaic.Lib.MatmulPlain
public import Idealize.ShloMosaic.Lib.Pipeline.Value
public import Idealize.ShloMosaic.Lib.Routing.OpsSet

@[expose] public section

set_option maxRecDepth 16384

noncomputable section

namespace Cert.Gated

open Idealize.ShloMosaic Idealize.ShloMosaic.TcCoe Idealize.ShloMosaic.ValueIdx
open scoped BigOperators

/-! ## Halves of words -/

/-- What half `k` of a word denotes as a bfloat16. -/
def half (w : BitVec 32) (k : ℕ) : EReal := Ideal.ofBits .bf16 (w.extractLsb' (k * 16) 16)

/-- A 32-bit pattern whose low sixteen bits are zero denotes what its high half denotes as a bfloat16. -/
theorem widened (w : BitVec 32) (h : BitVec 16) (hw : w.toNat = h.toNat * 65536) : Ideal.ofBits .f32 w = Ideal.ofBits .bf16 h := by
  have hh := h.isLt
  have eS : w.extractLsb' 31 1 = h.extractLsb' 15 1 := by
    apply BitVec.eq_of_toNat_eq
    simp only [BitVec.extractLsb'_toNat, Nat.shiftRight_eq_div_pow]
    omega
  have eE : (w.extractLsb' 23 8).toNat = (h.extractLsb' 7 8).toNat := by
    simp only [BitVec.extractLsb'_toNat, Nat.shiftRight_eq_div_pow]
    omega
  have eF : (w.extractLsb' 0 23).toNat = (h.extractLsb' 0 7).toNat * 65536 := by
    simp only [BitVec.extractLsb'_toNat, Nat.shiftRight_eq_div_pow]
    omega
  show Ideal.ieee 8 23 w = Ideal.ieee 8 7 h
  unfold Ideal.ieee
  simp only [show 8 + 23 = 31 from rfl, show 8 + 7 = 15 from rfl, eS, eE, eF]
  generalize (h.extractLsb' 0 7).toNat = f
  generalize (h.extractLsb' 7 8).toNat = e
  generalize (if (h.extractLsb' 15 1 == 1#1) = true then (-1 : ℝ) else 1) = s
  have p1 : (65536 : ℝ) * (2 : ℝ) ^ (1 - (2 ^ (8 - 1) - 1) - (23 : ℕ) : Int) = (2 : ℝ) ^ (1 - (2 ^ (8 - 1) - 1) - (7 : ℕ) : Int) := by
    norm_num
  have p2 : (65536 : ℝ) * (2 : ℝ) ^ ((e : Int) - (2 ^ (8 - 1) - 1) - (23 : ℕ)) = (2 : ℝ) ^ ((e : Int) - (2 ^ (8 - 1) - 1) - (7 : ℕ)) := by
    rw [show (65536 : ℝ) = (2 : ℝ) ^ (16 : Int) by norm_num, ← zpow_add₀ (by norm_num)]
    congr 1
    norm_num
    omega
  have z : (f * 65536 = 0) = (f = 0) := by simp
  have q1 : s * ((f * 65536 : ℕ) : ℝ) * (2 : ℝ) ^ (1 - (2 ^ (8 - 1) - 1) - (23 : ℕ) : Int)
      = s * (f : ℝ) * (2 : ℝ) ^ (1 - (2 ^ (8 - 1) - 1) - (7 : ℕ) : Int) := by
    rw [← p1, Nat.cast_mul, ← mul_assoc, ← mul_assoc]; norm_num
  have q2 : s * ((2 ^ 23 + f * 65536 : ℕ) : ℝ) * (2 : ℝ) ^ ((e : Int) - (2 ^ (8 - 1) - 1) - (23 : ℕ))
      = s * ((2 ^ 7 + f : ℕ) : ℝ) * (2 : ℝ) ^ ((e : Int) - (2 ^ (8 - 1) - 1) - (7 : ℕ)) := by
    rw [← p2, show 2 ^ 23 + f * 65536 = (2 ^ 7 + f) * 65536 by omega, Nat.cast_mul, ← mul_assoc, ← mul_assoc]; norm_num
  rw [q1, q2]
  simp only [z]

theorem half_low (w : BitVec 32) : Ideal.ofBits .f32 (IntOp.shli .vector w 16#32) = half w 0 := by
  have e : IntOp.shli .vector w 16#32 = w <<< 16 := if_pos (by decide)
  refine (congrArg (Ideal.ofBits .f32) e).trans (widened (w <<< 16) _ ?_)
  have := w.isLt
  simp only [BitVec.extractLsb'_toNat, Nat.shiftRight_eq_div_pow, BitVec.toNat_shiftLeft, Nat.shiftLeft_eq]
  omega

theorem half_high (w : BitVec 32) : Ideal.ofBits .f32 (IntOp.andi w 4294901760#32) = half w 1 := by
  refine widened _ _ ?_
  have e : IntOp.andi w 4294901760#32 = (w >>> 16) <<< 16 := by
    show w &&& 4294901760#32 = _
    apply BitVec.eq_of_getLsbD_eq
    intro i hi
    have : ∀ i < 32, (4294901760#32).getLsbD i = decide (16 ≤ i) := by decide
    rw [BitVec.getLsbD_and, this i hi]
    simp only [BitVec.getLsbD_shiftLeft, BitVec.getLsbD_ushiftRight]
    by_cases h : 16 ≤ i
    · simp [h, hi, show 16 + (i - 16) = i by omega]
    · simp [h]
  have := w.isLt
  rw [e]
  simp [BitVec.toNat_shiftLeft, Nat.shiftLeft_eq, Nat.shiftRight_eq_div_pow]
  omega

/-! ## The gated product of one row -/

/-- A row of 1024 numbers times a column. -/
def along (h : Fin 1024 → EReal) (M : Fin 1024 → Fin 512 → EReal) (f : Fin 512) : EReal := ∑ j : Fin 1024, h j * M j f

/-- The gate: a number times one over one plus the exponential of its negation. -/
def gate (x : EReal) : EReal := x * Ideal.div 1 (1 + Ideal.exp (-x))

/-- The gated product of a row with an expert's matrices. -/
def gated (h : Fin 1024 → EReal) (G U : Fin 1024 → Fin 512 → EReal) (D : Fin 512 → Fin 1024 → EReal) (d : Fin 1024) : EReal :=
  ∑ f : Fin 512, gate (along h G f) * along h U f * D f d

/-- A packed row's 1024 numbers: the low halves of its 512 words, then the high halves. -/
def halves (x : Fin 512 → BitVec 32) (j : Fin 1024) : EReal := half (x ⟨j.val % 512, Nat.mod_lt _ (by omega)⟩) (j.val / 512)

theorem along_halves (x : Fin 512 → BitVec 32) (M : Fin 1024 → Fin 512 → EReal) (f : Fin 512) :
    along (halves x) M f = (∑ k : Fin 512, half (x k) 0 * M ⟨k.val, by omega⟩ f) + ∑ k : Fin 512, half (x k) 1 * M ⟨512 + k.val, by omega⟩ f := by
  unfold along
  rw [show (∑ j : Fin 1024, halves x j * M j f) = ∑ j : Fin (512 + 512), halves x j * M j f from rfl, Fin.sum_univ_add]
  refine congrArg₂ (· + ·) (Finset.sum_congr rfl fun k _ => ?_) (Finset.sum_congr rfl fun k _ => ?_)
  · have hk := k.isLt
    refine congrArg₂ (· * ·) ?_ rfl
    unfold halves
    have e1 : (⟨(Fin.castAdd 512 k).val % 512, Nat.mod_lt _ (by omega)⟩ : Fin 512) = k := Fin.ext (by show k.val % 512 = k.val; omega)
    have e2 : (Fin.castAdd 512 k).val / 512 = 0 := by show k.val / 512 = 0; omega
    exact congrArg₂ half (congrArg x e1) e2
  · have hk := k.isLt
    refine congrArg₂ (· * ·) ?_ rfl
    unfold halves
    have e1 : (⟨(Fin.natAdd 512 k).val % 512, Nat.mod_lt _ (by omega)⟩ : Fin 512) = k := Fin.ext (by show (512 + k.val) % 512 = k.val; omega)
    have e2 : (Fin.natAdd 512 k).val / 512 = 1 := by show (512 + k.val) / 512 = 1; omega
    exact congrArg₂ half (congrArg x e1) e2

theorem denotes_one : Ideal.ofBits .f32 0x3F800000#32 = 1 := by
  simp [Ideal.ofBits, Ideal.ieee, -EReal.coe_mul]; norm_num

/-! ## Two operations of the reference -/

/-- A gather of whole matrices, one for each of `n` rows, reads the matrix its index word names. -/
theorem gather_matrix {n A B : ℕ} {α : Type}
    (wf : GatherDims.WF ⟨3, ![32, A, B]⟩ ⟨2, ![n, 1]⟩ ⟨3, ![n, A, B]⟩ [1, 2] [0] [] [0] [] 1 ![1, A, B])
    (x : (⟨3, ![32, A, B]⟩ : Shape).Idx → α) (idx : IVec ⟨2, ![n, 1]⟩ 32) (r : Fin n) (a : Fin A) (b : Fin B) (e : Fin 32)
    (he : (idx (ix2 r 0)).toNat = e.val) :
    Host.gather (⟨[1, 2], [0], [], [], [0], 1, ![1, A, B], wf⟩ : GatherDims ⟨3, ![32, A, B]⟩ ⟨2, ![n, 1]⟩ ⟨3, ![n, A, B]⟩) x idx (ix3 r a b)
      = x (ix3 e a b) := by
  have hs : (⟨[1, 2], [0], [], [], [0], 1, ![1, A, B], wf⟩ : GatherDims ⟨3, ![32, A, B]⟩ ⟨2, ![n, 1]⟩ ⟨3, ![n, A, B]⟩).start (ix3 r a b) idx 0
      = min (idx (ix2 r 0)).toInt.toNat 31 := by
    refine congrArg (fun k => min (idx k).toInt.toNat 31) (funext fun b => ?_)
    match b with
    | ⟨0, _⟩ => rfl
    | ⟨1, _⟩ => exact Subsingleton.elim (α := Fin 1) _ _
  refine congrArg x (funext fun k => Fin.ext ?_)
  match k with
  | ⟨0, _⟩ =>
    refine (congrArg (· + 0 + 0) hs).trans ?_
    have hw : (idx (ix2 r 0)).toInt = (e.val : Int) := by
      have := e.isLt
      rw [BitVec.toInt_eq_toNat_of_lt (by omega), he]
    have := e.isLt
    show min (idx (ix2 r 0)).toInt.toNat 31 + 0 + 0 = e.val
    rw [hw, Int.toNat_natCast]
    omega
  | ⟨1, _⟩ => exact Nat.zero_add a.val
  | ⟨2, _⟩ => exact Nat.zero_add b.val

/-- A product of each row with its own matrix, read at a row and a column. -/
theorem rows_dot {n K N : ℕ} {φ₁ φ₂ : FTy} (wf : DotDims.WF ⟨2, ![n, K]⟩ ⟨3, ![n, K, N]⟩ ⟨2, ![n, N]⟩ [1] [1] [] [2] [0] [0])
    (prec : Option ContractPrecision) (L : FVec Ideal ⟨2, ![n, K]⟩ φ₁) (R : FVec Ideal ⟨3, ![n, K, N]⟩ φ₂) (r : Fin n) (c : Fin N) :
    Host.dotGeneral (⟨[1], [1], [], [2], [0], [0], wf⟩ : DotDims ⟨2, ![n, K]⟩ ⟨3, ![n, K, N]⟩ ⟨2, ![n, N]⟩) prec L R (ix2 r c)
      = ∑ k : Fin K, L (ix2 r k) * R (ix3 r k c) := by
  let D : DotDims ⟨2, ![n, K]⟩ ⟨3, ![n, K, N]⟩ ⟨2, ![n, N]⟩ := ⟨[1], [1], [], [2], [0], [0], wf⟩
  have hr : D.contr.rank = 1 := rfl
  have hk : D.contr.size ⟨0, by rw [hr]; exact Nat.one_pos⟩ = K := rfl
  simp only [Host.dotGeneral]
  rw [Ideal.dotGeneral_apply, ← Equiv.sum_comp (contrEquiv1 D K hr hk).symm]
  refine Finset.sum_congr rfl fun k _ => ?_
  have h0 := contrEquiv1_symm_val D K hr hk k
  have el : D.lhsIdx (ix2 r c) ((contrEquiv1 D K hr hk).symm k) = ix2 r k := by
    funext a; apply Fin.ext
    match a with
    | ⟨0, _⟩ => rfl
    | ⟨1, _⟩ => exact h0
  have er : D.rhsIdx (ix2 r c) ((contrEquiv1 D K hr hk).symm k) = ix3 r k c := by
    funext a; apply Fin.ext
    match a with
    | ⟨0, _⟩ => rfl
    | ⟨1, _⟩ => exact h0
    | ⟨2, _⟩ => rfl
  rw [el, er]

/-! ## Bits -/

theorem both_set {p q : BitVec 1} (h : IntOp.andi p q = 1#1) : p = 1#1 ∧ q = 1#1 := by
  revert p q; decide
theorem of_set {p : Bool} (h : BitVec.ofBool p = 1#1) : p = true := by
  revert p; decide

end Cert.Gated

end
-- ==== Proof.ExpertSpec.lean ====
/-
  The expert layer's values over the extended reals: the kernel's tile and the reference's row are the same gated product of a
  row of 1024 halves of words with the three matrices of the row's expert. No program runs here.
-/
module

public import proofs.«01_k».proof.Proof.ExpertRun
public import proofs.«01_k».proof.Proof.Gated
public import proofs.«01_k».proof.Proof.Gen.Pre_tables_in_range
public import proofs.«01_k».proof.Proof.Gen.Reference2Ideal.Run
public import Idealize.ShloMosaic.PureOps.Ideal.Laws
public import Idealize.ShloMosaic.Lib.BitcastConvert
public import Idealize.ShloMosaic.Lib.ReduceAll
public import Idealize.ShloMosaic.Lib.Pipeline.Value
public import Idealize.ShloMosaic.Lib.Routing.OpsSet

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.ValueIdx Idealize.ShloMosaic.ValueKit
open Cert.Gated
open scoped BigOperators

/-! ## The kernel's tile -/

theorem dot_in : dot_S256x512_S512x512_S256x512_1_0_0_1_n_n = DotDims.plain 256 512 512 := rfl
theorem dot_out : dot_S256x512_S512x1024_S256x1024_1_0_0_1_n_n = DotDims.plain 256 512 1024 := rfl

theorem mm_in (a : FVec Ideal S256x512 .bf16) (b : FVec Ideal S512x512 .bf16) (p : Fin 256) (f : Fin 512) :
    matmul dot_S256x512_S512x512_S256x512_1_0_0_1_n_n none a b (constant S256x512 .f32 0x00000000#32) (ix2 p f)
      = ∑ k : Fin 512, a (ix2 p k) * b (ix2 k f) := by
  have h := Ideal.matmul_plain_apply (M := 256) (K := 512) (N := 512) none a b (constant S256x512 .f32 0x00000000#32) p f
  rw [← dot_in] at h
  refine h.trans ?_
  rw [show constant (F := Ideal) S256x512 .f32 0x00000000#32 (ix2 p f) = 0 from Ideal.ofBits_zero_f32, zero_add]

theorem mm_out (a : FVec Ideal S256x512 .bf16) (b : FVec Ideal S512x1024 .bf16) (p : Fin 256) (d : Fin 1024) :
    matmul dot_S256x512_S512x1024_S256x1024_1_0_0_1_n_n none a b (constant S256x1024 .f32 0x00000000#32) (ix2 p d)
      = ∑ k : Fin 512, a (ix2 p k) * b (ix2 k d) := by
  have h := Ideal.matmul_plain_apply (M := 256) (K := 512) (N := 1024) none a b (constant S256x1024 .f32 0x00000000#32) p d
  rw [← dot_out] at h
  refine h.trans ?_
  rw [show constant (F := Ideal) S256x1024 .f32 0x00000000#32 (ix2 p d) = 0 from Ideal.ofBits_zero_f32, zero_add]

theorem upper_apply (G : FVec Ideal S1024x512 .bf16) (k f : Fin 512) : upper (F := Ideal) G (ix2 k f) = G (ix2 (⟨k.val, by omega⟩ : Fin 1024) f) := by
  refine congrArg G (funext fun a => Fin.ext ?_)
  match a with
  | ⟨0, _⟩ => exact (rect_emb_unit_val _ _ _ _ _).trans (Nat.zero_add _)
  | ⟨1, _⟩ => exact (rect_emb_unit_val _ _ _ _ _).trans (Nat.zero_add _)

theorem lower_apply (G : FVec Ideal S1024x512 .bf16) (k f : Fin 512) : lower (F := Ideal) G (ix2 k f) = G (ix2 (⟨512 + k.val, by omega⟩ : Fin 1024) f) := by
  refine congrArg G (funext fun a => Fin.ext ?_)
  match a with
  | ⟨0, _⟩ => exact rect_emb_unit_val _ _ _ _ _
  | ⟨1, _⟩ => exact (rect_emb_unit_val _ _ _ _ _).trans (Nat.zero_add _)

/-- The kernel's tile at a row and a column is the gated product of the packed row. -/
theorem tile_apply (X : IVec S256x512 32) (G U : FVec Ideal S1024x512 .bf16) (D : FVec Ideal S512x1024 .bf16) (p : Fin 256) (d : Fin 1024) :
    tile (F := Ideal) X G U D (ix2 p d)
      = gated (halves fun k => X (ix2 p k)) (fun j f => G (ix2 j f)) (fun j f => U (ix2 j f)) (fun f d => D (ix2 f d)) d := by
  have lo : ∀ k : Fin 512, truncf (F := Ideal) .bf16 (bitcastToFloat .f32 (shli X (broadcast S256x512 16#32))) bitsLt_bf16_f32 (ix2 p k) = half (X (ix2 p k)) 0 :=
    fun k => half_low _
  have hi : ∀ k : Fin 512, truncf (F := Ideal) .bf16 (bitcastToFloat .f32 (andi X (broadcast S256x512 4294901760#32))) bitsLt_bf16_f32 (ix2 p k) = half (X (ix2 p k)) 1 :=
    fun k => half_high _
  have al : ∀ (M : FVec Ideal S1024x512 .bf16) (f : Fin 512),
      addf (F := Ideal) (φ := .f32) (matmul (φ₁ := .bf16) (φ₂ := .bf16) dot_S256x512_S512x512_S256x512_1_0_0_1_n_n none (truncf (F := Ideal) .bf16 (bitcastToFloat .f32 (shli X (broadcast S256x512 16#32))) bitsLt_bf16_f32) (upper (F := Ideal) M : FVec Ideal S512x512 .bf16) (constant S256x512 .f32 0x00000000#32))
        (matmul (φ₁ := .bf16) (φ₂ := .bf16) dot_S256x512_S512x512_S256x512_1_0_0_1_n_n none (truncf (F := Ideal) .bf16 (bitcastToFloat .f32 (andi X (broadcast S256x512 4294901760#32))) bitsLt_bf16_f32) (lower (F := Ideal) M : FVec Ideal S512x512 .bf16) (constant S256x512 .f32 0x00000000#32)) (ix2 p f)
        = along (halves fun k => X (ix2 p k)) (fun j f => M (ix2 j f)) f := by
    intro M f
    rw [along_halves]
    refine congrArg₂ (fun x y : EReal => x + y) ?_ ?_
    · refine (mm_in _ _ p f).trans (Finset.sum_congr rfl fun k _ => ?_)
      exact congrArg₂ (fun x y : EReal => x * y) (lo k) (upper_apply M k f)
    · refine (mm_in _ _ p f).trans (Finset.sum_congr rfl fun k _ => ?_)
      exact congrArg₂ (fun x y : EReal => x * y) (hi k) (lower_apply M k f)
  unfold tile k0_pay4 gated
  refine (mm_out _ _ p d).trans (Finset.sum_congr rfl fun f _ => congrArg (· * D (ix2 f d)) ?_)
  have one : Scalar.ofBits (F := Ideal) .f32 0x3F800000#32 = 1 := denotes_one
  have zero : Scalar.ofBits (F := Ideal) .f32 0x00000000#32 = 0 := Ideal.ofBits_zero_f32
  rw [← al G f, ← al U f]
  unfold gate
  rw [one, zero, ← zero_sub]
  rfl

/-- The narrowed matrices hold the blocks' numbers. -/
theorem narrowed_in (W : FVec Ideal S1x1x1024x512 .f32) (j : Fin 1024) (f : Fin 512) : k0_pay1 (F := Ideal) W (ix2 j f) = W (ix4 0 0 j f) := by
  unfold k0_pay1
  refine (shapeCast_apply _ _ _ (ix2 j f) rfl).trans ?_
  refine Eq.trans (b := shapeCast S1024x512 W shapeCasts_S1x1x1024x512_S1024x512 (ix2 j f)) rfl (shapeCast_apply _ _ _ _ ?_)
  rw [Shape.rowMajor_val_four, Shape.rowMajor_val_two]
  show ((0 * 1 + 0) * 1024 + j.val) * 512 + f.val = j.val * 512 + f.val
  omega
theorem narrowed_out (W : FVec Ideal S1x1x512x1024 .f32) (f : Fin 512) (d : Fin 1024) : k0_pay3 (F := Ideal) W (ix2 f d) = W (ix4 0 0 f d) := by
  unfold k0_pay3
  refine (shapeCast_apply _ _ _ (ix2 f d) rfl).trans ?_
  refine Eq.trans (b := shapeCast S512x1024 W shapeCasts_S1x1x512x1024_S512x1024 (ix2 f d)) rfl (shapeCast_apply _ _ _ _ ?_)
  rw [Shape.rowMajor_val_four, Shape.rowMajor_val_two]
  show ((0 * 1 + 0) * 512 + f.val) * 1024 + d.val = f.val * 1024 + d.val
  omega

/-! ## The reference's row -/

section Row

open Cert.Reference2Ideal.Gen

/-- The expert of each row: the tiles' experts, each repeated over the tile's rows. -/
abbrev expertRows (T : IVec Cert.Reference2Ideal.S164 32) : IVec Cert.Reference2Ideal.S41984 32 :=
  shapeCast _ (broadcastInDim Cert.Reference2Ideal.S164x256 ![0] bcast_S164_S164x256_0 T) shapeCasts_S164x256_S41984

theorem expertRows_apply (T : IVec Cert.Reference2Ideal.S164 32) (r : Fin 41984) :
    expertRows T (ix1 r) = T (ix1 (⟨r.val / 256, by omega⟩ : Fin 164)) := by
  refine (shapeCast_apply _ _ _ (ix2 (⟨r.val / 256, by omega⟩ : Fin 164) (⟨r.val % 256, Nat.mod_lt _ (by omega)⟩ : Fin 256)) ?_).trans ?_
  · rw [Shape.rowMajor_val_one, Shape.rowMajor_val_two]
    show r.val / 256 * 256 + r.val % 256 = r.val
    omega
  · refine broadcastInDim_apply _ _ _ _ _ fun a => ?_
    match a with
    | ⟨0, _⟩ => rfl

/-- The index the gathers read at a row: jnp's wrap of the row's expert. -/
abbrev expertIndex (T : IVec Cert.Reference2Ideal.S164 32) : IVec Cert.Reference2Ideal.S41984x1 32 :=
  broadcastInDim Cert.Reference2Ideal.S41984x1 ![0] bcast_S41984_S41984x1_0
    (select (cmpi .slt (expertRows T) (broadcastInDim Cert.Reference2Ideal.S41984 ![] bcast_S_S41984 (constantI Cert.Reference2Ideal.S_ 32 0#32)))
      (addi (expertRows T) (broadcastInDim Cert.Reference2Ideal.S41984 ![] bcast_S_S41984 (constantI Cert.Reference2Ideal.S_ 32 32#32)))
      (expertRows T))

theorem expertIndex_apply (T : IVec Cert.Reference2Ideal.S164 32) (hT : ∀ j, (T j).toNat < 32) (r : Fin 41984) :
    expertIndex T (ix2 r 0) = T (ix1 (⟨r.val / 256, by omega⟩ : Fin 164)) := by
  refine (broadcastInDim_apply _ _ _ _ (ix1 r) fun a => ?_).trans ?_
  · match a with
    | ⟨0, _⟩ => rfl
  · refine Eq.trans ?_ (expertRows_apply T r)
    refine Routing.wrap_of_lt _ _ ?_
    rw [expertRows_apply]
    exact (hT _).trans (by norm_num)

/-- Layer one's matrices of one kind. -/
abbrev layerIn (W : FVec Ideal Cert.Reference2Ideal.S2x32x1024x512 .f32) : FVec Ideal Cert.Reference2Ideal.S32x1024x512 .f32 :=
  shapeCast _ (extractStridedSlice Cert.Reference2Ideal.S1x32x1024x512 ![1, 0, 0, 0] W slices_S2x32x1024x512_S1x32x1024x512_1_0_0_0) shapeCasts_S1x32x1024x512_S32x1024x512
abbrev layerOut (W : FVec Ideal Cert.Reference2Ideal.S2x32x512x1024 .f32) : FVec Ideal Cert.Reference2Ideal.S32x512x1024 .f32 :=
  shapeCast _ (extractStridedSlice Cert.Reference2Ideal.S1x32x512x1024 ![1, 0, 0, 0] W slices_S2x32x512x1024_S1x32x512x1024_1_0_0_0) shapeCasts_S1x32x512x1024_S32x512x1024

theorem layerIn_apply (W : FVec Ideal Cert.Reference2Ideal.S2x32x1024x512 .f32) (e : Fin 32) (a : Fin 1024) (b : Fin 512) :
    layerIn W (ix3 e a b) = W (ix4 1 e a b) := by
  refine (shapeCast_apply _ _ _ (ix4 (0 : Fin 1) e a b) ?_).trans (extractStridedSlice_apply _ _ _ _ _ fun k => ?_)
  · rw [Shape.rowMajor_val_three, Shape.rowMajor_val_four]
    show ((0 * 32 + e.val) * 1024 + a.val) * 512 + b.val = (e.val * 1024 + a.val) * 512 + b.val
    omega
  · match k with
    | ⟨0, _⟩ => rfl
    | ⟨1, _⟩ => exact (Nat.zero_add e.val).symm
    | ⟨2, _⟩ => exact (Nat.zero_add a.val).symm
    | ⟨3, _⟩ => exact (Nat.zero_add b.val).symm

theorem layerOut_apply (W : FVec Ideal Cert.Reference2Ideal.S2x32x512x1024 .f32) (e : Fin 32) (a : Fin 512) (b : Fin 1024) :
    layerOut W (ix3 e a b) = W (ix4 1 e a b) := by
  refine (shapeCast_apply _ _ _ (ix4 (0 : Fin 1) e a b) ?_).trans (extractStridedSlice_apply _ _ _ _ _ fun k => ?_)
  · rw [Shape.rowMajor_val_three, Shape.rowMajor_val_four]
    show ((0 * 32 + e.val) * 512 + a.val) * 1024 + b.val = (e.val * 512 + a.val) * 1024 + b.val
    omega
  · match k with
    | ⟨0, _⟩ => rfl
    | ⟨1, _⟩ => exact (Nat.zero_add e.val).symm
    | ⟨2, _⟩ => exact (Nat.zero_add a.val).symm
    | ⟨3, _⟩ => exact (Nat.zero_add b.val).symm

/-- The rows' numbers: each row's words read as pairs of bfloat16s, first parts before second parts. -/
abbrev numbers (X : IVec Cert.Reference2Ideal.S41984x512 32) : FVec Ideal Cert.Reference2Ideal.S41984x1024 .f32 :=
  extf .f32 (shapeCast _ (transpose Cert.Reference2Ideal.S41984x2x512 [0, 2, 1] (bitcastToFloat (F := Ideal) .bf16
    (Host.bitcastConvertNarrow Cert.Reference2Ideal.S41984x512x2 16 X splits_S41984x512_w32_S41984x512x2_w16)) transposes_S41984x512x2_S41984x2x512_0_2_1)
    shapeCasts_S41984x2x512_S41984x1024) Cert.Reference2Ideal.Gen.bitsLt_bf16_f32

theorem numbers_apply (X : IVec Cert.Reference2Ideal.S41984x512 32) (r : Fin 41984) (j : Fin 1024) :
    numbers X (ix2 r j) = halves (fun k => X (ix2 r k)) j := by
  have hj := j.isLt
  refine Eq.trans (b := shapeCast Cert.Reference2Ideal.S41984x1024 (transpose Cert.Reference2Ideal.S41984x2x512 [0, 2, 1] (bitcastToFloat (F := Ideal) .bf16
    (Host.bitcastConvertNarrow Cert.Reference2Ideal.S41984x512x2 16 X splits_S41984x512_w32_S41984x512x2_w16)) transposes_S41984x512x2_S41984x2x512_0_2_1)
    shapeCasts_S41984x2x512_S41984x1024 (ix2 r j)) rfl ?_
  refine (shapeCast_apply _ _ _ (ix3 r (⟨j.val / 512, by omega⟩ : Fin 2) (⟨j.val % 512, Nat.mod_lt _ (by omega)⟩ : Fin 512)) ?_).trans
    ((transpose_apply _ _ _ _ (ix3 r (⟨j.val % 512, Nat.mod_lt _ (by omega)⟩ : Fin 512) (⟨j.val / 512, by omega⟩ : Fin 2)) fun k => ?_).trans ?_)
  · rw [Shape.rowMajor_val_three, Shape.rowMajor_val_two]
    show (r.val * 2 + j.val / 512) * 512 + j.val % 512 = r.val * 1024 + j.val
    omega
  · match k with
    | ⟨0, _⟩ => rfl
    | ⟨1, _⟩ => rfl
    | ⟨2, _⟩ => rfl
  · refine congrArg (fun k => half (X k) (j.val / 512)) (funext fun a => ?_)
    match a with
    | ⟨0, _⟩ => rfl
    | ⟨1, _⟩ => rfl

/-- Each row times its expert's matrix of one kind. -/
abbrev product (T : IVec Cert.Reference2Ideal.S164 32) (X : IVec Cert.Reference2Ideal.S41984x512 32) (W : FVec Ideal Cert.Reference2Ideal.S2x32x1024x512 .f32) :
    FVec Ideal Cert.Reference2Ideal.S41984x512 .f32 :=
  Host.dotGeneral Cert.Reference2Ideal.dot_S41984x1024_S41984x1024x512_S41984x512_1_1_n_2_0_0 none (numbers X)
    (Host.gather Cert.Reference2Ideal.gather_S32x1024x512_S41984x1_S41984x1024x512_12_0_n_n_0_1_11024512 (layerIn W) (expertIndex T))

theorem product_apply (T : IVec Cert.Reference2Ideal.S164 32) (hT : ∀ j, (T j).toNat < 32) (X : IVec Cert.Reference2Ideal.S41984x512 32)
    (W : FVec Ideal Cert.Reference2Ideal.S2x32x1024x512 .f32) (r : Fin 41984) (f : Fin 512) (e : Fin 32)
    (he : (T (ix1 (⟨r.val / 256, by omega⟩ : Fin 164))).toNat = e.val) :
    product T X W (ix2 r f) = along (halves fun k => X (ix2 r k)) (fun j f => W (ix4 1 e j f)) f := by
  refine (rows_dot _ none _ _ r f).trans (Finset.sum_congr rfl fun j _ => ?_)
  refine congrArg₂ (fun x y : EReal => x * y) (numbers_apply X r j) ?_
  refine (gather_matrix _ _ _ r j f e ?_).trans (layerIn_apply W _ j f)
  rw [expertIndex_apply T hT, he]

/-- The reference's array, of its six arguments. -/
def reference (T : IVec Cert.Reference2Ideal.S164 32) (N : IVec Cert.Reference2Ideal.S1 32) (X : IVec Cert.Reference2Ideal.S41984x512 32)
    (G U : FVec Ideal Cert.Reference2Ideal.S2x32x1024x512 .f32) (D : FVec Ideal Cert.Reference2Ideal.S2x32x512x1024 .f32) :
    FVec Ideal Cert.Reference2Ideal.S41984x1024 .f32 :=
  select (broadcastInDim Cert.Reference2Ideal.S41984x1024 ![0, 1] bcast_S41984x1_S41984x1024_0_1 (broadcastInDim Cert.Reference2Ideal.S41984x1 ![0] bcast_S41984_S41984x1_0
      (cmpi .slt (iotaInDim Cert.Reference2Ideal.S41984 32 0) (broadcastInDim Cert.Reference2Ideal.S41984 ![] bcast_S_S41984
        (muli (shapeCast _ N shapeCasts_S1_S_) (constantI Cert.Reference2Ideal.S_ 32 256#32))))))
    (Host.dotGeneral Cert.Reference2Ideal.dot_S41984x512_S41984x512x1024_S41984x1024_1_1_n_2_0_0 none
      (mulf (mulf (product T X G) (Host.divf (broadcastInDim Cert.Reference2Ideal.S41984x512 ![] bcast_S_S41984x512 (constant Cert.Reference2Ideal.S_ .f32 0x3F800000#32))
        (addf (broadcastInDim Cert.Reference2Ideal.S41984x512 ![] bcast_S_S41984x512 (constant Cert.Reference2Ideal.S_ .f32 0x3F800000#32))
          (Host.exp (Host.negf (product T X G)))))) (product T X U))
      (Host.gather Cert.Reference2Ideal.gather_S32x512x1024_S41984x1_S41984x512x1024_12_0_n_n_0_1_15121024 (layerOut D) (expertIndex T)))
    (broadcastInDim Cert.Reference2Ideal.S41984x1024 ![] bcast_S_S41984x1024 (id (constant Cert.Reference2Ideal.S_ .f32 0x00000000#32)))

theorem res_eq (m : (ℓ : Loc Cert.Reference2Ideal.nD Cert.Reference2Ideal.τ Cert.Reference2Ideal.sig) → Buf (Elt Ideal) ℓ) (c : Dev Cert.Reference2Ideal.nD) :
    Cert.Reference2Ideal.Value.res_main_v44 m c
      = reference (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2))
          (m ((c.tc : Thread Cert.Reference2Ideal.nD Cert.Reference2Ideal.τ).loc Cert.Reference2Ideal.main_arg3))
          (m ((c.tc : Thread Cert.Reference2Ideal.nD Cert.Reference2Ideal.τ).loc Cert.Reference2Ideal.main_arg4))
          (m ((c.tc : Thread Cert.Reference2Ideal.nD Cert.Reference2Ideal.τ).loc Cert.Reference2Ideal.main_arg5)) := by
  unfold Cert.Reference2Ideal.Value.res_main_v44 reference
  rfl

/-- Whether a row is in use, as a bit. -/
theorem used_apply (N : IVec Cert.Reference2Ideal.S1 32) (hN : (N (ix1 0)).toNat ≤ 164) (r : Fin 41984) (d : Fin 1024) :
    broadcastInDim Cert.Reference2Ideal.S41984x1024 ![0, 1] bcast_S41984x1_S41984x1024_0_1 (broadcastInDim Cert.Reference2Ideal.S41984x1 ![0] bcast_S41984_S41984x1_0
      (cmpi .slt (iotaInDim Cert.Reference2Ideal.S41984 32 0) (broadcastInDim Cert.Reference2Ideal.S41984 ![] bcast_S_S41984
        (muli (shapeCast _ N shapeCasts_S1_S_) (constantI Cert.Reference2Ideal.S_ 32 256#32))))) (ix2 r d)
      = BitVec.ofBool (decide (r.val / 256 < (N (ix1 0)).toNat)) := by
  refine (broadcastInDim_apply _ _ _ _ (ix2 r 0) fun a => ?_).trans ((broadcastInDim_apply _ _ _ _ (ix1 r) fun a => ?_).trans ?_)
  · match a with
    | ⟨0, _⟩ => rfl
    | ⟨1, _⟩ => rfl
  · match a with
    | ⟨0, _⟩ => rfl
  · have e : shapeCast Cert.Reference2Ideal.S_ N shapeCasts_S1_S_ = fun _ => N (ix1 0) := by
      funext i
      unfold shapeCast
      exact congrArg N (funext fun a => by match a with | ⟨0, _⟩ => exact Subsingleton.elim (α := Fin 1) _ _)
    rw [e]
    show BitVec.ofBool (BitVec.slt (BitVec.ofNat 32 r.val) (N (ix1 0) * 256#32)) = _
    have hr := r.isLt
    have e1 : (BitVec.ofNat 32 r.val).toInt = r.val := by
      rw [BitVec.toInt_eq_toNat_of_lt (by rw [BitVec.toNat_ofNat]; omega), BitVec.toNat_ofNat, Nat.mod_eq_of_lt (by omega)]
    have e2 : (N (ix1 0) * 256#32).toNat = (N (ix1 0)).toNat * 256 := by
      rw [BitVec.toNat_mul, BitVec.toNat_ofNat, Nat.mod_eq_of_lt (a := 256) (by omega), Nat.mod_eq_of_lt (by omega)]
    have e3 : (N (ix1 0) * 256#32).toInt = ((N (ix1 0)).toNat * 256 : ℕ) := by
      rw [BitVec.toInt_eq_toNat_of_lt (by omega), e2]
    refine congrArg BitVec.ofBool ?_
    rw [BitVec.slt, e1, e3]
    refine decide_eq_decide.2 ?_
    omega

/-- The reference at a row and a column: the gated product of the row with its expert's matrices, or zero past the tiles in use. -/
theorem reference_apply (T : IVec Cert.Reference2Ideal.S164 32) (hT : ∀ j, (T j).toNat < 32) (N : IVec Cert.Reference2Ideal.S1 32) (hN : (N (ix1 0)).toNat ≤ 164)
    (X : IVec Cert.Reference2Ideal.S41984x512 32) (G U : FVec Ideal Cert.Reference2Ideal.S2x32x1024x512 .f32) (D : FVec Ideal Cert.Reference2Ideal.S2x32x512x1024 .f32)
    (r : Fin 41984) (d : Fin 1024) (e : Fin 32) (he : (T (ix1 (⟨r.val / 256, by omega⟩ : Fin 164))).toNat = e.val) :
    reference T N X G U D (ix2 r d) = if r.val / 256 < (N (ix1 0)).toNat then
      gated (halves fun k => X (ix2 r k)) (fun j f => G (ix4 1 e j f)) (fun j f => U (ix4 1 e j f)) (fun f d => D (ix4 1 e f d)) d else 0 := by
  unfold reference
  show Scalar.select (broadcastInDim (s := Cert.Reference2Ideal.S41984x1) Cert.Reference2Ideal.S41984x1024 ![0, 1] _ _ (ix2 r d)) (Host.dotGeneral (F := Ideal) _ _ _ _ (ix2 r d)) (broadcastInDim (s := Cert.Reference2Ideal.S_) Cert.Reference2Ideal.S41984x1024 ![] _ _ (ix2 r d)) = _
  rw [used_apply N hN r d]
  have hz : broadcastInDim Cert.Reference2Ideal.S41984x1024 ![] bcast_S_S41984x1024 (id (constant (F := Ideal) Cert.Reference2Ideal.S_ .f32 0x00000000#32)) (ix2 r d) = 0 :=
    Ideal.ofBits_zero_f32
  by_cases h : r.val / 256 < (N (ix1 0)).toNat
  · rw [if_pos h, decide_eq_true h]
    show Host.dotGeneral (F := Ideal) _ _ _ _ (ix2 r d) = _
    refine (rows_dot _ none _ _ r d).trans (Finset.sum_congr rfl fun f _ => ?_)
    refine congrArg₂ (fun x y : EReal => x * y) ?_ ?_
    · rw [← product_apply T hT X G r f e he, ← product_apply T hT X U r f e he]
      unfold gate
      rw [← denotes_one]
      rfl
    · refine (gather_matrix _ _ _ r f d e ?_).trans (layerOut_apply D _ f d)
      rw [expertIndex_apply T hT, he]
  · rw [if_neg h, decide_eq_false h]
    exact hz

end Row

/-! ## The kernel's array is the reference's -/

section Same

variable (m : (ℓ : Loc nD τ sig) → Buf (Elt Ideal) ℓ) (hR : InRange (expOf m) (cntOf m))

theorem resultOf_apply (c : Dev nD) (r : Fin 41984) (d : Fin 1024) :
    resultOf m hR c (ix2 r d) = if r.val / 256 < (count (cntOf m)).toNat then
      gated (halves fun k => (V m c main_arg2 : S41984x512.Idx → BitVec 32) (ix2 r k))
        (fun j f => (V m c main_arg3 : S2x32x1024x512.Idx → EReal) (ix4 1 (expertOf m hR ⟨r.val / 256, by omega⟩) j f))
        (fun j f => (V m c main_arg4 : S2x32x1024x512.Idx → EReal) (ix4 1 (expertOf m hR ⟨r.val / 256, by omega⟩) j f))
        (fun f d => (V m c main_arg5 : S2x32x512x1024.Idx → EReal) (ix4 1 (expertOf m hR ⟨r.val / 256, by omega⟩) f d)) d else 0 := by
  have hr := r.isLt
  have hN := N_0
  let t : Fin grid0.N := ⟨r.val / 256, by omega⟩
  have hc : (grid0.coords t 0).val = r.val / 256 := coord_val t
  show outTile (grid0.coords t) (cntOf m) (iblk m hR c 0 t) (k0_pay1 (iblk m hR c 1 t)) (k0_pay2 (iblk m hR c 2 t)) (k0_pay3 (iblk m hR c 3 t))
    (ix2 (⟨r.val % 256, Nat.mod_lt _ (by omega)⟩ : Fin 256) d) = _
  unfold outTile
  by_cases h : r.val / 256 < (count (cntOf m)).toNat
  · rw [if_pos h, if_pos ((cond2_iff _ _ hR.le).2 (hc.symm ▸ h))]
    refine (tile_apply _ _ _ _ _ d).trans ?_
    have eX : (fun k : Fin 512 => (iblk m hR c 0 t : S256x512.Idx → BitVec 32) (ix2 (⟨r.val % 256, Nat.mod_lt _ (by omega)⟩ : Fin 256) k))
        = fun k => (V m c main_arg2 : S41984x512.Idx → BitVec 32) (ix2 r k) := by
      funext k
      refine (iblk_rows m hR c t h _).trans (congrArg (V m c main_arg2 : S41984x512.Idx → BitVec 32) ?_)
      refine congrArg (fun q : Fin 41984 => (ix2 q k : S41984x512.Idx)) (Fin.ext ?_)
      show 256 * (r.val / 256) + r.val % 256 = r.val
      omega
    have e1 : (fun (j : Fin 1024) (f : Fin 512) => k0_pay1 (F := Ideal) (iblk m hR c 1 t) (ix2 j f))
        = fun j f => (V m c main_arg3 : S2x32x1024x512.Idx → EReal) (ix4 1 (expertOf m hR ⟨r.val / 256, by omega⟩) j f) := by
      funext j f
      exact (narrowed_in _ j f).trans (iblk_gate m hR c t _)
    have e2 : (fun (j : Fin 1024) (f : Fin 512) => k0_pay2 (F := Ideal) (iblk m hR c 2 t) (ix2 j f))
        = fun j f => (V m c main_arg4 : S2x32x1024x512.Idx → EReal) (ix4 1 (expertOf m hR ⟨r.val / 256, by omega⟩) j f) := by
      funext j f
      exact (narrowed_in _ j f).trans (iblk_up m hR c t _)
    have e3 : (fun (f : Fin 512) (d : Fin 1024) => k0_pay3 (F := Ideal) (iblk m hR c 3 t) (ix2 f d))
        = fun f d => (V m c main_arg5 : S2x32x512x1024.Idx → EReal) (ix4 1 (expertOf m hR ⟨r.val / 256, by omega⟩) f d) := by
      funext j f
      exact (narrowed_out _ j f).trans (iblk_down m hR c t _)
    rw [e1, e2, e3]
    exact congrArg (fun x => gated (halves x) _ _ _ d) eX
  · rw [if_neg h, if_neg (fun h' => h (hc ▸ (cond2_iff _ _ hR.le).1 h'))]
    exact Ideal.ofBits_zero_f32

theorem count_eq (N : Count (F := Ideal)) : count N = (N (ix1 0) : BitVec 32) :=
  congrArg N (funext fun a => by match a with | ⟨0, _⟩ => exact Subsingleton.elim (α := Fin 1) _ _)

/-- The kernel's array is the reference's array of the same arguments. -/
theorem same_values (c : Dev nD) :
    reference (V m c main_arg0) (V m c main_arg1) (V m c main_arg2) (V m c main_arg3) (V m c main_arg4) (V m c main_arg5) = resultOf m hR c := by
  have hT : ∀ j, ((V m c main_arg0 : S164.Idx → BitVec 32) j).toNat < 32 := by
    obtain rfl : c = 0 := Subsingleton.elim _ _
    exact hR.expert
  have hN : (V m c main_arg1 : S1.Idx → BitVec 32) (ix1 0) = count (cntOf m) := by
    obtain rfl : c = 0 := Subsingleton.elim _ _
    exact (count_eq (cntOf m)).symm
  funext i
  obtain ⟨r, d, rfl⟩ : ∃ (r : Fin 41984) (d : Fin 1024), i = ix2 r d := ⟨i 0, i 1, eq_ix2 i⟩
  refine Eq.trans ?_ (resultOf_apply m hR c r d).symm
  refine (reference_apply (V m c main_arg0) hT (V m c main_arg1) (hN ▸ hR.le) (V m c main_arg2) (V m c main_arg3) (V m c main_arg4) (V m c main_arg5)
    r d (expertOf m hR ⟨r.val / 256, by omega⟩) ?_).trans ?_
  · obtain rfl : c = 0 := Subsingleton.elim _ _
    rfl
  · rw [hN]

end Same

/-! ## The precondition -/

section Pre

variable {F : FTy → Type} [FloatOps F]

/-- The precondition says that every expert word is below 32 and that the count is between 1 and 164. -/
theorem range_of_pre (T : Experts (F := F)) (N : Count (F := F)) (X : IVec S41984x512 32) (G U : FVec F S2x32x1024x512 .f32) (D : FVec F S2x32x512x1024 .f32)
    (h : Cert.Pre_tables_in_range.fn (F := F) T N X G U D = fun _ => 1#1) : InRange T N := by
  have h0 := congrFun h ValueIdx.ix0
  unfold Cert.Pre_tables_in_range.fn at h0
  obtain ⟨ha, hb⟩ := both_set h0
  haveI : Subsingleton Cert.Pre_tables_in_range.S_.Idx := ⟨fun a b => funext fun k => k.elim0⟩
  have hn := Host.reduce_andi_all _ _ _ _ _ hb ((Rect.unit (s := S1) ![0] S1.size inb_S1_S1_0).emb only)
  obtain ⟨n1, n2⟩ := both_set hn
  have n1 := of_set (p := BitVec.sle 1#32 (count N)) n1
  have n2 := of_set (p := BitVec.sle (count N) 164#32) n2
  have hlt := (count N).isLt
  simp only [BitVec.sle, decide_eq_true_eq, BitVec.toInt, BitVec.toNat_ofNat] at n1 n2
  refine ⟨fun j => ?_, by omega, by omega⟩
  have e := Host.reduce_andi_all _ _ _ _ _ ha j
  obtain ⟨e1, e2⟩ := both_set e
  have e1 := of_set (p := BitVec.sle 0#32 (T j)) e1
  have e2 := of_set (p := BitVec.slt (T j) 32#32) e2
  have hj := (T j : BitVec 32).isLt
  simp only [BitVec.sle, BitVec.slt, decide_eq_true_eq, BitVec.toInt, BitVec.toNat_ofNat] at e1 e2
  omega

end Pre

end Cert.Kernel2Ideal.Hand
-- ==== Proof.FirstExpert.lean ====
/-
  The expert kernel's body: one grid point takes a tile of 256 packed rows and the three weight matrices of the tile's
  expert. It narrows the matrices into scratch when the expert differs from the point before, and writes either the gated
  product of the tile or, past the tiles in use, zeros. Here: the whole body, at
  any float instance.
  This is layer 0; Proof/Expert.lean is layer 1.
-/
module

public import proofs.«01_k».proof.Proof.Access
public import proofs.«01_k».proof.Proof.Gen.Kernel3Ideal.Skeleton
public import proofs.«01_k».proof.Proof.Gen.Kernel3Ideal.Launch
public import Idealize.ShloMosaic.Lib.Pipeline.Frame
public import Idealize.ShloMosaic.Lib.Pipeline.Kit
public import Idealize.ShloMosaic.Lib.Pipeline.FrameBody
public import Idealize.ShloMosaic.Lib.Pipeline.FrameValue
public import Idealize.ShloMosaic.Lib.Tactic
public import Idealize.ShloMosaic.Lib.Pipeline.ValueKit.Geometry
public import Idealize.ShloMosaic.Lib.ViewIndex
public import Idealize.ShloMosaic.Lib.ValueIdxCore

@[expose] public section

set_option maxRecDepth 16384

noncomputable section

namespace Cert.Kernel3Ideal.Hand

open Cert.Kernel3Ideal Cert.Kernel3Ideal.Gen
open Cert.Access (load_owned store_owned)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The program's resources. -/
local notation "𝕄" => MT nD τ sig Unit (Elt F) ℕ (UR sig nD τ) ℕ

/-! ## What one point does -/

/-- The expert words of the tiles, and the one word holding how many tiles are in use. -/
abbrev Experts := S164.Idx → Elt F .i32
abbrev Count := S1.Idx → Elt F .i32

/-- The one index of a one-element block. -/
abbrev only : S1.Idx := Shape.Idx.first (numel1_S1.symm ▸ Nat.one_pos)

/-- The point's expert, the expert of the point before it (its own at the first point), and the count. -/
abbrev cur (i : grid0.Coords) (T : Experts (F := F)) : BitVec 32 := T ((Rect.unit (s := S164) (k0_off1 i) S1.size (k0_off1_inb i)).emb only)
abbrev prev (i : grid0.Coords) (T : Experts (F := F)) : BitVec 32 := T ((Rect.unit (s := S164) (k0_off2 i) S1.size (k0_off2_inb i)).emb only)
abbrev count (N : Count (F := F)) : BitVec 32 := N ((Rect.unit (s := S1) ![0] S1.size inb_S1_S1_0).emb only)

/-- Whether the point narrows its weights into scratch: at the first point, and where the expert changes. -/
abbrev fresh (i : grid0.Coords) (T : Experts (F := F)) : BitVec 1 :=
  Scalar.cmpi .ne (Scalar.extui (Scalar.ori (Scalar.cmpi .eq (BitVec.ofNat 32 (i 0).val) 0#32) (Scalar.cmpi .ne (cur i T) (prev i T))) : BitVec 32) 0#32

/-- The upper and the lower half of a narrowed matrix. -/
def upper (G : S1024x512.Idx → Elt F .bf16) : S512x512.Idx → Elt F .bf16 :=
  fun y => G ((Rect.unit (s := S1024x512) ![0, 0] S512x512.size inb_S1024x512_S512x512_0_0).emb y)
def lower (G : S1024x512.Idx → Elt F .bf16) : S512x512.Idx → Elt F .bf16 :=
  fun y => G ((Rect.unit (s := S1024x512) ![512, 0] S512x512.size inb_S1024x512_S512x512_512_0).emb y)

/-- The gated product of a tile of packed rows `X` under the narrowed matrices. -/
def tile (X : S256x512.Idx → Elt F .i32) (G U : S1024x512.Idx → Elt F .bf16) (D : S512x1024.Idx → Elt F .bf16) : S256x1024.Idx → Elt F .f32 :=
  k0_pay4 X (upper G) (lower G) (upper U) (lower U) D

theorem emb_own {s : Shape} {off : Fin s.rank → ℕ} (inb : ∀ a, off a + s.size a ≤ s.size a) (y : s.Idx) :
    (Rect.unit off s.size inb).emb y = y := by
  funext a
  apply Fin.ext
  have := inb a
  rw [rect_emb_unit_val]; omega

theorem read_own {s : Shape} {β : Type} {off : Fin s.rank → ℕ} (inb : ∀ a, off a + s.size a ≤ s.size a) (X : s.Idx → β) :
    (fun y => X ((Rect.unit off s.size inb).emb y)) = X := funext fun y => congrArg X (emb_own inb y)

section Body

variable (c : Dev nD) (i : grid0.Coords)
variable (arg1 : Memref sig .tc .smem S164 .i32) (harg1 : arg1.IsWhole) (arg2 : Memref sig .tc .smem S1 .i32) (harg2 : arg2.IsWhole)
  (arg3 : Memref sig .tc .vmem S256x512 .i32) (harg3 : arg3.IsWhole) (arg4 : Memref sig .tc .vmem S1x1x1024x512 .f32) (harg4 : arg4.IsWhole)
  (arg5 : Memref sig .tc .vmem S1x1x1024x512 .f32) (harg5 : arg5.IsWhole) (arg6 : Memref sig .tc .vmem S1x1x512x1024 .f32) (harg6 : arg6.IsWhole)
  (arg7 : Memref sig .tc .vmem S256x1024 .f32) (harg7 : arg7.IsWhole) (arg8 : Memref sig .tc .vmem S1024x512 .bf16) (harg8 : arg8.IsWhole)
  (arg9 : Memref sig .tc .vmem S1024x512 .bf16) (harg9 : arg9.IsWhole) (arg10 : Memref sig .tc .vmem S512x1024 .bf16) (harg10 : arg10.IsWhole)

/-- What a point holds: its tables, its tile, its weights, its result tile and the scratch. -/
def holds (q : PosShare TreeShare) (T : Experts (F := F)) (N : Count (F := F)) (X : S256x512.Idx → Elt F .i32) (Wg Wu : S1x1x1024x512.Idx → Elt F .f32)
    (Wd : S1x1x512x1024.Idx → Elt F .f32) (Y : S256x1024.Idx → Elt F .f32) (G U : S1024x512.Idx → Elt F .bf16) (D : S512x1024.Idx → Elt F .bf16) : sProp 𝕄 :=
  iprop(owns (c : Thread nD τ) arg1 q T ∗ owns (c : Thread nD τ) arg2 q N ∗ owns (c : Thread nD τ) arg3 fullShare X
    ∗ owns (c : Thread nD τ) arg4 fullShare Wg ∗ owns (c : Thread nD τ) arg5 fullShare Wu ∗ owns (c : Thread nD τ) arg6 fullShare Wd
    ∗ owns (c : Thread nD τ) arg7 fullShare Y ∗ owns (c : Thread nD τ) arg8 fullShare G ∗ owns (c : Thread nD τ) arg9 fullShare U
    ∗ owns (c : Thread nD τ) arg10 fullShare D)

/-- The result tile, from the tile's rows and the matrices in scratch: the gated product if the tile is in use, zeros if not. -/
def outTile (N : Count (F := F)) (X : S256x512.Idx → Elt F .i32) (G U : S1024x512.Idx → Elt F .bf16) (D : S512x1024.Idx → Elt F .bf16) : S256x1024.Idx → Elt F .f32 :=
  if k0_cond2 i (count N) = 1#1 then tile X G U D else k0_pay5 (F := F)

/-- One run of the body: the scratch is refilled from the point's weights where the expert is fresh, and the result tile is
    written from the scratch. -/
theorem body_run (q : PosShare TreeShare) (T : Experts (F := F)) (N : Count (F := F)) (X : S256x512.Idx → Elt F .i32) (Wg Wu : S1x1x1024x512.Idx → Elt F .f32)
    (Wd : S1x1x512x1024.Idx → Elt F .f32) (Y : S256x1024.Idx → Elt F .f32) (G U : S1024x512.Idx → Elt F .bf16) (D : S512x1024.Idx → Elt F .bf16)
    (G' U' : S1024x512.Idx → Elt F .bf16) (D' : S512x1024.Idx → Elt F .bf16)
    (hG : G' = if fresh i T = 1#1 then k0_pay1 Wg else G) (hU : U' = if fresh i T = 1#1 then k0_pay2 Wu else U)
    (hD : D' = if fresh i T = 1#1 then k0_pay3 Wd else D)
    (h3 : k0_cond3 i (count N) = 1#1 ↔ ¬ k0_cond2 i (count N) = 1#1) :
    holds c arg1 arg2 arg3 arg4 arg5 arg6 arg7 arg8 arg9 arg10 q T N X Wg Wu Wd Y G U D
      ⊢ wp frame (wpE (defs₀ (F := F)) Variants.none (c : Thread nD τ) none) Set.univ
        (cc0_experts i arg1 harg1 arg2 harg2 arg3 harg3 arg4 harg4 arg5 harg5 arg6 harg6 arg7 harg7 arg8 harg8 arg9 harg9 arg10 harg10)
        (fun _ => holds c arg1 arg2 arg3 arg4 arg5 arg6 arg7 arg8 arg9 arg10 q T N X Wg Wu Wd (outTile i N X G' U' D') G' U' D') := by
  rw [cc0_experts_eq_skeleton]
  unfold cc0_experts_skel holds
  simp only [smemLoad, smemLoadElt, Prog.lift, Prog.bind_op, Prog.bind_ret, Prog.pure_eq_ret, Prog.bind_assoc]
  iintro ⟨H1, H2, H3, H4, H5, H6, H7, H8, H9, H10⟩
  iapply (load_owned c arg1 (Rect.unit (s := S164) (k0_off2 i) S1.size (k0_off2_inb i)) q T) $$ H1
  iintro H1
  iapply (load_owned c arg1 (Rect.unit (s := S164) (k0_off1 i) S1.size (k0_off1_inb i)) q T) $$ H1
  iintro H1
  by_cases hf : fresh i T = 1#1
  rw [if_pos hf] at hG hU hD
  rw [if_pos hf]
  simp only [Prog.bind_op, Prog.bind_ret, Prog.bind_assoc]
  iapply (load_owned c arg4 _ fullShare Wg) $$ H4
  iintro H4
  iapply (load_owned c arg8 _ fullShare G) $$ H8
  iintro H8
  iapply (store_owned c arg8 inb_S1024x512_S1024x512_0_0 _ G) $$ H8
  iintro H8
  rw [read_own inb_S1x1x1024x512_S1x1x1024x512_0_0_0_0 Wg]
  iapply (load_owned c arg5 _ fullShare Wu) $$ H5
  iintro H5
  iapply (load_owned c arg9 _ fullShare U) $$ H9
  iintro H9
  iapply (store_owned c arg9 inb_S1024x512_S1024x512_0_0 _ U) $$ H9
  iintro H9
  rw [read_own inb_S1x1x1024x512_S1x1x1024x512_0_0_0_0 Wu]
  iapply (load_owned c arg6 _ fullShare Wd) $$ H6
  iintro H6
  iapply (load_owned c arg10 _ fullShare D) $$ H10
  iintro H10
  iapply (store_owned c arg10 inb_S512x1024_S512x1024_0_0 _ D) $$ H10
  iintro H10
  rw [read_own inb_S1x1x512x1024_S1x1x512x1024_0_0_0_0 Wd]
  rw [← hG, ← hU, ← hD]
  rotate_left
  rw [if_neg hf] at hG hU hD
  rw [if_neg hf]
  simp only [Prog.bind_op, Prog.bind_ret, Prog.bind_assoc]
  rw [← hG, ← hU, ← hD]
  all_goals
    iapply (load_owned c arg2 (Rect.unit (s := S1) ![0] S1.size inb_S1_S1_0) q N) $$ H2
    iintro H2
    unfold outTile
    by_cases hu : k0_cond2 i (count N) = 1#1
    · rw [dif_pos hu, if_pos hu]
      simp only [Prog.bind_op, Prog.bind_ret, Prog.bind_assoc]
      iapply (load_owned c arg3 _ fullShare X) $$ H3
      iintro H3
      iapply (load_owned c arg8 _ fullShare G') $$ H8
      iintro H8
      iapply (load_owned c arg8 _ fullShare G') $$ H8
      iintro H8
      iapply (load_owned c arg9 _ fullShare U') $$ H9
      iintro H9
      iapply (load_owned c arg9 _ fullShare U') $$ H9
      iintro H9
      iapply (load_owned c arg10 _ fullShare D') $$ H10
      iintro H10
      iapply (load_owned c arg7 _ fullShare Y) $$ H7
      iintro H7
      iapply (store_owned c arg7 inb_S256x1024_S256x1024_0_0 _ Y) $$ H7
      iintro H7
      rw [read_own inb_S256x512_S256x512_0_0 X, read_own inb_S512x1024_S512x1024_0_0 D']
      rw [dif_neg (fun h => h3.mp h hu)]
      sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [dif_neg hu, if_neg hu]
      rw [dif_pos (h3.mpr hu)]
      iapply (load_owned c arg7 _ fullShare Y) $$ H7
      iintro H7
      iapply (store_owned c arg7 inb_S256x1024_S256x1024_0_0 _ Y) $$ H7
      iintro H7
      sl_step
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

end Body

end Cert.Kernel3Ideal.Hand
-- ==== Proof.FirstExpertWords.lean ====
/-
  The words that a point of the expert program reads: its tile's expert, the expert of the tile before, and the count of
  tiles in use; when they send the body through each of its branches, and the blocks that they name.
  This is layer 0; Proof/ExpertWords.lean is layer 1.
-/
module

public import proofs.«01_k».proof.Proof.FirstExpert
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The words of a point -/

/-- The expert words name experts, and the count is of some tiles and of no more than there are. -/
structure InRange (T : Experts (F := F)) (N : Count (F := F)) : Prop where
  expert : ∀ j, (T j : BitVec 32).toNat < 32
  pos : 1 ≤ (count N).toNat
  le : (count N).toNat ≤ 164

theorem word_of_point : ∀ n : Fin 164, (Scalar.indexCast (BitVec.ofNat 32 n.val)).toNat = n.val := by decide +kernel
theorem word_before : ∀ n : Fin 164, (Scalar.indexCast (Scalar.maxsi (Scalar.subi (BitVec.ofNat 32 n.val) 1#32) 0#32)).toNat = n.val - 1 := by
  decide +kernel
theorem min_words : ∀ n k : Fin 164, (Scalar.minsi (BitVec.ofNat 32 n.val) (Scalar.subi (BitVec.ofNat 32 (k.val + 1)) 1#32)).toNat = min n.val k.val := by
  decide +kernel
theorem first_word : ∀ n : Fin 164, Scalar.cmpi .eq (BitVec.ofNat 32 n.val) 0#32 = BitVec.ofBool (decide (n.val = 0)) := by decide +kernel

theorem off1_eq (i : grid0.Coords) : k0_off1 i = ![(i 0).val] := congrArg (fun n => ![n]) (word_of_point (i 0))
theorem off2_eq (i : grid0.Coords) : k0_off2 i = ![(i 0).val - 1] := congrArg (fun n => ![n]) (word_before (i 0))

theorem only_val : (only 0 : Fin 1).val = 0 := by have : (only 0 : Fin 1).val < 1 := (only 0).isLt; omega

theorem cur_eq (i : grid0.Coords) (T : Experts (F := F)) : cur i T = T (ix1 (n := 164) (i 0)) := by
  refine congrArg T ?_
  funext a
  match a with
  | ⟨0, _⟩ =>
    refine Fin.ext ((rect_emb_unit_val (s := S164) (k0_off1 i) S1.size (k0_off1_inb i) only 0).trans ?_)
    have h1 : k0_off1 i 0 = (i 0).val := congrFun (off1_eq i) 0
    have h2 := only_val
    show k0_off1 i 0 + (only 0 : Fin 1).val = (i 0).val
    omega

theorem prev_eq (i : grid0.Coords) (T : Experts (F := F)) (n : Fin 164) (hn : n.val = (i 0).val - 1) : prev i T = T (ix1 (n := 164) n) := by
  refine congrArg T ?_
  funext a
  match a with
  | ⟨0, _⟩ =>
    refine Fin.ext ((rect_emb_unit_val (s := S164) (k0_off2 i) S1.size (k0_off2_inb i) only 0).trans ?_)
    have h1 : k0_off2 i 0 = (i 0).val - 1 := congrFun (off2_eq i) 0
    have h2 := only_val
    show k0_off2 i 0 + (only 0 : Fin 1).val = n.val
    omega

theorem bit_cases : ∀ a b : BitVec 1, Scalar.cmpi .ne (Scalar.extui (Scalar.ori a b) : BitVec 32) 0#32 = 1#1 ↔ a = 1#1 ∨ b = 1#1 := by decide +kernel
theorem bit_not : ∀ a : BitVec 1, Scalar.cmpi .ne (Scalar.extui (Scalar.xori a 1#1) : BitVec 32) 0#32 = 1#1
    ↔ ¬ Scalar.cmpi .ne (Scalar.extui a : BitVec 32) 0#32 = 1#1 := by decide +kernel
theorem bit_self : ∀ a : BitVec 1, Scalar.cmpi .ne (Scalar.extui a : BitVec 32) 0#32 = a := by decide +kernel

/-- Of the two ends of a point exactly one runs. -/
theorem cond3_iff (i : grid0.Coords) (w : BitVec 32) : k0_cond3 i w = 1#1 ↔ ¬ k0_cond2 i w = 1#1 := bit_not _

/-- A point is fresh when it is the first or its expert differs from the one before. -/
theorem fresh_iff (i : grid0.Coords) (T : Experts (F := F)) : fresh i T = 1#1 ↔ (i 0).val = 0 ∨ cur i T ≠ prev i T := by
  refine (bit_cases _ _).trans ?_
  refine or_congr ?_ ?_
  · rw [first_word (i 0)]
    by_cases h : (i 0).val = 0 <;> simp [h]
  · exact IntOp.cmpi_ne (x := (cur i T : BitVec 32)) (y := (prev i T : BitVec 32))

/-- A tile is in use when it is below the count. -/
theorem cond2_iff (i : grid0.Coords) (w : BitVec 32) (hw : w.toNat ≤ 164) : k0_cond2 i w = 1#1 ↔ (i 0).val < w.toNat := by
  have hi : (i 0).val < 164 := (i 0).isLt
  have e : BitVec.ofNat 32 w.toNat = w := by simp
  show Scalar.cmpi .ne (Scalar.extui (Scalar.cmpi .slt (BitVec.ofNat 32 (i 0).val) w) : BitVec 32) 0#32 = 1#1 ↔ _
  rw [bit_self]
  unfold Scalar.cmpi
  conv_lhs => rw [← e]
  exact WordCmp.cmpi_slt_ofNat_eq_one_iff (by omega) (by omega)

/-! ## The index maps at the tables -/

theorem map0 (pf : pre0.Contents (Elt F)) (i : grid0.Coords) : cc0_transform_0 inb_S1_S1_0 numel1_S1 pf i
    = ![(Scalar.minsi (BitVec.ofNat 32 (i 0).val) (Scalar.subi (count (pf 1)) 1#32)).toNat, 0] := rfl
theorem map1 (pf : pre0.Contents (Elt F)) (i : grid0.Coords) : cc0_transform_1 k0_off1_inb numel1_S1 pf i = ![0, (cur i (pf 0)).toNat, 0, 0] := rfl
theorem map2 (pf : pre0.Contents (Elt F)) (i : grid0.Coords) : cc0_transform_2 k0_off1_inb numel1_S1 pf i = ![0, (cur i (pf 0)).toNat, 0, 0] := rfl
theorem map3 (pf : pre0.Contents (Elt F)) (i : grid0.Coords) : cc0_transform_3 k0_off1_inb numel1_S1 pf i = ![0, (cur i (pf 0)).toNat, 0, 0] := rfl

theorem min_eq (i : grid0.Coords) (w : BitVec 32) (h1 : 1 ≤ w.toNat) (h2 : w.toNat ≤ 164) :
    (Scalar.minsi (BitVec.ofNat 32 (i 0).val) (Scalar.subi w 1#32)).toNat = min (i 0).val (w.toNat - 1) := by
  have h := min_words (i 0) ⟨w.toNat - 1, by omega⟩
  have e : BitVec.ofNat 32 (w.toNat - 1 + 1) = w := by rw [Nat.sub_add_cancel h1]; simp
  rw [show (⟨w.toNat - 1, by omega⟩ : Fin 164).val = w.toNat - 1 from rfl, e] at h
  exact h

/-- Tables in range keep every block inside its array. -/
theorem ok_of (pf : pre0.Contents (Elt F)) (h : InRange (pf 0) (pf 1)) : ok0 pf := by
  have he : ∀ i : grid0.Coords, (cur i (pf 0)).toNat < 32 := fun i => h.expert _
  have h1 := h.pos
  have h2 := h.le
  refine ⟨fun i => ⟨fun a => ?_, .inl rfl⟩, fun i => ⟨fun a => ?_, .inl rfl⟩, fun i => ⟨fun a => ?_, .inl rfl⟩, fun i => ⟨fun a => ?_, .inl rfl⟩⟩
  · have hi : (i 0).val < 164 := (i 0).isLt
    rw [map0, min_eq i _ h1 h2]
    match a with
    | ⟨0, _⟩ => show (min (i 0).val ((count (pf 1)).toNat - 1) + 1) * 256 ≤ 41984; omega
    | ⟨1, _⟩ => show (0 + 1) * 512 ≤ 512; omega
  · have := he i
    rw [map1]
    match a with
    | ⟨0, _⟩ => show (0 + 1) * 1 ≤ 2; omega
    | ⟨1, _⟩ => show ((cur i (pf 0)).toNat + 1) * 1 ≤ 32; omega
    | ⟨2, _⟩ => show (0 + 1) * 1024 ≤ 1024; omega
    | ⟨3, _⟩ => show (0 + 1) * 512 ≤ 512; omega
  · have := he i
    rw [map2]
    match a with
    | ⟨0, _⟩ => show (0 + 1) * 1 ≤ 2; omega
    | ⟨1, _⟩ => show ((cur i (pf 0)).toNat + 1) * 1 ≤ 32; omega
    | ⟨2, _⟩ => show (0 + 1) * 1024 ≤ 1024; omega
    | ⟨3, _⟩ => show (0 + 1) * 512 ≤ 512; omega
  · have := he i
    rw [map3]
    match a with
    | ⟨0, _⟩ => show (0 + 1) * 1 ≤ 2; omega
    | ⟨1, _⟩ => show ((cur i (pf 0)).toNat + 1) * 1 ≤ 32; omega
    | ⟨2, _⟩ => show (0 + 1) * 512 ≤ 512; omega
    | ⟨3, _⟩ => show (0 + 1) * 1024 ≤ 1024; omega

end Cert.Kernel3Ideal.Hand
-- ==== Proof.FirstExpertRun.lean ====
/-
  The expert program's run, at any float instance, for expert words below 32 and a count of tiles in use from 1 to 164:
  which blocks the windows stage at a point, what is in scratch between points, and the run of the whole program to a state
  with the arguments unchanged, every semaphore at zero and the result at its tiles' values.
  This is layer 0; Proof/ExpertRun.lean is layer 1.
-/
module

public import proofs.«01_k».proof.Proof.FirstExpertWords

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The launch's data -/

variable (m : (ℓ : Loc nD τ sig) → Buf (Elt F) ℓ) (ρ : Dev nD → PrngReg)

/-- What the buffers hold at launch. -/
abbrev V (c : Dev nD) (b : Ref sig .tc) : Buf (Elt F) ((c : Thread nD τ).loc b) := m ((c : Thread nD τ).loc b)

/-- The two tables' contents. -/
def tbl : pre0.Contents (Elt F) := fun j => V m (0 : Dev nD) (pre0.ref j)
theorem V_pre (c : Dev nD) (j : Fin 2) : V m c (pre0.ref j) = tbl m j := by obtain rfl : c = 0 := Subsingleton.elim _ _; rfl

/-- The expert words and the count as launched. -/
abbrev expOf : Experts (F := F) := tbl m 0
abbrev cntOf : Count (F := F) := tbl m 1

variable (hR : InRange (expOf m) (cntOf m))

/-- The tables, admissible. -/
abbrev adm : (pcfg0 (F := F)).Adm := ⟨tbl m, ok_of (tbl m) hR⟩
/-- The pipeline at the tables. -/
abbrev cfgM : Pipeline.Cfg sig Λ₀ := cfg0 (adm m hR)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main (fun _ => rfl)

/-- Window `w`'s block of its array at point `t`, as launched. -/
abbrev iblk (c : Dev nD) (w : Fin 5) (t : Fin grid0.N) : ((cfgM m hR).win w).block.Idx → Elt F ((cfgM m hR).win w).elt :=
  (((cfgM m hR).win w).blk t).view.read (Elt F) (V m c (Pipeline.arrRef spec0 w))

theorem coord_val : ∀ t : Fin grid0.N, (grid0.coords t 0).val = t.val := by decide +kernel
theorem point_lt (t : Fin grid0.N) : t.val < 164 := Nat.lt_of_lt_of_eq t.isLt N_0

/-- The expert of tile `n`. -/
def expertOf (n : Fin 164) : Fin 32 := ⟨(expOf m (ix1 (n := 164) n) : BitVec 32).toNat, hR.expert _⟩

theorem cur_point (t : Fin grid0.N) : (cur (grid0.coords t) (expOf m)).toNat = (expertOf m hR ⟨t.val, point_lt t⟩).val := by
  rw [cur_eq]
  unfold expertOf
  congr 3
  exact Fin.ext (coord_val t)

theorem index0 (t : Fin grid0.N) : ((cfgM m hR).win 0).index t = ![min t.val ((count (cntOf m)).toNat - 1), 0] := by
  have h := min_eq (grid0.coords t) (count (cntOf m)) hR.pos hR.le
  rw [coord_val] at h
  rw [← h, ← coord_val t]
  exact map0 (tbl m) (grid0.coords t)

theorem index1 (t : Fin grid0.N) : ((cfgM m hR).win 1).index t = ![0, (expertOf m hR ⟨t.val, point_lt t⟩).val, 0, 0] := by
  rw [← cur_point]; exact map1 (tbl m) (grid0.coords t)
theorem index2 (t : Fin grid0.N) : ((cfgM m hR).win 2).index t = ![0, (expertOf m hR ⟨t.val, point_lt t⟩).val, 0, 0] := by
  rw [← cur_point]; exact map2 (tbl m) (grid0.coords t)
theorem index3 (t : Fin grid0.N) : ((cfgM m hR).win 3).index t = ![0, (expertOf m hR ⟨t.val, point_lt t⟩).val, 0, 0] := by
  rw [← cur_point]; exact map3 (tbl m) (grid0.coords t)
theorem map4 : ∀ t : Fin grid0.N, cc0_transform_4 (grid0.coords t) = ![t.val, 0] := by decide +kernel
theorem index4 (t : Fin grid0.N) : ((cfgM m hR).win 4).index t = ![t.val, 0] := map4 t

theorem place {n k v : ℕ} (e : n = 0) : n * k + v = v := by rw [e, Nat.zero_mul, Nat.zero_add]
theorem place_at {n k v p : ℕ} (e : n = p) : n * k + v = k * p + v := by rw [e, Nat.mul_comm]

/-- A tile in use takes rows `256 t` to `256 t + 255`. -/
theorem iblk_rows (c : Dev nD) (t : Fin grid0.N) (ht : t.val < (count (cntOf m)).toNat) (y : S256x512.Idx) :
    (iblk m hR c 0 t : S256x512.Idx → Elt F .i32) y
      = (V m c main_arg2 : S41984x512.Idx → Elt F .i32)
        (ix2 ⟨256 * t.val + (y 0).val, by have := point_lt t; have : (y 0).val < 256 := (y 0).isLt; omega⟩ (y 1)) := by
  unfold iblk
  rw [View.read_apply, cast_eq]
  refine congrArg (V m c main_arg2) ?_
  funext a
  apply Fin.ext
  match a with
  | ⟨0, _⟩ => blk_simp; exact place_at ((congrFun (index0 m hR t) (0 : Fin 2)).trans (Nat.min_eq_left (by omega)))
  | ⟨1, _⟩ => blk_simp; exact place (congrFun (index0 m hR t) (1 : Fin 2))

/-- Point `t`'s gate matrix is the first layer's gate matrix of the tile's expert. -/
theorem iblk_gate (c : Dev nD) (t : Fin grid0.N) (y : S1x1x1024x512.Idx) :
    (iblk m hR c 1 t : S1x1x1024x512.Idx → Elt F .f32) y
      = (V m c main_arg3 : S2x32x1024x512.Idx → Elt F .f32) (ix4 0 (expertOf m hR ⟨t.val, point_lt t⟩) (y 2) (y 3)) := by
  unfold iblk
  rw [View.read_apply, cast_eq]
  refine congrArg (V m c main_arg3) ?_
  funext a
  apply Fin.ext
  match a with
  | ⟨0, _⟩ => blk_simp; exact congrFun (index1 m hR t) (0 : Fin 4)
  | ⟨1, _⟩ => blk_simp; exact congrFun (index1 m hR t) (1 : Fin 4)
  | ⟨2, _⟩ => blk_simp; exact place (congrFun (index1 m hR t) (2 : Fin 4))
  | ⟨3, _⟩ => blk_simp; exact place (congrFun (index1 m hR t) (3 : Fin 4))

/-- Point `t`'s up matrix is the first layer's up matrix of the tile's expert. -/
theorem iblk_up (c : Dev nD) (t : Fin grid0.N) (y : S1x1x1024x512.Idx) :
    (iblk m hR c 2 t : S1x1x1024x512.Idx → Elt F .f32) y
      = (V m c main_arg4 : S2x32x1024x512.Idx → Elt F .f32) (ix4 0 (expertOf m hR ⟨t.val, point_lt t⟩) (y 2) (y 3)) := by
  unfold iblk
  rw [View.read_apply, cast_eq]
  refine congrArg (V m c main_arg4) ?_
  funext a
  apply Fin.ext
  match a with
  | ⟨0, _⟩ => blk_simp; exact congrFun (index2 m hR t) (0 : Fin 4)
  | ⟨1, _⟩ => blk_simp; exact congrFun (index2 m hR t) (1 : Fin 4)
  | ⟨2, _⟩ => blk_simp; exact place (congrFun (index2 m hR t) (2 : Fin 4))
  | ⟨3, _⟩ => blk_simp; exact place (congrFun (index2 m hR t) (3 : Fin 4))

/-- Point `t`'s down matrix is the first layer's down matrix of the tile's expert. -/
theorem iblk_down (c : Dev nD) (t : Fin grid0.N) (y : S1x1x512x1024.Idx) :
    (iblk m hR c 3 t : S1x1x512x1024.Idx → Elt F .f32) y
      = (V m c main_arg5 : S2x32x512x1024.Idx → Elt F .f32) (ix4 0 (expertOf m hR ⟨t.val, point_lt t⟩) (y 2) (y 3)) := by
  unfold iblk
  rw [View.read_apply, cast_eq]
  refine congrArg (V m c main_arg5) ?_
  funext a
  apply Fin.ext
  match a with
  | ⟨0, _⟩ => blk_simp; exact congrFun (index3 m hR t) (0 : Fin 4)
  | ⟨1, _⟩ => blk_simp; exact congrFun (index3 m hR t) (1 : Fin 4)
  | ⟨2, _⟩ => blk_simp; exact place (congrFun (index3 m hR t) (2 : Fin 4))
  | ⟨3, _⟩ => blk_simp; exact place (congrFun (index3 m hR t) (3 : Fin 4))

/-- Two points with the same expert stage the same matrices. -/
theorem iblk_same (c : Dev nD) (t s : Fin grid0.N) (h : expertOf m hR ⟨t.val, point_lt t⟩ = expertOf m hR ⟨s.val, point_lt s⟩) :
    (iblk m hR c 1 t : S1x1x1024x512.Idx → Elt F .f32) = iblk m hR c 1 s ∧ (iblk m hR c 2 t : S1x1x1024x512.Idx → Elt F .f32) = iblk m hR c 2 s
      ∧ (iblk m hR c 3 t : S1x1x512x1024.Idx → Elt F .f32) = iblk m hR c 3 s :=
  ⟨funext fun y => by rw [iblk_gate, iblk_gate, h], funext fun y => by rw [iblk_up, iblk_up, h], funext fun y => by rw [iblk_down, iblk_down, h]⟩

/-! ## The proof data -/

/-- What scratch holds after point `t`: the point's matrices, rounded. -/
def Held (c : Dev nD) (n : ℕ) (G U : S1024x512.Idx → Elt F .bf16) (D : S512x1024.Idx → Elt F .bf16) : Prop :=
  ∀ t : Fin grid0.N, t.val + 1 = n → G = k0_pay1 (iblk m hR c 1 t) ∧ U = k0_pay2 (iblk m hR c 2 t) ∧ D = k0_pay3 (iblk m hR c 3 t)

/-- Between points: scratch at the matrices of the point before, the tables as launched. -/
def Inv (c : Dev nD) (n : ℕ) : sProp 𝕄 :=
  iprop((∃ G U D, ⌜Held m hR c n G U D⌝ ∗ owns (c : Thread nD τ) (Memref.whole cc0_scratch0) fullShare G
      ∗ owns (c : Thread nD τ) (Memref.whole cc0_scratch1) fullShare U ∗ owns (c : Thread nD τ) (Memref.whole cc0_scratch2) fullShare D)
    ∗ (∃ r, prngReg c r) ∗ owns (c : Thread nD τ) (Memref.whole main_arg0) fullShare.right (expOf m)
    ∗ owns (c : Thread nD τ) (Memref.whole main_arg1) fullShare.right (cntOf m))

/-- The result tile of point `t`. -/
def result (c : Dev nD) (t : Fin grid0.N) : S256x1024.Idx → Elt F .f32 :=
  outTile (grid0.coords t) (cntOf m) (iblk m hR c 0 t) (k0_pay1 (iblk m hR c 1 t)) (k0_pay2 (iblk m hR c 2 t)) (k0_pay3 (iblk m hR c 3 t))

def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => result m hR c t
  Φ t := Inv m hR c t.val
  q _ := fullShare
  owed _ := 0

theorem A_eq (c : Dev nD) (w : Fin (cfgM m hR).W) : (dats m hR 0 c).A w = V m c (Pipeline.arrRef spec0 w) := by
  dsimp only [dats]
theorem after0_0 (c : Dev nD) (t : Fin (cfgM m hR).N) : (dats m hR 0 c).after 0 t = iblk m hR c 0 t := rfl
theorem after0_1 (c : Dev nD) (t : Fin (cfgM m hR).N) : (dats m hR 0 c).after 1 t = iblk m hR c 1 t := rfl
theorem after0_2 (c : Dev nD) (t : Fin (cfgM m hR).N) : (dats m hR 0 c).after 2 t = iblk m hR c 2 t := rfl
theorem after0_3 (c : Dev nD) (t : Fin (cfgM m hR).N) : (dats m hR 0 c).after 3 t = iblk m hR c 3 t := rfl
theorem after0_4 (c : Dev nD) (t : Fin (cfgM m hR).N) : (dats m hR 0 c).after 4 t = result m hR c t := rfl

theorem found0 (c : Dev nD) (t : Fin (cfgM m hR).N) (d) : (dats m hR 0 c).before 0 t d = iblk m hR c 0 t :=
  ((dats m hR 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem found1 (c : Dev nD) (t : Fin (cfgM m hR).N) (d) : (dats m hR 0 c).before 1 t d = iblk m hR c 1 t :=
  ((dats m hR 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem found2 (c : Dev nD) (t : Fin (cfgM m hR).N) (d) : (dats m hR 0 c).before 2 t d = iblk m hR c 2 t :=
  ((dats m hR 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem found3 (c : Dev nD) (t : Fin (cfgM m hR).N) (d) : (dats m hR 0 c).before 3 t d = iblk m hR c 3 t :=
  ((dats m hR 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## One point -/

/-- What scratch holds after a point: refilled where the expert is fresh, else still the same expert's matrices. -/
theorem refill (c : Dev nD) (t : Fin grid0.N) (G U : S1024x512.Idx → Elt F .bf16) (D : S512x1024.Idx → Elt F .bf16) (h : Held m hR c t.val G U D) :
    k0_pay1 (iblk m hR c 1 t) = (if fresh (grid0.coords t) (expOf m) = 1#1 then k0_pay1 (iblk m hR c 1 t) else G)
    ∧ k0_pay2 (iblk m hR c 2 t) = (if fresh (grid0.coords t) (expOf m) = 1#1 then k0_pay2 (iblk m hR c 2 t) else U)
    ∧ k0_pay3 (iblk m hR c 3 t) = (if fresh (grid0.coords t) (expOf m) = 1#1 then k0_pay3 (iblk m hR c 3 t) else D) := by
  by_cases hf : fresh (grid0.coords t) (expOf m) = 1#1
  · exact ⟨(if_pos hf).symm, (if_pos hf).symm, (if_pos hf).symm⟩
  rw [if_neg hf, if_neg hf, if_neg hf]
  rw [fresh_iff, coord_val] at hf
  have ht : t.val ≠ 0 := fun e => hf (Or.inl e)
  have he : cur (grid0.coords t) (expOf m) = prev (grid0.coords t) (expOf m) := by
    by_contra e; exact hf (Or.inr e)
  have hl := point_lt t
  have hN := N_0
  let s : Fin grid0.N := ⟨t.val - 1, by omega⟩
  obtain ⟨hG, hU, hD⟩ := h s (by show t.val - 1 + 1 = t.val; omega)
  have hsame : expertOf m hR ⟨t.val, point_lt t⟩ = expertOf m hR ⟨s.val, point_lt s⟩ := by
    apply Fin.ext
    rw [← cur_point, he, prev_eq (grid0.coords t) (expOf m) ⟨s.val, point_lt s⟩ (by rw [coord_val])]
    rfl
  obtain ⟨e1, e2, e3⟩ := iblk_same m hR c t s hsame
  rw [e1, e2, e3]
  exact ⟨hG.symm, hU.symm, hD.symm⟩

/-- The body at point `t` on the point's staging buffers. -/
abbrev bodyAt (t : Fin (cfgM m hR).N) : Prog (TpuEff nD τ sig (Elt F) Λ₀ .tc) PUnit :=
  cc0_experts (grid0.coords t) (Memref.whole main_arg0) (Memref.isWhole_whole _) (Memref.whole main_arg1) (Memref.isWhole_whole _)
    (spec0_0.stage ((cfgM m hR).slots t 0)) (hstage0_0 (((cfgM m hR).slots t 0).cast nbuf0_0))
    (spec0_1.stage ((cfgM m hR).slots t 1)) (hstage0_1 (((cfgM m hR).slots t 1).cast nbuf0_1))
    (spec0_2.stage ((cfgM m hR).slots t 2)) (hstage0_2 (((cfgM m hR).slots t 2).cast nbuf0_2))
    (spec0_3.stage ((cfgM m hR).slots t 3)) (hstage0_3 (((cfgM m hR).slots t 3).cast nbuf0_3))
    (spec0_4.stage ((cfgM m hR).slots t 4)) (hstage0_4 (((cfgM m hR).slots t 4).cast nbuf0_4))
    (Memref.whole cc0_scratch0) (Memref.isWhole_whole _) (Memref.whole cc0_scratch1) (Memref.isWhole_whole _) (Memref.whole cc0_scratch2) (Memref.isWhole_whole _)

def bodyPre (c : Dev nD) (t : Fin (cfgM m hR).N) : sProp 𝕄 :=
  iprop((dats m hR 0 c).Φ t.castSucc ∗ (dats m hR 0 c).owesAt () t.castSucc
    ∗ (∃ d, owns (c : Thread nD τ) (spec0_0.stage ((cfgM m hR).slots t 0)) fullShare ((dats m hR 0 c).before 0 t d))
    ∗ (∃ d, owns (c : Thread nD τ) (spec0_1.stage ((cfgM m hR).slots t 1)) fullShare ((dats m hR 0 c).before 1 t d))
    ∗ (∃ d, owns (c : Thread nD τ) (spec0_2.stage ((cfgM m hR).slots t 2)) fullShare ((dats m hR 0 c).before 2 t d))
    ∗ (∃ d, owns (c : Thread nD τ) (spec0_3.stage ((cfgM m hR).slots t 3)) fullShare ((dats m hR 0 c).before 3 t d))
    ∗ (∃ d, owns (c : Thread nD τ) (spec0_4.stage ((cfgM m hR).slots t 4)) fullShare ((dats m hR 0 c).before 4 t d)))
def bodyPost (c : Dev nD) (t : Fin (cfgM m hR).N) : sProp 𝕄 :=
  iprop((dats m hR 0 c).Φ t.succ ∗ (dats m hR 0 c).owesAt () t.succ
    ∗ owns (c : Thread nD τ) (spec0_0.stage ((cfgM m hR).slots t 0)) fullShare ((dats m hR 0 c).after 0 t)
    ∗ owns (c : Thread nD τ) (spec0_1.stage ((cfgM m hR).slots t 1)) fullShare ((dats m hR 0 c).after 1 t)
    ∗ owns (c : Thread nD τ) (spec0_2.stage ((cfgM m hR).slots t 2)) fullShare ((dats m hR 0 c).after 2 t)
    ∗ owns (c : Thread nD τ) (spec0_3.stage ((cfgM m hR).slots t 3)) fullShare ((dats m hR 0 c).after 3 t)
    ∗ owns (c : Thread nD τ) (spec0_4.stage ((cfgM m hR).slots t 4)) fullShare ((dats m hR 0 c).after 4 t))

/-- What one run of the body leaves at point `t`. -/
def runPost (c : Dev nD) (t : Fin (cfgM m hR).N) : sProp 𝕄 :=
  holds c (Memref.whole main_arg0) (Memref.whole main_arg1) (spec0_0.stage ((cfgM m hR).slots t 0)) (spec0_1.stage ((cfgM m hR).slots t 1)) (spec0_2.stage ((cfgM m hR).slots t 2)) (spec0_3.stage ((cfgM m hR).slots t 3)) (spec0_4.stage ((cfgM m hR).slots t 4)) (Memref.whole cc0_scratch0) (Memref.whole cc0_scratch1) (Memref.whole cc0_scratch2)
    fullShare.right (expOf m) (cntOf m) (iblk m hR c 0 t) (iblk m hR c 1 t) (iblk m hR c 2 t) (iblk m hR c 3 t) (result m hR c t)
    (k0_pay1 (iblk m hR c 1 t)) (k0_pay2 (iblk m hR c 2 t)) (k0_pay3 (iblk m hR c 3 t))

theorem run_point (c : Dev nD) (t : Fin (cfgM m hR).N) (Y : S256x1024.Idx → Elt F .f32) (G U : S1024x512.Idx → Elt F .bf16) (D : S512x1024.Idx → Elt F .bf16)
    (h : Held m hR c t.val G U D) :
    holds c (Memref.whole main_arg0) (Memref.whole main_arg1) (spec0_0.stage ((cfgM m hR).slots t 0)) (spec0_1.stage ((cfgM m hR).slots t 1)) (spec0_2.stage ((cfgM m hR).slots t 2)) (spec0_3.stage ((cfgM m hR).slots t 3)) (spec0_4.stage ((cfgM m hR).slots t 4)) (Memref.whole cc0_scratch0) (Memref.whole cc0_scratch1) (Memref.whole cc0_scratch2)
      fullShare.right (expOf m) (cntOf m) (iblk m hR c 0 t) (iblk m hR c 1 t) (iblk m hR c 2 t) (iblk m hR c 3 t) Y G U D
      ⊢ wp frame (wpE (defs₀ (F := F)) Variants.none (c : Thread nD τ) none) Set.univ (bodyAt m hR t) (fun _ => runPost m hR c t) := by
  obtain ⟨hG, hU, hD⟩ := refill m hR c t G U D h
  exact body_run c (grid0.coords t) _ _ _ _ _ _ _ _ _ _ _ _ _ _ _ _ _ _ _ _ fullShare.right (expOf m) (cntOf m) (iblk m hR c 0 t) (iblk m hR c 1 t) (iblk m hR c 2 t) (iblk m hR c 3 t) Y G U D
    (k0_pay1 (iblk m hR c 1 t)) (k0_pay2 (iblk m hR c 2 t)) (k0_pay3 (iblk m hR c 3 t)) hG hU hD (cond3_iff _ _)

theorem held_succ (c : Dev nD) (t : Fin (cfgM m hR).N) : Held m hR c (t.val + 1) (k0_pay1 (iblk m hR c 1 t)) (k0_pay2 (iblk m hR c 2 t)) (k0_pay3 (iblk m hR c 3 t)) := by
  intro s hs
  obtain rfl : s = t := Fin.ext (by omega)
  exact ⟨rfl, rfl, rfl⟩

theorem leave_point (c : Dev nD) (t : Fin (cfgM m hR).N) (W : Waits sig Unit) :
    (iprop(wp frame (wpE (defs₀ (F := F)) Variants.none (c : Thread nD τ) none) Set.univ (bodyAt m hR t) (fun _ => runPost m hR c t)
      ∗ (∃ r, prngReg c r) ∗ owes (c : Thread nD τ) 0 W) : sProp 𝕄)
      ⊢ wp frame (wpE (defs₀ (F := F)) Variants.none (c : Thread nD τ) none) Set.univ (bodyAt m hR t) (fun _ => bodyPost m hR c t) := by
  refine BIBase.Entails.trans (wp_frame_r _ _ _) (wp_mono _ _ _ fun _ => ?_)
  unfold bodyPost runPost holds
  rw [show (dats m hR 0 c).Φ t.succ = Inv m hR c (t.val + 1) from rfl, after0_0, after0_1, after0_2, after0_3, after0_4]
  unfold Dat.owesAt Pipeline.owesWithin
  rw [show (dats m hR 0 c).owed t.succ = 0 from rfl]
  unfold Inv
  iintro ⟨⟨HT, HN, H0, H1, H2, H3, H4, HG, HU, HD⟩, Hg, HW⟩
  isplitl [HG HU HD Hg HT HN]
  · isplitl [HG HU HD]
    · iexists (k0_pay1 (iblk m hR c 1 t)); iexists (k0_pay2 (iblk m hR c 2 t)); iexists (k0_pay3 (iblk m hR c 3 t))
      isplitr; · ipureintro; exact held_succ m hR c t
      isplitl [HG]; · iexact HG
      isplitl [HU]; · iexact HU
      iexact HD
    isplitl [Hg]; · iexact Hg
    isplitl [HT]; · iexact HT
    iexact HN
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem sound_body (c : Dev nD) (t : Fin (cfgM m hR).N) :
    bodyPre m hR c t ⊢ wp frame (wpE (defs₀ (F := F)) Variants.none c none) Set.univ (bodyAt m hR t) (fun _ => bodyPost m hR c t) := by
  unfold bodyPre
  rw [show (dats m hR 0 c).Φ t.castSucc = Inv m hR c t.val from rfl]
  unfold Dat.owesAt Pipeline.owesWithin
  rw [show (dats m hR 0 c).owed t.castSucc = 0 from rfl]
  simp only [found0, found1, found2, found3]
  unfold Inv
  iintro ⟨⟨⟨%G, %U, %D, %hheld, HG, HU, HD⟩, Hg, HT, HN⟩, ⟨%W, -, HW⟩, ⟨%d0, H0⟩, ⟨%d1, H1⟩, ⟨%d2, H2⟩, ⟨%d3, H3⟩, ⟨%d4, H4⟩⟩
  iapply (leave_point m hR c t W)
  isplitl [HG HU HD HT HN H0 H1 H2 H3 H4]
  · iapply (run_point m hR c t _ G U D hheld)
    unfold holds
    isplitl [HT]; · iexact HT
    isplitl [HN]; · iexact HN
    isplitl [H0]; · iexact H0
    isplitl [H1]; · iexact H1
    isplitl [H2]; · iexact H2
    isplitl [H3]; · iexact H3
    isplitl [H4]; · iexact H4
    isplitl [HG]; · iexact HG
    isplitl [HU]; · iexact HU
    iexact HD
  · isplitl [Hg]; · iexact Hg
    iexact HW

theorem defs₀_row (t : Fin (cfgM m hR).N) :
    defs₀ (F := F) .tc (cfgM m hR).body ((cfgM m hR).bodyArgs t ((cfgM m hR).slots t)) = bodyAt m hR t := by
  unfold defs₀; rw [Defs.onTc_tc]

/-- No point leaves its result tile unwritten. -/
theorem never_idle (t : Fin (cfgM m hR).N) : (cfgM m hR).idle (4 : Fin 5) ((cfgM m hR).grid.coords t) = false := by
  show (!(k0_cond2 (grid0.coords t) ((tbl m).atD 1 ![0]) == 1#1) && !(k0_cond3 (grid0.coords t) ((tbl m).atD 1 ![0]) == 1#1)) = false
  have h := cond3_iff (grid0.coords t) ((tbl m).atD 1 ![0])
  by_cases h2 : k0_cond2 (grid0.coords t) ((tbl m).atD 1 ![0]) = 1#1
  · rw [h2]; rfl
  · rw [h.mpr h2]; simp

theorem body_obligation (c : Dev nD) : BodyObligation (dats (F := F) m hR 0 c) (defs₀ (F := F)) Variants.none () Set.univ := fun t => by
  rw [bigSep_W0, bigSep_W0, defs₀_row m hR t, never_idle m hR t]
  exact triple_restated (sound_body m hR c t) rfl .rfl fun _ => .rfl

/-! ## The run -/

theorem PhiT0_eq (c : Dev nD) : (Pipeline.ΦT pre0 (tbl m) c : sProp 𝕄)
    = iprop(owns (c : Thread nD τ) (Memref.whole main_arg0) fullShare.right (expOf m) ∗ owns (c : Thread nD τ) (Memref.whole main_arg1) fullShare.right (cntOf m)) := by
  unfold Pipeline.ΦT Pipeline.prefHeld
  rw [show (Finset.univ : Finset (Fin 2)) = insert (0 : Fin 2) {(1 : Fin 2)} from by decide, bigSep_insert (by decide), bigSep_singleton,
    owns_whole, owns_whole]
  rfl

theorem enter (c : Dev nD) : (iprop(Pipeline.ΦA (cfgM m hR).spec c ∗ Pipeline.ΦT pre0 (tbl m) c) : sProp 𝕄) ⊢ Inv m hR c 0 := by
  rw [PhiT0_eq]
  unfold Inv Pipeline.ΦA
  rw [show (Pipeline.scopedRest (cfgM m hR).spec c : sProp 𝕄) = Pipeline.scopedRest spec0 c from rfl, scopedRest0_eq]
  iintro ⟨⟨⟨⟨%G, HG⟩, ⟨%U, HU⟩, ⟨%D, HD⟩⟩, Hg⟩, HT, HN⟩
  isplitl [HG HU HD]
  · iexists G; iexists U; iexists D
    rw [owns_whole, owns_whole, owns_whole]
    isplitr; · ipureintro; exact fun t ht => absurd ht (Nat.succ_ne_zero _)
    isplitl [HG]; · iexact HG
    isplitl [HU]; · iexact HU
    iexact HD
  isplitl [Hg]; · iexact Hg
  isplitl [HT]; · iexact HT
  iexact HN

theorem exit (c : Dev nD) (n : ℕ) : (Inv m hR c n : sProp 𝕄) ⊢ Pipeline.ΦA (cfgM m hR).spec c := by
  unfold Inv Pipeline.ΦA
  rw [show (Pipeline.scopedRest (cfgM m hR).spec c : sProp 𝕄) = Pipeline.scopedRest spec0 c from rfl, scopedRest0_eq]
  simp only [owns_whole]
  iintro ⟨⟨%G, %U, %D, -, HG, HU, HD⟩, Hg, -, -⟩
  isplitl [HG HU HD]
  · isplitl [HG]; · iexists G; iexact HG
    isplitl [HU]; · iexists U; iexact HU
    iexists D; iexact HD
  iexact Hg

set_option backward.isDefEq.respectTransparency.types false in
theorem run_main : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP_track (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := enter m hR) (hout := fun c => exit m hR c _)

/-- The whole result: row `r` is row `r % 256` of tile `r / 256`. -/
def resultOf (c : Dev nD) : S41984x1024.Idx → Elt F .f32 := fun i =>
  result m hR c ⟨(i 0).val / 256, by have h : (i 0).val < 41984 := (i 0).isLt; have := N_0; omega⟩
    (ix2 ⟨(i 0).val % 256, Nat.mod_lt _ (by omega)⟩ (i 1))

theorem flushes4 : ∀ t : Fin grid0.N, Pipeline.Window.flushOf grid0 true cc0_transform_4 t = true := by decide +kernel
theorem flush4 (t : Fin (cfgM m hR).N) : ((cfgM m hR).win (4 : Fin 5)).flush t = true :=
  (Pipeline.Window.flush_eq_flushOf _ t).trans (flushes4 t)

theorem result_at (c : Dev nD) (t s : Fin grid0.N) (y x : S256x1024.Idx) (hs : s = t) (hx : x = y) : result m hR c t y = result m hR c s x := by
  rw [hs, hx]

theorem box_row {n v : ℕ} (e : n = v / 256) : n * 256 ≤ v ∧ v < n * 256 + 256 := by omega
theorem box_col {n v : ℕ} (e : n = 0) (h : v < 1024) : n * 1024 ≤ v ∧ v < n * 1024 + 1024 := by omega

theorem arr4 (c : Dev nD) : (dats m hR 0 c).arrAt (4 : Fin 5) (cfgM m hR).N = resultOf m hR c := by
  refine (dats m hR 0 c).arrAt_eq_of_emb (4 : Fin 5) (resultOf m hR c) (fun t hf y => ?_) (fun i => ?_)
  · have h0 : ((((cfgM m hR).win (4 : Fin 5)).blk t).view.emb y (0 : Fin 2)).val = 256 * t.val + (y (0 : Fin 2)).val := by
      blk_simp; exact place_at (congrFun (index4 m hR t) (0 : Fin 2))
    have h1 : ((((cfgM m hR).win (4 : Fin 5)).blk t).view.emb y (1 : Fin 2)).val = (y (1 : Fin 2)).val := by
      blk_simp; exact place (congrFun (index4 m hR t) (1 : Fin 2))
    have hy : (y (0 : Fin 2)).val < 256 := (y (0 : Fin 2)).isLt
    refine result_at m hR c t _ y _ (Fin.ext ?_) (funext fun a => Fin.ext ?_)
    · show ((((cfgM m hR).win (4 : Fin 5)).blk t).view.emb y (0 : Fin 2)).val / 256 = t.val
      rw [h0]; omega
    · match a with
      | ⟨0, _⟩ =>
        show ((((cfgM m hR).win (4 : Fin 5)).blk t).view.emb y (0 : Fin 2)).val % 256 = (y (0 : Fin 2)).val
        rw [h0]; omega
      | ⟨1, _⟩ => exact h1
  · have hi : (i (0 : Fin 2)).val < 41984 := (i (0 : Fin 2)).isLt
    have hi1 : (i (1 : Fin 2)).val < 1024 := (i (1 : Fin 2)).isLt
    have hN := N_0
    let t : Fin grid0.N := ⟨(i (0 : Fin 2)).val / 256, by rw [hN]; omega⟩
    refine ⟨t, flush4 m hR _, ?_⟩
    mem_blk
    exact ⟨box_row (congrFun (index4 m hR t) (0 : Fin 2)), box_col (congrFun (index4 m hR t) (1 : Fin 2)) hi1⟩

theorem rest_tables : main_arg0 ∈ Pipeline.restRefs sig spec0 ∧ main_arg1 ∈ Pipeline.restRefs sig spec0 :=
  ⟨Pipeline.mem_restRefs_of _ (by decide) (by decide), Pipeline.mem_restRefs_of _ (by decide) (by decide)⟩

/-- The whole program: the arguments end as launched, the semaphores at zero, and the result at its tiles' values. -/
theorem run_value : θ_run defs (onTc (τ := τ) (main (F := F))) ⟨m, fun _ => 0, ρ⟩ (fun r => (∀ c : Dev nD,
      r.2.mem ((c.tc : Thread nD τ).loc main_v0) = resultOf m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).1 (4 : Fin 5)).trans (arr4 m hR c),
     (h.1 c).2 main_arg0 rest_tables.1,
     (h.1 c).2 main_arg1 rest_tables.2,
     ((h.1 c).1 (0 : Fin 5)).trans (((dats m hR 0 c).arrAt_in (0 : Fin 5) rfl _).trans (A_eq m hR c (0 : Fin 5))),
     ((h.1 c).1 (1 : Fin 5)).trans (((dats m hR 0 c).arrAt_in (1 : Fin 5) rfl _).trans (A_eq m hR c (1 : Fin 5))),
     ((h.1 c).1 (2 : Fin 5)).trans (((dats m hR 0 c).arrAt_in (2 : Fin 5) rfl _).trans (A_eq m hR c (2 : Fin 5))),
     ((h.1 c).1 (3 : Fin 5)).trans (((dats m hR 0 c).arrAt_in (3 : Fin 5) rfl _).trans (A_eq m hR c (3 : Fin 5)))⟩, h.2⟩) (run_main m ρ hR)

end Cert.Kernel3Ideal.Hand
-- ==== Proof.FirstExpertSpec.lean ====
/-
  The expert layer's values over the extended reals: the kernel's tile and the reference's row are the same gated product of a
  row of 1024 halves of words with the three matrices of the row's expert. No program runs here.
  This is layer 0; Proof/ExpertSpec.lean is layer 1.
-/
module

public import proofs.«01_k».proof.Proof.ExpertSpec
public import proofs.«01_k».proof.Proof.FirstExpertRun
public import proofs.«01_k».proof.Proof.Gated
public import proofs.«01_k».proof.Proof.Gen.Pre_tables_in_range
public import proofs.«01_k».proof.Proof.Gen.Reference3Ideal.Run
public import Idealize.ShloMosaic.PureOps.Ideal.Laws
public import Idealize.ShloMosaic.Lib.BitcastConvert
public import Idealize.ShloMosaic.Lib.ReduceAll
public import Idealize.ShloMosaic.Lib.Pipeline.Value
public import Idealize.ShloMosaic.Lib.Routing.OpsSet

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.ValueIdx Idealize.ShloMosaic.ValueKit
open Cert.Gated
open scoped BigOperators

/-! ## The kernel's tile -/

/-- The kernel's tile at a row and a column is the gated product of the packed row. -/
theorem tile_apply (X : IVec S256x512 32) (G U : FVec Ideal S1024x512 .bf16) (D : FVec Ideal S512x1024 .bf16) (p : Fin 256) (d : Fin 1024) :
    tile (F := Ideal) X G U D (ix2 p d)
      = gated (halves fun k => X (ix2 p k)) (fun j f => G (ix2 j f)) (fun j f => U (ix2 j f)) (fun f d => D (ix2 f d)) d :=
  Cert.Kernel2Ideal.Hand.tile_apply X G U D p d

theorem narrowed_in (W : FVec Ideal S1x1x1024x512 .f32) (j : Fin 1024) (f : Fin 512) : k0_pay1 (F := Ideal) W (ix2 j f) = W (ix4 0 0 j f) :=
  Cert.Kernel2Ideal.Hand.narrowed_in W j f

theorem narrowed_out (W : FVec Ideal S1x1x512x1024 .f32) (f : Fin 512) (d : Fin 1024) : k0_pay3 (F := Ideal) W (ix2 f d) = W (ix4 0 0 f d) :=
  Cert.Kernel2Ideal.Hand.narrowed_out W f d

/-! ## The reference's array -/

section Row

/-- An array of two layers seen from its first: as its second layer it has the array's first. -/
abbrev first4 {k l n : ℕ} (v : (⟨4, ![2, k, l, n]⟩ : Shape).Idx → EReal) : (⟨4, ![2, k, l, n]⟩ : Shape).Idx → EReal :=
  fun i => v (ix4 0 (i 1) (i 2) (i 3))

/-- The first layer's part is the second layer's part of the array seen from its first layer. -/
theorem slice4 {k l n : ℕ} (v : (⟨4, ![2, k, l, n]⟩ : Shape).Idx → EReal) (h) (h') :
    extractStridedSlice ⟨4, ![1, k, l, n]⟩ ![0, 0, 0, 0] v h = extractStridedSlice ⟨4, ![1, k, l, n]⟩ ![1, 0, 0, 0] (first4 v) h' := by
  funext y
  have h0 : (y 0).val < 1 := (y 0).isLt
  refine (extractStridedSlice_apply _ _ _ _ (ix4 0 (y 1) (y 2) (y 3)) fun a => ?_).trans
    (Eq.trans (b := first4 v (ix4 (1 : Fin 2) (y 1) (y 2) (y 3))) rfl (extractStridedSlice_apply ![1, 0, 0, 0] (first4 v) h' y (ix4 (1 : Fin 2) (y 1) (y 2) (y 3)) fun a => ?_).symm)
  all_goals match a with
    | ⟨0, _⟩ => first | (show 0 = 0 + (y 0).val; omega) | (show 1 = 1 + (y 0).val; omega)
    | ⟨1, _⟩ => show (y 1).val = 0 + (y 1).val; omega
    | ⟨2, _⟩ => show (y 2).val = 0 + (y 2).val; omega
    | ⟨3, _⟩ => show (y 3).val = 0 + (y 3).val; omega

/-- The reference's array, of its six arguments: layer 1's (Proof/ExpertSpec.lean) of the weights seen from their first layer. -/
abbrev reference (T : IVec Cert.Reference3Ideal.S164 32) (N : IVec Cert.Reference3Ideal.S1 32) (X : IVec Cert.Reference3Ideal.S41984x512 32)
    (G U : FVec Ideal Cert.Reference3Ideal.S2x32x1024x512 .f32) (D : FVec Ideal Cert.Reference3Ideal.S2x32x512x1024 .f32) :
    FVec Ideal Cert.Reference3Ideal.S41984x1024 .f32 :=
  Cert.Kernel2Ideal.Hand.reference T N X (first4 G) (first4 U) (first4 D)

theorem in_part (v : Cert.Reference3Ideal.S2x32x1024x512.Idx → EReal) (h) : extractStridedSlice Cert.Reference3Ideal.S1x32x1024x512 ![0, 0, 0, 0] v h
    = extractStridedSlice Cert.Reference3Ideal.S1x32x1024x512 ![1, 0, 0, 0] (first4 v) Cert.Reference2Ideal.Gen.slices_S2x32x1024x512_S1x32x1024x512_1_0_0_0 := slice4 v _ _
theorem out_part (v : Cert.Reference3Ideal.S2x32x512x1024.Idx → EReal) (h) : extractStridedSlice Cert.Reference3Ideal.S1x32x512x1024 ![0, 0, 0, 0] v h
    = extractStridedSlice Cert.Reference3Ideal.S1x32x512x1024 ![1, 0, 0, 0] (first4 v) Cert.Reference2Ideal.Gen.slices_S2x32x512x1024_S1x32x512x1024_1_0_0_0 := slice4 v _ _

theorem res_eq (m : (ℓ : Loc Cert.Reference3Ideal.nD Cert.Reference3Ideal.τ Cert.Reference3Ideal.sig) → Buf (Elt Ideal) ℓ) (c : Dev Cert.Reference3Ideal.nD) :
    Cert.Reference3Ideal.Value.res_main_v44 m c
      = reference (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1))
          (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3))
          (m ((c.tc : Thread Cert.Reference3Ideal.nD Cert.Reference3Ideal.τ).loc Cert.Reference3Ideal.main_arg4))
          (m ((c.tc : Thread Cert.Reference3Ideal.nD Cert.Reference3Ideal.τ).loc Cert.Reference3Ideal.main_arg5)) := by
  unfold Cert.Reference3Ideal.Value.res_main_v44 reference Cert.Kernel2Ideal.Hand.reference
  rw [in_part, in_part, out_part]
  rfl

end Row

/-! ## The kernel's array is the reference's -/

section Same

variable (m : (ℓ : Loc nD τ sig) → Buf (Elt Ideal) ℓ) (hR : InRange (expOf m) (cntOf m))

theorem resultOf_apply (c : Dev nD) (r : Fin 41984) (d : Fin 1024) :
    resultOf m hR c (ix2 r d) = if r.val / 256 < (count (cntOf m)).toNat then
      gated (halves fun k => (V m c main_arg2 : S41984x512.Idx → BitVec 32) (ix2 r k))
        (fun j f => (V m c main_arg3 : S2x32x1024x512.Idx → EReal) (ix4 0 (expertOf m hR ⟨r.val / 256, by omega⟩) j f))
        (fun j f => (V m c main_arg4 : S2x32x1024x512.Idx → EReal) (ix4 0 (expertOf m hR ⟨r.val / 256, by omega⟩) j f))
        (fun f d => (V m c main_arg5 : S2x32x512x1024.Idx → EReal) (ix4 0 (expertOf m hR ⟨r.val / 256, by omega⟩) f d)) d else 0 := by
  have hr := r.isLt
  have hN := N_0
  let t : Fin grid0.N := ⟨r.val / 256, by omega⟩
  have hc : (grid0.coords t 0).val = r.val / 256 := coord_val t
  show outTile (grid0.coords t) (cntOf m) (iblk m hR c 0 t) (k0_pay1 (iblk m hR c 1 t)) (k0_pay2 (iblk m hR c 2 t)) (k0_pay3 (iblk m hR c 3 t))
    (ix2 (⟨r.val % 256, Nat.mod_lt _ (by omega)⟩ : Fin 256) d) = _
  unfold outTile
  by_cases h : r.val / 256 < (count (cntOf m)).toNat
  · rw [if_pos h, if_pos ((cond2_iff _ _ hR.le).2 (hc.symm ▸ h))]
    refine (tile_apply _ _ _ _ _ d).trans ?_
    have eX : (fun k : Fin 512 => (iblk m hR c 0 t : S256x512.Idx → BitVec 32) (ix2 (⟨r.val % 256, Nat.mod_lt _ (by omega)⟩ : Fin 256) k))
        = fun k => (V m c main_arg2 : S41984x512.Idx → BitVec 32) (ix2 r k) := by
      funext k
      refine (iblk_rows m hR c t h _).trans (congrArg (V m c main_arg2 : S41984x512.Idx → BitVec 32) ?_)
      refine congrArg (fun q : Fin 41984 => (ix2 q k : S41984x512.Idx)) (Fin.ext ?_)
      show 256 * (r.val / 256) + r.val % 256 = r.val
      omega
    have e1 : (fun (j : Fin 1024) (f : Fin 512) => k0_pay1 (F := Ideal) (iblk m hR c 1 t) (ix2 j f))
        = fun j f => (V m c main_arg3 : S2x32x1024x512.Idx → EReal) (ix4 0 (expertOf m hR ⟨r.val / 256, by omega⟩) j f) := by
      funext j f
      exact (narrowed_in _ j f).trans (iblk_gate m hR c t _)
    have e2 : (fun (j : Fin 1024) (f : Fin 512) => k0_pay2 (F := Ideal) (iblk m hR c 2 t) (ix2 j f))
        = fun j f => (V m c main_arg4 : S2x32x1024x512.Idx → EReal) (ix4 0 (expertOf m hR ⟨r.val / 256, by omega⟩) j f) := by
      funext j f
      exact (narrowed_in _ j f).trans (iblk_up m hR c t _)
    have e3 : (fun (f : Fin 512) (d : Fin 1024) => k0_pay3 (F := Ideal) (iblk m hR c 3 t) (ix2 f d))
        = fun f d => (V m c main_arg5 : S2x32x512x1024.Idx → EReal) (ix4 0 (expertOf m hR ⟨r.val / 256, by omega⟩) f d) := by
      funext j f
      exact (narrowed_out _ j f).trans (iblk_down m hR c t _)
    rw [e1, e2, e3]
    exact congrArg (fun x => gated (halves x) _ _ _ d) eX
  · rw [if_neg h, if_neg (fun h' => h (hc ▸ (cond2_iff _ _ hR.le).1 h'))]
    exact Ideal.ofBits_zero_f32

theorem count_eq (N : Count (F := Ideal)) : count N = (N (ix1 0) : BitVec 32) :=
  congrArg N (funext fun a => by match a with | ⟨0, _⟩ => exact Subsingleton.elim (α := Fin 1) _ _)

/-- The kernel's array is the reference's array of the same arguments. -/
theorem same_values (c : Dev nD) :
    reference (V m c main_arg0) (V m c main_arg1) (V m c main_arg2) (V m c main_arg3) (V m c main_arg4) (V m c main_arg5) = resultOf m hR c := by
  have hT : ∀ j, ((V m c main_arg0 : S164.Idx → BitVec 32) j).toNat < 32 := by
    obtain rfl : c = 0 := Subsingleton.elim _ _
    exact hR.expert
  have hN : (V m c main_arg1 : S1.Idx → BitVec 32) (ix1 0) = count (cntOf m) := by
    obtain rfl : c = 0 := Subsingleton.elim _ _
    exact (count_eq (cntOf m)).symm
  funext i
  obtain ⟨r, d, rfl⟩ : ∃ (r : Fin 41984) (d : Fin 1024), i = ix2 r d := ⟨i 0, i 1, eq_ix2 i⟩
  refine Eq.trans ?_ (resultOf_apply m hR c r d).symm
  refine (Cert.Kernel2Ideal.Hand.reference_apply (V m c main_arg0) hT (V m c main_arg1) (hN ▸ hR.le) (V m c main_arg2) (first4 (V m c main_arg3)) (first4 (V m c main_arg4)) (first4 (V m c main_arg5))
    r d (expertOf m hR ⟨r.val / 256, by omega⟩) ?_).trans ?_
  · obtain rfl : c = 0 := Subsingleton.elim _ _
    rfl
  · rw [hN]

end Same

/-! ## The precondition -/

section Pre

variable {F : FTy → Type} [FloatOps F]

/-- The precondition says that every expert word is below 32 and that the count is between 1 and 164. -/
theorem range_of_pre (T : Experts (F := F)) (N : Count (F := F)) (X : IVec S41984x512 32) (G U : FVec F S2x32x1024x512 .f32) (D : FVec F S2x32x512x1024 .f32)
    (h : Cert.Pre_tables_in_range.fn (F := F) T N X G U D = fun _ => 1#1) : InRange T N :=
  have R := Cert.Kernel2Ideal.Hand.range_of_pre T N X G U D h
  ⟨R.expert, R.pos, R.le⟩

end Pre

end Cert.Kernel3Ideal.Hand
-- ==== Proof.CombineRun.lean ====
/-
  The final combine program's run, at any float instance, for position words that name rows: each point's blocks read off the
  arguments, the invariant between points, and the run of the whole program to a state with the arguments unchanged, every
  semaphore at zero and the two results the two parts of `resultOf` — every token's combined row.
-/
module

public import proofs.«01_k».proof.Proof.Combine
public import Idealize.ShloMosaic.Lib.Pipeline.FrameSuffix
public import Idealize.ShloMosaic.Lib.Pipeline.Value

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers other than the experts' rows. -/
theorem later_sub : ∀ ops ∈ ([hostOps1] : List (List (HloOp τ sig (Elt F)))), ∀ op ∈ ops,
    op.bufs ⊆ Pipeline.tailRefsBut sig Pipeline.Prefetch.none spec0 ({main_arg4} : Finset (Ref sig .tc)) := by
  intro ops hops op hop
  simp only [List.mem_cons, List.mem_nil_iff, or_false] at hops
  obtain rfl := hops
  refine Pipeline.sub_tailRefsBut _ _ _ op ((List.forall_iff_forall_mem.mp hostOps1_sub) op hop) (fun k => k.elim0) fun b hb => ?_
  rw [Finset.mem_singleton] at hb
  subst hb
  simp only [hostOps1, List.mem_cons, List.mem_nil_iff, or_false] at hop
  rcases hop with rfl | rfl | rfl | rfl <;>
    simp only [StableHlo.unary_bufs, StableHlo.reshape_bufs, Finset.mem_insert, Finset.mem_singleton, not_or] <;>
    exact ⟨StableHlo.devRef_ne_of_ne (by decide), StableHlo.devRef_ne_of_ne (by decide)⟩

/-! ## The arguments as launched, and the points' blocks of them -/

/-- The position words, the residual rows, the gates, the norm's weight and the experts' rows. -/
abbrev posOf (c : Dev nD) : S33x2x512.Idx → BitVec 32 := m ((c : Thread nD τ).loc main_arg0)
abbrev midOf (c : Dev nD) : S16896x1024.Idx → Elt F .f32 := m ((c : Thread nD τ).loc main_arg1)
abbrev gateOf (c : Dev nD) : S8x16896.Idx → Elt F .f32 := m ((c : Thread nD τ).loc main_arg2)
abbrev normOf (c : Dev nD) : S1024.Idx → Elt F .f32 := m ((c : Thread nD τ).loc main_arg3)
abbrev rowsOf (c : Dev nD) : Rows F := m ((c : Thread nD τ).loc main_arg4)

/-- The region finds the two gate rows as columns, -/
theorem V_main_v1 (c : Dev nD) : (V m c main_v1 : S16896x2.Idx → Elt F .f32)
    = transpose S16896x2 [1, 0] (extractStridedSlice S2x16896 ![0, 0] (gateOf m c) slices_S8x16896_S2x16896_0_0) transposes_S2x16896_S16896x2_1_0 := by
  show StableHlo.after (List.flatten [hostOps0]) (fun b => m (c, b)) (Proc.devRef .tc main_v1) = _
  simp only [List.flatten_cons, List.flatten_nil, List.append_nil]
  after_results
/-- and the norm's weight as a row. -/
theorem V_main_v2 (c : Dev nD) : (V m c main_v2 : S1x1024.Idx → Elt F .f32) = shapeCast S1x1024 (normOf m c) shapeCasts_S1024_S1x1024 := by
  show StableHlo.after (List.flatten [hostOps0]) (fun b => m (c, b)) (Proc.devRef .tc main_v2) = _
  simp only [List.flatten_cons, List.flatten_nil, List.append_nil]
  after_results
  rfl

theorem point_lt (t : Fin cfg0.N) : t.val < 33 := Nat.lt_of_lt_of_eq t.isLt N_0

theorem index0 : ∀ t : Fin cfg0.N, win0_0.index t = ![t.val, 0, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel

/-- Row `r` of point `t` among all the tokens. -/
abbrev tokenAt (t : Fin cfg0.N) (r : Fin 512) : Fin 16896 := ⟨512 * t.val + r.val, by have := point_lt t; have := r.isLt; omega⟩

/-- Point `t`'s words are plane `t` of the words. -/
theorem iblk_words (c : Dev nD) (t : Fin cfg0.N) (y : S1x2x512.Idx) :
    (iblk m c 0 t : S1x2x512.Idx → BitVec 32) y = posOf m c (ix3 ⟨t.val, point_lt t⟩ (y 1) (y 2)) := by
  unfold iblk
  rw [View.read_apply, cast_eq]
  refine (congrFun (V_main_arg0 m c) _).trans (congrArg (posOf m c) ?_)
  funext a
  apply Fin.ext
  have h0 : (y 0).val = 0 := by have : (y 0).val < 1 := (y 0).isLt; omega
  match a with
  | ⟨0, _⟩ => blk_simp [index0]; try rfl
  | ⟨1, _⟩ => blk_simp [index0]; try rfl
  | ⟨2, _⟩ => blk_simp [index0]; try rfl

/-- Point `t`'s residual block is rows `512 t` to `512 t + 511`. -/
theorem iblk_mid (c : Dev nD) (t : Fin cfg0.N) (y : S512x1024.Idx) :
    (iblk m c 1 t : S512x1024.Idx → Elt F .f32) y = midOf m c (ix2 (tokenAt t (y 0)) (y 1)) := by
  unfold iblk
  rw [View.read_apply, cast_eq]
  refine (congrFun (V_main_arg1 m c) _).trans (congrArg (midOf m c) ?_)
  funext a
  apply Fin.ext
  match a with
  | ⟨0, _⟩ => blk_simp [index1]; show t.val * 512 + (y 0).val = 512 * t.val + (y 0).val; omega
  | ⟨1, _⟩ => blk_simp [index1]; rfl

/-- Point `t`'s gates are its tokens' entries of the two gate rows. -/
theorem iblk_gate (c : Dev nD) (t : Fin cfg0.N) (y : S512x2.Idx) :
    (iblk m c 2 t : S512x2.Idx → Elt F .f32) y
      = gateOf m c (ix2 ⟨(y 1).val, by have : (y 1).val < 2 := (y 1).isLt; omega⟩ (tokenAt t (y 0))) := by
  unfold iblk
  rw [View.read_apply, cast_eq]
  have e : ((cfg0.win 2).blk t).view.emb y = (ix2 (tokenAt t (y 0)) (y 1) : S16896x2.Idx) := by
    funext a
    apply Fin.ext
    match a with
    | ⟨0, _⟩ => blk_simp [index2]; show t.val * 512 + (y 0).val = 512 * t.val + (y 0).val; omega
    | ⟨1, _⟩ => blk_simp [index2]; rfl
  refine (congrArg (V m c main_v1 : S16896x2.Idx → Elt F .f32) e).trans ?_
  rw [V_main_v1]
  refine (transpose_apply _ _ _ _ (ix2 (y 1) (tokenAt t (y 0))) fun b => ?_).trans ?_
  · match b with
    | ⟨0, _⟩ => rfl
    | ⟨1, _⟩ => rfl
  refine extractStridedSlice_apply _ _ _ _ _ fun a => ?_
  match a with
  | ⟨0, _⟩ => show (y 1).val = 0 + (y 1).val; omega
  | ⟨1, _⟩ => show 512 * t.val + (y 0).val = 0 + (512 * t.val + (y 0).val); omega

/-- Every point's norm block is the norm's weight. -/
theorem iblk_norm (c : Dev nD) (t : Fin cfg0.N) (y : S1x1024.Idx) :
    (iblk m c 3 t : S1x1024.Idx → Elt F .f32) y = normOf m c (ix1 (y 1)) := by
  unfold iblk
  rw [View.read_apply, cast_eq]
  have e : ((cfg0.win 3).blk t).view.emb y = (ix2 0 (y 1) : S1x1024.Idx) := by
    funext a
    apply Fin.ext
    have h0 : (y 0).val = 0 := by have : (y 0).val < 1 := (y 0).isLt; omega
    match a with
    | ⟨0, _⟩ => blk_simp [index3]; try exact h0
    | ⟨1, _⟩ => blk_simp [index3]; try rfl
  refine (congrArg (V m c main_v2 : S1x1024.Idx → Elt F .f32) e).trans ?_
  rw [V_main_v2]
  refine shapeCast_apply _ _ _ _ ?_
  rw [Shape.rowMajor_val_one, Shape.rowMajor_val_two]
  show (y 1).val = 0 * 1024 + (y 1).val
  omega

/-! ## The proof data -/

abbrev osem0 : Fin 1 → SemLoc sig := fun j => (![SemLoc.dma 9] : Fin 1 → SemLoc sig) j
theorem ownSemFacts0 : Pipeline.OwnSemFacts spec0 osem0 := by decide

theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 9) 0 := by
  rw [Pipeline.ownSems0_eq_of_list c osem0 [0] (by decide) (by decide)]; rfl

/-- Between points: the scratch at anything, the program's own semaphore at zero, the experts' rows as launched. -/
def Inv (c : Dev nD) : sProp 𝕄 := Pipeline.ΦD osem0 spec0 ({main_arg4} : Finset (Ref sig .tc)) (V m) c

theorem inv_eq (c : Dev nD) :
    Inv m c = iprop((∃ f : Planes F, scratchLoc c ↦{fullShare} f) ∗ (∃ r, prngReg c r)
      ∗ semVal ((c : Thread nD τ), SemLoc.dma 9) 0 ∗ (rowsLoc c ↦{fullShare} rowsOf m c)) := by
  unfold Inv
  rw [Pipeline.ΦD_eq, ownSems00_eq, scopedRest0_eq, BI.bigSep_singleton, V_main_arg4]
  rfl

/-- What point `t` writes. -/
def result (c : Dev nD) (t : Fin cfg0.N) : S512x1024.Idx → Elt F .f32 :=
  combined (iblk m c 2 t) (iblk m c 1 t) (gathered (iblk m c 0 t) (rowsOf m c)) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c t
  Φ _ := Inv m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = result m c t := by dsimp only [dats]

theorem found0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem found1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem found2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem found3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## One point -/

/-- The position words all name rows. -/
def Named (P : S33x2x512.Idx → BitVec 32) : Prop := ∀ i, (P i).toNat < 41984

theorem inRange_point {c : Dev nD} (h : Named (posOf m c)) (t : Fin cfg0.N) : InRange (iblk m c 0 t) := fun q =>
  (congrArg BitVec.toNat (iblk_words m c t _)).trans_lt (h _)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- What one run of the body leaves at point `t`. -/
def runPost (c : Dev nD) (t : Fin cfg0.N) : PUnit → sProp 𝕄 := fun _ =>
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (result m c t)
    ∗ (rowsLoc c ↦{fullShare} rowsOf m c) ∗ (∃ f' : Planes F, scratchLoc c ↦{fullShare} f')
    ∗ semVal ((c : Thread nD τ), SemLoc.dma cc0_scratch1.sem) 0 ∗ ∃ W', owes (c : Thread nD τ) 0 W')

variable (hP : ∀ c : Dev nD, Named (posOf m c))
include hP

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c from rfl, after0_0, after0_1, after0_2, after0_3, after0_4]
  rw [show (dats m 0 c).Φ t.castSucc = Inv m c from rfl, inv_eq]
  unfold Dat.owesAt Pipeline.owesWithin
  rw [show (dats m 0 c).owed t.castSucc = 0 from rfl, show (dats m 0 c).owed t.succ = 0 from rfl]
  simp only [found0, found1, found2, found3]
  refine BIBase.Entails.trans (Q := iprop(wp frame (wpE (defs₀ (F := F)) Variants.none c none) Set.univ (bodyAt0 t) (runPost m c t)
      ∗ (∃ r, prngReg c r))) ?_ ((wp_frame_r _ _ _).trans (wp_mono _ _ _ ?_))
  · iintro ⟨⟨⟨%f, Hf⟩, Hg, Hs, HR⟩, ⟨%W, -, HW⟩, ⟨%d0, H0⟩, ⟨%d1, H1⟩, ⟨%d2, H2⟩, ⟨%d3, H3⟩, ⟨%d4, H4⟩⟩
    isplitr [Hg]
    · iapply (body_run c _ (grid0.coords t) _ _ _ _ _ _ _ _ _ (iblk m c 0 t) (inRange_point m (hP c) t) (iblk m c 1 t) (iblk m c 2 t) (iblk m c 3 t)
        (rowsOf m c) _ f W)
      isplitl [H0]; · iexact H0
      isplitl [H1]; · iexact H1
      isplitl [H2]; · iexact H2
      isplitl [H3]; · iexact H3
      isplitl [H4]; · iexact H4
      isplitl [HR]; · iexact HR
      isplitl [Hf]; · iexact Hf
      isplitl [Hs]; · iexact Hs
      iexact HW
    iexact Hg
  intro _
  unfold runPost
  iintro ⟨⟨H0, H1, H2, H3, H4, HR, Hf, Hs, ⟨%W', HW'⟩⟩, Hg⟩
  isplitl [Hg Hs Hf HR]
  · isplitl [Hf]; · iexact Hf
    isplitl [Hg]; · iexact Hg
    isplitl [Hs]; · iexact Hs
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

omit hP in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row t]
  exact triple_restated (sound_body m hP c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 ({main_arg4} : Finset (Ref sig .tc))
    (by decide) m ρ main
    (hbody := fun c => (body_obligation m hP c).loose) (hshare := fun c => (dats m 0 c).share_full fun _ => rfl)
    (howed := fun _ _ => rfl) (V₀ := V0 m) (opss := [hostOps1]) (hsub := later_sub) (hfresh := sfx_fresh) (hkeep := sfx_keeps)
    (hmain := main_around m Variants.none) (hA := A_eq m)
    (hin := fun c => .rfl) (hout := fun c => .rfl)

omit hP in
/-- Every token's combined row: row `n` is row `n % 512` of what point `n / 512` writes. -/
def resultOf (c : Dev nD) : S16896x1024.Idx → Elt F .f32 := fun i =>
  result m c ⟨(i 0).val / 512, by have h : (i 0).val < 16896 := (i 0).isLt; rw [show cfg0.N = 33 from N_0]; omega⟩
    (ix2 ⟨(i 0).val % 512, Nat.mod_lt _ (by omega)⟩ (i 1))

omit hP in
theorem result_at (c : Dev nD) (t s : Fin cfg0.N) (y x : S512x1024.Idx) (hs : s = t) (hx : x = y) : result m c t y = result m c s x := by
  rw [hs, hx]

omit hP in
theorem arr4 (c : Dev nD) : (dats m 0 c).arrAt 4 cfg0.N = resultOf m c := by
  refine (dats m 0 c).arrAt_eq_of_emb 4 (resultOf m c) (fun t hf y => ?_) (fun i => ?_)
  · have h0 : (((cfg0.win 4).blk t).view.emb y (0 : Fin 2)).val = 512 * t.val + (y (0 : Fin 2)).val := by
      blk_simp [index4]; show t.val * 512 + (y (0 : Fin 2)).val = 512 * t.val + (y (0 : Fin 2)).val; omega
    have h1 : (((cfg0.win 4).blk t).view.emb y (1 : Fin 2)).val = (y (1 : Fin 2)).val := by
      blk_simp [index4]; try rfl
    have hy : (y (0 : Fin 2)).val < 512 := (y (0 : Fin 2)).isLt
    refine result_at m c t _ y _ (Fin.ext ?_) (funext fun a => Fin.ext ?_)
    · show (((cfg0.win 4).blk t).view.emb y (0 : Fin 2)).val / 512 = t.val
      rw [h0]; omega
    · match a with
      | ⟨0, _⟩ =>
        show (((cfg0.win 4).blk t).view.emb y (0 : Fin 2)).val % 512 = (y (0 : Fin 2)).val
        rw [h0]; omega
      | ⟨1, _⟩ => exact h1
  · have hi : (i (0 : Fin 2)).val < 16896 := (i (0 : Fin 2)).isLt
    have hi1 : (i (1 : Fin 2)).val < 1024 := (i (1 : Fin 2)).isLt
    have hN := N_0
    let t : Fin cfg0.N := ⟨(i (0 : Fin 2)).val / 512, by rw [show cfg0.N = 33 from hN]; omega⟩
    refine ⟨t, flush0_4 _, ?_⟩
    mem_blk [index4]
    refine ⟨?_, ?_⟩
    · show (i (0 : Fin 2)).val / 512 * 512 ≤ (i (0 : Fin 2)).val ∧ (i (0 : Fin 2)).val < (i (0 : Fin 2)).val / 512 * 512 + 512
      omega
    · show 0 * 1024 ≤ (i (1 : Fin 2)).val ∧ (i (1 : Fin 2)).val < 0 * 1024 + 1024
      omega

/-! ## What the later lines leave -/

omit hP in
/-- The first result is the first 16384 rows, -/
theorem W_first (c : Dev nD) : Pipeline.afterTail₀ cfgs (dats m) 0 (V0 m) [hostOps1] c main_v5
    = (shapeCast S1x16384x1024 (extractStridedSlice S16384x1024 ![0, 0] (resultOf m c) slices_S16896x1024_S16384x1024_0_0) shapeCasts_S16384x1024_S1x16384x1024
        : S1x16384x1024.Idx → Elt F .f32) := by
  have e : Pipeline.withArrays spec0 c (V0 m c) (fun w => (dats m 0 c).arrAt w cfg0.N) (Proc.devRef .tc main_v3) = resultOf m c :=
    (Pipeline.withArrays_arr spec0 launch0.win.arr_inj c (V0 m c) _ 4).trans (arr4 m c)
  unfold Pipeline.afterTail₀
  simp only [List.flatten_cons, List.flatten_nil, List.append_nil]
  rw [← e]
  after_results
  rfl
omit hP in
/-- and the second the last 512. -/
theorem W_second (c : Dev nD) : Pipeline.afterTail₀ cfgs (dats m) 0 (V0 m) [hostOps1] c main_v7
    = (shapeCast S32x16x1024 (extractStridedSlice S512x1024 ![16384, 0] (resultOf m c) slices_S16896x1024_S512x1024_16384_0) shapeCasts_S512x1024_S32x16x1024
        : S32x16x1024.Idx → Elt F .f32) := by
  have e : Pipeline.withArrays spec0 c (V0 m c) (fun w => (dats m 0 c).arrAt w cfg0.N) (Proc.devRef .tc main_v3) = resultOf m c :=
    (Pipeline.withArrays_arr spec0 launch0.win.arr_inj c (V0 m c) _ 4).trans (arr4 m c)
  unfold Pipeline.afterTail₀
  simp only [List.flatten_cons, List.flatten_nil, List.append_nil]
  rw [← e]
  after_results
  rfl

omit hP in
/-- An argument that no window stages ends as the region found it. -/
theorem W_kept (c : Dev nD) (b : Ref sig .tc) (hb : ∀ w, Pipeline.arrRef spec0 w ≠ b)
    (h4 : b ≠ main_v4) (h5 : b ≠ main_v5) (h6 : b ≠ main_v6) (h7 : b ≠ main_v7) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      exact ⟨StableHlo.devRef_ne_of_ne h4, StableHlo.devRef_ne_of_ne h5, StableHlo.devRef_ne_of_ne h6, StableHlo.devRef_ne_of_ne h7⟩))]
  exact Pipeline.withArrays_of_ne _ c (V0 m c) _ b hb

/-- The whole program: the arguments end as launched, the semaphores at zero, and the two results are the first 16384 and
    the last 512 tokens' combined rows. -/
theorem run_value : θ_run defs (onTc (τ := τ) (main (F := F))) ⟨m, fun _ => 0, ρ⟩ (fun r => (∀ c : Dev nD,
      r.2.mem ((c.tc : Thread nD τ).loc main_v5)
        = (shapeCast S1x16384x1024 (extractStridedSlice S16384x1024 ![0, 0] (resultOf m c) slices_S16896x1024_S16384x1024_0_0) shapeCasts_S16384x1024_S1x16384x1024
            : S1x16384x1024.Idx → Elt F .f32)
      ∧ r.2.mem ((c.tc : Thread nD τ).loc main_v7)
        = (shapeCast S32x16x1024 (extractStridedSlice S512x1024 ![16384, 0] (resultOf m c) slices_S16896x1024_S512x1024_16384_0) shapeCasts_S512x1024_S32x16x1024
            : S32x16x1024.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_v5 (Pipeline.mem_restRefs_of main_v5 (by decide) (by decide))).trans (W_first m c),
     ((h.1 c).2 main_v7 (Pipeline.mem_restRefs_of main_v7 (by decide) (by decide))).trans (W_second m c),
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     (((h.1 c).2 main_arg2 (Pipeline.mem_restRefs_of main_arg2 (by decide) (by decide))).trans (W_kept m c main_arg2 (by decide) (by decide) (by decide) (by decide) (by decide))).trans (V_main_arg2 m c),
     (((h.1 c).2 main_arg3 (Pipeline.mem_restRefs_of main_arg3 (by decide) (by decide))).trans (W_kept m c main_arg3 (by decide) (by decide) (by decide) (by decide) (by decide))).trans (V_main_arg3 m c),
     (((h.1 c).2 main_arg4 (Pipeline.mem_restRefs_of main_arg4 (by decide) (by decide))).trans (W_kept m c main_arg4 (by decide) (by decide) (by decide) (by decide) (by decide))).trans (V_main_arg4 m c)⟩, h.2⟩) (run_main m ρ hP)

end Cert.Kernel4Ideal.Hand
-- ==== Proof.CombineSpec.lean ====
/-
  The combine's values over the extended reals: a token's row of the kernel and of the reference is the same normalised sum of
  its residual row and its two gated expert rows. No program runs here.
-/
module

public import proofs.«01_k».proof.Proof.CombineRun
public import proofs.«01_k».proof.Proof.Gated
public import proofs.«01_k».proof.Proof.Gen.Pre_places_in_range
public import proofs.«01_k».proof.Proof.Gen.Reference4Ideal.Run
public import Idealize.ShloMosaic.PureOps.Ideal.Laws
public import Idealize.ShloMosaic.Lib.ReduceAll
public import Idealize.ShloMosaic.Lib.Pipeline.Value
public import Idealize.ShloMosaic.Lib.Routing.OpsSet

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.ValueIdx Idealize.ShloMosaic.ValueKit
open Cert.Gated
open scoped BigOperators

/-! ## One token's row -/

/-- The residual entry plus the two gated expert entries. -/
def mixed (x g₀ r₀ g₁ r₁ : EReal) : EReal := x + g₀ * r₀ + g₁ * r₁

/-- A row over the root of its mean square plus the small constant, times the weight. -/
def normed (X w : Fin 1024 → EReal) (d : Fin 1024) : EReal :=
  X d * Ideal.rsqrt (Ideal.div (∑ k, X k * X k) (Ideal.ofBits .f32 0x44800000#32) + Ideal.ofBits .f32 0x358637BD#32) * w d

/-! ## The kernel's row -/

section KernelRow

variable (γ : S512x2.Idx → EReal) (x : S512x1024.Idx → EReal) (G : Planes Ideal) (w : S1x1024.Idx → EReal)

theorem first_apply (r : Fin 512) (d : Fin 1024) : shapeCast S512x1024 (first (F := Ideal) G) shapeCasts_S1x512x1024_S512x1024 (ix2 r d) = G (ix3 0 r d) := by
  refine (shapeCast_apply _ _ _ (ix3 0 r d) ?_).trans ?_
  · rw [Shape.rowMajor_val_three, Shape.rowMajor_val_two]
    show (0 * 512 + r.val) * 1024 + d.val = r.val * 1024 + d.val
    omega
  refine congrArg G (funext fun a => Fin.ext ?_)
  match a with
  | ⟨0, _⟩ => exact (rect_emb_unit_val _ _ _ _ _).trans (Nat.zero_add _)
  | ⟨1, _⟩ => exact (rect_emb_unit_val _ _ _ _ _).trans (Nat.zero_add _)
  | ⟨2, _⟩ => exact (rect_emb_unit_val _ _ _ _ _).trans (Nat.zero_add _)

theorem second_apply (r : Fin 512) (d : Fin 1024) : shapeCast S512x1024 (second (F := Ideal) G) shapeCasts_S1x512x1024_S512x1024 (ix2 r d) = G (ix3 1 r d) := by
  refine (shapeCast_apply _ _ _ (ix3 0 r d) ?_).trans ?_
  · rw [Shape.rowMajor_val_three, Shape.rowMajor_val_two]
    show (0 * 512 + r.val) * 1024 + d.val = r.val * 1024 + d.val
    omega
  refine congrArg G (funext fun a => Fin.ext ?_)
  match a with
  | ⟨0, _⟩ => exact rect_emb_unit_val _ _ _ _ _
  | ⟨1, _⟩ => exact (rect_emb_unit_val _ _ _ _ _).trans (Nat.zero_add _)
  | ⟨2, _⟩ => exact (rect_emb_unit_val _ _ _ _ _).trans (Nat.zero_add _)

/-- A column of 512 entries repeated along the rows reads its entry at the row. -/
theorem column_apply (v : S512x1.Idx → EReal) (r : Fin 512) (d : Fin 1024) :
    broadcastTo S512x1024 v broadcasts_S512x1_S512x1024 (ix2 r d) = v (ix2 r 0) := by
  refine broadcastTo_apply _ _ _ _ fun a => ?_
  match a with
  | ⟨0, _⟩ => rfl
  | ⟨1, _⟩ => rfl

theorem gate_first (r : Fin 512) : extractStridedSlice S512x1 ![0, 0] (shapeCast S512x2 γ shapeCasts_S512x2_S512x2) slices_S512x2_o0_0_S512x1 (ix2 r 0) = γ (ix2 r 0) := by
  refine (extractStridedSlice_apply _ _ _ _ (ix2 r 0) fun a => ?_).trans (shapeCast_apply _ _ _ _ rfl)
  match a with
  | ⟨0, _⟩ => show r.val = 0 + r.val; omega
  | ⟨1, _⟩ => rfl
theorem gate_second (r : Fin 512) : extractStridedSlice S512x1 ![0, 1] (shapeCast S512x2 γ shapeCasts_S512x2_S512x2) slices_S512x2_o0_1_S512x1 (ix2 r 0) = γ (ix2 r 1) := by
  refine (extractStridedSlice_apply _ _ _ _ (ix2 r 1) fun a => ?_).trans (shapeCast_apply _ _ _ _ rfl)
  match a with
  | ⟨0, _⟩ => show r.val = 0 + r.val; omega
  | ⟨1, _⟩ => rfl

/-- The kernel's rows before the norm. -/
abbrev mix : FVec Ideal S512x1024 .f32 :=
  addf (addf x (mulf (broadcastTo S512x1024 (extractStridedSlice S512x1 ![0, 0] (shapeCast S512x2 γ shapeCasts_S512x2_S512x2) slices_S512x2_o0_0_S512x1) broadcasts_S512x1_S512x1024)
      (shapeCast S512x1024 (first (F := Ideal) G) shapeCasts_S1x512x1024_S512x1024)))
    (mulf (broadcastTo S512x1024 (extractStridedSlice S512x1 ![0, 1] (shapeCast S512x2 γ shapeCasts_S512x2_S512x2) slices_S512x2_o0_1_S512x1) broadcasts_S512x1_S512x1024)
      (shapeCast S512x1024 (second (F := Ideal) G) shapeCasts_S1x512x1024_S512x1024))

theorem mix_apply (r : Fin 512) (d : Fin 1024) :
    mix γ x G (ix2 r d) = mixed (x (ix2 r d)) (γ (ix2 r 0)) (G (ix3 0 r d)) (γ (ix2 r 1)) (G (ix3 1 r d)) := by
  show x (ix2 r d) + broadcastTo S512x1024 _ broadcasts_S512x1_S512x1024 (ix2 r d) * shapeCast S512x1024 _ _ (ix2 r d)
    + broadcastTo S512x1024 _ broadcasts_S512x1_S512x1024 (ix2 r d) * shapeCast S512x1024 _ _ (ix2 r d) = _
  rw [column_apply, column_apply, gate_first, gate_second, first_apply, second_apply]
  rfl

/-- The sum of a row's 1024 entries. -/
theorem row_sum (v : FVec Ideal S512x1024 .f32) (r : Fin 512) :
    shapeCast S512x1 (multiReduction .add [1] S512 v 0x00000000#32 reduces_S512x1024_S512 (.inl rfl) rfl) shapeCasts_S512_S512x1 (ix2 r 0)
      = ∑ k : Fin 1024, v (ix2 r k) := by
  refine (shapeCast_apply _ _ _ (ix1 r) ?_).trans ?_
  · rw [Shape.rowMajor_val_one, Shape.rowMajor_val_two]
    show r.val = r.val * 1 + 0
    omega
  refine (Ideal.multiReduction_add_single v _ reduces_S512x1024_S512 (.inl rfl) rfl (ix1 r)).trans
    (Finset.sum_congr rfl fun k _ => congrArg v (funext fun a => Fin.ext ?_))
  match a with
  | ⟨0, _⟩ => rfl
  | ⟨1, _⟩ => rfl

/-- The kernel's row at an entry. -/
theorem combined_apply (r : Fin 512) (d : Fin 1024) : combined (F := Ideal) γ x G w (ix2 r d)
    = normed (fun k => mixed (x (ix2 r k)) (γ (ix2 r 0)) (G (ix3 0 r k)) (γ (ix2 r 1)) (G (ix3 1 r k))) (fun k => w (ix2 0 k)) d := by
  unfold combined k0_pay1
  show mix γ x G (ix2 r d) * broadcastTo S512x1024 (rsqrt (addf (divf (shapeCast S512x1 (multiReduction .add [1] S512 (mulf (mix γ x G) (mix γ x G)) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024 (ix2 r d)
    * broadcastTo S512x1024 (shapeCast S1x1024 w shapeCasts_S1x1024_S1x1024) broadcasts_S1x1024_S512x1024 (ix2 r d) = _
  have hw : broadcastTo S512x1024 (shapeCast S1x1024 w shapeCasts_S1x1024_S1x1024) broadcasts_S1x1024_S512x1024 (ix2 r d) = w (ix2 0 d) := by
    refine (broadcastTo_apply _ _ _ (ix2 0 d) fun a => ?_).trans (shapeCast_apply _ _ _ _ rfl)
    match a with
    | ⟨0, _⟩ => rfl
    | ⟨1, _⟩ => rfl
  rw [hw, column_apply]
  show mix γ x G (ix2 r d) * Ideal.rsqrt (Ideal.div (shapeCast S512x1 (multiReduction .add [1] S512 (mulf (mix γ x G) (mix γ x G)) 0x00000000#32
      reduces_S512x1024_S512 (.inl rfl) rfl) shapeCasts_S512_S512x1 (ix2 r 0)) _ + _) * _ = _
  rw [row_sum]
  unfold normed
  simp only [← mix_apply]
  rfl

end KernelRow

/-! ## The reference's row -/

section Row

open Cert.Reference4Ideal.Gen

/-- A gather of whole rows, one for each of `n` words, reads the row its word names. -/
theorem gather_row {n R C : ℕ} {α : Type} (hR : R < 2 ^ 31)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ 32) (r : Fin n) (d : Fin C) (e : Fin R)
    (he : (idx (ix2 r 0)).toNat = e.val) :
    Host.gather (⟨[1], [0], [], [], [0], 1, ![1, C], wf⟩ : GatherDims ⟨2, ![R, C]⟩ ⟨2, ![n, 1]⟩ ⟨2, ![n, C]⟩) x idx (ix2 r d)
      = x (ix2 e d) := by
  have hs : (⟨[1], [0], [], [], [0], 1, ![1, C], wf⟩ : GatherDims ⟨2, ![R, C]⟩ ⟨2, ![n, 1]⟩ ⟨2, ![n, C]⟩).start (ix2 r d) idx 0
      = min (idx (ix2 r 0)).toInt.toNat (R - 1) := by
    refine congrArg (fun k => min (idx k).toInt.toNat (R - 1)) (funext fun b => ?_)
    match b with
    | ⟨0, _⟩ => rfl
    | ⟨1, _⟩ => exact Subsingleton.elim (α := Fin 1) _ _
  refine congrArg x (funext fun k => Fin.ext ?_)
  match k with
  | ⟨0, _⟩ =>
    refine (congrArg (· + 0 + 0) hs).trans ?_
    have := e.isLt
    have hw : (idx (ix2 r 0)).toInt = (e.val : Int) := by
      rw [BitVec.toInt_eq_toNat_of_lt (by omega), he]
    show min (idx (ix2 r 0)).toInt.toNat (R - 1) + 0 + 0 = e.val
    rw [hw, Int.toNat_natCast]
    omega
  | ⟨1, _⟩ => exact Nat.zero_add d.val

/-- The word of token `n` in plane `k`. -/
abbrev wordAt (k : Fin 2) (n : Fin 16896) : S33x2x512.Idx :=
  ix3 ⟨n.val / 512, by have := n.isLt; omega⟩ k ⟨n.val % 512, Nat.mod_lt _ (by omega)⟩

/-- Plane `k` of the words, token after token. -/
abbrev planeOf (P : S33x2x512.Idx → BitVec 32) (k : ℕ) (hs : Cert.Reference4Ideal.S2x16896.Slices ![k, 0] Cert.Reference4Ideal.S1x16896) :
    Cert.Reference4Ideal.S16896.Idx → BitVec 32 :=
  shapeCast Cert.Reference4Ideal.S16896 (extractStridedSlice Cert.Reference4Ideal.S1x16896 ![k, 0]
    (shapeCast Cert.Reference4Ideal.S2x16896 (transpose Cert.Reference4Ideal.S2x33x512 [1, 0, 2] P transposes_S33x2x512_S2x33x512_1_0_2) shapeCasts_S2x33x512_S2x16896) hs)
    shapeCasts_S1x16896_S16896

theorem planeOf_apply (P : S33x2x512.Idx → BitVec 32) (k : Fin 2) (hs) (n : Fin 16896) : planeOf P k.val hs (ix1 n) = P (wordAt k n) := by
  have hn := n.isLt
  refine (shapeCast_apply _ _ _ (ix2 0 n) ?_).trans ?_
  · rw [Shape.rowMajor_val_one, Shape.rowMajor_val_two]
    show 0 * 16896 + n.val = n.val
    omega
  refine (extractStridedSlice_apply _ _ hs _ (ix2 k n) fun a => ?_).trans ?_
  · match a with
    | ⟨0, _⟩ => show k.val = k.val + 0; omega
    | ⟨1, _⟩ => show n.val = 0 + n.val; omega
  refine (shapeCast_apply _ _ _ (ix3 k ⟨n.val / 512, by omega⟩ ⟨n.val % 512, Nat.mod_lt _ (by omega)⟩) ?_).trans ?_
  · rw [Shape.rowMajor_val_three, Shape.rowMajor_val_two]
    show (k.val * 33 + n.val / 512) * 512 + n.val % 512 = k.val * 16896 + n.val
    omega
  refine transpose_apply _ _ _ _ _ fun b => ?_
  match b with
  | ⟨0, _⟩ => rfl
  | ⟨1, _⟩ => rfl
  | ⟨2, _⟩ => rfl

/-- The expert rows that the words of plane `k` name, one for each token, as the reference takes them. -/
abbrev taken (P : S33x2x512.Idx → BitVec 32) (R : Cert.Reference4Ideal.S41984x1024.Idx → EReal) (k : ℕ)
    (hs : Cert.Reference4Ideal.S2x16896.Slices ![k, 0] Cert.Reference4Ideal.S1x16896) : Cert.Reference4Ideal.S16896x1024.Idx → EReal :=
  Host.gather Cert.Reference4Ideal.gather_S41984x1024_S16896x1_S16896x1024_1_0_n_n_0_1_11024 R
    (broadcastInDim Cert.Reference4Ideal.S16896x1 ![0] bcast_S16896_S16896x1_0
      (select (cmpi .slt (planeOf P k hs) (broadcastInDim Cert.Reference4Ideal.S16896 ![] bcast_S_S16896 (constantI Cert.Reference4Ideal.S_ 32 0#32)))
        (addi (planeOf P k hs) (broadcastInDim Cert.Reference4Ideal.S16896 ![] bcast_S_S16896 (constantI Cert.Reference4Ideal.S_ 32 41984#32)))
        (planeOf P k hs)))

theorem taken_apply {P : S33x2x512.Idx → BitVec 32} (hP : Named P) (R : Cert.Reference4Ideal.S41984x1024.Idx → EReal) (k : Fin 2) (hs)
    (n : Fin 16896) (d : Fin 1024) : taken P R k.val hs (ix2 n d) = R (ix2 ⟨(P (wordAt k n)).toNat, hP _⟩ d) := by
  refine gather_row (by norm_num) _ R _ n d ⟨(P (wordAt k n)).toNat, hP _⟩ (congrArg BitVec.toNat ?_)
  refine (broadcastInDim_apply _ _ _ _ (ix1 n) fun a => ?_).trans ?_
  · match a with
    | ⟨0, _⟩ => rfl
  show Scalar.select (IntOp.cmpi .slt (planeOf P k.val hs (ix1 n)) 0#32) _ (planeOf P k.val hs (ix1 n)) = _
  rw [planeOf_apply, Routing.wrap_of_lt]
  have := hP (wordAt k n)
  omega

/-- Row `k` of the gates, repeated along every token's row. -/
abbrev gatesAlong (g : Cert.Reference4Ideal.S8x16896.Idx → EReal) (k : ℕ) (hs : Cert.Reference4Ideal.S8x16896.Slices ![k, 0] Cert.Reference4Ideal.S1x16896) :
    Cert.Reference4Ideal.S16896x1024.Idx → EReal :=
  broadcastInDim Cert.Reference4Ideal.S16896x1024 ![0, 1] bcast_S16896x1_S16896x1024_0_1 (broadcastInDim Cert.Reference4Ideal.S16896x1 ![0] bcast_S16896_S16896x1_0
    (shapeCast Cert.Reference4Ideal.S16896 (extractStridedSlice Cert.Reference4Ideal.S1x16896 ![k, 0] g hs) shapeCasts_S1x16896_S16896))

/-- A column of one entry a token repeated along the rows reads its entry at the token. -/
theorem tokens_apply (v : Cert.Reference4Ideal.S16896x1.Idx → EReal) (n : Fin 16896) (d : Fin 1024) :
    broadcastInDim Cert.Reference4Ideal.S16896x1024 ![0, 1] bcast_S16896x1_S16896x1024_0_1 v (ix2 n d) = v (ix2 n 0) := by
  refine broadcastInDim_apply _ _ _ _ (ix2 n 0) fun a => ?_
  match a with
  | ⟨0, _⟩ => rfl
  | ⟨1, _⟩ => rfl
theorem token_apply (v : Cert.Reference4Ideal.S16896.Idx → EReal) (n : Fin 16896) :
    broadcastInDim Cert.Reference4Ideal.S16896x1 ![0] bcast_S16896_S16896x1_0 v (ix2 n 0) = v (ix1 n) := by
  refine broadcastInDim_apply _ _ _ _ (ix1 n) fun a => ?_
  match a with
  | ⟨0, _⟩ => rfl

theorem gatesAlong_apply (g : Cert.Reference4Ideal.S8x16896.Idx → EReal) (k : Fin 2) (hs) (n : Fin 16896) (d : Fin 1024) :
    gatesAlong g k.val hs (ix2 n d) = g (ix2 ⟨k.val, by omega⟩ n) := by
  refine (tokens_apply _ n d).trans ((token_apply _ n).trans ((shapeCast_apply _ _ _ (ix2 0 n) ?_).trans ?_))
  · rw [Shape.rowMajor_val_one, Shape.rowMajor_val_two]
    show 0 * 16896 + n.val = n.val
    omega
  refine extractStridedSlice_apply _ _ hs _ _ fun a => ?_
  match a with
  | ⟨0, _⟩ => show k.val = k.val + 0; omega
  | ⟨1, _⟩ => show n.val = 0 + n.val; omega

variable (P : S33x2x512.Idx → BitVec 32) (x : Cert.Reference4Ideal.S16896x1024.Idx → EReal) (g : Cert.Reference4Ideal.S8x16896.Idx → EReal)
  (w : Cert.Reference4Ideal.S1024.Idx → EReal) (R : Cert.Reference4Ideal.S41984x1024.Idx → EReal)

/-- The reference's rows before the norm. -/
def sums : FVec Ideal Cert.Reference4Ideal.S16896x1024 .f32 :=
  addf (addf x (mulf (gatesAlong g 0 slices_S8x16896_S1x16896_0_0) (taken P R 0 slices_S2x16896_S1x16896_0_0)))
    (mulf (gatesAlong g 1 slices_S8x16896_S1x16896_1_0) (taken P R 1 slices_S2x16896_S1x16896_1_0))

/-- The reference's composed rows, of its arguments. -/
def reference : FVec Ideal Cert.Reference4Ideal.S16896x1024 .f32 :=
  mulf (mulf (sums P x g R) (broadcastInDim Cert.Reference4Ideal.S16896x1024 ![0, 1] bcast_S16896x1_S16896x1024_0_1 (Host.rsqrt (addf (Host.divf
      (broadcastInDim Cert.Reference4Ideal.S16896x1 ![0] bcast_S16896_S16896x1_0 (Host.reduceAdd (mulf (sums P x g R) (sums P x g R))
        (constant Cert.Reference4Ideal.S_ .f32 0x00000000#32) reducesTo_S16896x1024_S16896_d1 h_S_))
      (broadcastInDim Cert.Reference4Ideal.S16896x1 ![] bcast_S_S16896x1 (constant Cert.Reference4Ideal.S_ .f32 0x44800000#32)))
      (broadcastInDim Cert.Reference4Ideal.S16896x1 ![] bcast_S_S16896x1 (constant Cert.Reference4Ideal.S_ .f32 0x358637BD#32))))))
    (broadcastInDim Cert.Reference4Ideal.S16896x1024 ![0, 1] bcast_S1x1024_S16896x1024_0_1
      (broadcastInDim Cert.Reference4Ideal.S1x1024 ![1] bcast_S1024_S1x1024_1 w))

theorem sums_apply (hP : Named P) (n : Fin 16896) (d : Fin 1024) : sums P x g R (ix2 n d)
    = mixed (x (ix2 n d)) (g (ix2 0 n)) (R (ix2 ⟨(P (wordAt 0 n)).toNat, hP _⟩ d)) (g (ix2 1 n)) (R (ix2 ⟨(P (wordAt 1 n)).toNat, hP _⟩ d)) := by
  unfold sums
  show x (ix2 n d) + gatesAlong g (0 : Fin 2).val _ (ix2 n d) * taken P R (0 : Fin 2).val _ (ix2 n d)
    + gatesAlong g (1 : Fin 2).val _ (ix2 n d) * taken P R (1 : Fin 2).val _ (ix2 n d) = _
  rw [gatesAlong_apply, gatesAlong_apply, taken_apply hP, taken_apply hP]
  rfl

/-- The sum of a token's 1024 entries. -/
theorem token_sum (v : FVec Ideal Cert.Reference4Ideal.S16896x1024 .f32) (n : Fin 16896) :
    Host.reduceAdd v (constant Cert.Reference4Ideal.S_ .f32 0x00000000#32) reducesTo_S16896x1024_S16896_d1 h_S_ (ix1 n)
      = ∑ k : Fin 1024, v (ix2 n k) := by
  show Ideal.hostReduceAdd _ v (Ideal.ofBits .f32 0x00000000#32) (ix1 n) = _
  refine (Ideal.hostReduceAdd_single reducesTo_S16896x1024_S16896_d1 (by decide) v _ (ix1 n)).trans ?_
  rw [Ideal.ofBits_zero_f32, zero_add]
  refine Finset.sum_congr rfl fun k _ => congrArg v (funext fun a => Fin.ext ?_)
  match a with
  | ⟨0, _⟩ => rfl
  | ⟨1, _⟩ => rfl

/-- The reference's row at an entry. -/
theorem reference_apply (hP : Named P) (n : Fin 16896) (d : Fin 1024) : reference P x g w R (ix2 n d)
    = normed (fun k => mixed (x (ix2 n k)) (g (ix2 0 n)) (R (ix2 ⟨(P (wordAt 0 n)).toNat, hP _⟩ k)) (g (ix2 1 n)) (R (ix2 ⟨(P (wordAt 1 n)).toNat, hP _⟩ k)))
        (fun k => w (ix1 k)) d := by
  unfold reference
  show sums P x g R (ix2 n d) * broadcastInDim (s := Cert.Reference4Ideal.S16896x1) Cert.Reference4Ideal.S16896x1024 ![0, 1] _ _ (ix2 n d)
    * broadcastInDim (s := Cert.Reference4Ideal.S1x1024) Cert.Reference4Ideal.S16896x1024 ![0, 1] _ _ (ix2 n d) = _
  have hw : broadcastInDim Cert.Reference4Ideal.S16896x1024 ![0, 1] bcast_S1x1024_S16896x1024_0_1
      (broadcastInDim Cert.Reference4Ideal.S1x1024 ![1] bcast_S1024_S1x1024_1 w) (ix2 n d) = w (ix1 d) := by
    refine (broadcastInDim_apply _ _ _ _ (ix2 0 d) fun a => ?_).trans (broadcastInDim_apply _ _ _ _ (ix1 d) fun a => ?_)
    · match a with
      | ⟨0, _⟩ => rfl
      | ⟨1, _⟩ => rfl
    · match a with
      | ⟨0, _⟩ => rfl
  rw [hw, tokens_apply]
  show sums P x g R (ix2 n d) * Ideal.rsqrt (Ideal.div (broadcastInDim (s := Cert.Reference4Ideal.S16896) Cert.Reference4Ideal.S16896x1 ![0] _ _ (ix2 n 0)) _ + _) * _ = _
  rw [token_apply, token_sum]
  unfold normed
  simp only [← sums_apply P x g R hP]
  rfl

variable (m : (ℓ : Loc Cert.Reference4Ideal.nD Cert.Reference4Ideal.τ Cert.Reference4Ideal.sig) → Buf (Elt Ideal) ℓ) (c : Dev Cert.Reference4Ideal.nD)

/-- The reference's rows of the arguments that a memory holds. -/
abbrev referenceOf : FVec Ideal Cert.Reference4Ideal.S16896x1024 .f32 :=
  reference (m ((c.tc : Thread Cert.Reference4Ideal.nD Cert.Reference4Ideal.τ).loc Cert.Reference4Ideal.main_arg0))
    (m ((c.tc : Thread Cert.Reference4Ideal.nD Cert.Reference4Ideal.τ).loc Cert.Reference4Ideal.main_arg1))
    (m ((c.tc : Thread Cert.Reference4Ideal.nD Cert.Reference4Ideal.τ).loc Cert.Reference4Ideal.main_arg2))
    (m ((c.tc : Thread Cert.Reference4Ideal.nD Cert.Reference4Ideal.τ).loc Cert.Reference4Ideal.main_arg3))
    (m ((c.tc : Thread Cert.Reference4Ideal.nD Cert.Reference4Ideal.τ).loc Cert.Reference4Ideal.main_arg4))

theorem first_eq : Cert.Reference4Ideal.Value.res_main_v46 m c
    = shapeCast Cert.Reference4Ideal.S1x16384x1024 (extractStridedSlice Cert.Reference4Ideal.S16384x1024 ![0, 0] (referenceOf m c) Cert.Reference4Ideal.Gen.slices_S16896x1024_S16384x1024_0_0)
        Cert.Reference4Ideal.Gen.shapeCasts_S16384x1024_S1x16384x1024 := by
  unfold Cert.Reference4Ideal.Value.res_main_v46 referenceOf reference sums
  rfl
theorem second_eq : Cert.Reference4Ideal.Value.res_main_v48 m c
    = shapeCast Cert.Reference4Ideal.S32x16x1024 (extractStridedSlice Cert.Reference4Ideal.S512x1024 ![16384, 0] (referenceOf m c) Cert.Reference4Ideal.Gen.slices_S16896x1024_S512x1024_16384_0)
        Cert.Reference4Ideal.Gen.shapeCasts_S512x1024_S32x16x1024 := by
  unfold Cert.Reference4Ideal.Value.res_main_v48 referenceOf reference sums
  rfl

end Row

/-! ## The kernel's rows are the reference's -/

section Same

variable (m : (ℓ : Loc nD τ sig) → Buf (Elt Ideal) ℓ)

/-- Every token's row of the kernel is the reference's row of the same arguments. -/
theorem same_values (c : Dev nD) (hP : Named (posOf m c)) :
    reference (posOf m c) (midOf m c) (gateOf m c) (normOf m c) (rowsOf m c) = resultOf m c := by
  funext i
  obtain ⟨n, d, rfl⟩ : ∃ (n : Fin 16896) (d : Fin 1024), i = ix2 n d := ⟨i 0, i 1, eq_ix2 i⟩
  have hn := n.isLt
  have hN := N_0
  let t : Fin cfg0.N := ⟨n.val / 512, by rw [show cfg0.N = 33 from hN]; omega⟩
  let r : Fin 512 := ⟨n.val % 512, Nat.mod_lt _ (by omega)⟩
  have ht : tokenAt t r = n := Fin.ext (by show 512 * (n.val / 512) + n.val % 512 = n.val; omega)
  refine (reference_apply (posOf m c) (midOf m c) (gateOf m c) (normOf m c) (rowsOf m c) hP n d).trans ?_
  show _ = combined (F := Ideal) (iblk m c 2 t) (iblk m c 1 t) (gathered (iblk m c 0 t) (rowsOf m c)) (iblk m c 3 t) (ix2 r d)
  refine Eq.trans ?_ (combined_apply (iblk m c 2 t) (iblk m c 1 t) (gathered (iblk m c 0 t) (rowsOf m c)) (iblk m c 3 t) r d).symm
  have ew : (fun k : Fin 1024 => (iblk m c 3 t : S1x1024.Idx → EReal) (ix2 0 k)) = fun k => normOf m c (ix1 k) :=
    funext fun k => iblk_norm m c t (ix2 0 k)
  have ex (k : Fin 1024) : (iblk m c 1 t : S512x1024.Idx → EReal) (ix2 r k) = midOf m c (ix2 n k) :=
    (iblk_mid m c t (ix2 r k)).trans (congrArg (fun q => midOf m c (ix2 q k)) ht)
  have eg (p : Fin 2) : (iblk m c 2 t : S512x2.Idx → EReal) (ix2 r p) = gateOf m c (ix2 ⟨p.val, by omega⟩ n) :=
    (iblk_gate m c t (ix2 r p)).trans (congrArg (fun q => gateOf m c (ix2 ⟨p.val, by omega⟩ q)) ht)
  have er (p : Fin 2) (k : Fin 1024) : gathered (F := Ideal) (iblk m c 0 t) (rowsOf m c) (ix3 p r k)
      = rowsOf m c (ix2 ⟨(posOf m c (wordAt p n)).toNat, hP _⟩ k) := by
    refine congrArg (fun q : Fin 41984 => rowsOf m c (ix2 q k)) (Fin.ext ?_)
    have e : (iblk m c 0 t : S1x2x512.Idx → BitVec 32) (ix3 0 p r) = posOf m c (wordAt p n) := iblk_words m c t (ix3 0 p r)
    show ((iblk m c 0 t : S1x2x512.Idx → BitVec 32) (ix3 0 p r)).toNat % 41984 = _
    rw [e, Nat.mod_eq_of_lt (hP _)]
  rw [ew]
  refine congrArg (fun X => normed X _ d) (funext fun k => ?_)
  rw [ex, eg, eg, er, er]
  rfl

end Same

/-! ## The precondition -/

section Pre

variable {F : FTy → Type} [FloatOps F]

/-- The precondition says that every position word names one of the 41984 expert rows. -/
theorem named_of_pre (P : S33x2x512.Idx → BitVec 32) (x : FVec F S16896x1024 .f32) (g : FVec F S8x16896 .f32) (w : FVec F S1024 .f32) (R : FVec F S41984x1024 .f32)
    (h : Cert.Pre_places_in_range.fn (F := F) P x g w R = fun _ => 1#1) : Named P := by
  have h0 := congrFun h ValueIdx.ix0
  unfold Cert.Pre_places_in_range.fn at h0
  haveI : Subsingleton Cert.Pre_places_in_range.S_.Idx := ⟨fun a b => funext fun k => k.elim0⟩
  intro j
  have e := Host.reduce_andi_all _ _ _ _ _ h0 j
  obtain ⟨e1, e2⟩ := both_set e
  have e1 := of_set (p := BitVec.sle 0#32 (P j)) e1
  have e2 := of_set (p := BitVec.slt (P j) 41984#32) e2
  have hj := (P j).isLt
  simp only [BitVec.sle, BitVec.slt, decide_eq_true_eq, BitVec.toInt, BitVec.toNat_ofNat] at e1 e2
  omega

end Pre

end Cert.Kernel4Ideal.Hand
-- ==== Proof.FirstCombine.lean ====
/-
  Layer 0's combine kernel's body: as the final one's (Proof/Combine.lean, whose names for the words, the rows and the scratch
  are used here), without the norm: the tokens' rows written are the residual row plus the two gated expert rows.
-/
module

public import proofs.«01_k».proof.Proof.Access
public import proofs.«01_k».proof.Proof.Combine
public import proofs.«01_k».proof.Proof.Gen.Kernel7Ideal.Skeleton
public import proofs.«01_k».proof.Proof.Gen.Kernel7Ideal.Frame
public import proofs.«01_k».proof.Proof.Gen.Kernel7Ideal.Launch
public import proofs.«01_k».proof.Proof.Gen.Kernel7Ideal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.Pipeline.ValueKit.Geometry
public import Idealize.ShloMosaic.Lib.ViewIndex
public import Idealize.ShloMosaic.Lib.ValueIdxCore
public import Idealize.ShloMosaic.Lib.ValueLayout

@[expose] public section

set_option maxRecDepth 16384

noncomputable section

namespace Cert.Kernel7Ideal.Hand

open Cert.Kernel7Ideal Cert.Kernel7Ideal.Gen
open Cert.Kernel4Ideal.Hand (iv_val Words Rows Planes word InRange row mem_row lane mem_lane gathered lanes_disjoint lanes_all first second)
open Cert.Access (load_whole store_owned bigSep_naturals take_part)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The program's resources: the pipeline's beside the transfers' counters. -/
local notation "𝕄" => MT nD τ sig Unit (Elt F) ℕ (Pipeline.UD sig nD τ) ℕ

/-! ## The loops and the offsets in closed form -/

theorem trips1 : k0_t1_loop.trips = 512 := by decide
theorem trips2 : k0_t2_loop.trips = 512 := by decide
theorem trip_lt (k : Fin k0_t1_loop.trips) : k.val < 512 := Nat.lt_of_lt_of_eq k.isLt trips1
theorem off1_eq (k : Fin k0_t1_loop.trips) : k0_off1 k = ![0, 0, k.val] :=
  congrArg (fun n => ![0, 0, n]) (iv_val k)
theorem off4_eq (k : Fin k0_t1_loop.trips) : k0_off4 k = ![0, 1, k.val] :=
  congrArg (fun n => ![0, 1, n]) (iv_val k)
theorem off2_eq (k : Fin k0_t1_loop.trips) : k0_off2 k = ![0, k.val, 0] :=
  congrArg (fun n => ![0, n, 0]) (iv_val k)
theorem off5_eq (k : Fin k0_t1_loop.trips) : k0_off5 k = ![1, k.val, 0] :=
  congrArg (fun n => ![1, n, 0]) (iv_val k)

/-! ## The position words, the rows they name and the scratch rows they fill -/

theorem chk_of (w : BitVec 32) (h : w.toNat < 41984) : k0_chk1 w := by
  intro a; fin_cases a
  · show w.toNat + 1 ≤ 41984; omega
  · show 0 + 1024 ≤ 1024; omega

/-- The row that the word `w` names, as the program's transfers name it. -/
abbrev src (w : BitVec 32) (h : k0_chk1 w) : Memref sig .tc .hbm S1x1024 .f32 :=
  (Memref.whole main_arg4).slice (Rect.unit (s := S41984x1024) (k0_off3 w) S1x1024.size (k0_off3_inb w h)) (fun _ => rfl)

theorem src_emb0 (w : BitVec 32) (h : k0_chk1 w) (y : S1x1024.Idx) : (((src w h).view.emb y) 0 : Fin 41984).val = w.toNat := by
  have e := rect_emb_unit_val (s := S41984x1024) (k0_off3 w) S1x1024.size (k0_off3_inb w h) y 0
  have h0 : (y 0).val = 0 := by have : (y 0).val < 1 := (y 0).isLt; omega
  refine e.trans ?_
  show w.toNat + (y 0).val = _; omega
theorem src_emb1 (w : BitVec 32) (h : k0_chk1 w) (y : S1x1024.Idx) : (((src w h).view.emb y) 1 : Fin 1024).val = (y 1).val := by
  have e := rect_emb_unit_val (s := S41984x1024) (k0_off3 w) S1x1024.size (k0_off3_inb w h) y 1
  refine e.trans ?_
  show 0 + (y 1).val = _; omega

theorem src_emb (w : BitVec 32) (h : k0_chk1 w) (hw : w.toNat < 41984) (y : S1x1024.Idx) :
    (src w h).view.emb y = (ix2 ⟨w.toNat, hw⟩ (y 1) : S41984x1024.Idx) := by
  funext a
  match a with
  | ⟨0, _⟩ => exact Fin.ext (src_emb0 w h y)
  | ⟨1, _⟩ => exact Fin.ext (src_emb1 w h y)

theorem src_set (w : BitVec 32) (h : k0_chk1 w) : (src w h).view.set = row w.toNat := by
  ext i
  constructor
  · intro hi
    obtain ⟨y, -, rfl⟩ := Finset.mem_map.mp hi
    exact mem_row.mpr (src_emb0 w h y)
  · intro hi
    have hi' := mem_row.mp hi
    refine Finset.mem_map.mpr ⟨ix2 0 (i 1), Finset.mem_univ _, ?_⟩
    funext a
    match a with
    | ⟨0, _⟩ => exact Fin.ext ((src_emb0 w h _).trans hi'.symm)
    | ⟨1, _⟩ => exact Fin.ext (src_emb1 w h (ix2 0 (i 1)))

/-- A row of the scratch at offsets `o`, as the program's transfers name it. -/
abbrev dst (o : Fin 3 → ℕ) (h : ∀ a, o a + S1x1x1024.size a ≤ S2x512x1024.size a) : Memref sig .tc .vmem S1x1024 .f32 :=
  ((Memref.whole cc0_scratch0).slice (Rect.unit (s := S2x512x1024) o S1x1x1024.size h) (fun _ => rfl)).squeeze S1x1024 squeezes_S1x1x1024_S1x1024

theorem dst_emb (o : Fin 3 → ℕ) (h) (l k : ℕ) (e : o = ![l, k, 0]) (y : S1x1024.Idx) (i : S2x512x1024.Idx)
    (h0 : (i 0).val = l) (h1 : (i 1).val = k) (h2 : (i 2).val = (y 1).val) : (dst o h).view.emb y = i := by
  have hy : y = (ix2 (n0 := 1) (n1 := 1024) 0 (y 1)) := by
    funext a
    match a with
    | ⟨0, _⟩ => exact Fin.ext (by have : (y 0).val < 1 := (y 0).isLt; show (y 0).val = 0; omega)
    | ⟨1, _⟩ => rfl
  have e1 : (dst o h).view.emb y
      = (Rect.unit (s := S2x512x1024) o S1x1x1024.size h).emb (Shape.reshapeEquiv squeezes_S1x1x1024_S1x1024.numel_eq y) := rfl
  have e2 : Shape.reshapeEquiv squeezes_S1x1x1024_S1x1024.numel_eq y = (ix3 (⟨0, Nat.one_pos⟩ : Fin 1) 0 (y 1) : S1x1x1024.Idx) := by
    conv_lhs => rw [hy]
    exact reshapeEquiv_ix2_1ab squeezes_S1x1x1024_S1x1024.numel_eq 0 (y 1)
  rw [e1, e2]
  subst e
  have ev := rect_emb_unit_val (s := S2x512x1024) ![l, k, 0] S1x1x1024.size h (ix3 (⟨0, Nat.one_pos⟩ : Fin 1) 0 (y 1) : S1x1x1024.Idx)
  funext a
  match a with
  | ⟨0, _⟩ => exact Fin.ext ((ev 0).trans (by show l + 0 = (i 0).val; omega))
  | ⟨1, _⟩ => exact Fin.ext ((ev 1).trans (by show k + 0 = (i 1).val; omega))
  | ⟨2, _⟩ => exact Fin.ext ((ev 2).trans (by show 0 + (y 1).val = (i 2).val; omega))

theorem dst_set (o : Fin 3 → ℕ) (h) (l k : ℕ) (e : o = ![l, k, 0]) : (dst o h).view.set ⊆ lane l k := by
  intro i hi
  obtain ⟨y, -, rfl⟩ := Finset.mem_map.mp hi
  have hl : l + 1 ≤ 2 := by have := h 0; rw [e] at this; exact this
  have hk : k + 1 ≤ 512 := by have := h 1; rw [e] at this; exact this
  rw [dst_emb o h l k e y (ix3 ⟨l, by omega⟩ ⟨k, by omega⟩ (y 1)) rfl rfl rfl]
  exact mem_lane.mpr ⟨rfl, rfl⟩

/-- One row's credit on the semaphore, and that it is some. -/
def credit : ℕ := (dst ![0, 0, 0] (by decide)).view.dmaCredit
theorem credit_pos : 0 < credit := View.dmaCredit_pos _ (by decide)

/-! ## The words as the body reads them -/

section Body

variable (c : Dev nD) (arg1 : Memref sig .tc .smem S1x2x512 .i32)

/-- What the load of plane 0's (1's) word `k` reads. -/
theorem read_word (p : Words) (k : Fin k0_t1_loop.trips) (fp : Buf (Elt F) (arg1.view.loc (c : Thread nD τ)))
    (hp : arg1.view.read (Elt F) fp = p) (x) :
    (arg1.access (Rect.unit (s := S1x2x512) (k0_off1 k) S1x1x1.size (k0_off1_inb k))).read (Elt F) fp x
      = word p ⟨2 * k.val, by have := trip_lt k; omega⟩ := by
  subst hp
  have hk := trip_lt k
  unfold word
  rw [View.read_apply, View.read_apply]
  refine congrArg (fun j => _root_.cast _ (fp (arg1.view.emb j))) ?_
  have e := fun a => rect_emb_unit_val (s := S1x2x512) (k0_off1 k) S1x1x1.size (k0_off1_inb k) x a
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  funext a
  match a with
  | ⟨0, _⟩ => refine Fin.ext ((e 0).trans ((congrArg (· + (x 0).val) (congrFun (off1_eq k) 0)).trans ?_)); show 0 + (x 0).val = 0; omega
  | ⟨1, _⟩ => refine Fin.ext ((e 1).trans ((congrArg (· + (x 1).val) (congrFun (off1_eq k) 1)).trans ?_)); show 0 + (x 1).val = 2 * k.val % 2; omega
  | ⟨2, _⟩ => refine Fin.ext ((e 2).trans ((congrArg (· + (x 2).val) (congrFun (off1_eq k) 2)).trans ?_)); show k.val + (x 2).val = 2 * k.val / 2; omega
theorem read_word' (p : Words) (k : Fin k0_t1_loop.trips) (fp : Buf (Elt F) (arg1.view.loc (c : Thread nD τ)))
    (hp : arg1.view.read (Elt F) fp = p) (x) :
    (arg1.access (Rect.unit (s := S1x2x512) (k0_off4 k) S1x1x1.size (k0_off4_inb k))).read (Elt F) fp x
      = word p ⟨2 * k.val + 1, by have := trip_lt k; omega⟩ := by
  subst hp
  have hk := trip_lt k
  unfold word
  rw [View.read_apply, View.read_apply]
  refine congrArg (fun j => _root_.cast _ (fp (arg1.view.emb j))) ?_
  have e := fun a => rect_emb_unit_val (s := S1x2x512) (k0_off4 k) S1x1x1.size (k0_off4_inb k) x a
  have h0 : (x 0).val = 0 := by have : (x 0).val < 1 := (x 0).isLt; omega
  have h1 : (x 1).val = 0 := by have : (x 1).val < 1 := (x 1).isLt; omega
  have h2 : (x 2).val = 0 := by have : (x 2).val < 1 := (x 2).isLt; omega
  funext a
  match a with
  | ⟨0, _⟩ => refine Fin.ext ((e 0).trans ((congrArg (· + (x 0).val) (congrFun (off4_eq k) 0)).trans ?_)); show 0 + (x 0).val = 0; omega
  | ⟨1, _⟩ => refine Fin.ext ((e 1).trans ((congrArg (· + (x 1).val) (congrFun (off4_eq k) 1)).trans ?_)); show 1 + (x 1).val = (2 * k.val + 1) % 2; omega
  | ⟨2, _⟩ => refine Fin.ext ((e 2).trans ((congrArg (· + (x 2).val) (congrFun (off4_eq k) 2)).trans ?_)); show k.val + (x 2).val = (2 * k.val + 1) / 2; omega

/-! ## The deliveries -/

/-- Where the scratch and the experts' rows lie. -/
abbrev scratchLoc : Loc nD τ sig := (Memref.whole cc0_scratch0 : Memref sig .tc .vmem S2x512x1024 .f32).view.loc (c : Thread nD τ)
abbrev rowsLoc : Loc nD τ sig := (Memref.whole main_arg4 : Memref sig .tc .hbm S41984x1024 .f32).view.loc (c : Thread nD τ)

/-- The scratch row that transfer `q` fills, held at the contents `f`. -/
abbrev laneAt (f : Planes F) (q : Fin 1024) : sProp 𝕄 := scratchLoc c ↦[lane (q.val % 2) (q.val / 2)]{fullShare} f

/-- The row transfer `q` reads, held under read token `q`. -/
abbrev rowTok (p : Words) (R : Rows F) (q : Fin 1024) : sProp 𝕄 :=
  rowsLoc c ↦[row (word p q).toNat]{Transfers.shareTokN fullShare q.val} R

/-- What transfer `q` delivers: its scratch row at the gathered contents, and the row it read back. -/
def deliv (p : Words) (R : Rows F) (q : Fin 1024) : sProp 𝕄 :=
  iprop(laneAt c (gathered p R) q ∗ rowTok c p R q)

instance deliv_storable (p : Words) (R : Rows F) (q : Fin 1024) :
    BI.Storable (upEmb : UEmb _ 𝕄) (deliv c p R q) := by
  unfold deliv; infer_instance

/-- The batch of one point: 1024 transfers of one row each, `j` issued, `u` units consumed. -/
abbrev batch (p : Words) (R : Rows F) (j u : ℕ) : sProp 𝕄 :=
  Transfers.Batch (countersEmb (U := Pipeline.UD sig nD τ)) (c : Thread nD τ) (.dma cc0_scratch1.sem) () credit (deliv c p R) j u

/-- The scratch row written by transfer `q` is that row of the gathered contents. -/
theorem landed (p : Words) (f : Planes F) (R : Rows F) (q : Fin 1024) (hq : (word p q).toNat < 41984) (o : Fin 3 → ℕ) (ho)
    (e : o = ![q.val % 2, q.val / 2, 0]) (h : k0_chk1 (word p q)) :
    ∀ i ∈ lane (q.val % 2) (q.val / 2),
      (dst o ho).view.write (Elt F) f ((src (word p q) h).view.read (Elt F) R) Finset.univ i = gathered p R i := by
  intro i hi
  obtain ⟨h0, h1⟩ := mem_lane.mp hi
  have e' := dst_emb o ho _ _ e (ix2 0 (i 2)) i h0 h1 rfl
  conv_lhs => rw [← e']
  rw [View.write_emb_of_mem _ _ (Finset.mem_univ _), View.read_apply, src_emb _ h hq]
  unfold gathered
  have ew : p (ix3 0 (i 0) (i 1)) = word p q := by
    unfold word
    congr 2
    · exact Fin.ext h0
    · exact Fin.ext h1
  rw [cast_eq, cast_eq]
  refine congrArg R ?_
  funext a
  match a with
  | ⟨0, _⟩ => exact Fin.ext (by show (word p q).toNat = (p (ix3 0 (i 0) (i 1))).toNat % 41984; rw [ew, Nat.mod_eq_of_lt hq])
  | ⟨1, _⟩ => rfl

/-- A landed transfer is its delivery. -/
theorem delivers (p : Words) (f : Planes F) (R : Rows F) (q : Fin 1024) (hq : (word p q).toNat < 41984) (o : Fin 3 → ℕ) (ho)
    (e : o = ![q.val % 2, q.val / 2, 0]) (h : k0_chk1 (word p q)) :
    iprop(((dst o ho).view.loc (c : Thread nD τ) ↦[lane (q.val % 2) (q.val / 2)]{fullShare}
        (dst o ho).view.write (Elt F) f (ReadAs.same.apply ((src (word p q) h).view.read (Elt F) R)) Finset.univ)
      ∗ ((src (word p q) h).view.loc (c : Thread nD τ) ↦[(src (word p q) h).view.set]{Transfers.shareTokN fullShare q.val} R))
      ⊢ (deliv c p R q : sProp 𝕄) := by
  unfold deliv
  iintro ⟨Hd, Hs⟩
  isplitl [Hd]
  · iapply (Entails.of_eq (pointsTo_congr (landed p f R q hq o ho e h))) $$ Hd
  rw [src_set]
  iexact Hs

theorem rowTok_src (p : Words) (R : Rows F) (q : Fin 1024) (h : k0_chk1 (word p q)) :
    rowTok c p R q
      = ((src (word p q) h).view.loc (c : Thread nD τ) ↦[(src (word p q) h).view.set]{Transfers.shareTokN fullShare q.val} R : sProp 𝕄) := by
  rw [src_set]

/-! ## The issue loop -/

/-- The position words held whole. -/
abbrev wordsAt (fp : Buf (Elt F) (arg1.view.loc (c : Thread nD τ))) : sProp 𝕄 :=
  arg1.view.loc (c : Thread nD τ) ↦[arg1.view.set]{fullShare} fp

/-- Held whole at contents that read `p`, the words are owned at `p`. -/
theorem words_owned (p : Words) (fp : Buf (Elt F) (arg1.view.loc (c : Thread nD τ))) (hp : arg1.view.read (Elt F) fp = p) :
    (wordsAt c arg1 fp : sProp 𝕄) ⊢ owns (c : Thread nD τ) arg1 fullShare p := by
  unfold owns
  iintro H
  iexists fp
  isplitr; · ipureintro; exact hp
  iexact H

/-- Before trip `k` of the issue loop: `2 k` transfers issued; the scratch rows and the read tokens of the others in hand. -/
def issueAt (p : Words) (f : Planes F) (R : Rows F) (fp : Buf (Elt F) (arg1.view.loc (c : Thread nD τ))) (k : ℕ) (_ : Unit) : sProp 𝕄 :=
  iprop(wordsAt c arg1 fp ∗ batch c p R (2 * k) 0
    ∗ bigSep (Transfers.pending (2 * k)) (laneAt (F := F) c f) ∗ bigSep (Transfers.pending (2 * k)) (rowTok c p R))

variable (i : grid0.Coords) (harg1 : arg1.IsWhole)
  (arg2 : Memref sig .tc .vmem S512x1024 .f32) (harg2 : arg2.IsWhole) (arg3 : Memref sig .tc .vmem S512x2 .f32) (harg3 : arg3.IsWhole)
  (arg4 : Memref sig .tc .vmem S1x1024 .f32) (harg4 : arg4.IsWhole) (arg6 : Memref sig .tc .vmem S512x1024 .f32) (harg6 : arg6.IsWhole)

/-- One trip: the two words of row `k` read, each a row's, and the two transfers of row `k` issued. -/
theorem issue_step (p : Words) (hr : InRange p) (f : Planes F) (R : Rows F) (fp : Buf (Elt F) (arg1.view.loc (c : Thread nD τ)))
    (hp : arg1.view.read (Elt F) fp = p) (k : Fin k0_t1_loop.trips) (acc : Unit) :
    issueAt c arg1 p f R fp k.val acc
      ⊢ wp frame (wpE (defs₀ (F := F)) Variants.none (c : Thread nD τ) none) Set.univ
        (k0_t1_body i arg1 harg1 arg2 harg2 arg3 harg3 arg4 harg4 (Memref.whole main_arg4) (Memref.isWhole_whole _) arg6 harg6
          (Memref.whole cc0_scratch0) (Memref.isWhole_whole _) cc0_scratch1 k acc)
        (issueAt c arg1 p f R fp (k.val + 1)) := by
  have hk := trip_lt k
  have h0 : 2 * k.val < 1024 := by omega
  have h1 : 2 * k.val + 1 < 1024 := by omega
  have o0 : k0_off2 k = ![(2 * k.val) % 2, (2 * k.val) / 2, 0] := by
    rw [off2_eq, show (2 * k.val) % 2 = 0 by omega, show (2 * k.val) / 2 = k.val by omega]
  have o1 : k0_off5 k = ![(2 * k.val + 1) % 2, (2 * k.val + 1) / 2, 0] := by
    rw [off5_eq, show (2 * k.val + 1) % 2 = 1 by omega, show (2 * k.val + 1) / 2 = k.val by omega]
  unfold issueAt
  rw [Transfers.bigSep_pending_step (laneAt (F := F) c f) (2 * k.val) h0, Transfers.bigSep_pending_step (rowTok c p R) (2 * k.val) h0,
    Transfers.bigSep_pending_step (laneAt (F := F) c f) (2 * k.val + 1) h1, Transfers.bigSep_pending_step (rowTok c p R) (2 * k.val + 1) h1,
    show 2 * (k.val + 1) = 2 * k.val + 1 + 1 by omega]
  iintro ⟨Hw, HB, ⟨Hs0, Hs1, Hs⟩, ⟨Ht0, Ht1, Ht⟩⟩
  unfold k0_t1_body
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x2x512) (k0_off1 k) S1x1x1.size (k0_off1_inb k))
    (S := arg1.view.set) (View.set_slice_subset _ _)) $$ Hw
  iintro Hw
  rw [read_word c arg1 p k fp hp]
  iapply (wp_assume Variants.none (c : Thread nD τ) none Set.univ (chk_of _ (hr ⟨2 * k.val, h0⟩)))
  iapply (Transfers.wp_dmaBatch (countersEmb (U := Pipeline.UD sig nD τ)) Variants.none (c : Thread nD τ) none
    (src := src (word p ⟨2 * k.val, h0⟩) (chk_of _ (hr _))) (dst := dst (k0_off2 k) (k0_off2_inb k)) () credit rfl
    (Sd := lane ((2 * k.val) % 2) ((2 * k.val) / 2)) (dst_set _ _ _ _ o0)
    (D := deliv c p R) (j := 2 * k.val) (u := 0) h0 (Nat.zero_le _)
    (delivers c p f R ⟨2 * k.val, h0⟩ (hr _) _ _ o0 _)) $$ [Hs0 Ht0 HB]
  · isplitl [Ht0]; · rw [← rowTok_src c p R ⟨2 * k.val, h0⟩]; iexact Ht0
    isplitl [Hs0]; · iexact Hs0
    iexact HB
  iintro HB
  iapply (wp_load_rect Variants.none (c : Thread nD τ) none Set.univ (m := arg1) (r := Rect.unit (s := S1x2x512) (k0_off4 k) S1x1x1.size (k0_off4_inb k))
    (S := arg1.view.set) (View.set_slice_subset _ _)) $$ Hw
  iintro Hw
  rw [read_word' c arg1 p k fp hp]
  iapply (wp_assume Variants.none (c : Thread nD τ) none Set.univ (chk_of _ (hr ⟨2 * k.val + 1, h1⟩)))
  iapply (Transfers.wp_dmaBatch (countersEmb (U := Pipeline.UD sig nD τ)) Variants.none (c : Thread nD τ) none
    (src := src (word p ⟨2 * k.val + 1, h1⟩) (chk_of _ (hr _))) (dst := dst (k0_off5 k) (k0_off5_inb k)) () credit rfl
    (Sd := lane ((2 * k.val + 1) % 2) ((2 * k.val + 1) / 2)) (dst_set _ _ _ _ o1)
    (D := deliv c p R) (j := 2 * k.val + 1) (u := 0) h1 (Nat.zero_le _)
    (delivers c p f R ⟨2 * k.val + 1, h1⟩ (hr _) _ _ o1 _)) $$ [Hs1 Ht1 HB]
  · isplitl [Ht1]; · rw [← rowTok_src c p R ⟨2 * k.val + 1, h1⟩]; iexact Ht1
    isplitl [Hs1]; · iexact Hs1
    iexact HB
  iintro HB
  sl_step
  isplitl [Hw]; · iexact Hw
  isplitl [HB]; · iexact HB
  isplitl [Hs]; · iexact Hs
  iexact Ht

/-! ## The loop that awaits them -/

/-- Before trip `k` of the awaiting loop: the waits so far recorded, the position words, and either (`k < 512`) the batch
    with `2 k` rows consumed or (after the last trip) the semaphore at zero and every delivery. -/
def drainAt (p : Words) (R : Rows F) (fp : Buf (Elt F) (arg1.view.loc (c : Thread nD τ))) (k : ℕ) (_ : Unit) : sProp 𝕄 :=
  iprop(wordsAt c arg1 fp ∗ (∃ W, owes (c : Thread nD τ) 0 W)
    ∗ (if k < 512 then batch c p R 1024 (2 * k * credit)
       else iprop(semVal ((c : Thread nD τ), SemLoc.dma cc0_scratch1.sem) 0 ∗ bigSep Finset.univ (deliv c p R))))

/-- One trip: the two words of row `k` read again, each a row's, and one row's bytes awaited twice; the last trip's second
    wait is the batch's last. -/
theorem drain_step (p : Words) (hr : InRange p) (R : Rows F) (fp : Buf (Elt F) (arg1.view.loc (c : Thread nD τ)))
    (hp : arg1.view.read (Elt F) fp = p) (k : Fin k0_t2_loop.trips) (acc : Unit) :
    drainAt c arg1 p R fp k.val acc
      ⊢ wp frame (wpE (defs₀ (F := F)) Variants.none (c : Thread nD τ) none) Set.univ
        (k0_t2_body i arg1 harg1 arg2 harg2 arg3 harg3 arg4 harg4 (Memref.whole main_arg4) (Memref.isWhole_whole _) arg6 harg6
          (Memref.whole cc0_scratch0) (Memref.isWhole_whole _) cc0_scratch1 k acc)
        (drainAt c arg1 p R fp (k.val + 1)) := by
  have hk : k.val < 512 := trip_lt k
  have h0 : 2 * k.val < 1024 := by omega
  have h1 : 2 * k.val + 1 < 1024 := by omega
  have hc := credit_pos
  have e2 : 2 * k.val * credit + credit + credit = 2 * (k.val + 1) * credit := by
    rw [show 2 * (k.val + 1) = 2 * k.val + 1 + 1 by omega, Nat.add_mul, Nat.add_mul, Nat.one_mul]
  have hle : 2 * (k.val + 1) * credit ≤ credit * 1024 := by
    rw [Nat.mul_comm]; exact Nat.mul_le_mul_left _ (by omega)
  have hlt : 2 * k.val * credit + credit < credit * 1024 := by omega
  unfold drainAt
  rw [if_pos hk]
  iintro ⟨Hw, ⟨%W, HO⟩, HB⟩
  unfold k0_t2_body
  simp only [smemLoad, smemLoadElt, Prog.lift, Prog.bind_op, Prog.bind_ret, Prog.pure_eq_ret, Prog.bind_assoc]
  iapply (wp_load_rect Variants.none (c : Thread nD τ) none Set.univ (m := arg1) (r := Rect.unit (s := S1x2x512) (k0_off7 k) S1x1x1.size (k0_off7_inb k))
    (S := arg1.view.set) (View.set_slice_subset _ _)) $$ Hw
  iintro Hw
  rw [show (arg1.access (Rect.unit (s := S1x2x512) (k0_off7 k) S1x1x1.size (k0_off7_inb k))).read (Elt F) fp _
    = word p ⟨2 * k.val, h0⟩ from read_word c arg1 p k fp hp _]
  iapply (wp_assume Variants.none (c : Thread nD τ) none Set.univ (chk_of _ (hr ⟨2 * k.val, h0⟩)))
  iapply (Transfers.wp_waitBatch (countersEmb (U := Pipeline.UD sig nD τ)) Variants.none (c : Thread nD τ) none
    (srcw := src (word p ⟨2 * k.val, h0⟩) (chk_of _ (hr _))) (dstw := dst (k0_off8 k) (k0_off8_inb k)) (hsrc := View.wordExact_bits rfl)
      (hdst := (View.wordExact_bits rfl).reshape _ _) () (N := credit) rfl (D := deliv c p R) (u := 2 * k.val * credit) hlt) $$ [HB HO]
  · isplitl [HB] <;> iassumption
  iintro ⟨HB, HO⟩
  iapply (wp_load_rect Variants.none (c : Thread nD τ) none Set.univ (m := arg1) (r := Rect.unit (s := S1x2x512) (k0_off10 k) S1x1x1.size (k0_off10_inb k))
    (S := arg1.view.set) (View.set_slice_subset _ _)) $$ Hw
  iintro Hw
  rw [show (arg1.access (Rect.unit (s := S1x2x512) (k0_off10 k) S1x1x1.size (k0_off10_inb k))).read (Elt F) fp _
    = word p ⟨2 * k.val + 1, h1⟩ from read_word' c arg1 p k fp hp _]
  iapply (wp_assume Variants.none (c : Thread nD τ) none Set.univ (chk_of _ (hr ⟨2 * k.val + 1, h1⟩)))
  rcases Nat.lt_or_ge (k.val + 1) 512 with h | h
  · rw [if_pos h]
    iapply (Transfers.wp_waitBatch (countersEmb (U := Pipeline.UD sig nD τ)) Variants.none (c : Thread nD τ) none
      (srcw := src (word p ⟨2 * k.val + 1, h1⟩) (chk_of _ (hr _))) (dstw := dst (k0_off11 k) (k0_off11_inb k)) (hsrc := View.wordExact_bits rfl)
      (hdst := (View.wordExact_bits rfl).reshape _ _) () (N := credit) rfl (D := deliv c p R) (u := 2 * k.val * credit + credit)
      (by rw [e2, Nat.mul_comm]; exact Nat.mul_lt_mul_of_pos_left (by omega) hc)) $$ [HB HO]
    · isplitl [HB] <;> iassumption
    iintro ⟨HB, HO⟩
    sl_step
    isplitl [Hw]; · iexact Hw
    isplitl [HO]; · iexists _; iexact HO
    rw [← e2]; iexact HB
  · rw [if_neg (Nat.not_lt.mpr h)]
    iapply (Transfers.wp_waitBatchLast (countersEmb (U := Pipeline.UD sig nD τ)) Variants.none (c : Thread nD τ) none
      (srcw := src (word p ⟨2 * k.val + 1, h1⟩) (chk_of _ (hr _))) (dstw := dst (k0_off11 k) (k0_off11_inb k)) (hsrc := View.wordExact_bits rfl)
      (hdst := (View.wordExact_bits rfl).reshape _ _) () (N := credit) rfl credit_pos (D := deliv c p R) (u := 2 * k.val * credit + credit)
      (by rw [e2, show k.val + 1 = 512 by omega, Nat.mul_comm])) $$ [HB HO]
    · isplitl [HB] <;> iassumption
    iintro ⟨HD, Hv, HO⟩
    sl_step
    isplitl [Hw]; · iexact Hw
    isplitl [HO]; · iexists _; iexact HO
    isplitl [Hv]; · iexact Hv
    iexact HD

/-! ## The buffers taken apart and put back -/

/-- What is left of the experts' rows while 1024 of them are lent: the share kept, and each token's other rows. -/
def kept (p : Words) (R : Rows F) : sProp 𝕄 :=
  iprop((rowsLoc c ↦[Finset.univ]{Transfers.shareDrop fullShare 1024} R)
    ∗ bigSep (Finset.univ : Finset (Fin 1024)) (fun q =>
        (rowsLoc c ↦[Finset.univ \ row (word p q).toNat]{Transfers.shareTokN fullShare q.val} R : sProp 𝕄)))

/-- The experts' rows are what is kept and the 1024 lent rows. -/
theorem rows_eq (p : Words) (R : Rows F) :
    (rowsLoc c ↦{fullShare} R : sProp 𝕄) ⊣⊢ iprop(kept c p R ∗ bigSep Finset.univ (rowTok c p R)) := by
  have hq : ∀ q : Fin 1024, (rowsLoc c ↦[Finset.univ]{Transfers.shareTokN fullShare q.val} R : sProp 𝕄)
      = iprop(rowTok c p R q ∗ (rowsLoc c ↦[Finset.univ \ row (word p q).toNat]{Transfers.shareTokN fullShare q.val} R)) :=
    fun q => take_part (ℓ := rowsLoc c) _ R (Finset.subset_univ _)
  have hall : bigSep (Finset.range 1024) (fun q => (rowsLoc c ↦[Finset.univ]{Transfers.shareTokN fullShare q} R : sProp 𝕄))
      = iprop(bigSep Finset.univ (rowTok c p R) ∗ bigSep (Finset.univ : Finset (Fin 1024)) (fun q =>
        (rowsLoc c ↦[Finset.univ \ row (word p q).toNat]{Transfers.shareTokN fullShare q.val} R : sProp 𝕄))) := by
    rw [bigSep_naturals]; exact (BI.bigSep_congr fun q _ => hq q).trans (BI.bigSep_sep _ _ _)
  unfold kept
  constructor
  · iintro H
    ihave H' := (Transfers.pointsTo_toks_range fullShare 1024).1 $$ H
    rw [hall]
    icases H' with ⟨Hk, Hr, Hs⟩
    isplitl [Hk Hs]
    · isplitl [Hk] <;> iassumption
    iexact Hr
  · iintro ⟨⟨Hk, Hs⟩, Hr⟩
    iapply (Transfers.pointsTo_toks_range fullShare 1024).2
    rw [hall]
    isplitl [Hk]; · iexact Hk
    isplitl [Hr] <;> iassumption

/-- The scratch is its 1024 rows one by one. -/
theorem lanes_eq (f : Planes F) :
    (scratchLoc c ↦{fullShare} f : sProp 𝕄) = bigSep Finset.univ (laneAt (F := F) c f) := by
  have h := pointsTo_biUnion (ℓ := scratchLoc c) (q := fullShare) (f := f)
    (Ix := Unit) (Name := ℕ) (U := Pipeline.UD sig nD τ) (Lvl := ℕ)
    (Finset.univ : Finset (Fin 1024)) (fun q => lane (q.val % 2) (q.val / 2)) (fun q _ q' _ hne => lanes_disjoint q q' hne)
  rw [← h]
  exact congrArg (fun S => (scratchLoc c ↦[S]{fullShare} f : sProp 𝕄)) lanes_all.symm

/-! ## The body -/

/-- After the issue loop every transfer is in flight. -/
theorem issued (p : Words) (f : Planes F) (R : Rows F) (fp : Buf (Elt F) (arg1.view.loc (c : Thread nD τ))) (acc : Unit) :
    issueAt c arg1 p f R fp k0_t1_loop.trips acc ⊢ iprop(wordsAt c arg1 fp ∗ batch c p R 1024 0) := by
  unfold issueAt
  rw [trips1]
  iintro ⟨Hw, HB, -, -⟩
  isplitl [Hw] <;> iassumption

/-- After the awaiting loop every scratch row holds its row and every lent row is back. -/
theorem drained (p : Words) (R : Rows F) (fp : Buf (Elt F) (arg1.view.loc (c : Thread nD τ))) (acc : Unit) :
    drainAt c arg1 p R fp k0_t2_loop.trips acc
      ⊢ iprop(wordsAt c arg1 fp ∗ (∃ W, owes (c : Thread nD τ) 0 W) ∗ semVal ((c : Thread nD τ), SemLoc.dma cc0_scratch1.sem) 0
        ∗ bigSep Finset.univ (laneAt (F := F) c (gathered p R)) ∗ bigSep Finset.univ (rowTok c p R)) := by
  unfold drainAt
  rw [trips2, if_neg (Nat.lt_irrefl _)]
  have e : bigSep Finset.univ (deliv c p R)
      = iprop(bigSep Finset.univ (laneAt (F := F) c (gathered p R)) ∗ bigSep Finset.univ (rowTok c p R)) := BI.bigSep_sep _ _ _
  rw [e]

/-- The rows a point writes, from its gates, its residual rows, the two planes of expert rows. -/
def combined (γ : S512x2.Idx → Elt F .f32) (x : S512x1024.Idx → Elt F .f32) (G : Planes F) : S512x1024.Idx → Elt F .f32 :=
  k0_pay1 γ x (first G) (second G)

/-- THE BODY of one point: from the position words, the residual rows, the gates, the norm's weight, the experts' rows, the
    scratch and the semaphore at zero it runs to the combined rows in the result tile, the inputs as they were. -/
theorem body_run (p : Words) (hr : InRange p) (x : S512x1024.Idx → Elt F .f32) (γ : S512x2.Idx → Elt F .f32) (w : S1x1024.Idx → Elt F .f32)
    (R : Rows F) (Y : S512x1024.Idx → Elt F .f32) (f : Planes F) (W : Waits sig Unit) :
    (iprop(owns (c : Thread nD τ) arg1 fullShare p ∗ owns (c : Thread nD τ) arg2 fullShare x ∗ owns (c : Thread nD τ) arg3 fullShare γ
      ∗ owns (c : Thread nD τ) arg4 fullShare w ∗ owns (c : Thread nD τ) arg6 fullShare Y
      ∗ (rowsLoc c ↦{fullShare} R) ∗ (scratchLoc c ↦{fullShare} f)
      ∗ semVal ((c : Thread nD τ), SemLoc.dma cc0_scratch1.sem) 0 ∗ owes (c : Thread nD τ) 0 W) : sProp 𝕄)
      ⊢ wp frame (wpE (defs₀ (F := F)) Variants.none (c : Thread nD τ) none) Set.univ
        (cc0_combine i arg1 harg1 arg2 harg2 arg3 harg3 arg4 harg4 (Memref.whole main_arg4) (Memref.isWhole_whole _) arg6 harg6
          (Memref.whole cc0_scratch0) (Memref.isWhole_whole _) cc0_scratch1)
        (fun _ => iprop(owns (c : Thread nD τ) arg1 fullShare p ∗ owns (c : Thread nD τ) arg2 fullShare x ∗ owns (c : Thread nD τ) arg3 fullShare γ
          ∗ owns (c : Thread nD τ) arg4 fullShare w ∗ owns (c : Thread nD τ) arg6 fullShare (combined γ x (gathered p R))
          ∗ (rowsLoc c ↦{fullShare} R) ∗ (∃ f' : Planes F, scratchLoc c ↦{fullShare} f')
          ∗ semVal ((c : Thread nD τ), SemLoc.dma cc0_scratch1.sem) 0 ∗ ∃ W', owes (c : Thread nD τ) 0 W')) := by
  rw [cc0_combine_eq_skeleton]
  unfold cc0_combine_skel
  conv_lhs => rw [show (owns (c : Thread nD τ) arg1 fullShare p : sProp 𝕄)
    = iprop(∃ fp, ⌜arg1.view.read (Elt F) fp = p⌝ ∗ (arg1.view.loc (c : Thread nD τ) ↦[arg1.view.set]{fullShare} fp)) from rfl]
  iintro ⟨⟨%fp, %hp, Hw⟩, H2, H3, H4, H6, HR, Hv, Hq, HO⟩
  ihave Hs := (Entails.of_eq (lanes_eq c f)) $$ Hv
  ihave HR' := (rows_eq c p R).1 $$ HR
  icases HR' with ⟨Hkept, Hr⟩
  imod (Transfers.batch_alloc' (Lvl := ℕ) (countersEmb (U := Pipeline.UD sig nD τ)) (c : Thread nD τ) () credit (deliv c p R)
    (sm := .dma cc0_scratch1.sem) (E := Set.univ)) $$ Hq with HB
  simp only [Prog.bind_assoc]
  sl_for (issueAt c arg1 p f R fp) $$ [Hw HB Hs Hr]
  · intro k acc; exact issue_step c arg1 i harg1 arg2 harg2 arg3 harg3 arg4 harg4 arg6 harg6 p hr f R fp hp k acc
  · unfold issueAt
    isplitl [Hw]; · iexact Hw
    isplitl [HB]; · iexact HB
    rw [show 2 * 0 = 0 from rfl, Transfers.pending_zero]
    isplitl [Hs] <;> iassumption
  iintro %acc HI
  ihave HI' := (issued c arg1 p f R fp acc) $$ HI
  icases HI' with ⟨Hw, HB⟩
  sl_for (drainAt c arg1 p R fp) $$ [Hw HB HO]
  · intro k acc; exact drain_step c arg1 i harg1 arg2 harg2 arg3 harg3 arg4 harg4 arg6 harg6 p hr R fp hp k acc
  · unfold drainAt
    rw [if_pos (by decide)]
    isplitl [Hw]; · iexact Hw
    isplitl [HO]; · iexists _; iexact HO
    iexact HB
  iintro %acc' HD
  ihave HD' := (drained c arg1 p R fp acc') $$ HD
  icases HD' with ⟨Hw, HO, Hq, Hs, Hr⟩
  ihave Hv := (Entails.of_eq (lanes_eq c (gathered p R)).symm) $$ Hs
  simp only [Prog.lift, Prog.bind_op, Prog.bind_ret, Prog.pure_eq_ret, Prog.bind_assoc]
  iapply (load_whole c arg3 inb_S512x2_S512x2_0_0 γ) $$ H3
  iintro H3
  iapply (load_whole c arg2 inb_S512x1024_S512x1024_0_0 x) $$ H2
  iintro H2
  iapply (wp_load_rect Variants.none (c : Thread nD τ) none Set.univ (m := (Memref.whole cc0_scratch0 : Memref sig .tc .vmem S2x512x1024 .f32))
    (r := Rect.unit (s := S2x512x1024) ![0, 0, 0] S1x512x1024.size inb_S2x512x1024_S1x512x1024_0_0_0) (S := Finset.univ) (Finset.subset_univ _)) $$ Hv
  iintro Hv
  iapply (wp_load_rect Variants.none (c : Thread nD τ) none Set.univ (m := (Memref.whole cc0_scratch0 : Memref sig .tc .vmem S2x512x1024 .f32))
    (r := Rect.unit (s := S2x512x1024) ![1, 0, 0] S1x512x1024.size inb_S2x512x1024_S1x512x1024_1_0_0) (S := Finset.univ) (Finset.subset_univ _)) $$ Hv
  iintro Hv
  iapply (load_whole c arg6 inb_S512x1024_S512x1024_0_0 Y) $$ H6
  iintro H6
  iapply (store_owned c arg6 inb_S512x1024_S512x1024_0_0 _ Y) $$ H6
  iintro H6
  simp only [Prog.bind, Prog.pure_eq_ret]
  sl_step
  isplitl [Hw]
  · iapply (words_owned c arg1 p fp hp) $$ Hw
  isplitl [H2]; · iexact H2
  isplitl [H3]; · iexact H3
  isplitl [H4]; · iexact H4
  isplitl [H6]; · iexact H6
  isplitl [Hkept Hr]
  · iapply (rows_eq c p R).2
    isplitl [Hkept] <;> iassumption
  isplitl [Hv]; · iexists _; iexact Hv
  isplitl [Hq]; · iexact Hq
  iexact HO

end Body

end Cert.Kernel7Ideal.Hand
-- ==== Proof.FirstCombineRun.lean ====
/-
  Layer 0's combine program's run, at any float instance, for position words that name rows: each point's blocks read off the
  arguments, the invariant between points, and the run of the whole program to a state with the arguments unchanged, every
  semaphore at zero and the result `resultOf` — every token's combined row.
-/
module

public import proofs.«01_k».proof.Proof.FirstCombine
public import proofs.«01_k».proof.Proof.CombineRun
public import Idealize.ShloMosaic.Lib.Pipeline.FrameSuffix
public import Idealize.ShloMosaic.Lib.Pipeline.Value

@[expose] public section

set_option maxRecDepth 16384

noncomputable section

namespace Cert.Kernel7Ideal.Hand

open Cert.Kernel7Ideal Cert.Kernel7Ideal.Gen
open Cert.Kernel4Ideal.Hand (Words Rows Planes InRange gathered Named)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

theorem main_before (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The arguments as launched, and the points' blocks of them -/

/-- The position words, the residual rows, the gates, the norm's weight and the experts' rows. -/
abbrev posOf (c : Dev nD) : S33x2x512.Idx → BitVec 32 := m ((c : Thread nD τ).loc main_arg0)
abbrev midOf (c : Dev nD) : S16896x1024.Idx → Elt F .f32 := m ((c : Thread nD τ).loc main_arg1)
abbrev gateOf (c : Dev nD) : S8x16896.Idx → Elt F .f32 := m ((c : Thread nD τ).loc main_arg2)
abbrev normOf (c : Dev nD) : S1024.Idx → Elt F .f32 := m ((c : Thread nD τ).loc main_arg3)
abbrev rowsOf (c : Dev nD) : Rows F := m ((c : Thread nD τ).loc main_arg4)

/-- The region finds the two gate rows as columns, -/
theorem V_main_v1 (c : Dev nD) : (V m c main_v1 : S16896x2.Idx → Elt F .f32)
    = transpose S16896x2 [1, 0] (extractStridedSlice S2x16896 ![0, 0] (gateOf m c) slices_S8x16896_S2x16896_0_0) transposes_S2x16896_S16896x2_1_0 := by
  show StableHlo.after hostOps0 (fun b => m (c, b)) (Proc.devRef .tc main_v1) = _
  after_results
/-- The points are 33. -/
theorem point_lt (t : Fin cfg0.N) : t.val < 33 := Nat.lt_of_lt_of_eq t.isLt N_0

theorem index0 : ∀ t : Fin cfg0.N, win0_0.index t = ![t.val, 0, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel

/-- Row `r` of point `t` among all the tokens. -/
abbrev tokenAt (t : Fin cfg0.N) (r : Fin 512) : Fin 16896 := ⟨512 * t.val + r.val, by have := point_lt t; have := r.isLt; omega⟩

/-- Point `t`'s words are plane `t` of the words. -/
theorem iblk_words (c : Dev nD) (t : Fin cfg0.N) (y : S1x2x512.Idx) :
    (iblk m c 0 t : S1x2x512.Idx → BitVec 32) y = posOf m c (ix3 ⟨t.val, point_lt t⟩ (y 1) (y 2)) := by
  unfold iblk
  rw [View.read_apply, cast_eq]
  refine (congrFun (V_main_arg0 m c) _).trans (congrArg (posOf m c) ?_)
  funext a
  apply Fin.ext
  have h0 : (y 0).val = 0 := by have : (y 0).val < 1 := (y 0).isLt; omega
  match a with
  | ⟨0, _⟩ => blk_simp [index0]; try rfl
  | ⟨1, _⟩ => blk_simp [index0]; try rfl
  | ⟨2, _⟩ => blk_simp [index0]; try rfl

/-- Point `t`'s residual block is rows `512 t` to `512 t + 511`. -/
theorem iblk_mid (c : Dev nD) (t : Fin cfg0.N) (y : S512x1024.Idx) :
    (iblk m c 1 t : S512x1024.Idx → Elt F .f32) y = midOf m c (ix2 (tokenAt t (y 0)) (y 1)) := by
  unfold iblk
  rw [View.read_apply, cast_eq]
  refine (congrFun (V_main_arg1 m c) _).trans (congrArg (midOf m c) ?_)
  funext a
  apply Fin.ext
  match a with
  | ⟨0, _⟩ => blk_simp [index1]; show t.val * 512 + (y 0).val = 512 * t.val + (y 0).val; omega
  | ⟨1, _⟩ => blk_simp [index1]; rfl

/-- Point `t`'s gates are its tokens' entries of the two gate rows. -/
theorem iblk_gate (c : Dev nD) (t : Fin cfg0.N) (y : S512x2.Idx) :
    (iblk m c 2 t : S512x2.Idx → Elt F .f32) y
      = gateOf m c (ix2 ⟨(y 1).val, by have : (y 1).val < 2 := (y 1).isLt; omega⟩ (tokenAt t (y 0))) := by
  unfold iblk
  rw [View.read_apply, cast_eq]
  have e : ((cfg0.win 2).blk t).view.emb y = (ix2 (tokenAt t (y 0)) (y 1) : S16896x2.Idx) := by
    funext a
    apply Fin.ext
    match a with
    | ⟨0, _⟩ => blk_simp [index2]; show t.val * 512 + (y 0).val = 512 * t.val + (y 0).val; omega
    | ⟨1, _⟩ => blk_simp [index2]; rfl
  refine (congrArg (V m c main_v1 : S16896x2.Idx → Elt F .f32) e).trans ?_
  rw [V_main_v1]
  refine (transpose_apply _ _ _ _ (ix2 (y 1) (tokenAt t (y 0))) fun b => ?_).trans ?_
  · match b with
    | ⟨0, _⟩ => rfl
    | ⟨1, _⟩ => rfl
  refine extractStridedSlice_apply _ _ _ _ _ fun a => ?_
  match a with
  | ⟨0, _⟩ => show (y 1).val = 0 + (y 1).val; omega
  | ⟨1, _⟩ => show 512 * t.val + (y 0).val = 0 + (512 * t.val + (y 0).val); omega

/-! ## The proof data -/

abbrev osem0 : Fin 1 → SemLoc sig := fun j => (![SemLoc.dma 9] : Fin 1 → SemLoc sig) j
theorem ownSemFacts0 : Pipeline.OwnSemFacts spec0 osem0 := by decide

theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 9) 0 := by
  rw [Pipeline.ownSems0_eq_of_list c osem0 [0] (by decide) (by decide)]; rfl

/-- Between points: the scratch at anything, the program's own semaphore at zero, the experts' rows as launched. -/
def Inv (c : Dev nD) : sProp 𝕄 := Pipeline.ΦD osem0 spec0 ({main_arg4} : Finset (Ref sig .tc)) (V m) c

theorem inv_eq (c : Dev nD) :
    Inv m c = iprop((∃ f : Planes F, scratchLoc c ↦{fullShare} f) ∗ (∃ r, prngReg c r)
      ∗ semVal ((c : Thread nD τ), SemLoc.dma 9) 0 ∗ (rowsLoc c ↦{fullShare} rowsOf m c)) := by
  unfold Inv
  rw [Pipeline.ΦD_eq, ownSems00_eq, scopedRest0_eq, BI.bigSep_singleton, V_main_arg4]
  rfl

/-- What point `t` writes. -/
def result (c : Dev nD) (t : Fin cfg0.N) : S512x1024.Idx → Elt F .f32 :=
  combined (iblk m c 2 t) (iblk m c 1 t) (gathered (iblk m c 0 t) (rowsOf m c))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c t
  Φ _ := Inv m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = result m c t := by dsimp only [dats]

theorem found0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem found1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem found2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem found3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## One point -/

theorem inRange_point {c : Dev nD} (h : Named (posOf m c)) (t : Fin cfg0.N) : InRange (iblk m c 0 t) := fun q =>
  (congrArg BitVec.toNat (iblk_words m c t _)).trans_lt (h _)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- What one run of the body leaves at point `t`. -/
def runPost (c : Dev nD) (t : Fin cfg0.N) : PUnit → sProp 𝕄 := fun _ =>
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (result m c t)
    ∗ (rowsLoc c ↦{fullShare} rowsOf m c) ∗ (∃ f' : Planes F, scratchLoc c ↦{fullShare} f')
    ∗ semVal ((c : Thread nD τ), SemLoc.dma cc0_scratch1.sem) 0 ∗ ∃ W', owes (c : Thread nD τ) 0 W')

variable (hP : ∀ c : Dev nD, Named (posOf m c))
include hP

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Inv m c from rfl, after0_0, after0_1, after0_2, after0_3, after0_4]
  rw [show (dats m 0 c).Φ t.castSucc = Inv m c from rfl, inv_eq]
  unfold Dat.owesAt Pipeline.owesWithin
  rw [show (dats m 0 c).owed t.castSucc = 0 from rfl, show (dats m 0 c).owed t.succ = 0 from rfl]
  simp only [found0, found1, found2, found3]
  refine BIBase.Entails.trans (Q := iprop(wp frame (wpE (defs₀ (F := F)) Variants.none c none) Set.univ (bodyAt0 t) (runPost m c t)
      ∗ (∃ r, prngReg c r))) ?_ ((wp_frame_r _ _ _).trans (wp_mono _ _ _ ?_))
  · iintro ⟨⟨⟨%f, Hf⟩, Hg, Hs, HR⟩, ⟨%W, -, HW⟩, ⟨%d0, H0⟩, ⟨%d1, H1⟩, ⟨%d2, H2⟩, ⟨%d3, H3⟩, ⟨%d4, H4⟩⟩
    isplitr [Hg]
    · iapply (body_run c _ (grid0.coords t) _ _ _ _ _ _ _ _ _ (iblk m c 0 t) (inRange_point m (hP c) t) (iblk m c 1 t) (iblk m c 2 t) (iblk m c 3 t)
        (rowsOf m c) _ f W)
      isplitl [H0]; · iexact H0
      isplitl [H1]; · iexact H1
      isplitl [H2]; · iexact H2
      isplitl [H3]; · iexact H3
      isplitl [H4]; · iexact H4
      isplitl [HR]; · iexact HR
      isplitl [Hf]; · iexact Hf
      isplitl [Hs]; · iexact Hs
      iexact HW
    iexact Hg
  intro _
  unfold runPost
  iintro ⟨⟨H0, H1, H2, H3, H4, HR, Hf, Hs, ⟨%W', HW'⟩⟩, Hg⟩
  isplitl [Hg Hs Hf HR]
  · isplitl [Hf]; · iexact Hf
    isplitl [Hg]; · iexact Hg
    isplitl [Hs]; · iexact Hs
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

omit hP in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row t]
  exact triple_restated (sound_body m hP c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 ({main_arg4} : Finset (Ref sig .tc))
    (by decide) m ρ main
    (hbody := fun c => (body_obligation m hP c).loose) (hshare := fun c => (dats m 0 c).share_full fun _ => rfl)
    (howed := fun _ _ => rfl) (V := V m) (hmain := main_before m Variants.none) (hA := A_eq m)
    (hin := fun c => .rfl) (hout := fun c => .rfl)

omit hP in
/-- Every token's combined row: row `n` is row `n % 512` of what point `n / 512` writes. -/
def resultOf (c : Dev nD) : S16896x1024.Idx → Elt F .f32 := fun i =>
  result m c ⟨(i 0).val / 512, by have h : (i 0).val < 16896 := (i 0).isLt; rw [show cfg0.N = 33 from N_0]; omega⟩
    (ix2 ⟨(i 0).val % 512, Nat.mod_lt _ (by omega)⟩ (i 1))

omit hP in
theorem result_at (c : Dev nD) (t s : Fin cfg0.N) (y x : S512x1024.Idx) (hs : s = t) (hx : x = y) : result m c t y = result m c s x := by
  rw [hs, hx]

omit hP in
theorem arr4 (c : Dev nD) : (dats m 0 c).arrAt 4 cfg0.N = resultOf m c := by
  refine (dats m 0 c).arrAt_eq_of_emb 4 (resultOf m c) (fun t hf y => ?_) (fun i => ?_)
  · have h0 : (((cfg0.win 4).blk t).view.emb y (0 : Fin 2)).val = 512 * t.val + (y (0 : Fin 2)).val := by
      blk_simp [index4]; show t.val * 512 + (y (0 : Fin 2)).val = 512 * t.val + (y (0 : Fin 2)).val; omega
    have h1 : (((cfg0.win 4).blk t).view.emb y (1 : Fin 2)).val = (y (1 : Fin 2)).val := by
      blk_simp [index4]; try rfl
    have hy : (y (0 : Fin 2)).val < 512 := (y (0 : Fin 2)).isLt
    refine result_at m c t _ y _ (Fin.ext ?_) (funext fun a => Fin.ext ?_)
    · show (((cfg0.win 4).blk t).view.emb y (0 : Fin 2)).val / 512 = t.val
      rw [h0]; omega
    · match a with
      | ⟨0, _⟩ =>
        show (((cfg0.win 4).blk t).view.emb y (0 : Fin 2)).val % 512 = (y (0 : Fin 2)).val
        rw [h0]; omega
      | ⟨1, _⟩ => exact h1
  · have hi : (i (0 : Fin 2)).val < 16896 := (i (0 : Fin 2)).isLt
    have hi1 : (i (1 : Fin 2)).val < 1024 := (i (1 : Fin 2)).isLt
    have hN := N_0
    let t : Fin cfg0.N := ⟨(i (0 : Fin 2)).val / 512, by rw [show cfg0.N = 33 from hN]; omega⟩
    refine ⟨t, flush0_4 _, ?_⟩
    mem_blk [index4]
    refine ⟨?_, ?_⟩
    · show (i (0 : Fin 2)).val / 512 * 512 ≤ (i (0 : Fin 2)).val ∧ (i (0 : Fin 2)).val < (i (0 : Fin 2)).val / 512 * 512 + 512
      omega
    · show 0 * 1024 ≤ (i (1 : Fin 2)).val ∧ (i (1 : Fin 2)).val < 0 * 1024 + 1024
      omega

/-- The whole program: the arguments end as launched, the semaphores at zero, and the result is every token's combined row. -/
theorem run_value : θ_run defs (onTc (τ := τ) (main (F := F))) ⟨m, fun _ => 0, ρ⟩ (fun r => (∀ c : Dev nD,
      r.2.mem ((c.tc : Thread nD τ).loc main_v3) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 4).trans (arr4 m c),
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩) (run_main m ρ hP)

end Cert.Kernel7Ideal.Hand
-- ==== Proof.FirstCombineSpec.lean ====
/-
  Layer 0's combine's values over the extended reals: a token's row of the kernel and of the reference is the same sum of its
  residual row and its two gated expert rows (the final combine's rows before its norm, Proof/CombineSpec.lean). No program
  runs here.
-/
module

public import proofs.«01_k».proof.Proof.FirstCombineRun
public import proofs.«01_k».proof.Proof.CombineSpec
public import proofs.«01_k».proof.Proof.Gen.Reference7Ideal.Run

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.ValueIdx Idealize.ShloMosaic.ValueKit
open Cert.Kernel4Ideal.Hand (Planes Named gathered mixed mix mix_apply wordAt sums sums_apply)
open scoped BigOperators

/-- The kernel's row at an entry. -/
theorem combined_apply (γ : S512x2.Idx → EReal) (x : S512x1024.Idx → EReal) (G : Planes Ideal) (r : Fin 512) (d : Fin 1024) :
    combined (F := Ideal) γ x G (ix2 r d) = mixed (x (ix2 r d)) (γ (ix2 r 0)) (G (ix3 0 r d)) (γ (ix2 r 1)) (G (ix3 1 r d)) := by
  refine Eq.trans (b := mix γ x G (ix2 r d)) ?_ (mix_apply γ x G r d)
  unfold combined k0_pay1
  rfl

variable (m : (ℓ : Loc nD τ sig) → Buf (Elt Ideal) ℓ)

/-- Every token's row of the kernel is the reference's sum of the same arguments. -/
theorem same_values (c : Dev nD) (hP : Named (posOf m c)) :
    sums (posOf m c) (midOf m c) (gateOf m c) (rowsOf m c) = resultOf m c := by
  funext i
  obtain ⟨n, d, rfl⟩ : ∃ (n : Fin 16896) (d : Fin 1024), i = ix2 n d := ⟨i 0, i 1, eq_ix2 i⟩
  have hn := n.isLt
  have hN := N_0
  let t : Fin cfg0.N := ⟨n.val / 512, by rw [show cfg0.N = 33 from hN]; omega⟩
  let r : Fin 512 := ⟨n.val % 512, Nat.mod_lt _ (by omega)⟩
  have ht : tokenAt t r = n := Fin.ext (by show 512 * (n.val / 512) + n.val % 512 = n.val; omega)
  refine (sums_apply (posOf m c) (midOf m c) (gateOf m c) (rowsOf m c) hP n d).trans ?_
  show _ = combined (F := Ideal) (iblk m c 2 t) (iblk m c 1 t) (gathered (iblk m c 0 t) (rowsOf m c)) (ix2 r d)
  refine Eq.trans ?_ (combined_apply (iblk m c 2 t) (iblk m c 1 t) (gathered (iblk m c 0 t) (rowsOf m c)) r d).symm
  have ex : (iblk m c 1 t : S512x1024.Idx → EReal) (ix2 r d) = midOf m c (ix2 n d) :=
    (iblk_mid m c t (ix2 r d)).trans (congrArg (fun q => midOf m c (ix2 q d)) ht)
  have eg (p : Fin 2) : (iblk m c 2 t : S512x2.Idx → EReal) (ix2 r p) = gateOf m c (ix2 ⟨p.val, by omega⟩ n) :=
    (iblk_gate m c t (ix2 r p)).trans (congrArg (fun q => gateOf m c (ix2 ⟨p.val, by omega⟩ q)) ht)
  have er (p : Fin 2) : gathered (F := Ideal) (iblk m c 0 t) (rowsOf m c) (ix3 p r d)
      = rowsOf m c (ix2 ⟨(posOf m c (wordAt p n)).toNat, hP _⟩ d) := by
    refine congrArg (fun q : Fin 41984 => rowsOf m c (ix2 q d)) (Fin.ext ?_)
    have e : (iblk m c 0 t : S1x2x512.Idx → BitVec 32) (ix3 0 p r) = posOf m c (wordAt p n) := iblk_words m c t (ix3 0 p r)
    show ((iblk m c 0 t : S1x2x512.Idx → BitVec 32) (ix3 0 p r)).toNat % 41984 = _
    rw [e, Nat.mod_eq_of_lt (hP _)]
  rw [ex, eg, eg, er, er]
  rfl

end Cert.Kernel7Ideal.Hand
-- ==== Proof.Project.lean ====
/-
  The in-projection's body: one grid point takes 512 rows of the residual stream, normalises and projects them, convolves
  the gated product with its two predecessors along the sequence (the last point: along each short sequence, from that
  sequence's cache), and keeps the block's last eight rows in scratch for the point after. Here:
  the whole body, at any float instance.
-/
module

public import proofs.«01_k».proof.Proof.Access
public import proofs.«01_k».proof.Proof.Gen.Kernel5Ideal.Skeleton
public import proofs.«01_k».proof.Proof.Gen.Kernel5Ideal.Launch
public import Idealize.ShloMosaic.Lib.Pipeline.Frame
public import Idealize.ShloMosaic.Lib.Pipeline.Kit
public import Idealize.ShloMosaic.Lib.Pipeline.FrameBody
public import Idealize.ShloMosaic.Lib.Pipeline.FrameValue
public import Idealize.ShloMosaic.Lib.Tactic
public import Idealize.ShloMosaic.Lib.Pipeline.ValueKit.Geometry
public import Idealize.ShloMosaic.Lib.ViewIndex
public import Idealize.ShloMosaic.Lib.ValueIdxCore

@[expose] public section

set_option maxRecDepth 16384

noncomputable section

namespace Cert.Kernel5Ideal.Hand

open Cert.Kernel5Ideal Cert.Kernel5Ideal.Gen
open Cert.Access (load_owned load_whole store_owned)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The program's resources. -/
local notation "𝕄" => MT nD τ sig Unit (Elt F) ℕ (UR sig nD τ) ℕ

/-! ## What one point does -/

/-- Whether the point is the first one, which clears the scratch. -/
abbrev first (i : grid0.Coords) : BitVec 1 :=
  Scalar.cmpi .ne (Scalar.extui (Scalar.cmpi .eq (BitVec.ofNat 32 (i 0).val) 0#32) : BitVec 32) 0#32

/-- The last two rows of the scratch. -/
def sixth (C : S8x512.Idx → Elt F .f32) : S1x512.Idx → Elt F .f32 :=
  fun y => C ((Rect.unit (s := S8x512) ![6, 0] S1x512.size inb_S8x512_S1x512_6_0).emb y)
def seventh (C : S8x512.Idx → Elt F .f32) : S1x512.Idx → Elt F .f32 :=
  fun y => C ((Rect.unit (s := S8x512) ![7, 0] S1x512.size inb_S8x512_S1x512_7_0).emb y)

/-- The numbers of the block's rows. -/
abbrev rowNo : IVec S512x1 32 := iota .tc S512x1 32 [0] iota_S512x1_d0_w32

/-- The block's mixed rows: of its rows `x`, the norm's weight `g`, the projection `w`, the taps `k`, the second norm's
    weight `b`, the caches `p` and `q` as the last point takes them, and the scratch `C`. -/
def mixedRows (i : grid0.Coords) (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (C : S8x512.Idx → Elt F .f32) : S512x512.Idx → Elt F .bf16 :=
  k0_pay15 (BitVec.ofNat 32 (i 0).val) (k0_pay4 x g w) (k0_pay5 x g w) (k0_pay7 x g w) (k0_pay9 (k0_pay6 x g w) (seventh C) k0_pay8)
    (k0_pay10 rowNo (k0_pay7 x g w) (sixth C) (seventh C)) (k0_pay12 rowNo (k0_pay6 x g w) p) (k0_pay13 rowNo) (k0_pay14 q) k b

section Body

variable (c : Dev nD) (i : grid0.Coords)
variable (arg1 : Memref sig .tc .vmem S512x1024 .f32) (harg1 : arg1.IsWhole)
  (arg2 : Memref sig .tc .vmem S1x1024 .f32) (harg2 : arg2.IsWhole)
  (arg3 : Memref sig .tc .vmem S1024x2048 .bf16) (harg3 : arg3.IsWhole)
  (arg4 : Memref sig .tc .vmem S3x512 .f32) (harg4 : arg4.IsWhole)
  (arg5 : Memref sig .tc .vmem S1x512 .f32) (harg5 : arg5.IsWhole)
  (arg6 : Memref sig .tc .vmem S512x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x512 .bf16) (harg9 : arg9.IsWhole)
  (arg10 : Memref sig .tc .vmem S8x512 .f32) (harg10 : arg10.IsWhole)
  (arg11 : Memref sig .tc .vmem S512x512 .f32) (harg11 : arg11.IsWhole)
  (arg12 : Memref sig .tc .vmem S8x512 .f32) (harg12 : arg12.IsWhole)

/-- What a point holds: its inputs, its result blocks and the scratch. -/
def holds (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (U : S512x512.Idx → Elt F .f32) (M : S512x512.Idx → Elt F .bf16) (P : S8x512.Idx → Elt F .f32) (Z : S512x512.Idx → Elt F .f32) (C : S8x512.Idx → Elt F .f32) : sProp 𝕄 :=
  iprop(owns (c : Thread nD τ) arg1 fullShare x
    ∗ owns (c : Thread nD τ) arg2 fullShare g
    ∗ owns (c : Thread nD τ) arg3 fullShare w
    ∗ owns (c : Thread nD τ) arg4 fullShare k
    ∗ owns (c : Thread nD τ) arg5 fullShare b
    ∗ owns (c : Thread nD τ) arg6 fullShare p
    ∗ owns (c : Thread nD τ) arg7 fullShare q
    ∗ owns (c : Thread nD τ) arg8 fullShare U
    ∗ owns (c : Thread nD τ) arg9 fullShare M
    ∗ owns (c : Thread nD τ) arg10 fullShare P
    ∗ owns (c : Thread nD τ) arg11 fullShare Z
    ∗ owns (c : Thread nD τ) arg12 fullShare C)

/-- One run of the body: the first block of results and the mixed rows are written, the scratch takes the block's last rows,
    the tail is written at the last point of the long sequence and the whole gated product at the point of the short ones. -/
theorem body_run (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (U : S512x512.Idx → Elt F .f32) (M : S512x512.Idx → Elt F .bf16) (P : S8x512.Idx → Elt F .f32) (Z : S512x512.Idx → Elt F .f32) (C : S8x512.Idx → Elt F .f32) (C' : S8x512.Idx → Elt F .f32)
    (hC : C' = if first i = 1#1 then k0_pay1 (F := F) else C) :
    holds c arg1 arg2 arg3 arg4 arg5 arg6 arg7 arg8 arg9 arg10 arg11 arg12 x g w k b p q U M P Z C
      ⊢ wp frame (wpE (defs₀ (F := F)) Variants.none (c : Thread nD τ) none) Set.univ
        (cc0_inproj i arg1 harg1 arg2 harg2 arg3 harg3 arg4 harg4 arg5 harg5 arg6 harg6 arg7 harg7 arg8 harg8 arg9 harg9 arg10 harg10 arg11 harg11 arg12 harg12)
        (fun _ => holds c arg1 arg2 arg3 arg4 arg5 arg6 arg7 arg8 arg9 arg10 arg11 arg12 x g w k b p q (k0_pay3 x g w) (mixedRows i x g w k b p q C')
          (if k0_cond2 i = 1#1 then k0_pay17 (k0_pay5 x g w) else P) (if k0_cond3 i = 1#1 then k0_pay5 x g w else Z) (k0_pay16 (k0_pay5 x g w))) := by
  rw [cc0_inproj_eq_skeleton]
  unfold cc0_inproj_skel
  rw [k0_part1_eq_skeleton, k0_part2_eq_skeleton, k0_part3_eq_skeleton]
  unfold k0_part1_skel k0_part2_skel k0_part3_skel holds mixedRows
  simp only [Prog.lift, Prog.bind_op, Prog.bind_ret, Prog.pure_eq_ret, Prog.bind_assoc]
  iintro ⟨H1, H2, H3, H4, H5, H6, H7, H8, H9, H10, H11, H12⟩
  by_cases hf : first i = 1#1
  rw [if_pos hf] at hC
  rw [dif_pos hf]
  simp only [Prog.bind_op, Prog.bind_ret, Prog.bind_assoc]
  iapply (load_whole c arg12 inb_S8x512_S8x512_0_0 C) $$ H12
  iintro H12
  iapply (store_owned c arg12 inb_S8x512_S8x512_0_0 _ C) $$ H12
  iintro H12
  rw [← hC]
  rotate_left
  rw [if_neg hf] at hC
  rw [dif_neg hf]
  simp only [Prog.bind_op, Prog.bind_ret, Prog.bind_assoc]
  rw [← hC]
  all_goals
    iapply (load_whole c arg1 inb_S512x1024_S512x1024_0_0 x) $$ H1
    iintro H1
    iapply (load_whole c arg2 inb_S1x1024_S1x1024_0_0 g) $$ H2
    iintro H2
    iapply (load_whole c arg3 inb_S1024x2048_S1024x2048_0_0 w) $$ H3
    iintro H3
    iapply (load_whole c arg8 inb_S512x512_S512x512_0_0 U) $$ H8
    iintro H8
    iapply (store_owned c arg8 inb_S512x512_S512x512_0_0 _ U) $$ H8
    iintro H8
    iapply (load_owned c arg12 (Rect.unit (s := S8x512) ![6, 0] S1x512.size inb_S8x512_S1x512_6_0) fullShare C') $$ H12
    iintro H12
    iapply (load_owned c arg12 (Rect.unit (s := S8x512) ![7, 0] S1x512.size inb_S8x512_S1x512_7_0) fullShare C') $$ H12
    iintro H12
    simp only [Prog.bind_op, Prog.bind_ret, Prog.bind_assoc]
    iapply (load_whole c arg6 inb_S512x512_S512x512_0_0 p) $$ H6
    iintro H6
    iapply (load_whole c arg7 inb_S512x512_S512x512_0_0 q) $$ H7
    iintro H7
    simp only [Prog.bind_op, Prog.bind_ret, Prog.bind_assoc]
    iapply (load_whole c arg4 inb_S3x512_S3x512_0_0 k) $$ H4
    iintro H4
    iapply (load_whole c arg5 inb_S1x512_S1x512_0_0 b) $$ H5
    iintro H5
    iapply (load_whole c arg9 inb_S512x512_S512x512_0_0 M) $$ H9
    iintro H9
    iapply (store_owned c arg9 inb_S512x512_S512x512_0_0 _ M) $$ H9
    iintro H9
    iapply (load_whole c arg12 inb_S8x512_S8x512_0_0 C') $$ H12
    iintro H12
    iapply (store_owned c arg12 inb_S8x512_S8x512_0_0 _ C') $$ H12
    iintro H12
    by_cases h2 : k0_cond2 i = 1#1
    · rw [dif_pos h2, if_pos h2]
      simp only [Prog.bind_op, Prog.bind_ret, Prog.bind_assoc]
      iapply (load_whole c arg10 inb_S8x512_S8x512_0_0 P) $$ H10
      iintro H10
      iapply (store_owned c arg10 inb_S8x512_S8x512_0_0 _ P) $$ H10
      iintro H10
      by_cases h3 : k0_cond3 i = 1#1
      · rw [dif_pos h3, if_pos h3]
        simp only [Prog.bind_op, Prog.bind_ret, Prog.bind_assoc]
        iapply (load_whole c arg11 inb_S512x512_S512x512_0_0 Z) $$ H11
        iintro H11
        iapply (store_owned c arg11 inb_S512x512_S512x512_0_0 _ Z) $$ H11
        iintro H11
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [dif_neg h3, if_neg h3]
        simp only [Prog.bind_op, Prog.bind_ret, Prog.bind_assoc]
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · rw [dif_neg h2, if_neg h2]
      simp only [Prog.bind_op, Prog.bind_ret, Prog.bind_assoc]
      by_cases h3 : k0_cond3 i = 1#1
      · rw [dif_pos h3, if_pos h3]
        iapply (load_whole c arg11 inb_S512x512_S512x512_0_0 Z) $$ H11
        iintro H11
        iapply (store_owned c arg11 inb_S512x512_S512x512_0_0 _ Z) $$ H11
        iintro H11
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [dif_neg h3, if_neg h3]
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

end Body

end Cert.Kernel5Ideal.Hand
-- ==== Proof.ProjectRun.lean ====
/-
  The in-projection program's run, at any float instance: the data of its launch, what is in scratch between points, and the
  run of the whole program to a state with the arguments unchanged, every semaphore at zero and the four results at their
  blocks' values. Two of the result windows are written at one point only, the tail at point 31 and the short sequences'
  product at point 32, and are kept until the end.
-/
module

public import proofs.«01_k».proof.Proof.Project
public import proofs.«01_k».proof.Proof.Gen.Kernel5Ideal.Points
public import proofs.«01_k».proof.Proof.Gen.Kernel5Ideal.Frame
public import Idealize.ShloMosaic.Lib.Pipeline.FrameSuffix
public import Idealize.ShloMosaic.Lib.Pipeline.TableIdle
public import Idealize.ShloMosaic.Lib.Pipeline.Value

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem point_lt (t : Fin cfg0.N) : t.val < 33 := Nat.lt_of_lt_of_eq t.isLt N_0

/-- Point `n`. -/
abbrev pointAt (n : ℕ) (h : n < 33) : Fin cfg0.N := ⟨n, by rw [show cfg0.N = 33 from N_0]; exact h⟩

theorem first_iff : ∀ t : Fin cfg0.N, first (grid0.coords t) = 1#1 ↔ t.val = 0 := by decide +kernel
theorem cond2_iff : ∀ t : Fin cfg0.N, k0_cond2 (grid0.coords t) = 1#1 ↔ t.val = 31 := by decide +kernel
theorem cond3_iff : ∀ t : Fin cfg0.N, k0_cond3 (grid0.coords t) = 1#1 ↔ t.val = 32 := by decide +kernel
theorem idle9 : ∀ t : Fin cfg0.N, cfg0.idle 9 (cfg0.grid.coords t) = !decide (t.val = 31) := by decide +kernel
theorem idle10 : ∀ t : Fin cfg0.N, cfg0.idle 10 (cfg0.grid.coords t) = !decide (t.val = 32) := by decide +kernel
theorem flush9 : ∀ t : Fin cfg0.N, (cfg0.win 9).flush t = decide (t.val = 32) := by decide +kernel
theorem flush10 : ∀ t : Fin cfg0.N, (cfg0.win 10).flush t = decide (t.val = 32) := by decide +kernel
theorem kept9 : cfg0.fresh 9 32 = false := by decide +kernel

/-! ## What the points compute -/

/-- The gated product's block of point `t`. -/
def gatedAt (c : Dev nD) (t : Fin cfg0.N) : S512x512.Idx → Elt F .f32 := k0_pay5 (iblk m c 0 t) (iblk m c 1 t) (iblk m c 2 t)
/-- The first result's block of point `t`. -/
def firstAt (c : Dev nD) (t : Fin cfg0.N) : S512x512.Idx → Elt F .f32 := k0_pay3 (iblk m c 0 t) (iblk m c 1 t) (iblk m c 2 t)
/-- What is in scratch when point `t` reads it: zeros at the first point, else the last rows of the block before. -/
def carried (c : Dev nD) (t : Fin cfg0.N) : S8x512.Idx → Elt F .f32 :=
  if t.val = 0 then k0_pay1 (F := F) else k0_pay16 (gatedAt m c ⟨t.val - 1, Nat.lt_of_le_of_lt (Nat.sub_le _ _) t.isLt⟩)
/-- The mixed rows of point `t`. -/
def mixedAt (c : Dev nD) (t : Fin cfg0.N) : S512x512.Idx → Elt F .bf16 :=
  mixedRows (grid0.coords t) (iblk m c 0 t) (iblk m c 1 t) (iblk m c 2 t) (iblk m c 3 t) (iblk m c 4 t) (iblk m c 5 t) (iblk m c 6 t) (carried m c t)
/-- The long sequence's tail. -/
def tailOf (c : Dev nD) : S8x512.Idx → Elt F .f32 := k0_pay17 (gatedAt m c (pointAt 31 (by decide)))
/-- The short sequences' product. -/
def shortOf (c : Dev nD) : S512x512.Idx → Elt F .f32 := gatedAt m c (pointAt 32 (by decide))

/-! ## The proof data -/

/-- What scratch holds after point `t`: the last rows of its gated product. -/
def Held (c : Dev nD) (n : ℕ) (C : S8x512.Idx → Elt F .f32) : Prop :=
  ∀ t : Fin cfg0.N, t.val + 1 = n → C = k0_pay16 (gatedAt m c t)

/-- Between points: scratch at the last rows of the point before. -/
def Inv (c : Dev nD) (n : ℕ) : sProp 𝕄 :=
  iprop((∃ C, ⌜Held m c n C⌝ ∗ owns (c : Thread nD τ) (Memref.whole cc0_scratch0) fullShare C) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => firstAt m c t
    | ⟨8, _⟩ => mixedAt m c t
    | ⟨9, _⟩ => tailOf m c
    | ⟨10, _⟩ => shortOf m c
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = firstAt m c t := by dsimp only [dats]
theorem after0_8 (c : Dev nD) (t : Fin cfg0.N) : (dats m 0 c).after 8 t = mixedAt m c t := by dsimp only [dats]
theorem after0_9 (c : Dev nD) (t : Fin cfg0.N) : (dats m 0 c).after 9 t = tailOf m c := by dsimp only [dats]
theorem after0_10 (c : Dev nD) (t : Fin cfg0.N) : (dats m 0 c).after 10 t = shortOf m c := by dsimp only [dats]

theorem found0 (c : Dev nD) (t : Fin cfg0.N) (d) : (dats m 0 c).before 0 t d = iblk m c 0 t :=
  before0_0_of m (dats m 0 c) (A_eq m c 0) (after0_0 m c) t d
theorem found1 (c : Dev nD) (t : Fin cfg0.N) (d) : (dats m 0 c).before 1 t d = iblk m c 1 t :=
  before0_1_of m (dats m 0 c) (A_eq m c 1) (after0_1 m c) t d
theorem found2 (c : Dev nD) (t : Fin cfg0.N) (d) : (dats m 0 c).before 2 t d = iblk m c 2 t :=
  before0_2_of m (dats m 0 c) (A_eq m c 2) (after0_2 m c) t d
theorem found3 (c : Dev nD) (t : Fin cfg0.N) (d) : (dats m 0 c).before 3 t d = iblk m c 3 t :=
  before0_3_of m (dats m 0 c) (A_eq m c 3) (after0_3 m c) t d
theorem found4 (c : Dev nD) (t : Fin cfg0.N) (d) : (dats m 0 c).before 4 t d = iblk m c 4 t :=
  before0_4_of m (dats m 0 c) (A_eq m c 4) (after0_4 m c) t d
theorem found5 (c : Dev nD) (t : Fin cfg0.N) (d) : (dats m 0 c).before 5 t d = iblk m c 5 t :=
  before0_5_of m (dats m 0 c) (A_eq m c 5) (after0_5 m c) t d
theorem found6 (c : Dev nD) (t : Fin cfg0.N) (d) : (dats m 0 c).before 6 t d = iblk m c 6 t :=
  before0_6_of m (dats m 0 c) (A_eq m c 6) (after0_6 m c) t d

/-- The last point finds the tail as point 31 wrote it. -/
theorem found9 (c : Dev nD) (t : Fin cfg0.N) (ht : t.val = 32) (d) : (dats m 0 c).before 9 t d = tailOf m c := by
  have h := (dats m 0 c).before_out_traj 9 rfl (fun _ _ => rfl) (fun s _ _ _ => (after0_9 m c s).trans (after0_9 m c _).symm) t.val t rfl d
  have e : ¬ cfg0.fresh 9 t.val = true := by rw [ht, kept9]; decide
  exact (h.trans (if_neg e)).trans (after0_9 m c _)

/-! ## One point -/

/-- How the two late windows are left: written at their point, as found before it, kept after it. -/
def left9 (c : Dev nD) (t : Fin cfg0.N) : sProp 𝕄 :=
  match cfg0.idle 9 (cfg0.grid.coords t) with
  | true =>
    match (cfg0.win 9).flush t with
    | false => iprop(∃ d, owns (c : Thread nD τ) ((cfg0.win 9).stage (cfg0.slots t 9)) fullShare ((dats m 0 c).before 9 t d))
    | true => owns (c : Thread nD τ) ((cfg0.win 9).stage (cfg0.slots t 9)) fullShare ((dats m 0 c).after 9 t)
  | false => owns (c : Thread nD τ) ((cfg0.win 9).stage (cfg0.slots t 9)) fullShare ((dats m 0 c).after 9 t)
def left10 (c : Dev nD) (t : Fin cfg0.N) : sProp 𝕄 :=
  match cfg0.idle 10 (cfg0.grid.coords t) with
  | true =>
    match (cfg0.win 10).flush t with
    | false => iprop(∃ d, owns (c : Thread nD τ) ((cfg0.win 10).stage (cfg0.slots t 10)) fullShare ((dats m 0 c).before 10 t d))
    | true => owns (c : Thread nD τ) ((cfg0.win 10).stage (cfg0.slots t 10)) fullShare ((dats m 0 c).after 10 t)
  | false => owns (c : Thread nD τ) ((cfg0.win 10).stage (cfg0.slots t 10)) fullShare ((dats m 0 c).after 10 t)

theorem leave9 (c : Dev nD) (t : Fin cfg0.N) (d) :
    (owns (c : Thread nD τ) (win0_9.stage (cfg0.slots t 9)) fullShare
      (if k0_cond2 (grid0.coords t) = 1#1 then k0_pay17 (gatedAt m c t) else (dats m 0 c).before 9 t d) : sProp 𝕄) ⊢ left9 m c t := by
  unfold left9
  rewrite [idle9 t, flush9 t]
  by_cases h : t.val = 31
  · rewrite [if_pos ((cond2_iff t).mpr h), after0_9, decide_eq_true h]
    obtain rfl : t = pointAt 31 (by decide) := Fin.ext h
    exact .rfl
  · rewrite [if_neg (fun e => h ((cond2_iff t).mp e)), decide_eq_false h]
    by_cases h' : t.val = 32
    · rewrite [decide_eq_true h', after0_9, found9 m c t h']
      exact .rfl
    · rewrite [decide_eq_false h']
      show _ ⊢ iprop(∃ d, owns (c : Thread nD τ) ((cfg0.win 9).stage (cfg0.slots t 9)) fullShare ((dats m 0 c).before 9 t d))
      iintro H
      iexists d
      iexact H

theorem leave10 (c : Dev nD) (t : Fin cfg0.N) (d) :
    (owns (c : Thread nD τ) (win0_10.stage (cfg0.slots t 10)) fullShare
      (if k0_cond3 (grid0.coords t) = 1#1 then gatedAt m c t else (dats m 0 c).before 10 t d) : sProp 𝕄) ⊢ left10 m c t := by
  unfold left10
  rewrite [idle10 t, flush10 t]
  by_cases h : t.val = 32
  · rewrite [if_pos ((cond3_iff t).mpr h), after0_10, decide_eq_true h]
    obtain rfl : t = pointAt 32 (by decide) := Fin.ext h
    exact .rfl
  · rewrite [if_neg (fun e => h ((cond3_iff t).mp e)), decide_eq_false h]
    show _ ⊢ iprop(∃ d, owns (c : Thread nD τ) ((cfg0.win 10).stage (cfg0.slots t 10)) fullShare ((dats m 0 c).before 10 t d))
    iintro H
    iexists d
    iexact H

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ left9 m c t ∗ left10 m c t)

/-- What one run of the body leaves at point `t`, found the late windows at `P` and `Z`. -/
def runPost (c : Dev nD) (t : Fin cfg0.N) (P : S8x512.Idx → Elt F .f32) (Z : S512x512.Idx → Elt F .f32) : sProp 𝕄 :=
  holds c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0)
    (iblk m c 0 t) (iblk m c 1 t) (iblk m c 2 t) (iblk m c 3 t) (iblk m c 4 t) (iblk m c 5 t) (iblk m c 6 t) (firstAt m c t) (mixedAt m c t)
    (if k0_cond2 (grid0.coords t) = 1#1 then k0_pay17 (gatedAt m c t) else P) (if k0_cond3 (grid0.coords t) = 1#1 then gatedAt m c t else Z)
    (k0_pay16 (gatedAt m c t))

/-- The scratch as the point reads it. -/
theorem carried_eq (c : Dev nD) (t : Fin cfg0.N) (C : S8x512.Idx → Elt F .f32) (h : Held m c t.val C) :
    carried m c t = if first (grid0.coords t) = 1#1 then k0_pay1 (F := F) else C := by
  unfold carried
  by_cases ht : t.val = 0
  · rw [if_pos ht, if_pos ((first_iff t).mpr ht)]
  · rw [if_neg ht, if_neg (fun e => ht ((first_iff t).mp e))]
    exact (h _ (by show t.val - 1 + 1 = t.val; omega)).symm

theorem run_point (c : Dev nD) (t : Fin cfg0.N) (U : S512x512.Idx → Elt F .f32) (M : S512x512.Idx → Elt F .bf16) (P : S8x512.Idx → Elt F .f32)
    (Z : S512x512.Idx → Elt F .f32) (C : S8x512.Idx → Elt F .f32) (h : Held m c t.val C) :
    holds c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0)
      (iblk m c 0 t) (iblk m c 1 t) (iblk m c 2 t) (iblk m c 3 t) (iblk m c 4 t) (iblk m c 5 t) (iblk m c 6 t) U M P Z C
      ⊢ wp frame (wpE (defs₀ (F := F)) Variants.none (c : Thread nD τ) none) Set.univ (bodyAt0 t) (fun _ => runPost m c t P Z) :=
  body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) U M P Z C (carried m c t) (carried_eq m c t C h)

theorem held_succ (c : Dev nD) (t : Fin cfg0.N) : Held m c (t.val + 1) (k0_pay16 (gatedAt m c t)) := by
  intro s hs
  obtain rfl : s = t := Fin.ext (by omega)
  rfl

theorem leave_point (c : Dev nD) (t : Fin cfg0.N) (d9) (d10) (W : Waits sig Unit) :
    (iprop(wp frame (wpE (defs₀ (F := F)) Variants.none (c : Thread nD τ) none) Set.univ (bodyAt0 t)
        (fun _ => runPost m c t ((dats m 0 c).before 9 t d9) ((dats m 0 c).before 10 t d10))
      ∗ (∃ r, prngReg c r) ∗ owes (c : Thread nD τ) 0 W) : sProp 𝕄)
      ⊢ wp frame (wpE (defs₀ (F := F)) Variants.none (c : Thread nD τ) none) Set.univ (bodyAt0 t) (fun _ => bodyPost m c t) := by
  refine BIBase.Entails.trans (wp_frame_r _ _ _) (wp_mono _ _ _ fun _ => ?_)
  unfold bodyPost runPost holds
  rw [show (dats m 0 c).Φ t.succ = Inv m c (t.val + 1) from rfl, after0_0, after0_1, after0_2, after0_3, after0_4, after0_5, after0_6, after0_7, after0_8]
  unfold Dat.owesAt Pipeline.owesWithin
  rw [show (dats m 0 c).owed t.succ = 0 from rfl]
  unfold Inv
  iintro ⟨⟨H0, H1, H2, H3, H4, H5, H6, H7, H8, H9, H10, HC⟩, Hg, HW⟩
  isplitl [HC Hg]
  · isplitl [HC]
    · iexists (k0_pay16 (gatedAt m c t))
      isplitr; · ipureintro; exact held_succ m c t
      iexact HC
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leave9 m c t d9)
    iexact H9
  iapply (leave10 m c t d10)
  iexact H10

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = Inv m c t.val from rfl]
  unfold Dat.owesAt Pipeline.owesWithin
  rw [show (dats m 0 c).owed t.castSucc = 0 from rfl]
  simp only [found0, found1, found2, found3, found4, found5, found6]
  unfold Inv
  iintro ⟨⟨⟨%C, %hheld, HC⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (leave_point m c t d9 d10 W)
  isplitl [HC H0 H1 H2 H3 H4 H5 H6 H7 H8 H9 H10]
  · iapply (run_point m c t _ _ _ _ C hheld)
    unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HC
  · isplitl [Hg]; · iexact Hg
    iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row t]
  exact triple_restated (sound_body m c t) rfl .rfl fun _ => .rfl

/-! ## The run -/

theorem enter (c : Dev nD) : (Pipeline.ΦA cfg0.spec c : sProp 𝕄) ⊢ Inv m c 0 := by
  unfold Inv Pipeline.ΦA
  rw [show (Pipeline.scopedRest cfg0.spec c : sProp 𝕄) = Pipeline.scopedRest spec0 c from rfl, scopedRest0_eq]
  iintro ⟨⟨%C, HC⟩, Hg⟩
  isplitl [HC]
  · iexists C
    rw [owns_whole]
    isplitr; · ipureintro; exact fun t ht => absurd ht (Nat.succ_ne_zero _)
    iexact HC
  iexact Hg

theorem exit (c : Dev nD) (n : ℕ) : (Inv m c n : sProp 𝕄) ⊢ Pipeline.ΦA cfg0.spec c := by
  unfold Inv Pipeline.ΦA
  rw [show (Pipeline.scopedRest cfg0.spec c : sProp 𝕄) = Pipeline.scopedRest spec0 c from rfl, scopedRest0_eq]
  simp only [owns_whole]
  iintro ⟨⟨%C, -, HC⟩, Hg⟩
  isplitl [HC]; · iexists C; iexact HC
  iexact Hg

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := enter m) (hout := fun c => exit m c _)

/-! ## The results -/

/-- Blocks of 512 rows, one for each point, as one array. -/
def stacked {β : Type} (f : Fin cfg0.N → S512x512.Idx → β) : S16896x512.Idx → β := fun i =>
  f (pointAt ((i 0).val / 512) (by have h : (i 0).val < 16896 := (i 0).isLt; omega)) (ix2 ⟨(i 0).val % 512, Nat.mod_lt _ (by omega)⟩ (i 1))

theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![0, 0] := by decide +kernel
theorem index10 : ∀ t : Fin cfg0.N, win0_10.index t = ![0, 0] := by decide +kernel

theorem stacked_at {β : Type} (f : Fin cfg0.N → S512x512.Idx → β) (t : Fin cfg0.N) (y : S512x512.Idx) (i : S16896x512.Idx)
    (h0 : (i 0).val = 512 * t.val + (y 0).val) (h1 : (i 1).val = (y 1).val) : stacked f i = f t y := by
  have hy : (y 0).val < 512 := (y 0).isLt
  have et : pointAt ((i 0).val / 512) (by have h : (i 0).val < 16896 := (i 0).isLt; omega) = t := Fin.ext (by show (i 0).val / 512 = t.val; omega)
  have ey : (ix2 ⟨(i 0).val % 512, Nat.mod_lt _ (by omega)⟩ (i 1) : S512x512.Idx) = y := by
    funext a
    apply Fin.ext
    match a with
    | ⟨0, _⟩ => show (i 0).val % 512 = (y 0).val; omega
    | ⟨1, _⟩ => exact h1
  show f (pointAt ((i 0).val / 512) _) (ix2 ⟨(i 0).val % 512, _⟩ (i 1)) = f t y
  rw [et, ey]

theorem arr7 (c : Dev nD) : (dats m 0 c).arrAt 7 cfg0.N = stacked (firstAt m c) := by
  refine (dats m 0 c).arrAt_eq_of_emb 7 (stacked (firstAt m c)) (fun t hf y => ?_) (fun i => ?_)
  · have h0 : (((cfg0.win 7).blk t).view.emb y (0 : Fin 2)).val = 512 * t.val + (y (0 : Fin 2)).val := by
      blk_simp [index7]; show t.val * 512 + (y (0 : Fin 2)).val = 512 * t.val + (y (0 : Fin 2)).val; omega
    have h1 : (((cfg0.win 7).blk t).view.emb y (1 : Fin 2)).val = (y (1 : Fin 2)).val := by
      blk_simp [index7]; try rfl
    exact (stacked_at (firstAt m c) t y _ h0 h1).symm
  · have hi : (i (0 : Fin 2)).val < 16896 := (i (0 : Fin 2)).isLt
    have hi1 : (i (1 : Fin 2)).val < 512 := (i (1 : Fin 2)).isLt
    refine ⟨pointAt ((i (0 : Fin 2)).val / 512) (by omega), flush0_7 _, ?_⟩
    mem_blk [index7]
    refine ⟨?_, ?_⟩
    · show (i (0 : Fin 2)).val / 512 * 512 ≤ (i (0 : Fin 2)).val ∧ (i (0 : Fin 2)).val < (i (0 : Fin 2)).val / 512 * 512 + 512
      omega
    · show 0 * 512 ≤ (i (1 : Fin 2)).val ∧ (i (1 : Fin 2)).val < 0 * 512 + 512
      omega
theorem arr8 (c : Dev nD) : (dats m 0 c).arrAt 8 cfg0.N = stacked (mixedAt m c) := by
  refine (dats m 0 c).arrAt_eq_of_emb 8 (stacked (mixedAt m c)) (fun t hf y => ?_) (fun i => ?_)
  · have h0 : (((cfg0.win 8).blk t).view.emb y (0 : Fin 2)).val = 512 * t.val + (y (0 : Fin 2)).val := by
      blk_simp [index8]; show t.val * 512 + (y (0 : Fin 2)).val = 512 * t.val + (y (0 : Fin 2)).val; omega
    have h1 : (((cfg0.win 8).blk t).view.emb y (1 : Fin 2)).val = (y (1 : Fin 2)).val := by
      blk_simp [index8]; try rfl
    exact (stacked_at (mixedAt m c) t y _ h0 h1).symm
  · have hi : (i (0 : Fin 2)).val < 16896 := (i (0 : Fin 2)).isLt
    have hi1 : (i (1 : Fin 2)).val < 512 := (i (1 : Fin 2)).isLt
    refine ⟨pointAt ((i (0 : Fin 2)).val / 512) (by omega), flush0_8 _, ?_⟩
    mem_blk [index8]
    refine ⟨?_, ?_⟩
    · show (i (0 : Fin 2)).val / 512 * 512 ≤ (i (0 : Fin 2)).val ∧ (i (0 : Fin 2)).val < (i (0 : Fin 2)).val / 512 * 512 + 512
      omega
    · show 0 * 512 ≤ (i (1 : Fin 2)).val ∧ (i (1 : Fin 2)).val < 0 * 512 + 512
      omega
theorem arr9 (c : Dev nD) : (dats m 0 c).arrAt 9 cfg0.N = tailOf m c := by
  refine (dats m 0 c).arrAt_eq_of_emb 9 (tailOf m c) (fun t hf y => ?_) (fun i => ?_)
  · have h : ((cfg0.win 9).blk t).view.emb y = y := by
      funext a
      apply Fin.ext
      match a with
      | ⟨0, _⟩ => blk_simp [index9]; try rfl
      | ⟨1, _⟩ => blk_simp [index9]; try rfl
    exact (congrArg (tailOf m c) h).symm
  · have hi : (i (0 : Fin 2)).val < 8 := (i (0 : Fin 2)).isLt
    have hi1 : (i (1 : Fin 2)).val < 512 := (i (1 : Fin 2)).isLt
    refine ⟨pointAt 32 (by decide), (flush0_9 _).mpr rfl, ?_⟩
    mem_blk [index9]
    refine ⟨?_, ?_⟩
    · show 0 * 8 ≤ (i (0 : Fin 2)).val ∧ (i (0 : Fin 2)).val < 0 * 8 + 8
      omega
    · show 0 * 512 ≤ (i (1 : Fin 2)).val ∧ (i (1 : Fin 2)).val < 0 * 512 + 512
      omega
theorem arr10 (c : Dev nD) : (dats m 0 c).arrAt 10 cfg0.N = shortOf m c := by
  refine (dats m 0 c).arrAt_eq_of_emb 10 (shortOf m c) (fun t hf y => ?_) (fun i => ?_)
  · have h : ((cfg0.win 10).blk t).view.emb y = y := by
      funext a
      apply Fin.ext
      match a with
      | ⟨0, _⟩ => blk_simp [index10]; try rfl
      | ⟨1, _⟩ => blk_simp [index10]; try rfl
    exact (congrArg (shortOf m c) h).symm
  · have hi : (i (0 : Fin 2)).val < 512 := (i (0 : Fin 2)).isLt
    have hi1 : (i (1 : Fin 2)).val < 512 := (i (1 : Fin 2)).isLt
    refine ⟨pointAt 32 (by decide), (flush0_10 _).mpr rfl, ?_⟩
    mem_blk [index10]
    refine ⟨?_, ?_⟩
    · show 0 * 512 ≤ (i (0 : Fin 2)).val ∧ (i (0 : Fin 2)).val < 0 * 512 + 512
      omega
    · show 0 * 512 ≤ (i (1 : Fin 2)).val ∧ (i (1 : Fin 2)).val < 0 * 512 + 512
      omega

/-! ## What the later lines leave -/

theorem W_main_v22 (c : Dev nD) : Pipeline.afterTail₀ cfgs (dats m) 0 (V0 m) [hostOps1] c main_v22
    = (extf .f32 (stacked (mixedAt m c)) bitsLt_bf16_f32 : S16896x512.Idx → Elt F .f32) := by
  have e : Pipeline.withArrays spec0 c (V0 m c) (fun w => (dats m 0 c).arrAt w cfg0.N) (Proc.devRef .tc main_v21_1) = stacked (mixedAt m c) :=
    (Pipeline.withArrays_arr spec0 launch0.win.arr_inj c (V0 m c) _ 8).trans (arr8 m c)
  unfold Pipeline.afterTail₀
  simp only [List.flatten_cons, List.flatten_nil, List.append_nil]
  rw [← e]
  after_results
  try rfl
theorem W_main_v24 (c : Dev nD) : Pipeline.afterTail₀ cfgs (dats m) 0 (V0 m) [hostOps1] c main_v24
    = (shapeCast S1x2x512 (extractStridedSlice S2x512 ![6, 0] (tailOf m c) slices_S8x512_S2x512_6_0) shapeCasts_S2x512_S1x2x512 : S1x2x512.Idx → Elt F .f32) := by
  have e : Pipeline.withArrays spec0 c (V0 m c) (fun w => (dats m 0 c).arrAt w cfg0.N) (Proc.devRef .tc main_v21_2) = tailOf m c :=
    (Pipeline.withArrays_arr spec0 launch0.win.arr_inj c (V0 m c) _ 9).trans (arr9 m c)
  unfold Pipeline.afterTail₀
  simp only [List.flatten_cons, List.flatten_nil, List.append_nil]
  rw [← e]
  after_results
  try rfl
theorem W_main_v26 (c : Dev nD) : Pipeline.afterTail₀ cfgs (dats m) 0 (V0 m) [hostOps1] c main_v26
    = (extractStridedSlice S32x2x512 ![0, 14, 0] (shapeCast S32x16x512 (shortOf m c) shapeCasts_S512x512_S32x16x512) slices_S32x16x512_S32x2x512_0_14_0 : S32x2x512.Idx → Elt F .f32) := by
  have e : Pipeline.withArrays spec0 c (V0 m c) (fun w => (dats m 0 c).arrAt w cfg0.N) (Proc.devRef .tc main_v21_3) = shortOf m c :=
    (Pipeline.withArrays_arr spec0 launch0.win.arr_inj c (V0 m c) _ 10).trans (arr10 m c)
  unfold Pipeline.afterTail₀
  simp only [List.flatten_cons, List.flatten_nil, List.append_nil]
  rw [← e]
  after_results
  try rfl

/-- The whole program: the arguments end as launched, the semaphores at zero, and the four results at their values. -/
theorem run_value : θ_run defs (onTc (τ := τ) (main (F := F))) ⟨m, fun _ => 0, ρ⟩ (fun r => (∀ c : Dev nD,
      r.2.mem ((c.tc : Thread nD τ).loc main_v21_0) = stacked (firstAt m c)
      ∧ r.2.mem ((c.tc : Thread nD τ).loc main_v22) = (extf .f32 (stacked (mixedAt m c)) bitsLt_bf16_f32 : S16896x512.Idx → Elt F .f32)
      ∧ r.2.mem ((c.tc : Thread nD τ).loc main_v24) = (shapeCast S1x2x512 (extractStridedSlice S2x512 ![6, 0] (tailOf m c) slices_S8x512_S2x512_6_0) shapeCasts_S2x512_S1x2x512 : S1x2x512.Idx → Elt F .f32)
      ∧ r.2.mem ((c.tc : Thread nD τ).loc main_v26) = (extractStridedSlice S32x2x512 ![0, 14, 0] (shapeCast S32x16x512 (shortOf m c) shapeCasts_S512x512_S32x16x512) slices_S32x16x512_S32x2x512_0_14_0 : S32x2x512.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((h.1 c).1 7).trans (arr7 m c),
     ((h.1 c).2 main_v22 (Pipeline.mem_restRefs_of main_v22 (by decide) (by decide))).trans (W_main_v22 m c),
     ((h.1 c).2 main_v24 (Pipeline.mem_restRefs_of main_v24 (by decide) (by decide))).trans (W_main_v24 m c),
     ((h.1 c).2 main_v26 (Pipeline.mem_restRefs_of main_v26 (by decide) (by decide))).trans (W_main_v26 m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c),
     ((h.1 c).2 main_arg2 (Pipeline.mem_restRefs_of main_arg2 (by decide) (by decide))).trans (W_main_arg2 m (dats m) c),
     ((h.1 c).2 main_arg3 (Pipeline.mem_restRefs_of main_arg3 (by decide) (by decide))).trans (W_main_arg3 m (dats m) c),
     ((h.1 c).2 main_arg4 (Pipeline.mem_restRefs_of main_arg4 (by decide) (by decide))).trans (W_main_arg4 m (dats m) c),
     ((h.1 c).2 main_arg5 (Pipeline.mem_restRefs_of main_arg5 (by decide) (by decide))).trans (W_main_arg5 m (dats m) c),
     ((h.1 c).2 main_arg6 (Pipeline.mem_restRefs_of main_arg6 (by decide) (by decide))).trans (W_main_arg6 m (dats m) c)⟩, h.2⟩) (run_main m ρ)

end Cert.Kernel5Ideal.Hand
-- ==== Proof.ProjectRef.lean ====
/-
  The in-projection reference's values over the extended reals: what each of its four results is at an entry, in plain terms of
  the token rows and the weights. No program runs here.
-/
module

public import proofs.«01_k».proof.Proof.Gen.Reference5Ideal.Run
public import Idealize.ShloMosaic.PureOps.Ideal.Laws
public import Idealize.ShloMosaic.Lib.ReduceAll
public import Idealize.ShloMosaic.Lib.StackMember
public import Idealize.ShloMosaic.Lib.Pipeline.Value

@[expose] public section

set_option maxRecDepth 16384

noncomputable section

/-! ## The mathematics, plainly -/

namespace Cert.Projection

open Idealize.ShloMosaic Idealize.ShloMosaic.ValueIdx
open scoped BigOperators

/-- A row over the root of its mean square plus the small constant, times the weight; `cnt` is the row's length. -/
def normed {D : ℕ} (cnt : BitVec 32) (X w : Fin D → EReal) (d : Fin D) : EReal :=
  X d * Ideal.rsqrt (Ideal.div (∑ k, X k * X k) (Ideal.ofBits .f32 cnt) + Ideal.ofBits .f32 0x358637BD#32) * w d

/-- The arrays the layer's first part takes: the token rows, the norm's weight, the projection, the taps, the cache and the
    second norm's weight. -/
structure Given where
  X : (⟨2, ![16896, 1024]⟩ : Shape).Idx → EReal
  g : (⟨2, ![2, 1024]⟩ : Shape).Idx → EReal
  W : (⟨3, ![2, 1024, 2048]⟩ : Shape).Idx → EReal
  taps : (⟨3, ![2, 3, 512]⟩ : Shape).Idx → EReal
  cache : (⟨4, ![2, 32, 2, 512]⟩ : Shape).Idx → EReal
  b : (⟨2, ![2, 512]⟩ : Shape).Idx → EReal

variable (A : Given)

/-- Token `n`'s normalised row times column `j` of the projection. -/
def projected (n : Fin 16896) (j : Fin 2048) : EReal :=
  ∑ k : Fin 1024, normed 0x44800000#32 (fun k => A.X (ix2 n k)) (fun k => A.g (ix2 0 k)) k * A.W (ix3 0 k j)

/-- The product of the third and fourth parts of token `n`'s projection. -/
def prod (n : Fin 16896) (d : Fin 512) : EReal :=
  projected A n ⟨1024 + d.val, by omega⟩ * projected A n ⟨1536 + d.val, by omega⟩

/-- The product at token number `n`, a number. -/
def prodAt (n : ℕ) (d : Fin 512) : EReal := if h : n < 16896 then prod A ⟨n, h⟩ d else 0

theorem prodAt_eq (n : Fin 16896) (d : Fin 512) : prodAt A n.val d = prod A n d := dif_pos n.isLt

/-- The product `k` tokens before token `n` in its own sequence (`k` is 1 or 2): zero before the long sequence's start, the cache
    before a short sequence's start. -/
def before (k : ℕ) (n : Fin 16896) (d : Fin 512) : EReal :=
  if n.val < 16384 then (if n.val < k then 0 else prodAt A (n.val - k) d)
  else if h : (n.val - 16384) % 16 < k then
      A.cache (ix4 0 ⟨(n.val - 16384) / 16, by have := n.isLt; omega⟩ ⟨((n.val - 16384) % 16 + 2 - k) % 2, Nat.mod_lt _ (by omega)⟩ d)
    else prodAt A (n.val - k) d

/-- The gated convolution at token `n`. -/
def gatedConv (n : Fin 16896) (d : Fin 512) : EReal :=
  projected A n ⟨512 + d.val, by omega⟩
    * (A.taps (ix3 0 0 d) * before A 2 n d + A.taps (ix3 0 1 d) * before A 1 n d + A.taps (ix3 0 2 d) * prod A n d)

/-- The normalised gated convolution at token `n`. -/
def mixedRow (n : Fin 16896) (d : Fin 512) : EReal := normed 0x44000000#32 (gatedConv A n) (fun k => A.b (ix2 0 k)) d

end Cert.Projection

/-! ## The reference's results are these -/

namespace Cert.Reference5Ideal.Hand

open Cert.Reference5Ideal Cert.Reference5Ideal.Gen Cert.Projection
open Idealize.ShloMosaic Idealize.ShloMosaic.TcCoe Idealize.ShloMosaic.ValueIdx
open scoped BigOperators

/-! ### The two norms -/

/-- A column of one entry a token repeated along the rows reads its entry at the token. -/
theorem tokens_apply (v : S16896x1.Idx → EReal) (n : Fin 16896) (d : Fin 1024) :
    broadcastInDim S16896x1024 ![0, 1] bcast_S16896x1_S16896x1024_0_1 v (ix2 n d) = v (ix2 n 0) := by
  refine broadcastInDim_apply _ _ _ _ (ix2 n 0) fun a => ?_
  match a with
  | ⟨0, _⟩ => rfl
  | ⟨1, _⟩ => rfl
theorem tokens_half (v : S16896x1.Idx → EReal) (n : Fin 16896) (d : Fin 512) :
    broadcastInDim S16896x512 ![0, 1] bcast_S16896x1_S16896x512_0_1 v (ix2 n d) = v (ix2 n 0) := by
  refine broadcastInDim_apply _ _ _ _ (ix2 n 0) fun a => ?_
  match a with
  | ⟨0, _⟩ => rfl
  | ⟨1, _⟩ => rfl
theorem token_apply (v : S16896.Idx → EReal) (n : Fin 16896) :
    broadcastInDim S16896x1 ![0] bcast_S16896_S16896x1_0 v (ix2 n 0) = v (ix1 n) := by
  refine broadcastInDim_apply _ _ _ _ (ix1 n) fun a => ?_
  match a with
  | ⟨0, _⟩ => rfl

/-- The sum of a token's 1024 entries. -/
theorem token_sum (v : FVec Ideal S16896x1024 .f32) (n : Fin 16896) :
    Host.reduceAdd v (constant S_ .f32 0x00000000#32) reducesTo_S16896x1024_S16896_d1 h_S_ (ix1 n) = ∑ k : Fin 1024, v (ix2 n k) := by
  show Ideal.hostReduceAdd _ v (Ideal.ofBits .f32 0x00000000#32) (ix1 n) = _
  refine (Ideal.hostReduceAdd_single reducesTo_S16896x1024_S16896_d1 (by decide) v _ (ix1 n)).trans ?_
  rw [Ideal.ofBits_zero_f32, zero_add]
  refine Finset.sum_congr rfl fun k _ => congrArg v (funext fun a => Fin.ext ?_)
  match a with
  | ⟨0, _⟩ => rfl
  | ⟨1, _⟩ => rfl
/-- The sum of a token's 512 entries. -/
theorem token_sum_half (v : FVec Ideal S16896x512 .f32) (n : Fin 16896) :
    Host.reduceAdd v (constant S_ .f32 0x00000000#32) reducesTo_S16896x512_S16896_d1 h_S_ (ix1 n) = ∑ k : Fin 512, v (ix2 n k) := by
  show Ideal.hostReduceAdd _ v (Ideal.ofBits .f32 0x00000000#32) (ix1 n) = _
  refine (Ideal.hostReduceAdd_single reducesTo_S16896x512_S16896_d1 (by decide) v _ (ix1 n)).trans ?_
  rw [Ideal.ofBits_zero_f32, zero_add]
  refine Finset.sum_congr rfl fun k _ => congrArg v (funext fun a => Fin.ext ?_)
  match a with
  | ⟨0, _⟩ => rfl
  | ⟨1, _⟩ => rfl

/-- Layer 0's weight of the first norm, along every token's row. -/
theorem weight_apply (g : S2x1024.Idx → EReal) (n : Fin 16896) (d : Fin 1024) :
    broadcastInDim S16896x1024 ![0, 1] bcast_S1x1024_S16896x1024_0_1 (broadcastInDim S1x1024 ![1] bcast_S1024_S1x1024_1
      (shapeCast S1024 (extractStridedSlice S1x1024 ![0, 0] g slices_S2x1024_S1x1024_0_0) shapeCasts_S1x1024_S1024)) (ix2 n d) = g (ix2 0 d) := by
  refine (broadcastInDim_apply _ _ _ _ (ix2 0 d) fun a => ?_).trans ((broadcastInDim_apply _ _ _ _ (ix1 d) fun a => ?_).trans
    ((shapeCast_apply _ _ _ (ix2 0 d) ?_).trans (extractStridedSlice_apply _ _ _ _ (ix2 0 d) fun a => ?_)))
  · match a with
    | ⟨0, _⟩ => rfl
    | ⟨1, _⟩ => rfl
  · match a with
    | ⟨0, _⟩ => rfl
  · rw [Shape.rowMajor_val_one, Shape.rowMajor_val_two]
    show 0 * 1024 + d.val = d.val
    omega
  · match a with
    | ⟨0, _⟩ => rfl
    | ⟨1, _⟩ => show d.val = 0 + d.val; omega
theorem weight_half (g : S2x512.Idx → EReal) (n : Fin 16896) (d : Fin 512) :
    broadcastInDim S16896x512 ![0, 1] bcast_S1x512_S16896x512_0_1 (broadcastInDim S1x512 ![1] bcast_S512_S1x512_1
      (shapeCast S512 (extractStridedSlice S1x512 ![0, 0] g slices_S2x512_S1x512_0_0) shapeCasts_S1x512_S512)) (ix2 n d) = g (ix2 0 d) := by
  refine (broadcastInDim_apply _ _ _ _ (ix2 0 d) fun a => ?_).trans ((broadcastInDim_apply _ _ _ _ (ix1 d) fun a => ?_).trans
    ((shapeCast_apply _ _ _ (ix2 0 d) ?_).trans (extractStridedSlice_apply _ _ _ _ (ix2 0 d) fun a => ?_)))
  · match a with
    | ⟨0, _⟩ => rfl
    | ⟨1, _⟩ => rfl
  · match a with
    | ⟨0, _⟩ => rfl
  · rw [Shape.rowMajor_val_one, Shape.rowMajor_val_two]
    show 0 * 512 + d.val = d.val
    omega
  · match a with
    | ⟨0, _⟩ => rfl
    | ⟨1, _⟩ => show d.val = 0 + d.val; omega

/-- The reference's normalised token rows. -/
def rows (X : FVec Ideal S16896x1024 .f32) (g : FVec Ideal S2x1024 .f32) : FVec Ideal S16896x1024 .f32 :=
  mulf (mulf X (broadcastInDim S16896x1024 ![0, 1] bcast_S16896x1_S16896x1024_0_1 (Host.rsqrt (addf (Host.divf
      (broadcastInDim S16896x1 ![0] bcast_S16896_S16896x1_0 (Host.reduceAdd (mulf X X) (constant S_ .f32 0x00000000#32) reducesTo_S16896x1024_S16896_d1 h_S_))
      (broadcastInDim S16896x1 ![] bcast_S_S16896x1 (constant S_ .f32 0x44800000#32)))
      (broadcastInDim S16896x1 ![] bcast_S_S16896x1 (constant S_ .f32 0x358637BD#32))))))
    (broadcastInDim S16896x1024 ![0, 1] bcast_S1x1024_S16896x1024_0_1 (broadcastInDim S1x1024 ![1] bcast_S1024_S1x1024_1
      (shapeCast S1024 (extractStridedSlice S1x1024 ![0, 0] g slices_S2x1024_S1x1024_0_0) shapeCasts_S1x1024_S1024)))

theorem rows_apply (X : FVec Ideal S16896x1024 .f32) (g : FVec Ideal S2x1024 .f32) (n : Fin 16896) (d : Fin 1024) :
    rows X g (ix2 n d) = normed 0x44800000#32 (fun k => X (ix2 n k)) (fun k => g (ix2 0 k)) d := by
  unfold rows
  show X (ix2 n d) * broadcastInDim (s := S16896x1) S16896x1024 ![0, 1] _ _ (ix2 n d)
    * broadcastInDim (s := S1x1024) S16896x1024 ![0, 1] _ _ (ix2 n d) = _
  rw [weight_apply, tokens_apply]
  show X (ix2 n d) * Ideal.rsqrt (Ideal.div (broadcastInDim (s := S16896) S16896x1 ![0] _ _ (ix2 n 0)) _ + _) * _ = _
  rw [token_apply, token_sum]
  rfl

/-- The second norm, of any rows. -/
def rowsHalf (X : FVec Ideal S16896x512 .f32) (g : FVec Ideal S2x512 .f32) : FVec Ideal S16896x512 .f32 :=
  mulf (mulf X (broadcastInDim S16896x512 ![0, 1] bcast_S16896x1_S16896x512_0_1 (Host.rsqrt (addf (Host.divf
      (broadcastInDim S16896x1 ![0] bcast_S16896_S16896x1_0 (Host.reduceAdd (mulf X X) (constant S_ .f32 0x00000000#32) reducesTo_S16896x512_S16896_d1 h_S_))
      (broadcastInDim S16896x1 ![] bcast_S_S16896x1 (constant S_ .f32 0x44000000#32)))
      (broadcastInDim S16896x1 ![] bcast_S_S16896x1 (constant S_ .f32 0x358637BD#32))))))
    (broadcastInDim S16896x512 ![0, 1] bcast_S1x512_S16896x512_0_1 (broadcastInDim S1x512 ![1] bcast_S512_S1x512_1
      (shapeCast S512 (extractStridedSlice S1x512 ![0, 0] g slices_S2x512_S1x512_0_0) shapeCasts_S1x512_S512)))

theorem rowsHalf_apply (X : FVec Ideal S16896x512 .f32) (g : FVec Ideal S2x512 .f32) (n : Fin 16896) (d : Fin 512) :
    rowsHalf X g (ix2 n d) = normed 0x44000000#32 (fun k => X (ix2 n k)) (fun k => g (ix2 0 k)) d := by
  unfold rowsHalf
  show X (ix2 n d) * broadcastInDim (s := S16896x1) S16896x512 ![0, 1] _ _ (ix2 n d)
    * broadcastInDim (s := S1x512) S16896x512 ![0, 1] _ _ (ix2 n d) = _
  rw [weight_half, tokens_half]
  show X (ix2 n d) * Ideal.rsqrt (Ideal.div (broadcastInDim (s := S16896) S16896x1 ![0] _ _ (ix2 n 0)) _ + _) * _ = _
  rw [token_apply, token_sum_half]
  rfl

/-! ### The projection and its products -/

variable (A : Given)

theorem dot_eq : dot_S16896x1024_S1024x2048_S16896x2048_1_0_0_1_n_n = DotDims.plain 16896 1024 2048 := rfl

def proj : FVec Ideal S16896x2048 .f32 :=
  Host.dotGeneral (F := Ideal) (φ₁ := .f32) (φ₂ := .f32) dot_S16896x1024_S1024x2048_S16896x2048_1_0_0_1_n_n none (rows A.X A.g)
    (shapeCast S1024x2048 (extractStridedSlice S1x1024x2048 ![0, 0, 0] A.W slices_S2x1024x2048_S1x1024x2048_0_0_0) shapeCasts_S1x1024x2048_S1024x2048)

theorem proj_apply (n : Fin 16896) (j : Fin 2048) : proj A (ix2 n j) = projected A n j := by
  unfold proj
  rw [dot_eq]
  refine (StackMember.dotGeneral_plain_apply none _ _ n j).trans (Finset.sum_congr rfl fun k _ => ?_)
  refine congrArg₂ (fun x y : EReal => x * y) (rows_apply A.X A.g n k) ?_
  refine (shapeCast_apply _ _ _ (ix3 0 k j) ?_).trans (extractStridedSlice_apply _ _ _ _ (ix3 0 k j) fun a => ?_)
  · rw [Shape.rowMajor_val_three, Shape.rowMajor_val_two]
    show (0 * 1024 + k.val) * 2048 + j.val = k.val * 2048 + j.val
    omega
  · match a with
    | ⟨0, _⟩ => rfl
    | ⟨1, _⟩ => show k.val = 0 + k.val; omega
    | ⟨2, _⟩ => show j.val = 0 + j.val; omega

theorem part_apply (o : ℕ) (h : S16896x2048.Slices ![0, o] S16896x512) (n : Fin 16896) (d : Fin 512) (ho : o + d.val < 2048) :
    extractStridedSlice S16896x512 ![0, o] (proj A) h (ix2 n d) = projected A n ⟨o + d.val, ho⟩ := by
  refine (extractStridedSlice_apply _ _ _ _ (ix2 n ⟨o + d.val, ho⟩) fun a => ?_).trans (proj_apply A n _)
  match a with
  | ⟨0, _⟩ => show n.val = 0 + n.val; omega
  | ⟨1, _⟩ => rfl

def prods : FVec Ideal S16896x512 .f32 :=
  mulf (extractStridedSlice S16896x512 ![0, 1024] (proj A) slices_S16896x2048_S16896x512_0_1024)
    (extractStridedSlice S16896x512 ![0, 1536] (proj A) slices_S16896x2048_S16896x512_0_1536)

theorem prods_apply (n : Fin 16896) (d : Fin 512) : prods A (ix2 n d) = prod A n d := by
  unfold prods prod
  exact congrArg₂ (fun x y : EReal => x * y) (part_apply A 1024 _ n d _) (part_apply A 1536 _ n d _)

/-! ### The long sequence and the short ones, each with its two earlier entries -/

def long : FVec Ideal S16386x512 .f32 :=
  concatenate S16386x512 0 [⟨S2x512, (broadcastInDim S2x512 ![] bcast_S_S2x512 (constant S_ .f32 0x00000000#32))⟩,
    ⟨S16384x512, (extractStridedSlice S16384x512 ![0, 0] (prods A) slices_S16896x512_S16384x512_0_0)⟩] concatenates_S2x512_S16384x512_S16386x512_d0

theorem long_apply (i : Fin 16386) (d : Fin 512) : long A (ix2 i d) = if i.val < 2 then 0 else prodAt A (i.val - 2) d := by
  have hi := i.isLt
  unfold long
  by_cases h : i.val < 2
  · rw [if_pos h]
    refine (concatenate_pair_apply_left (t := S16386x512) (s₁ := S2x512) (s₂ := S16384x512) (0 : Fin 2) _ _ _ _ rfl (ix2 ⟨i.val, h⟩ d : S2x512.Idx) fun b => ?_).trans
      (show Ideal.ofBits .f32 0x00000000#32 = 0 from Ideal.ofBits_zero_f32)
    match b with
    | ⟨0, _⟩ => rfl
    | ⟨1, _⟩ => rfl
  · rw [if_neg h]
    refine (concatenate_pair_apply_right (t := S16386x512) (s₁ := S2x512) (s₂ := S16384x512) (0 : Fin 2) _ _ _ _ rfl rfl (ix2 ⟨i.val - 2, by omega⟩ d : S16384x512.Idx) (fun b hb => ?_) ?_).trans ?_
    · match b with
      | ⟨0, _⟩ => exact absurd rfl hb
      | ⟨1, _⟩ => rfl
    · show i.val - 2 + 2 = i.val
      omega
    · refine (extractStridedSlice_apply _ _ _ _ (ix2 ⟨i.val - 2, by omega⟩ d : S16896x512.Idx) fun a => ?_).trans
        ((prods_apply A ⟨i.val - 2, by omega⟩ d).trans (prodAt_eq A ⟨i.val - 2, by omega⟩ d).symm)
      match a with
      | ⟨0, _⟩ => show i.val - 2 = 0 + (i.val - 2); omega
      | ⟨1, _⟩ => show d.val = 0 + d.val; omega

def short : FVec Ideal S32x18x512 .f32 :=
  concatenate S32x18x512 1 [⟨S32x2x512, (shapeCast S32x2x512 (extractStridedSlice S1x32x2x512 ![0, 0, 0, 0] A.cache slices_S2x32x2x512_S1x32x2x512_0_0_0_0) shapeCasts_S1x32x2x512_S32x2x512)⟩,
    ⟨S32x16x512, (shapeCast S32x16x512 (extractStridedSlice S512x512 ![16384, 0] (prods A) slices_S16896x512_S512x512_16384_0) shapeCasts_S512x512_S32x16x512)⟩]
    concatenates_S32x2x512_S32x16x512_S32x18x512_d1

theorem short_apply (b : Fin 32) (p : Fin 18) (d : Fin 512) :
    short A (ix3 b p d) = if h : p.val < 2 then A.cache (ix4 0 b ⟨p.val, h⟩ d) else prodAt A (16384 + 16 * b.val + (p.val - 2)) d := by
  have hb := b.isLt
  have hp := p.isLt
  unfold short
  by_cases h : p.val < 2
  · rw [dif_pos h]
    refine (concatenate_pair_apply_left (t := S32x18x512) (s₁ := S32x2x512) (s₂ := S32x16x512) (1 : Fin 3) _ _ _ _ rfl (ix3 b ⟨p.val, h⟩ d : S32x2x512.Idx) fun a => ?_).trans
      ((shapeCast_apply _ _ _ (ix4 0 b ⟨p.val, h⟩ d : S1x32x2x512.Idx) ?_).trans (extractStridedSlice_apply _ _ _ _ (ix4 0 b ⟨p.val, h⟩ d : S2x32x2x512.Idx) fun a => ?_))
    · match a with
      | ⟨0, _⟩ => rfl
      | ⟨1, _⟩ => rfl
      | ⟨2, _⟩ => rfl
    · rw [Shape.rowMajor_val_four, Shape.rowMajor_val_three]
      show ((0 * 32 + b.val) * 2 + p.val) * 512 + d.val = (b.val * 2 + p.val) * 512 + d.val
      omega
    · match a with
      | ⟨0, _⟩ => rfl
      | ⟨1, _⟩ => show b.val = 0 + b.val; omega
      | ⟨2, _⟩ => show p.val = 0 + p.val; omega
      | ⟨3, _⟩ => show d.val = 0 + d.val; omega
  · rw [dif_neg h]
    refine (concatenate_pair_apply_right (t := S32x18x512) (s₁ := S32x2x512) (s₂ := S32x16x512) (1 : Fin 3) _ _ _ _ rfl rfl (ix3 b ⟨p.val - 2, by omega⟩ d : S32x16x512.Idx) (fun a ha => ?_) ?_).trans
      ((shapeCast_apply _ _ _ (ix2 ⟨16 * b.val + (p.val - 2), by omega⟩ d : S512x512.Idx) ?_).trans
        ((extractStridedSlice_apply _ _ _ _ (ix2 ⟨16384 + 16 * b.val + (p.val - 2), by omega⟩ d : S16896x512.Idx) fun a => ?_).trans
          ((prods_apply A ⟨16384 + 16 * b.val + (p.val - 2), by omega⟩ d).trans (prodAt_eq A ⟨16384 + 16 * b.val + (p.val - 2), by omega⟩ d).symm)))
    · match a with
      | ⟨0, _⟩ => rfl
      | ⟨1, _⟩ => exact absurd rfl ha
      | ⟨2, _⟩ => rfl
    · show p.val - 2 + 2 = p.val
      omega
    · rw [Shape.rowMajor_val_two, Shape.rowMajor_val_three]
      show (16 * b.val + (p.val - 2)) * 512 + d.val = (b.val * 16 + (p.val - 2)) * 512 + d.val
      omega
    · match a with
      | ⟨0, _⟩ => show 16384 + 16 * b.val + (p.val - 2) = 16384 + (16 * b.val + (p.val - 2)); omega
      | ⟨1, _⟩ => show d.val = 0 + d.val; omega

/-! ### The convolution -/

abbrev taps0 : FVec Ideal S3x512 .f32 :=
  shapeCast S3x512 (extractStridedSlice S1x3x512 ![0, 0, 0] A.taps slices_S2x3x512_S1x3x512_0_0_0) shapeCasts_S1x3x512_S3x512

abbrev tap (k : ℕ) (h : S3x512.Slices ![k, 0] S1x512) : FVec Ideal S512 .f32 :=
  shapeCast S512 (extractStridedSlice S1x512 ![k, 0] (taps0 A) h) shapeCasts_S1x512_S512

theorem tap_apply (k : Fin 3) (h) (d : Fin 512) : tap A k.val h (ix1 d) = A.taps (ix3 0 k d) := by
  refine (shapeCast_apply _ _ _ (ix2 0 d) ?_).trans ((extractStridedSlice_apply _ _ _ _ (ix2 k d) fun a => ?_).trans
    ((shapeCast_apply _ _ _ (ix3 0 k d) ?_).trans (extractStridedSlice_apply _ _ _ _ (ix3 0 k d) fun a => ?_)))
  · rw [Shape.rowMajor_val_one, Shape.rowMajor_val_two]
    show 0 * 512 + d.val = d.val
    omega
  · match a with
    | ⟨0, _⟩ => show k.val = k.val + 0; omega
    | ⟨1, _⟩ => show d.val = 0 + d.val; omega
  · rw [Shape.rowMajor_val_three, Shape.rowMajor_val_two]
    show (0 * 3 + k.val) * 512 + d.val = k.val * 512 + d.val
    omega
  · match a with
    | ⟨0, _⟩ => rfl
    | ⟨1, _⟩ => show k.val = 0 + k.val; omega
    | ⟨2, _⟩ => show d.val = 0 + d.val; omega

abbrev tapLong (k : ℕ) (h : S3x512.Slices ![k, 0] S1x512) : FVec Ideal S16384x512 .f32 :=
  broadcastInDim S16384x512 ![0, 1] bcast_S1x512_S16384x512_0_1 (broadcastInDim S1x512 ![1] bcast_S512_S1x512_1 (tap A k h))
abbrev tapShort (k : ℕ) (h : S3x512.Slices ![k, 0] S1x512) : FVec Ideal S32x16x512 .f32 :=
  broadcastInDim S32x16x512 ![0, 1, 2] bcast_S1x1x512_S32x16x512_0_1_2 (broadcastInDim S1x1x512 ![2] bcast_S512_S1x1x512_2 (tap A k h))

theorem tapLong_apply (k : Fin 3) (h) (n : Fin 16384) (d : Fin 512) : tapLong A k.val h (ix2 n d) = A.taps (ix3 0 k d) := by
  refine (broadcastInDim_apply _ _ _ _ (ix2 0 d) fun a => ?_).trans ((broadcastInDim_apply _ _ _ _ (ix1 d) fun a => ?_).trans (tap_apply A k h d))
  · match a with
    | ⟨0, _⟩ => rfl
    | ⟨1, _⟩ => rfl
  · match a with
    | ⟨0, _⟩ => rfl
theorem tapShort_apply (k : Fin 3) (h) (b : Fin 32) (p : Fin 16) (d : Fin 512) : tapShort A k.val h (ix3 b p d) = A.taps (ix3 0 k d) := by
  refine (broadcastInDim_apply _ _ _ _ (ix3 0 0 d) fun a => ?_).trans ((broadcastInDim_apply _ _ _ _ (ix1 d) fun a => ?_).trans (tap_apply A k h d))
  · match a with
    | ⟨0, _⟩ => rfl
    | ⟨1, _⟩ => rfl
    | ⟨2, _⟩ => rfl
  · match a with
    | ⟨0, _⟩ => rfl

theorem longFrom_apply (k : Fin 3) (h : S16386x512.Slices ![k.val, 0] S16384x512) (n : Fin 16384) (d : Fin 512) :
    extractStridedSlice S16384x512 ![k.val, 0] (long A) h (ix2 n d) = if k.val + n.val < 2 then 0 else prodAt A (k.val + n.val - 2) d := by
  refine (extractStridedSlice_apply _ _ _ _ (ix2 ⟨k.val + n.val, by omega⟩ d) fun a => ?_).trans (long_apply A ⟨k.val + n.val, by omega⟩ d)
  match a with
  | ⟨0, _⟩ => rfl
  | ⟨1, _⟩ => show d.val = 0 + d.val; omega
theorem shortFrom_apply (k : Fin 3) (h : S32x18x512.Slices ![0, k.val, 0] S32x16x512) (b : Fin 32) (p : Fin 16) (d : Fin 512) :
    extractStridedSlice S32x16x512 ![0, k.val, 0] (short A) h (ix3 b p d)
      = if h : k.val + p.val < 2 then A.cache (ix4 0 b ⟨k.val + p.val, h⟩ d) else prodAt A (16384 + 16 * b.val + (k.val + p.val - 2)) d := by
  refine (extractStridedSlice_apply _ _ _ _ (ix3 b ⟨k.val + p.val, by omega⟩ d) fun a => ?_).trans (short_apply A b ⟨k.val + p.val, by omega⟩ d)
  match a with
  | ⟨0, _⟩ => show b.val = 0 + b.val; omega
  | ⟨1, _⟩ => rfl
  | ⟨2, _⟩ => show d.val = 0 + d.val; omega

def convLong : FVec Ideal S16384x512 .f32 :=
  addf (addf (mulf (tapLong A 0 slices_S3x512_S1x512_0_0) (extractStridedSlice S16384x512 ![0, 0] (long A) slices_S16386x512_S16384x512_0_0))
    (mulf (tapLong A 1 slices_S3x512_S1x512_1_0) (extractStridedSlice S16384x512 ![1, 0] (long A) slices_S16386x512_S16384x512_1_0)))
    (mulf (tapLong A 2 slices_S3x512_S1x512_2_0) (extractStridedSlice S16384x512 ![2, 0] (long A) slices_S16386x512_S16384x512_2_0))
def convShort : FVec Ideal S32x16x512 .f32 :=
  addf (addf (mulf (tapShort A 0 slices_S3x512_S1x512_0_0) (extractStridedSlice S32x16x512 ![0, 0, 0] (short A) slices_S32x18x512_S32x16x512_0_0_0))
    (mulf (tapShort A 1 slices_S3x512_S1x512_1_0) (extractStridedSlice S32x16x512 ![0, 1, 0] (short A) slices_S32x18x512_S32x16x512_0_1_0)))
    (mulf (tapShort A 2 slices_S3x512_S1x512_2_0) (extractStridedSlice S32x16x512 ![0, 2, 0] (short A) slices_S32x18x512_S32x16x512_0_2_0))

/-- The convolution of both kinds of sequences, token after token. -/
def conv : FVec Ideal S16896x512 .f32 :=
  concatenate S16896x512 0 [⟨S16384x512, convLong A⟩, ⟨S512x512, shapeCast S512x512 (convShort A) shapeCasts_S32x16x512_S512x512⟩] concatenates_S16384x512_S512x512_S16896x512_d0

theorem conv_apply (n : Fin 16896) (d : Fin 512) :
    conv A (ix2 n d) = A.taps (ix3 0 0 d) * before A 2 n d + A.taps (ix3 0 1 d) * before A 1 n d + A.taps (ix3 0 2 d) * prod A n d := by
  have hn := n.isLt
  unfold conv
  by_cases h : n.val < 16384
  · refine (concatenate_pair_apply_left (t := S16896x512) (s₁ := S16384x512) (s₂ := S512x512) (0 : Fin 2) _ _ _ _ rfl (ix2 ⟨n.val, h⟩ d : S16384x512.Idx) fun b => ?_).trans ?_
    · match b with
      | ⟨0, _⟩ => rfl
      | ⟨1, _⟩ => rfl
    unfold convLong
    show tapLong A (0 : Fin 3).val _ (ix2 ⟨n.val, h⟩ d) * extractStridedSlice S16384x512 ![(0 : Fin 3).val, 0] (long A) slices_S16386x512_S16384x512_0_0 (ix2 ⟨n.val, h⟩ d)
      + tapLong A (1 : Fin 3).val _ (ix2 ⟨n.val, h⟩ d) * extractStridedSlice S16384x512 ![(1 : Fin 3).val, 0] (long A) slices_S16386x512_S16384x512_1_0 (ix2 ⟨n.val, h⟩ d)
      + tapLong A (2 : Fin 3).val _ (ix2 ⟨n.val, h⟩ d) * extractStridedSlice S16384x512 ![(2 : Fin 3).val, 0] (long A) slices_S16386x512_S16384x512_2_0 (ix2 ⟨n.val, h⟩ d) = _
    rw [tapLong_apply, tapLong_apply, tapLong_apply, longFrom_apply, longFrom_apply, longFrom_apply]
    unfold before
    rw [if_pos h, if_pos h, ← prodAt_eq]
    refine congrArg₂ (fun x y : EReal => x + y) (congrArg₂ (fun x y : EReal => x + y) (congrArg (fun x : EReal => _ * x) ?_) (congrArg (fun x : EReal => _ * x) ?_))
      (congrArg (fun x : EReal => _ * x) ?_)
    · show (if 0 + n.val < 2 then (0 : EReal) else prodAt A (0 + n.val - 2) d) = _
      rw [Nat.zero_add]
    · show (if 1 + n.val < 2 then (0 : EReal) else prodAt A (1 + n.val - 2) d) = _
      by_cases h1 : n.val < 1
      · rw [if_pos h1, if_pos (by omega)]
      · rw [if_neg h1, if_neg (by omega), show 1 + n.val - 2 = n.val - 1 by omega]
    · show (if 2 + n.val < 2 then (0 : EReal) else prodAt A (2 + n.val - 2) d) = _
      rw [if_neg (by omega), Nat.add_sub_cancel_left]
  · have hb : (n.val - 16384) / 16 < 32 := by omega
    have hp : (n.val - 16384) % 16 < 16 := Nat.mod_lt _ (by omega)
    have hsum : 16 * ((n.val - 16384) / 16) + (n.val - 16384) % 16 = n.val - 16384 := Nat.div_add_mod _ _
    refine (concatenate_pair_apply_right (t := S16896x512) (s₁ := S16384x512) (s₂ := S512x512) (0 : Fin 2) _ _ _ _ rfl rfl (ix2 ⟨n.val - 16384, by omega⟩ d : S512x512.Idx) (fun b hb => ?_) ?_).trans
      ((shapeCast_apply _ _ _ (ix3 ⟨(n.val - 16384) / 16, hb⟩ ⟨(n.val - 16384) % 16, hp⟩ d : S32x16x512.Idx) ?_).trans ?_)
    · match b with
      | ⟨0, _⟩ => exact absurd rfl hb
      | ⟨1, _⟩ => rfl
    · show n.val - 16384 + 16384 = n.val
      omega
    · rw [Shape.rowMajor_val_three, Shape.rowMajor_val_two]
      show ((n.val - 16384) / 16 * 16 + (n.val - 16384) % 16) * 512 + d.val = (n.val - 16384) * 512 + d.val
      omega
    unfold convShort
    show tapShort A (0 : Fin 3).val _ (ix3 ⟨(n.val - 16384) / 16, hb⟩ ⟨(n.val - 16384) % 16, hp⟩ d) * extractStridedSlice S32x16x512 ![0, (0 : Fin 3).val, 0] (short A) slices_S32x18x512_S32x16x512_0_0_0 (ix3 ⟨(n.val - 16384) / 16, hb⟩ ⟨(n.val - 16384) % 16, hp⟩ d)
      + tapShort A (1 : Fin 3).val _ (ix3 ⟨(n.val - 16384) / 16, hb⟩ ⟨(n.val - 16384) % 16, hp⟩ d) * extractStridedSlice S32x16x512 ![0, (1 : Fin 3).val, 0] (short A) slices_S32x18x512_S32x16x512_0_1_0 (ix3 ⟨(n.val - 16384) / 16, hb⟩ ⟨(n.val - 16384) % 16, hp⟩ d)
      + tapShort A (2 : Fin 3).val _ (ix3 ⟨(n.val - 16384) / 16, hb⟩ ⟨(n.val - 16384) % 16, hp⟩ d) * extractStridedSlice S32x16x512 ![0, (2 : Fin 3).val, 0] (short A) slices_S32x18x512_S32x16x512_0_2_0 (ix3 ⟨(n.val - 16384) / 16, hb⟩ ⟨(n.val - 16384) % 16, hp⟩ d) = _
    rw [tapShort_apply, tapShort_apply, tapShort_apply, shortFrom_apply, shortFrom_apply, shortFrom_apply]
    unfold before
    rw [if_neg h, if_neg h, ← prodAt_eq]
    refine congrArg₂ (fun x y : EReal => x + y) (congrArg₂ (fun x y : EReal => x + y) (congrArg (fun x : EReal => _ * x) ?_) (congrArg (fun x : EReal => _ * x) ?_))
      (congrArg (fun x : EReal => _ * x) ?_)
    · by_cases h1 : (n.val - 16384) % 16 < 2
      · rw [dif_pos h1, dif_pos (show (0 : Fin 3).val + (n.val - 16384) % 16 < 2 by show 0 + _ < 2; omega)]
        refine congrArg (fun q : Fin 2 => A.cache (ix4 0 _ q d)) (Fin.ext ?_)
        show 0 + (n.val - 16384) % 16 = ((n.val - 16384) % 16 + 2 - 2) % 2
        omega
      · rw [dif_neg h1, dif_neg (show ¬ (0 : Fin 3).val + (n.val - 16384) % 16 < 2 by show ¬ 0 + _ < 2; omega)]
        refine congrArg (fun q : ℕ => prodAt A q d) ?_
        show 16384 + 16 * ((n.val - 16384) / 16) + (0 + (n.val - 16384) % 16 - 2) = n.val - 2
        omega
    · by_cases h1 : (n.val - 16384) % 16 < 1
      · rw [dif_pos h1, dif_pos (show (1 : Fin 3).val + (n.val - 16384) % 16 < 2 by show 1 + _ < 2; omega)]
        refine congrArg (fun q : Fin 2 => A.cache (ix4 0 _ q d)) (Fin.ext ?_)
        show 1 + (n.val - 16384) % 16 = ((n.val - 16384) % 16 + 2 - 1) % 2
        omega
      · rw [dif_neg h1, dif_neg (show ¬ (1 : Fin 3).val + (n.val - 16384) % 16 < 2 by show ¬ 1 + _ < 2; omega)]
        refine congrArg (fun q : ℕ => prodAt A q d) ?_
        show 16384 + 16 * ((n.val - 16384) / 16) + (1 + (n.val - 16384) % 16 - 2) = n.val - 1
        omega
    · rw [dif_neg (show ¬ (2 : Fin 3).val + (n.val - 16384) % 16 < 2 by show ¬ 2 + _ < 2; omega)]
      refine congrArg (fun q : ℕ => prodAt A q d) ?_
      show 16384 + 16 * ((n.val - 16384) / 16) + (2 + (n.val - 16384) % 16 - 2) = n.val
      omega

def gates : FVec Ideal S16896x512 .f32 := mulf (extractStridedSlice S16896x512 ![0, 512] (proj A) slices_S16896x2048_S16896x512_0_512) (conv A)

theorem gates_apply (n : Fin 16896) (d : Fin 512) : gates A (ix2 n d) = gatedConv A n d := by
  unfold gates gatedConv
  exact congrArg₂ (fun x y : EReal => x * y) (part_apply A 512 _ n d _) (conv_apply A n d)

/-! ### The four results -/

def first : FVec Ideal S16896x512 .f32 := extractStridedSlice S16896x512 ![0, 0] (proj A) slices_S16896x2048_S16896x512_0_0
def mixed : FVec Ideal S16896x512 .f32 := rowsHalf (gates A) A.b
def tail : FVec Ideal S1x2x512 .f32 :=
  broadcastInDim S1x2x512 ![1, 2] bcast_S2x512_S1x2x512_1_2 (extractStridedSlice S2x512 ![16384, 0] (long A) slices_S16386x512_S2x512_16384_0)
def ends : FVec Ideal S32x2x512 .f32 := extractStridedSlice S32x2x512 ![0, 16, 0] (short A) slices_S32x18x512_S32x2x512_0_16_0

theorem first_apply (n : Fin 16896) (d : Fin 512) : first A (ix2 n d) = projected A n ⟨d.val, by omega⟩ :=
  (part_apply A 0 _ n d (by omega)).trans (congrArg (projected A n) (Fin.ext (Nat.zero_add _)))

theorem mixed_apply (n : Fin 16896) (d : Fin 512) : mixed A (ix2 n d) = mixedRow A n d := by
  unfold mixed mixedRow
  rw [rowsHalf_apply]
  exact congrArg (fun X => normed _ X _ d) (funext fun k => gates_apply A n k)

theorem tail_apply (p : Fin 2) (d : Fin 512) : tail A (ix3 0 p d) = prodAt A (16382 + p.val) d := by
  unfold tail
  refine (broadcastInDim_apply _ _ _ _ (ix2 p d) fun a => ?_).trans
    ((extractStridedSlice_apply _ _ _ _ (ix2 ⟨16384 + p.val, by omega⟩ d) fun a => ?_).trans ((long_apply A _ d).trans ?_))
  · match a with
    | ⟨0, _⟩ => rfl
    | ⟨1, _⟩ => rfl
  · match a with
    | ⟨0, _⟩ => rfl
    | ⟨1, _⟩ => show d.val = 0 + d.val; omega
  · show (if 16384 + p.val < 2 then (0 : EReal) else prodAt A (16384 + p.val - 2) d) = _
    rw [if_neg (by omega), show 16384 + p.val - 2 = 16382 + p.val by omega]

theorem ends_apply (b : Fin 32) (p : Fin 2) (d : Fin 512) : ends A (ix3 b p d) = prodAt A (16384 + 16 * b.val + (14 + p.val)) d := by
  unfold ends
  refine (extractStridedSlice_apply _ _ _ _ (ix3 b ⟨16 + p.val, by omega⟩ d) fun a => ?_).trans ((short_apply A b _ d).trans ?_)
  · match a with
    | ⟨0, _⟩ => show b.val = 0 + b.val; omega
    | ⟨1, _⟩ => rfl
    | ⟨2, _⟩ => show d.val = 0 + d.val; omega
  · rw [dif_neg (show ¬ 16 + p.val < 2 by omega)]
    refine congrArg (fun q : ℕ => prodAt A q d) ?_
    show 16384 + 16 * b.val + (16 + p.val - 2) = 16384 + 16 * b.val + (14 + p.val)
    omega

/-! ### What the reference's run states is these -/

variable (m : (ℓ : Loc nD τ sig) → Buf (Elt Ideal) ℓ) (c : Dev nD)

/-- The two inputs' token rows, one after the other. -/
def joined (P : S1x16384x1024.Idx → EReal) (S : S32x16x1024.Idx → EReal) : S16896x1024.Idx → EReal :=
  concatenate S16896x1024 0 [⟨S16384x1024, (shapeCast S16384x1024 P shapeCasts_S1x16384x1024_S16384x1024)⟩,
    ⟨S512x1024, (shapeCast S512x1024 S shapeCasts_S32x16x1024_S512x1024)⟩] concatenates_S16384x1024_S512x1024_S16896x1024_d0

/-- The arrays that a memory holds. -/
abbrev given : Given where
  X := joined (m ((c.tc : Thread nD τ).loc main_arg0)) (m ((c.tc : Thread nD τ).loc main_arg1))
  g := m ((c.tc : Thread nD τ).loc main_arg3)
  W := m ((c.tc : Thread nD τ).loc main_arg4)
  taps := m ((c.tc : Thread nD τ).loc main_arg5)
  cache := m ((c.tc : Thread nD τ).loc main_arg2)
  b := m ((c.tc : Thread nD τ).loc main_arg6)

theorem mixed_eq : Cert.Reference5Ideal.Value.res_main_v93 m c = mixed (given m c) := by
  unfold Cert.Reference5Ideal.Value.res_main_v93 mixed gates conv convLong convShort long short prods proj rowsHalf rows
  rfl
theorem tail_eq : Cert.Reference5Ideal.Value.res_main_v95 m c = tail (given m c) := by
  unfold Cert.Reference5Ideal.Value.res_main_v95 tail long prods proj rows
  rfl
theorem ends_eq : Cert.Reference5Ideal.Value.res_main_v96 m c = ends (given m c) := by
  unfold Cert.Reference5Ideal.Value.res_main_v96 ends short prods proj rows
  rfl

end Cert.Reference5Ideal.Hand
-- ==== Proof.ProjectSpec.lean ====
/-
  The in-projection kernel's values over the extended reals: each of its four results is, entry for entry, the reference's
  result of the same arguments. No program runs here.
-/
module

public import proofs.«01_k».proof.Proof.ProjectRun
public import proofs.«01_k».proof.Proof.ProjectRef
public import Idealize.ShloMosaic.Lib.KernelVsHost
public import Idealize.ShloMosaic.Lib.MatmulPlain

@[expose] public section

set_option maxRecDepth 16384

noncomputable section

namespace Cert.Kernel5Ideal.Hand

open Cert.Kernel5Ideal Cert.Kernel5Ideal.Gen Cert.Projection
open Idealize.ShloMosaic Idealize.ShloMosaic.TcCoe Idealize.ShloMosaic.Tactic Idealize.ShloMosaic.ValueIdx Idealize.ShloMosaic.ValueKit
open scoped BigOperators

/-! ## What the region finds -/

section Found

variable {F : FTy → Type} [FloatOps F] (m : (ℓ : Loc nD τ sig) → Buf (Elt F) ℓ) (c : Dev nD)

abbrev longOf : S1x16384x1024.Idx → Elt F .f32 := m ((c : Thread nD τ).loc main_arg0)
abbrev shortRowsOf : S32x16x1024.Idx → Elt F .f32 := m ((c : Thread nD τ).loc main_arg1)
abbrev cacheOf : S2x32x2x512.Idx → Elt F .f32 := m ((c : Thread nD τ).loc main_arg2)
abbrev normOf : S2x1024.Idx → Elt F .f32 := m ((c : Thread nD τ).loc main_arg3)
abbrev projOf : S2x1024x2048.Idx → Elt F .f32 := m ((c : Thread nD τ).loc main_arg4)
abbrev tapsOf : S2x3x512.Idx → Elt F .f32 := m ((c : Thread nD τ).loc main_arg5)
abbrev mixNormOf : S2x512.Idx → Elt F .f32 := m ((c : Thread nD τ).loc main_arg6)

/-- Layer 0's cache, two rows a short sequence. -/
abbrev cacheRows : S32x2x512.Idx → Elt F .f32 :=
  shapeCast S32x2x512 (extractStridedSlice S1x32x2x512 ![0, 0, 0, 0] (cacheOf m c) slices_S2x32x2x512_S1x32x2x512_0_0_0_0) shapeCasts_S1x32x2x512_S32x2x512

theorem V_main_v2 : (V m c main_v2 : S16896x1024.Idx → Elt F .f32)
    = concatenate S16896x1024 0 [⟨S16384x1024, shapeCast S16384x1024 (longOf m c) shapeCasts_S1x16384x1024_S16384x1024⟩,
        ⟨S512x1024, shapeCast S512x1024 (shortRowsOf m c) shapeCasts_S32x16x1024_S512x1024⟩] concatenates_S16384x1024_S512x1024_S16896x1024_d0 := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results
  try rfl
theorem V_main_v12 : (V m c main_v12 : S1x1024.Idx → Elt F .f32)
    = shapeCast S1x1024 (shapeCast S1024 (extractStridedSlice S1x1024 ![0, 0] (normOf m c) slices_S2x1024_S1x1024_0_0) shapeCasts_S1x1024_S1024) shapeCasts_S1024_S1x1024 := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append, List.nil_append]
  after_results
  try rfl
theorem V_main_v15 : (V m c main_v15 : S1024x2048.Idx → Elt F .bf16)
    = truncf .bf16 (shapeCast S1024x2048 (extractStridedSlice S1x1024x2048 ![0, 0, 0] (projOf m c) slices_S2x1024x2048_S1x1024x2048_0_0_0) shapeCasts_S1x1024x2048_S1024x2048 : FVec F S1024x2048 .f32) bitsLt_bf16_f32 := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results
  try rfl
theorem V_main_v17 : (V m c main_v17 : S3x512.Idx → Elt F .f32)
    = shapeCast S3x512 (extractStridedSlice S1x3x512 ![0, 0, 0] (tapsOf m c) slices_S2x3x512_S1x3x512_0_0_0) shapeCasts_S1x3x512_S3x512 := by
  show StableHlo.after (List.flatten [hostOps0, hostOps0_1, hostOps0_2, hostOps0_3, hostOps0_4]) (fun b => m (c, b)) (Proc.devRef .tc main_v17) = _
  simp only [hostOps0, hostOps0_1, hostOps0_2, hostOps0_3, hostOps0_4, List.flatten_cons, List.flatten_nil, List.append_nil, List.cons_append, List.nil_append]
  after_results
  try rfl
theorem V_main_v20 : (V m c main_v20 : S1x512.Idx → Elt F .f32)
    = shapeCast S1x512 (shapeCast S512 (extractStridedSlice S1x512 ![0, 0] (mixNormOf m c) slices_S2x512_S1x512_0_0) shapeCasts_S1x512_S512) shapeCasts_S512_S1x512 := by
  show StableHlo.after (List.flatten [hostOps0, hostOps0_1, hostOps0_2, hostOps0_3, hostOps0_4]) (fun b => m (c, b)) (Proc.devRef .tc main_v20) = _
  simp only [hostOps0, hostOps0_1, hostOps0_2, hostOps0_3, hostOps0_4, List.flatten_cons, List.flatten_nil, List.append_nil, List.cons_append, List.nil_append]
  after_results
  try rfl
theorem V_main_v7 : (V m c main_v7 : S512x512.Idx → Elt F .f32)
    = shapeCast S512x512 (pad S32x16x512 ![0, 0, 0] ![0, 15, 0] ![0, 0, 0] (extractStridedSlice S32x1x512 ![0, 1, 0] (cacheRows m c) slices_S32x2x512_S32x1x512_0_1_0)
        (sitofp .f32 (constantI S_ 32 0#32)) pads_S32x1x512_S32x16x512_000_0150_000 h_S_) shapeCasts_S32x16x512_S512x512 := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_results
  try rfl
theorem V_main_v9 : (V m c main_v9 : S512x512.Idx → Elt F .f32)
    = shapeCast S512x512 (pad S32x16x512 ![0, 0, 0] ![0, 14, 0] ![0, 0, 0] (cacheRows m c)
        (sitofp .f32 (constantI S_ 32 0#32)) pads_S32x2x512_S32x16x512_000_0140_000 h_S_) shapeCasts_S32x16x512_S512x512 := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  after_results
  try rfl

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel

/-- Row `r` of point `t` among all the tokens. -/
abbrev tokenAt (t : Fin cfg0.N) (r : Fin 512) : Fin 16896 := ⟨512 * t.val + r.val, by have := point_lt t; have := r.isLt; omega⟩

/-- Point `t`'s token rows are rows `512 t` to `512 t + 511`. -/
theorem iblk_rows (t : Fin cfg0.N) (r : Fin 512) (k : Fin 1024) :
    (iblk m c 0 t : S512x1024.Idx → Elt F .f32) (ix2 r k) = (V m c main_v2 : S16896x1024.Idx → Elt F .f32) (ix2 (tokenAt t r) k) := by
  unfold iblk
  rw [View.read_apply, cast_eq]
  refine congrArg (V m c main_v2 : S16896x1024.Idx → Elt F .f32) (funext fun a => Fin.ext ?_)
  match a with
  | ⟨0, _⟩ => blk_simp [index0]; show t.val * 512 + r.val = 512 * t.val + r.val; omega
  | ⟨1, _⟩ => blk_simp [index0]; try rfl

/-- Each of the other blocks is its whole array, at every point. -/
theorem iblk_norm (t : Fin cfg0.N) : (iblk m c 1 t : S1x1024.Idx → Elt F .f32) = V m c main_v12 := by
  funext y
  unfold iblk
  rw [View.read_apply, cast_eq]
  refine congrArg (V m c main_v12 : S1x1024.Idx → Elt F .f32) (funext fun a => Fin.ext ?_)
  match a with
  | ⟨0, _⟩ => blk_simp [index1]; try rfl
  | ⟨1, _⟩ => blk_simp [index1]; try rfl
theorem iblk_proj (t : Fin cfg0.N) : (iblk m c 2 t : S1024x2048.Idx → Elt F .bf16) = V m c main_v15 := by
  funext y
  unfold iblk
  rw [View.read_apply, cast_eq]
  refine congrArg (V m c main_v15 : S1024x2048.Idx → Elt F .bf16) (funext fun a => Fin.ext ?_)
  match a with
  | ⟨0, _⟩ => blk_simp [index2]; try rfl
  | ⟨1, _⟩ => blk_simp [index2]; try rfl
theorem iblk_taps (t : Fin cfg0.N) : (iblk m c 3 t : S3x512.Idx → Elt F .f32) = V m c main_v17 := by
  funext y
  unfold iblk
  rw [View.read_apply, cast_eq]
  refine congrArg (V m c main_v17 : S3x512.Idx → Elt F .f32) (funext fun a => Fin.ext ?_)
  match a with
  | ⟨0, _⟩ => blk_simp [index3]; try rfl
  | ⟨1, _⟩ => blk_simp [index3]; try rfl
theorem iblk_mixNorm (t : Fin cfg0.N) : (iblk m c 4 t : S1x512.Idx → Elt F .f32) = V m c main_v20 := by
  funext y
  unfold iblk
  rw [View.read_apply, cast_eq]
  refine congrArg (V m c main_v20 : S1x512.Idx → Elt F .f32) (funext fun a => Fin.ext ?_)
  match a with
  | ⟨0, _⟩ => blk_simp [index4]; try rfl
  | ⟨1, _⟩ => blk_simp [index4]; try rfl
theorem iblk_one (t : Fin cfg0.N) : (iblk m c 5 t : S512x512.Idx → Elt F .f32) = V m c main_v7 := by
  funext y
  unfold iblk
  rw [View.read_apply, cast_eq]
  refine congrArg (V m c main_v7 : S512x512.Idx → Elt F .f32) (funext fun a => Fin.ext ?_)
  match a with
  | ⟨0, _⟩ => blk_simp [index5]; try rfl
  | ⟨1, _⟩ => blk_simp [index5]; try rfl
theorem iblk_two (t : Fin cfg0.N) : (iblk m c 6 t : S512x512.Idx → Elt F .f32) = V m c main_v9 := by
  funext y
  unfold iblk
  rw [View.read_apply, cast_eq]
  refine congrArg (V m c main_v9 : S512x512.Idx → Elt F .f32) (funext fun a => Fin.ext ?_)
  match a with
  | ⟨0, _⟩ => blk_simp [index6]; try rfl
  | ⟨1, _⟩ => blk_simp [index6]; try rfl

/-- The cache's row of a short sequence. -/
theorem cacheRows_apply (b : Fin 32) (p : Fin 2) (d : Fin 512) : cacheRows m c (ix3 b p d) = cacheOf m c (ix4 0 b p d) := by
  refine (shapeCast_apply _ _ _ (ix4 0 b p d : S1x32x2x512.Idx) ?_).trans (extractStridedSlice_apply _ _ _ _ (ix4 0 b p d : S2x32x2x512.Idx) fun a => ?_)
  · rw [Shape.rowMajor_val_four, Shape.rowMajor_val_three]
    show ((0 * 32 + b.val) * 2 + p.val) * 512 + d.val = (b.val * 2 + p.val) * 512 + d.val
    omega
  · match a with
    | ⟨0, _⟩ => rfl
    | ⟨1, _⟩ => show b.val = 0 + b.val; omega
    | ⟨2, _⟩ => show p.val = 0 + p.val; omega
    | ⟨3, _⟩ => show d.val = 0 + d.val; omega

/-- At a short sequence's first row, the one-back block holds the cache's later row. -/
theorem one_apply (t : Fin cfg0.N) (r d : Fin 512) (h : r.val % 16 = 0) :
    (iblk m c 5 t : S512x512.Idx → Elt F .f32) (ix2 r d) = cacheOf m c (ix4 0 ⟨r.val / 16, by have := r.isLt; omega⟩ 1 d) := by
  have hr := r.isLt
  rw [iblk_one, V_main_v7]
  refine (shapeCast_apply _ _ _ (ix3 ⟨r.val / 16, by omega⟩ 0 d : S32x16x512.Idx) ?_).trans
    ((pad_apply_of_inside _ _ _ _ _ _ _ _ (ix3 ⟨r.val / 16, by omega⟩ 0 d : S32x1x512.Idx) fun a => ?_).trans
      ((extractStridedSlice_apply _ _ _ _ (ix3 ⟨r.val / 16, by omega⟩ 1 d : S32x2x512.Idx) fun a => ?_).trans (cacheRows_apply m c _ _ _)))
  · rw [Shape.rowMajor_val_three, Shape.rowMajor_val_two]
    show (r.val / 16 * 16 + 0) * 512 + d.val = r.val * 512 + d.val
    omega
  · match a with
    | ⟨0, _⟩ => show r.val / 16 = 0 + r.val / 16 * (0 + 1); omega
    | ⟨1, _⟩ => rfl
    | ⟨2, _⟩ => show d.val = 0 + d.val * (0 + 1); omega
  · match a with
    | ⟨0, _⟩ => show r.val / 16 = 0 + r.val / 16; omega
    | ⟨1, _⟩ => rfl
    | ⟨2, _⟩ => show d.val = 0 + d.val; omega

/-- At a short sequence's first two rows, the two-back block holds the cache's rows. -/
theorem two_apply (t : Fin cfg0.N) (r d : Fin 512) (h : r.val % 16 < 2) :
    (iblk m c 6 t : S512x512.Idx → Elt F .f32) (ix2 r d) = cacheOf m c (ix4 0 ⟨r.val / 16, by have := r.isLt; omega⟩ ⟨r.val % 16, h⟩ d) := by
  have hr := r.isLt
  rw [iblk_two, V_main_v9]
  refine (shapeCast_apply _ _ _ (ix3 ⟨r.val / 16, by omega⟩ ⟨r.val % 16, by omega⟩ d : S32x16x512.Idx) ?_).trans
    ((pad_apply_of_inside _ _ _ _ _ _ _ _ (ix3 ⟨r.val / 16, by omega⟩ ⟨r.val % 16, h⟩ d : S32x2x512.Idx) fun a => ?_).trans (cacheRows_apply m c _ _ _))
  · rw [Shape.rowMajor_val_three, Shape.rowMajor_val_two]
    show (r.val / 16 * 16 + r.val % 16) * 512 + d.val = r.val * 512 + d.val
    omega
  · match a with
    | ⟨0, _⟩ => show r.val / 16 = 0 + r.val / 16 * (0 + 1); omega
    | ⟨1, _⟩ => show r.val % 16 = 0 + r.val % 16 * (0 + 1); omega
    | ⟨2, _⟩ => show d.val = 0 + d.val * (0 + 1); omega

end Found

/-! ## The kernel's projection -/

section Projected

/-- A column of 512 entries repeated along the rows reads its entry at the row. -/
theorem column_apply (v : S512x1.Idx → EReal) (r : Fin 512) (d : Fin 1024) :
    broadcastTo S512x1024 v broadcasts_S512x1_S512x1024 (ix2 r d) = v (ix2 r 0) := by
  refine broadcastTo_apply _ _ _ _ fun a => ?_
  match a with
  | ⟨0, _⟩ => rfl
  | ⟨1, _⟩ => rfl
theorem column_half {α : Type} (v : S512x1.Idx → α) (r d : Fin 512) :
    broadcastTo S512x512 v broadcasts_S512x1_S512x512 (ix2 r d) = v (ix2 r 0) := by
  refine broadcastTo_apply _ _ _ _ fun a => ?_
  match a with
  | ⟨0, _⟩ => rfl
  | ⟨1, _⟩ => rfl
/-- A row repeated along the columns reads its entry at the column. -/
theorem row_half (v : S1x512.Idx → EReal) (r d : Fin 512) :
    broadcastTo S512x512 v broadcasts_S1x512_S512x512 (ix2 r d) = v (ix2 0 d) := by
  refine broadcastTo_apply _ _ _ _ fun a => ?_
  match a with
  | ⟨0, _⟩ => rfl
  | ⟨1, _⟩ => rfl

/-- The sum of a row's 1024 entries. -/
theorem row_sum (v : FVec Ideal S512x1024 .f32) (r : Fin 512) :
    shapeCast S512x1 (multiReduction .add [1] S512 v 0x00000000#32 reduces_S512x1024_S512 (.inl rfl) rfl) shapeCasts_S512_S512x1 (ix2 r 0)
      = ∑ k : Fin 1024, v (ix2 r k) := by
  refine (shapeCast_apply _ _ _ (ix1 r) ?_).trans ?_
  · rw [Shape.rowMajor_val_one, Shape.rowMajor_val_two]
    show r.val = r.val * 1 + 0
    omega
  refine (Ideal.multiReduction_add_single v _ reduces_S512x1024_S512 (.inl rfl) rfl (ix1 r)).trans
    (Finset.sum_congr rfl fun k _ => congrArg v (funext fun a => Fin.ext ?_))
  match a with
  | ⟨0, _⟩ => rfl
  | ⟨1, _⟩ => rfl
/-- The sum of a row's 512 entries. -/
theorem row_sum_half (v : FVec Ideal S512x512 .f32) (r : Fin 512) :
    shapeCast S512x1 (multiReduction .add [1] S512 v 0x00000000#32 reduces_S512x512_S512 (.inl rfl) rfl) shapeCasts_S512_S512x1 (ix2 r 0)
      = ∑ k : Fin 512, v (ix2 r k) := by
  refine (shapeCast_apply _ _ _ (ix1 r) ?_).trans ?_
  · rw [Shape.rowMajor_val_one, Shape.rowMajor_val_two]
    show r.val = r.val * 1 + 0
    omega
  refine (Ideal.multiReduction_add_single v _ reduces_S512x512_S512 (.inl rfl) rfl (ix1 r)).trans
    (Finset.sum_congr rfl fun k _ => congrArg v (funext fun a => Fin.ext ?_))
  match a with
  | ⟨0, _⟩ => rfl
  | ⟨1, _⟩ => rfl

theorem dot_eq : dot_S512x1024_S1024x2048_S512x2048_1_0_0_1_n_n = DotDims.plain 512 1024 2048 := rfl

theorem mm_apply (a : FVec Ideal S512x1024 .bf16) (b : FVec Ideal S1024x2048 .bf16) (r : Fin 512) (j : Fin 2048) :
    matmul dot_S512x1024_S1024x2048_S512x2048_1_0_0_1_n_n none a b (constant S512x2048 .f32 0x00000000#32) (ix2 r j)
      = ∑ k : Fin 1024, a (ix2 r k) * b (ix2 k j) := by
  have h := Ideal.matmul_plain_apply (M := 512) (K := 1024) (N := 2048) none a b (constant S512x2048 .f32 0x00000000#32) r j
  rw [← dot_eq] at h
  refine h.trans ?_
  rw [show constant (F := Ideal) S512x2048 .f32 0x00000000#32 (ix2 r j) = 0 from Ideal.ofBits_zero_f32, zero_add]

variable (x : FVec Ideal S512x1024 .f32) (g : FVec Ideal S1x1024 .f32) (w : FVec Ideal S1024x2048 .bf16)

/-- The kernel's normalised rows. -/
def normedRows : FVec Ideal S512x1024 .f32 :=
  mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 g broadcasts_S1x1024_S512x1024)

theorem normedRows_apply (r : Fin 512) (d : Fin 1024) :
    normedRows x g (ix2 r d) = normed 0x44800000#32 (fun k => x (ix2 r k)) (fun k => g (ix2 0 k)) d := by
  unfold normedRows
  show x (ix2 r d) * broadcastTo S512x1024 _ broadcasts_S512x1_S512x1024 (ix2 r d) * broadcastTo S512x1024 g broadcasts_S1x1024_S512x1024 (ix2 r d) = _
  have hw : broadcastTo S512x1024 g broadcasts_S1x1024_S512x1024 (ix2 r d) = g (ix2 0 d) := by
    refine broadcastTo_apply _ _ _ (ix2 0 d) fun a => ?_
    match a with
    | ⟨0, _⟩ => rfl
    | ⟨1, _⟩ => rfl
  rw [hw, column_apply]
  show x (ix2 r d) * Ideal.rsqrt (Ideal.div (shapeCast S512x1 (multiReduction .add [1] S512 (mulf x x) 0x00000000#32
      reduces_S512x1024_S512 (.inl rfl) rfl) shapeCasts_S512_S512x1 (ix2 r 0)) _ + _) * _ = _
  rw [row_sum]
  rfl

theorem same_shape {α : Type} {s : Shape} (v : s.Idx → α) (h : s.ShapeCasts s) : shapeCast s v h = v :=
  funext fun i => shapeCast_apply v h i i rfl

theorem pay2_apply (r : Fin 512) (j : Fin 2048) : k0_pay2 (F := Ideal) x g w (ix2 r j)
    = ∑ k : Fin 1024, normed 0x44800000#32 (fun k => x (ix2 r k)) (fun k => g (ix2 0 k)) k * w (ix2 k j) := by
  unfold k0_pay2
  simp only [same_shape]
  refine (mm_apply (truncf .bf16 (normedRows x g) bitsLt_bf16_f32) w r j).trans (Finset.sum_congr rfl fun k _ => ?_)
  exact congrArg (fun z : EReal => z * w (ix2 k j)) (normedRows_apply x g r k)

theorem part_apply (o : ℕ) (h : S512x2048.Slices ![0, o] S512x512) (r d : Fin 512) (ho : o + d.val < 2048) :
    extractStridedSlice S512x512 ![0, o] (k0_pay2 (F := Ideal) x g w) h (ix2 r d) = k0_pay2 (F := Ideal) x g w (ix2 r ⟨o + d.val, ho⟩) := by
  refine extractStridedSlice_apply _ _ _ _ (ix2 r ⟨o + d.val, ho⟩) fun a => ?_
  match a with
  | ⟨0, _⟩ => show r.val = 0 + r.val; omega
  | ⟨1, _⟩ => rfl

end Projected

/-! ## The kernel's mixed rows -/

section Mixed

/-- The row's number, and its number within its sequence of sixteen. -/
theorem rowNo_apply : ∀ r : Fin 512, rowNo (ix2 r 0) = BitVec.ofNat 32 r.val := by decide +kernel
theorem inSeq_apply : ∀ r : Fin 512, k0_pay11 rowNo (ix2 r 0) = BitVec.ofNat 32 (r.val % 16) := by decide +kernel
theorem isFirst : ∀ r : Fin 512, IntOp.cmpi .eq (BitVec.ofNat 32 r.val) 0#32 = BitVec.ofBool (decide (r.val = 0)) := by decide +kernel
theorem isSecond : ∀ r : Fin 512, IntOp.cmpi .eq (BitVec.ofNat 32 r.val) 1#32 = BitVec.ofBool (decide (r.val = 1)) := by decide +kernel
theorem startsSeq : ∀ r : Fin 512, IntOp.cmpi .eq (BitVec.ofNat 32 (r.val % 16)) 0#32 = BitVec.ofBool (decide (r.val % 16 = 0)) := by decide +kernel
theorem earlyInSeq : ∀ r : Fin 512, IntOp.cmpi .slt (BitVec.ofNat 32 (r.val % 16)) 2#32 = BitVec.ofBool (decide (r.val % 16 < 2)) := by decide +kernel
theorem isShort : ∀ t : Fin cfg0.N, Scalar.cmpi .eq (BitVec.ofNat 32 (grid0.coords t 0).val) 32#32 = BitVec.ofBool (decide (t.val = 32)) := by decide +kernel

theorem select_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

/-- The rows moved down by one and by two, around the end. -/
theorem rolled1 (v : S512x512.Idx → EReal) (r d : Fin 512) (h : 1 ≤ r.val) :
    dynamicRotate 0 1#32 none v rotates_S512x512_d0 (ix2 r d) = v (ix2 ⟨r.val - 1, by have := r.isLt; omega⟩ d) := by
  have hr := r.isLt
  refine dynamicRotate_apply _ _ _ _ _ _ fun b => ?_
  match b with
  | ⟨0, _⟩ => show r.val - 1 = (r.val + 512 - 1 % 512) % 512; omega
  | ⟨1, _⟩ => rfl
theorem rolled2 (v : S512x512.Idx → EReal) (r d : Fin 512) (h : 2 ≤ r.val) :
    dynamicRotate 0 2#32 none v rotates_S512x512_d0 (ix2 r d) = v (ix2 ⟨r.val - 2, by have := r.isLt; omega⟩ d) := by
  have hr := r.isLt
  refine dynamicRotate_apply _ _ _ _ _ _ fun b => ?_
  match b with
  | ⟨0, _⟩ => show r.val - 2 = (r.val + 512 - 2 % 512) % 512; omega
  | ⟨1, _⟩ => rfl

variable (z : FVec Ideal S512x512 .f32) (c6 c7 : FVec Ideal S1x512 .f32) (p q : FVec Ideal S512x512 .f32)

/-- One back within the long sequence: the carried row at the block's first row. -/
theorem oneBack (r d : Fin 512) : k0_pay9 (F := Ideal) (dynamicRotate 0 1#32 none z rotates_S512x512_d0) c7 k0_pay8 (ix2 r d)
    = if h : r.val < 1 then c7 (ix2 0 d) else z (ix2 ⟨r.val - 1, by have := r.isLt; omega⟩ d) := by
  unfold k0_pay9 k0_pay8
  simp only [same_shape]
  show Scalar.select (broadcastTo S512x512 (cmpi .eq rowNo (broadcast S512x1 0#32)) broadcasts_S512x1_S512x512 (ix2 r d))
    (broadcastTo S512x512 c7 broadcasts_S1x512_S512x512 (ix2 r d)) _ = _
  rw [column_half, row_half]
  show Scalar.select (IntOp.cmpi .eq (rowNo (ix2 r 0)) 0#32) _ _ = _
  rw [rowNo_apply, isFirst, select_ofBool]
  by_cases h : r.val < 1
  · rw [dif_pos h, if_pos (by omega)]
  · rw [dif_neg h, if_neg (by omega), rolled1 z r d (by omega)]

/-- Two back within the long sequence: the carried rows at the block's first two rows. -/
theorem twoBack (r d : Fin 512) : k0_pay10 (F := Ideal) rowNo (dynamicRotate 0 2#32 none z rotates_S512x512_d0) c6 c7 (ix2 r d)
    = if r.val = 0 then c6 (ix2 0 d) else if r.val = 1 then c7 (ix2 0 d)
      else z (ix2 ⟨r.val - 2, by have := r.isLt; omega⟩ d) := by
  unfold k0_pay10
  simp only [same_shape]
  show Scalar.select (broadcastTo S512x512 (cmpi .eq rowNo (broadcast S512x1 0#32)) broadcasts_S512x1_S512x512 (ix2 r d))
    (broadcastTo S512x512 c6 broadcasts_S1x512_S512x512 (ix2 r d))
    (Scalar.select (broadcastTo S512x512 (cmpi .eq rowNo (broadcast S512x1 1#32)) broadcasts_S512x1_S512x512 (ix2 r d))
      (broadcastTo S512x512 c7 broadcasts_S1x512_S512x512 (ix2 r d)) _) = _
  rw [column_half, column_half, row_half, row_half]
  show Scalar.select (IntOp.cmpi .eq (rowNo (ix2 r 0)) 0#32) _ (Scalar.select (IntOp.cmpi .eq (rowNo (ix2 r 0)) 1#32) _ _) = _
  rw [rowNo_apply, isFirst, isSecond, select_ofBool, select_ofBool]
  by_cases h : r.val = 0
  · rw [if_pos h, if_pos h]
  · rw [if_neg h, if_neg h]
    by_cases h' : r.val = 1
    · rw [if_pos h', if_pos h']
    · rw [if_neg h', if_neg h', rolled2 z r d (by omega)]

/-- One back within a short sequence. -/
theorem oneBackShort (r d : Fin 512) : k0_pay12 (F := Ideal) rowNo (dynamicRotate 0 1#32 none z rotates_S512x512_d0) p (ix2 r d)
    = if r.val % 16 = 0 then p (ix2 r d) else z (ix2 ⟨r.val - 1, by have := r.isLt; omega⟩ d) := by
  unfold k0_pay12
  simp only [same_shape]
  show Scalar.select (broadcastTo S512x512 (cmpi .eq (k0_pay11 rowNo) (broadcast S512x1 0#32)) broadcasts_S512x1_S512x512 (ix2 r d)) _ _ = _
  rw [column_half]
  show Scalar.select (IntOp.cmpi .eq (k0_pay11 rowNo (ix2 r 0)) 0#32) _ _ = _
  rw [inSeq_apply, startsSeq, select_ofBool]
  by_cases h : r.val % 16 = 0
  · rw [if_pos h, if_pos h]
  · rw [if_neg h, if_neg h, rolled1 z r d (by omega)]

/-- Two back within a short sequence. -/
theorem twoBackShort (r d : Fin 512) : select (broadcastTo S512x512 (shapeCast S512x1 (k0_pay13 rowNo) shapeCasts_S512x1_S512x1) broadcasts_S512x1_S512x512)
      (k0_pay14 (F := Ideal) q) (dynamicRotate 0 2#32 none z rotates_S512x512_d0) (ix2 r d)
    = if r.val % 16 < 2 then q (ix2 r d) else z (ix2 ⟨r.val - 2, by have := r.isLt; omega⟩ d) := by
  unfold k0_pay14 k0_pay13
  simp only [same_shape]
  show Scalar.select (broadcastTo S512x512 (cmpi .slt (k0_pay11 rowNo) (broadcast S512x1 2#32)) broadcasts_S512x1_S512x512 (ix2 r d)) _ _ = _
  rw [column_half]
  show Scalar.select (IntOp.cmpi .slt (k0_pay11 rowNo (ix2 r 0)) 2#32) _ _ = _
  rw [inSeq_apply, earlyInSeq, select_ofBool]
  by_cases h : r.val % 16 < 2
  · rw [if_pos h, if_pos h]
  · rw [if_neg h, if_neg h, rolled2 z r d (by omega)]

variable (k : FVec Ideal S3x512 .f32) (b : FVec Ideal S1x512 .f32) (G V2 V1 : FVec Ideal S512x512 .f32)

theorem tap_apply (a : Fin 3) (h : S3x512.Slices ![a.val, 0] S1x512) (r d : Fin 512) :
    broadcastTo S512x512 (extractStridedSlice S1x512 ![a.val, 0] k h) broadcasts_S1x512_S512x512 (ix2 r d) = k (ix2 a d) := by
  rw [row_half]
  refine extractStridedSlice_apply _ _ _ _ (ix2 a d) fun e => ?_
  match e with
  | ⟨0, _⟩ => show a.val = a.val + 0; omega
  | ⟨1, _⟩ => show d.val = 0 + d.val; omega

/-- The kernel's gated convolution rows. -/
def convRows : FVec Ideal S512x512 .f32 :=
  mulf G (addf (addf (mulf (broadcastTo S512x512 (extractStridedSlice S1x512 ![0, 0] k slices_S3x512_o0_0_S1x512) broadcasts_S1x512_S512x512) V2)
    (mulf (broadcastTo S512x512 (extractStridedSlice S1x512 ![1, 0] k slices_S3x512_o1_0_S1x512) broadcasts_S1x512_S512x512) V1))
    (mulf (broadcastTo S512x512 (extractStridedSlice S1x512 ![2, 0] k slices_S3x512_o2_0_S1x512) broadcasts_S1x512_S512x512) z))

theorem convRows_apply (r d : Fin 512) : convRows z k G V2 V1 (ix2 r d)
    = G (ix2 r d) * (k (ix2 0 d) * V2 (ix2 r d) + k (ix2 1 d) * V1 (ix2 r d) + k (ix2 2 d) * z (ix2 r d)) := by
  unfold convRows
  show G (ix2 r d) * (broadcastTo S512x512 (extractStridedSlice S1x512 ![(0 : Fin 3).val, 0] k slices_S3x512_o0_0_S1x512) broadcasts_S1x512_S512x512 (ix2 r d) * V2 (ix2 r d)
    + broadcastTo S512x512 (extractStridedSlice S1x512 ![(1 : Fin 3).val, 0] k slices_S3x512_o1_0_S1x512) broadcasts_S1x512_S512x512 (ix2 r d) * V1 (ix2 r d)
    + broadcastTo S512x512 (extractStridedSlice S1x512 ![(2 : Fin 3).val, 0] k slices_S3x512_o2_0_S1x512) broadcasts_S1x512_S512x512 (ix2 r d) * z (ix2 r d)) = _
  rw [tap_apply, tap_apply, tap_apply]

/-- The kernel's second norm, of its gated convolution rows. -/
def mixNormed (Y : FVec Ideal S512x512 .f32) : FVec Ideal S512x512 .bf16 :=
  truncf .bf16 (mulf (mulf Y (broadcastTo S512x512 (rsqrt (addf (divf (shapeCast S512x1 (multiReduction .add [1] S512 (mulf Y Y) 0x00000000#32
      reduces_S512x512_S512 (.inl rfl) rfl) shapeCasts_S512_S512x1) (broadcast S512x1 (Scalar.ofBits .f32 0x44000000#32)))
      (broadcast S512x1 (Scalar.ofBits .f32 0x358637BD#32)))) broadcasts_S512x1_S512x512))
    (broadcastTo S512x512 b broadcasts_S1x512_S512x512)) bitsLt_bf16_f32

theorem mixNormed_apply (Y : FVec Ideal S512x512 .f32) (r d : Fin 512) :
    mixNormed b Y (ix2 r d) = normed 0x44000000#32 (fun k => Y (ix2 r k)) (fun k => b (ix2 0 k)) d := by
  unfold mixNormed
  show Y (ix2 r d) * broadcastTo S512x512 _ broadcasts_S512x1_S512x512 (ix2 r d) * broadcastTo S512x512 b broadcasts_S1x512_S512x512 (ix2 r d) = _
  rw [row_half, column_half]
  show Y (ix2 r d) * Ideal.rsqrt (Ideal.div (shapeCast S512x1 (multiReduction .add [1] S512 (mulf Y Y) 0x00000000#32
      reduces_S512x512_S512 (.inl rfl) rfl) shapeCasts_S512_S512x1 (ix2 r 0)) _ + _) * _ = _
  rw [row_sum_half]
  rfl

end Mixed

/-! ## The kernel's results are the reference's -/

section Same

variable (m : (ℓ : Loc nD τ sig) → Buf (Elt Ideal) ℓ) (c : Dev nD)

/-- The arrays that the kernel's memory holds. -/
abbrev givenOf : Given where
  X := Cert.Reference5Ideal.Hand.joined (longOf m c) (shortRowsOf m c)
  g := normOf m c
  W := projOf m c
  taps := tapsOf m c
  cache := cacheOf m c
  b := mixNormOf m c

theorem rows_found (t : Fin cfg0.N) (r : Fin 512) (k : Fin 1024) :
    (iblk m c 0 t : S512x1024.Idx → EReal) (ix2 r k) = (givenOf m c).X (ix2 (tokenAt t r) k) :=
  (iblk_rows m c t r k).trans (congrFun (V_main_v2 m c) _)

theorem norm_found (t : Fin cfg0.N) (k : Fin 1024) : (iblk m c 1 t : S1x1024.Idx → EReal) (ix2 0 k) = (givenOf m c).g (ix2 0 k) := by
  rw [iblk_norm, V_main_v12]
  refine (shapeCast_apply _ _ _ (ix1 k : S1024.Idx) ?_).trans ((shapeCast_apply _ _ _ (ix2 0 k : S1x1024.Idx) ?_).trans
    (extractStridedSlice_apply _ _ _ _ (ix2 0 k : S2x1024.Idx) fun a => ?_))
  · rw [Shape.rowMajor_val_one, Shape.rowMajor_val_two]
    show k.val = 0 * 1024 + k.val
    omega
  · rw [Shape.rowMajor_val_one, Shape.rowMajor_val_two]
    show 0 * 1024 + k.val = k.val
    omega
  · match a with
    | ⟨0, _⟩ => rfl
    | ⟨1, _⟩ => show k.val = 0 + k.val; omega

theorem mixNorm_found (t : Fin cfg0.N) (k : Fin 512) : (iblk m c 4 t : S1x512.Idx → EReal) (ix2 0 k) = (givenOf m c).b (ix2 0 k) := by
  rw [iblk_mixNorm, V_main_v20]
  refine (shapeCast_apply _ _ _ (ix1 k : S512.Idx) ?_).trans ((shapeCast_apply _ _ _ (ix2 0 k : S1x512.Idx) ?_).trans
    (extractStridedSlice_apply _ _ _ _ (ix2 0 k : S2x512.Idx) fun a => ?_))
  · rw [Shape.rowMajor_val_one, Shape.rowMajor_val_two]
    show k.val = 0 * 512 + k.val
    omega
  · rw [Shape.rowMajor_val_one, Shape.rowMajor_val_two]
    show 0 * 512 + k.val = k.val
    omega
  · match a with
    | ⟨0, _⟩ => rfl
    | ⟨1, _⟩ => show k.val = 0 + k.val; omega

theorem proj_found (t : Fin cfg0.N) (k : Fin 1024) (j : Fin 2048) :
    (iblk m c 2 t : S1024x2048.Idx → EReal) (ix2 k j) = (givenOf m c).W (ix3 0 k j) := by
  refine (congrFun (iblk_proj m c t) _).trans ((congrFun (V_main_v15 m c) _).trans ?_)
  show shapeCast S1024x2048 (extractStridedSlice S1x1024x2048 ![0, 0, 0] (projOf m c) slices_S2x1024x2048_S1x1024x2048_0_0_0)
    shapeCasts_S1x1024x2048_S1024x2048 (ix2 k j) = _
  refine (shapeCast_apply _ _ _ (ix3 0 k j : S1x1024x2048.Idx) ?_).trans
    (extractStridedSlice_apply _ _ _ _ (ix3 0 k j : S2x1024x2048.Idx) fun a => ?_)
  · rw [Shape.rowMajor_val_three, Shape.rowMajor_val_two]
    show (0 * 1024 + k.val) * 2048 + j.val = k.val * 2048 + j.val
    omega
  · match a with
    | ⟨0, _⟩ => rfl
    | ⟨1, _⟩ => show k.val = 0 + k.val; omega
    | ⟨2, _⟩ => show j.val = 0 + j.val; omega

theorem taps_found (t : Fin cfg0.N) (a : Fin 3) (d : Fin 512) :
    (iblk m c 3 t : S3x512.Idx → EReal) (ix2 a d) = (givenOf m c).taps (ix3 0 a d) := by
  rw [iblk_taps, V_main_v17]
  refine (shapeCast_apply _ _ _ (ix3 0 a d : S1x3x512.Idx) ?_).trans
    (extractStridedSlice_apply _ _ _ _ (ix3 0 a d : S2x3x512.Idx) fun e => ?_)
  · rw [Shape.rowMajor_val_three, Shape.rowMajor_val_two]
    show (0 * 3 + a.val) * 512 + d.val = a.val * 512 + d.val
    omega
  · match e with
    | ⟨0, _⟩ => rfl
    | ⟨1, _⟩ => show a.val = 0 + a.val; omega
    | ⟨2, _⟩ => show d.val = 0 + d.val; omega

/-- The kernel's projection is the plain one. -/
theorem projection (t : Fin cfg0.N) (r : Fin 512) (j : Fin 2048) :
    k0_pay2 (F := Ideal) (iblk m c 0 t) (iblk m c 1 t) (iblk m c 2 t) (ix2 r j) = projected (givenOf m c) (tokenAt t r) j := by
  refine (pay2_apply (iblk m c 0 t) (iblk m c 1 t) (iblk m c 2 t) r j).trans (Finset.sum_congr rfl fun k _ => ?_)
  refine congrArg₂ (fun x y : EReal => x * y) ?_ (proj_found m c t k j)
  exact congrArg₂ (fun X w => normed 0x44800000#32 X w k) (funext fun k => rows_found m c t r k) (funext fun k => norm_found m c t k)

theorem firstAt_apply (t : Fin cfg0.N) (r d : Fin 512) :
    firstAt m c t (ix2 r d) = projected (givenOf m c) (tokenAt t r) ⟨d.val, by omega⟩ := by
  unfold firstAt k0_pay3
  refine (part_apply _ _ _ 0 _ r d (by omega)).trans ((projection m c t r _).trans (congrArg (projected _ _) (Fin.ext (Nat.zero_add _))))

theorem gateAt_apply (t : Fin cfg0.N) (r d : Fin 512) :
    k0_pay4 (F := Ideal) (iblk m c 0 t) (iblk m c 1 t) (iblk m c 2 t) (ix2 r d) = projected (givenOf m c) (tokenAt t r) ⟨512 + d.val, by omega⟩ := by
  unfold k0_pay4
  exact (part_apply _ _ _ 512 _ r d (by omega)).trans (projection m c t r _)

theorem gatedAt_apply (t : Fin cfg0.N) (r d : Fin 512) : gatedAt m c t (ix2 r d) = prodAt (givenOf m c) (512 * t.val + r.val) d := by
  refine Eq.trans ?_ (prodAt_eq (givenOf m c) (tokenAt t r) d).symm
  unfold gatedAt k0_pay5 prod
  exact congrArg₂ (fun x y : EReal => x * y) ((part_apply _ _ _ 1024 _ r d (by omega)).trans (projection m c t r _))
    ((part_apply _ _ _ 1536 _ r d (by omega)).trans (projection m c t r _))

/-- Row `a` of a block's last eight rows. -/
theorem lastRows_apply (Y : FVec Ideal S512x512 .f32) (a : Fin 8) (d : Fin 512) :
    extractStridedSlice S8x512 ![504, 0] Y slices_S512x512_o504_0_S8x512 (ix2 a d) = Y (ix2 ⟨504 + a.val, by omega⟩ d) := by
  refine extractStridedSlice_apply _ _ _ _ (ix2 ⟨504 + a.val, by omega⟩ d : S512x512.Idx) fun e => ?_
  match e with
  | ⟨0, _⟩ => rfl
  | ⟨1, _⟩ => show d.val = 0 + d.val; omega

/-- What a point finds carried, at one of the eight rows. -/
theorem carried_apply (t : Fin cfg0.N) (a : Fin 8) (d : Fin 512) :
    carried m c t (ix2 a d) = if t.val = 0 then 0 else prodAt (givenOf m c) (512 * t.val + a.val - 8) d := by
  unfold carried
  by_cases h : t.val = 0
  · rw [if_pos h, if_pos h]
    unfold k0_pay1
    simp only [same_shape]
    exact Ideal.ofBits_zero_f32
  · rw [if_neg h, if_neg h]
    unfold k0_pay16
    simp only [same_shape]
    rw [lastRows_apply, gatedAt_apply]
    refine congrArg (fun n => prodAt (givenOf m c) n d) ?_
    show 512 * (t.val - 1) + (504 + a.val) = 512 * t.val + a.val - 8
    omega

theorem sixth_apply (C : FVec Ideal S8x512 .f32) (d : Fin 512) : sixth (F := Ideal) C (ix2 0 d) = C (ix2 6 d) := by
  refine congrArg C (funext fun a => Fin.ext ?_)
  match a with
  | ⟨0, _⟩ => exact rect_emb_unit_val _ _ _ _ _
  | ⟨1, _⟩ => exact (rect_emb_unit_val _ _ _ _ _).trans (Nat.zero_add _)
theorem seventh_apply (C : FVec Ideal S8x512 .f32) (d : Fin 512) : seventh (F := Ideal) C (ix2 0 d) = C (ix2 7 d) := by
  refine congrArg C (funext fun a => Fin.ext ?_)
  match a with
  | ⟨0, _⟩ => exact rect_emb_unit_val _ _ _ _ _
  | ⟨1, _⟩ => exact (rect_emb_unit_val _ _ _ _ _).trans (Nat.zero_add _)

/-- The kernel's one-back block. -/
def back1 (t : Fin cfg0.N) : FVec Ideal S512x512 .f32 :=
  Scalar.select (Scalar.cmpi .eq (BitVec.ofNat 32 (grid0.coords t 0).val) 32#32)
    (k0_pay12 (F := Ideal) rowNo (dynamicRotate 0 1#32 none (gatedAt m c t) rotates_S512x512_d0) (iblk m c 5 t))
    (k0_pay9 (F := Ideal) (dynamicRotate 0 1#32 none (gatedAt m c t) rotates_S512x512_d0) (seventh (carried m c t)) k0_pay8)
/-- The kernel's two-back block. -/
def back2 (t : Fin cfg0.N) : FVec Ideal S512x512 .f32 :=
  Scalar.select (Scalar.cmpi .eq (BitVec.ofNat 32 (grid0.coords t 0).val) 32#32)
    (select (broadcastTo S512x512 (shapeCast S512x1 (k0_pay13 rowNo) shapeCasts_S512x1_S512x1) broadcasts_S512x1_S512x512)
      (k0_pay14 (F := Ideal) (iblk m c 6 t)) (dynamicRotate 0 2#32 none (gatedAt m c t) rotates_S512x512_d0))
    (k0_pay10 (F := Ideal) rowNo (dynamicRotate 0 2#32 none (gatedAt m c t) rotates_S512x512_d0) (sixth (carried m c t)) (seventh (carried m c t)))

theorem back1_apply (t : Fin cfg0.N) (r d : Fin 512) : back1 m c t (ix2 r d) = before (givenOf m c) 1 (tokenAt t r) d := by
  have hr := r.isLt
  have ht := point_lt t
  unfold back1 before
  rw [isShort, select_ofBool]
  by_cases h : t.val = 32
  · rw [if_pos h, oneBackShort, if_neg (show ¬ 512 * t.val + r.val < 16384 by omega)]
    by_cases h' : r.val % 16 = 0
    · rw [if_pos h', dif_pos (show (512 * t.val + r.val - 16384) % 16 < 1 by omega), one_apply m c t r d h']
      refine congrArg₂ (fun (x : Fin 32) (y : Fin 2) => cacheOf m c (ix4 0 x y d)) (Fin.ext ?_) (Fin.ext ?_)
      · show r.val / 16 = (512 * t.val + r.val - 16384) / 16
        omega
      · show 1 = ((512 * t.val + r.val - 16384) % 16 + 2 - 1) % 2
        omega
    · rw [if_neg h', dif_neg (show ¬ (512 * t.val + r.val - 16384) % 16 < 1 by omega), gatedAt_apply]
      refine congrArg (fun n => prodAt (givenOf m c) n d) ?_
      show 512 * t.val + (r.val - 1) = 512 * t.val + r.val - 1
      omega
  · rw [if_neg h, oneBack, if_pos (show 512 * t.val + r.val < 16384 by omega)]
    by_cases h' : r.val < 1
    · rw [dif_pos h', seventh_apply, carried_apply]
      by_cases h0 : t.val = 0
      · rw [if_pos h0, if_pos (show 512 * t.val + r.val < 1 by omega)]
      · rw [if_neg h0, if_neg (show ¬ 512 * t.val + r.val < 1 by omega)]
        refine congrArg (fun n => prodAt (givenOf m c) n d) ?_
        show 512 * t.val + 7 - 8 = 512 * t.val + r.val - 1
        omega
    · rw [dif_neg h', if_neg (show ¬ 512 * t.val + r.val < 1 by omega), gatedAt_apply]
      refine congrArg (fun n => prodAt (givenOf m c) n d) ?_
      show 512 * t.val + (r.val - 1) = 512 * t.val + r.val - 1
      omega

theorem back2_apply (t : Fin cfg0.N) (r d : Fin 512) : back2 m c t (ix2 r d) = before (givenOf m c) 2 (tokenAt t r) d := by
  have hr := r.isLt
  have ht := point_lt t
  unfold back2 before
  rw [isShort, select_ofBool]
  by_cases h : t.val = 32
  · rw [if_pos h, twoBackShort, if_neg (show ¬ 512 * t.val + r.val < 16384 by omega)]
    by_cases h' : r.val % 16 < 2
    · rw [if_pos h', dif_pos (show (512 * t.val + r.val - 16384) % 16 < 2 by omega), two_apply m c t r d h']
      refine congrArg₂ (fun (x : Fin 32) (y : Fin 2) => cacheOf m c (ix4 0 x y d)) (Fin.ext ?_) (Fin.ext ?_)
      · show r.val / 16 = (512 * t.val + r.val - 16384) / 16
        omega
      · show r.val % 16 = ((512 * t.val + r.val - 16384) % 16 + 2 - 2) % 2
        omega
    · rw [if_neg h', dif_neg (show ¬ (512 * t.val + r.val - 16384) % 16 < 2 by omega), gatedAt_apply]
      refine congrArg (fun n => prodAt (givenOf m c) n d) ?_
      show 512 * t.val + (r.val - 2) = 512 * t.val + r.val - 2
      omega
  · rw [if_neg h, twoBack, if_pos (show 512 * t.val + r.val < 16384 by omega)]
    by_cases h' : r.val < 2
    · by_cases h0 : t.val = 0
      · rw [if_pos (show 512 * t.val + r.val < 2 by omega)]
        by_cases h1 : r.val = 0
        · rw [if_pos h1, sixth_apply, carried_apply, if_pos h0]
        · rw [if_neg h1, if_pos (show r.val = 1 by omega), seventh_apply, carried_apply, if_pos h0]
      · rw [if_neg (show ¬ 512 * t.val + r.val < 2 by omega)]
        by_cases h1 : r.val = 0
        · rw [if_pos h1, sixth_apply, carried_apply, if_neg h0]
          refine congrArg (fun n => prodAt (givenOf m c) n d) ?_
          show 512 * t.val + 6 - 8 = 512 * t.val + r.val - 2
          omega
        · rw [if_neg h1, if_pos (show r.val = 1 by omega), seventh_apply, carried_apply, if_neg h0]
          refine congrArg (fun n => prodAt (givenOf m c) n d) ?_
          show 512 * t.val + 7 - 8 = 512 * t.val + r.val - 2
          omega
    · rw [if_neg (show ¬ r.val = 0 by omega), if_neg (show ¬ r.val = 1 by omega), if_neg (show ¬ 512 * t.val + r.val < 2 by omega), gatedAt_apply]
      refine congrArg (fun n => prodAt (givenOf m c) n d) ?_
      show 512 * t.val + (r.val - 2) = 512 * t.val + r.val - 2
      omega

theorem mixedAt_eq (t : Fin cfg0.N) : mixedAt m c t = mixNormed (iblk m c 4 t) (convRows (gatedAt m c t) (iblk m c 3 t)
    (k0_pay4 (F := Ideal) (iblk m c 0 t) (iblk m c 1 t) (iblk m c 2 t)) (back2 m c t) (back1 m c t)) := by
  unfold mixedAt mixedRows k0_pay15 mixNormed convRows back1 back2 k0_pay6 k0_pay7 gatedAt
  simp only [same_shape]

theorem mixedAt_apply (t : Fin cfg0.N) (r d : Fin 512) : mixedAt m c t (ix2 r d) = mixedRow (givenOf m c) (tokenAt t r) d := by
  rw [mixedAt_eq, mixNormed_apply]
  unfold mixedRow
  refine congrArg₂ (fun X w => normed 0x44000000#32 X w d) (funext fun e => ?_) (funext fun e => mixNorm_found m c t e)
  rw [convRows_apply, back1_apply, back2_apply, gateAt_apply, gatedAt_apply, taps_found, taps_found, taps_found]
  unfold gatedConv
  rw [← prodAt_eq]

/-! ### The four results -/

theorem stacked_apply (f : Fin cfg0.N → S512x512.Idx → EReal) (R : Fin 16896 → Fin 512 → EReal)
    (h : ∀ t r d, f t (ix2 r d) = R (tokenAt t r) d) (n : Fin 16896) (d : Fin 512) : stacked f (ix2 n d) = R n d := by
  have hn := n.isLt
  refine (h (pointAt (n.val / 512) (by omega)) ⟨n.val % 512, Nat.mod_lt _ (by omega)⟩ d).trans (congrArg (fun q => R q d) (Fin.ext ?_))
  show 512 * (n.val / 512) + n.val % 512 = n.val
  omega

theorem same_first : Cert.Reference5Ideal.Hand.first (givenOf m c) = stacked (firstAt m c) := by
  funext i
  obtain ⟨n, d, rfl⟩ : ∃ (n : Fin 16896) (d : Fin 512), i = ix2 n d := ⟨i 0, i 1, eq_ix2 i⟩
  exact (Cert.Reference5Ideal.Hand.first_apply (givenOf m c) n d).trans
    (stacked_apply (firstAt m c) (fun n d => projected (givenOf m c) n ⟨d.val, by omega⟩) (firstAt_apply m c) n d).symm

theorem same_mixed : Cert.Reference5Ideal.Hand.mixed (givenOf m c) = (extf .f32 (stacked (mixedAt m c)) bitsLt_bf16_f32 : FVec Ideal S16896x512 .f32) := by
  funext i
  obtain ⟨n, d, rfl⟩ : ∃ (n : Fin 16896) (d : Fin 512), i = ix2 n d := ⟨i 0, i 1, eq_ix2 i⟩
  exact (Cert.Reference5Ideal.Hand.mixed_apply (givenOf m c) n d).trans
    (stacked_apply (mixedAt m c) (mixedRow (givenOf m c)) (mixedAt_apply m c) n d).symm

theorem same_tail : Cert.Reference5Ideal.Hand.tail (givenOf m c)
    = shapeCast S1x2x512 (extractStridedSlice S2x512 ![6, 0] (tailOf m c) slices_S8x512_S2x512_6_0) shapeCasts_S2x512_S1x2x512 := by
  funext i
  obtain ⟨o, p, d, rfl⟩ : ∃ (o : Fin 1) (p : Fin 2) (d : Fin 512), i = ix3 o p d := ⟨i 0, i 1, i 2, eq_ix3 i⟩
  obtain rfl : o = 0 := Subsingleton.elim _ _
  have hp := p.isLt
  refine (Cert.Reference5Ideal.Hand.tail_apply (givenOf m c) p d).trans (Eq.symm ?_)
  refine (shapeCast_apply _ _ _ (ix2 p d : S2x512.Idx) ?_).trans
    ((extractStridedSlice_apply _ _ _ _ (ix2 ⟨6 + p.val, by omega⟩ d : S8x512.Idx) fun a => ?_).trans ?_)
  · rw [Shape.rowMajor_val_three, Shape.rowMajor_val_two]
    show p.val * 512 + d.val = (0 * 2 + p.val) * 512 + d.val
    omega
  · match a with
    | ⟨0, _⟩ => rfl
    | ⟨1, _⟩ => show d.val = 0 + d.val; omega
  · unfold tailOf k0_pay17
    refine (lastRows_apply _ _ d).trans ((gatedAt_apply m c _ _ d).trans (congrArg (fun n => prodAt (givenOf m c) n d) ?_))
    show 512 * 31 + (504 + (6 + p.val)) = 16382 + p.val
    omega

theorem same_ends : Cert.Reference5Ideal.Hand.ends (givenOf m c)
    = extractStridedSlice S32x2x512 ![0, 14, 0] (shapeCast S32x16x512 (shortOf m c) shapeCasts_S512x512_S32x16x512) slices_S32x16x512_S32x2x512_0_14_0 := by
  funext i
  obtain ⟨b, p, d, rfl⟩ : ∃ (b : Fin 32) (p : Fin 2) (d : Fin 512), i = ix3 b p d := ⟨i 0, i 1, i 2, eq_ix3 i⟩
  have hb := b.isLt
  have hp := p.isLt
  refine (Cert.Reference5Ideal.Hand.ends_apply (givenOf m c) b p d).trans (Eq.symm ?_)
  refine (extractStridedSlice_apply _ _ _ _ (ix3 b ⟨14 + p.val, by omega⟩ d : S32x16x512.Idx) fun a => ?_).trans
    ((shapeCast_apply _ _ _ (ix2 ⟨16 * b.val + (14 + p.val), by omega⟩ d : S512x512.Idx) ?_).trans ?_)
  · match a with
    | ⟨0, _⟩ => show b.val = 0 + b.val; omega
    | ⟨1, _⟩ => rfl
    | ⟨2, _⟩ => show d.val = 0 + d.val; omega
  · rw [Shape.rowMajor_val_three, Shape.rowMajor_val_two]
    show (16 * b.val + (14 + p.val)) * 512 + d.val = (b.val * 16 + (14 + p.val)) * 512 + d.val
    omega
  · unfold shortOf
    refine (gatedAt_apply m c _ _ d).trans (congrArg (fun n => prodAt (givenOf m c) n d) ?_)
    show 512 * 32 + (16 * b.val + (14 + p.val)) = 16384 + 16 * b.val + (14 + p.val)
    omega

end Same

end Cert.Kernel5Ideal.Hand
-- ==== Proof.LaterProject.lean ====
/-
  The in-projection's body: one grid point takes 512 rows of the residual stream, normalises and projects them, convolves
  the gated product with its two predecessors along the sequence (the last point: along each short sequence, from that
  sequence's cache), and keeps the block's last eight rows in scratch for the point after. Here:
  the whole body, at any float instance.
-/
module

public import proofs.«01_k».proof.Proof.Access
public import proofs.«01_k».proof.Proof.Gen.Kernel6Ideal.Skeleton
public import proofs.«01_k».proof.Proof.Gen.Kernel6Ideal.Launch
public import Idealize.ShloMosaic.Lib.Pipeline.Frame
public import Idealize.ShloMosaic.Lib.Pipeline.Kit
public import Idealize.ShloMosaic.Lib.Pipeline.FrameBody
public import Idealize.ShloMosaic.Lib.Pipeline.FrameValue
public import Idealize.ShloMosaic.Lib.Tactic
public import Idealize.ShloMosaic.Lib.Pipeline.ValueKit.Geometry
public import Idealize.ShloMosaic.Lib.ViewIndex
public import Idealize.ShloMosaic.Lib.ValueIdxCore

@[expose] public section

set_option maxRecDepth 16384

noncomputable section

namespace Cert.Kernel6Ideal.Hand

open Cert.Kernel6Ideal Cert.Kernel6Ideal.Gen
open Cert.Access (load_owned load_whole store_owned)
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The program's resources. -/
local notation "𝕄" => MT nD τ sig Unit (Elt F) ℕ (UR sig nD τ) ℕ

/-! ## What one point does -/

/-- Whether the point is the first one, which clears the scratch. -/
abbrev first (i : grid0.Coords) : BitVec 1 :=
  Scalar.cmpi .ne (Scalar.extui (Scalar.cmpi .eq (BitVec.ofNat 32 (i 0).val) 0#32) : BitVec 32) 0#32

/-- The last two rows of the scratch. -/
def sixth (C : S8x512.Idx → Elt F .f32) : S1x512.Idx → Elt F .f32 :=
  fun y => C ((Rect.unit (s := S8x512) ![6, 0] S1x512.size inb_S8x512_S1x512_6_0).emb y)
def seventh (C : S8x512.Idx → Elt F .f32) : S1x512.Idx → Elt F .f32 :=
  fun y => C ((Rect.unit (s := S8x512) ![7, 0] S1x512.size inb_S8x512_S1x512_7_0).emb y)

/-- The numbers of the block's rows. -/
abbrev rowNo : IVec S512x1 32 := iota .tc S512x1 32 [0] iota_S512x1_d0_w32

/-- The block's mixed rows: of its rows `x`, the norm's weight `g`, the projection `w`, the taps `k`, the second norm's
    weight `b`, the caches `p` and `q` as the last point takes them, and the scratch `C`. -/
def mixedRows (i : grid0.Coords) (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (C : S8x512.Idx → Elt F .f32) : S512x512.Idx → Elt F .bf16 :=
  k0_pay15 (BitVec.ofNat 32 (i 0).val) (k0_pay4 x g w) (k0_pay5 x g w) (k0_pay7 x g w) (k0_pay9 (k0_pay6 x g w) (seventh C) k0_pay8)
    (k0_pay10 rowNo (k0_pay7 x g w) (sixth C) (seventh C)) (k0_pay12 rowNo (k0_pay6 x g w) p) (k0_pay13 q) (k0_pay14 rowNo) k b

section Body

variable (c : Dev nD) (i : grid0.Coords)
variable (arg1 : Memref sig .tc .vmem S512x1024 .f32) (harg1 : arg1.IsWhole)
  (arg2 : Memref sig .tc .vmem S1x1024 .f32) (harg2 : arg2.IsWhole)
  (arg3 : Memref sig .tc .vmem S1024x2048 .bf16) (harg3 : arg3.IsWhole)
  (arg4 : Memref sig .tc .vmem S3x512 .f32) (harg4 : arg4.IsWhole)
  (arg5 : Memref sig .tc .vmem S1x512 .f32) (harg5 : arg5.IsWhole)
  (arg6 : Memref sig .tc .vmem S512x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S512x512 .bf16) (harg9 : arg9.IsWhole)
  (arg10 : Memref sig .tc .vmem S8x512 .f32) (harg10 : arg10.IsWhole)
  (arg11 : Memref sig .tc .vmem S512x512 .f32) (harg11 : arg11.IsWhole)
  (arg12 : Memref sig .tc .vmem S8x512 .f32) (harg12 : arg12.IsWhole)

/-- What a point holds: its inputs, its result blocks and the scratch. -/
def holds (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (U : S512x512.Idx → Elt F .f32) (M : S512x512.Idx → Elt F .bf16) (P : S8x512.Idx → Elt F .f32) (Z : S512x512.Idx → Elt F .f32) (C : S8x512.Idx → Elt F .f32) : sProp 𝕄 :=
  iprop(owns (c : Thread nD τ) arg1 fullShare x
    ∗ owns (c : Thread nD τ) arg2 fullShare g
    ∗ owns (c : Thread nD τ) arg3 fullShare w
    ∗ owns (c : Thread nD τ) arg4 fullShare k
    ∗ owns (c : Thread nD τ) arg5 fullShare b
    ∗ owns (c : Thread nD τ) arg6 fullShare p
    ∗ owns (c : Thread nD τ) arg7 fullShare q
    ∗ owns (c : Thread nD τ) arg8 fullShare U
    ∗ owns (c : Thread nD τ) arg9 fullShare M
    ∗ owns (c : Thread nD τ) arg10 fullShare P
    ∗ owns (c : Thread nD τ) arg11 fullShare Z
    ∗ owns (c : Thread nD τ) arg12 fullShare C)

/-- One run of the body: the first block of results and the mixed rows are written, the scratch takes the block's last rows,
    the tail is written at the last point of the long sequence and the whole gated product at the point of the short ones. -/
theorem body_run (x : S512x1024.Idx → Elt F .f32) (g : S1x1024.Idx → Elt F .f32) (w : S1024x2048.Idx → Elt F .bf16) (k : S3x512.Idx → Elt F .f32) (b : S1x512.Idx → Elt F .f32) (p : S512x512.Idx → Elt F .f32) (q : S512x512.Idx → Elt F .f32) (U : S512x512.Idx → Elt F .f32) (M : S512x512.Idx → Elt F .bf16) (P : S8x512.Idx → Elt F .f32) (Z : S512x512.Idx → Elt F .f32) (C : S8x512.Idx → Elt F .f32) (C' : S8x512.Idx → Elt F .f32)
    (hC : C' = if first i = 1#1 then k0_pay1 (F := F) else C) :
    holds c arg1 arg2 arg3 arg4 arg5 arg6 arg7 arg8 arg9 arg10 arg11 arg12 x g w k b p q U M P Z C
      ⊢ wp frame (wpE (defs₀ (F := F)) Variants.none (c : Thread nD τ) none) Set.univ
        (cc0_inproj i arg1 harg1 arg2 harg2 arg3 harg3 arg4 harg4 arg5 harg5 arg6 harg6 arg7 harg7 arg8 harg8 arg9 harg9 arg10 harg10 arg11 harg11 arg12 harg12)
        (fun _ => holds c arg1 arg2 arg3 arg4 arg5 arg6 arg7 arg8 arg9 arg10 arg11 arg12 x g w k b p q (k0_pay3 x g w) (mixedRows i x g w k b p q C')
          (if k0_cond2 i = 1#1 then k0_pay17 (k0_pay5 x g w) else P) (if k0_cond3 i = 1#1 then k0_pay5 x g w else Z) (k0_pay16 (k0_pay5 x g w))) := by
  rw [cc0_inproj_eq_skeleton]
  unfold cc0_inproj_skel
  rw [k0_part1_eq_skeleton, k0_part2_eq_skeleton, k0_part3_eq_skeleton]
  unfold k0_part1_skel k0_part2_skel k0_part3_skel holds mixedRows
  simp only [Prog.lift, Prog.bind_op, Prog.bind_ret, Prog.pure_eq_ret, Prog.bind_assoc]
  iintro ⟨H1, H2, H3, H4, H5, H6, H7, H8, H9, H10, H11, H12⟩
  by_cases hf : first i = 1#1
  rw [if_pos hf] at hC
  rw [dif_pos hf]
  simp only [Prog.bind_op, Prog.bind_ret, Prog.bind_assoc]
  iapply (load_whole c arg12 inb_S8x512_S8x512_0_0 C) $$ H12
  iintro H12
  iapply (store_owned c arg12 inb_S8x512_S8x512_0_0 _ C) $$ H12
  iintro H12
  rw [← hC]
  rotate_left
  rw [if_neg hf] at hC
  rw [dif_neg hf]
  simp only [Prog.bind_op, Prog.bind_ret, Prog.bind_assoc]
  rw [← hC]
  all_goals
    iapply (load_whole c arg1 inb_S512x1024_S512x1024_0_0 x) $$ H1
    iintro H1
    iapply (load_whole c arg2 inb_S1x1024_S1x1024_0_0 g) $$ H2
    iintro H2
    iapply (load_whole c arg3 inb_S1024x2048_S1024x2048_0_0 w) $$ H3
    iintro H3
    iapply (load_whole c arg8 inb_S512x512_S512x512_0_0 U) $$ H8
    iintro H8
    iapply (store_owned c arg8 inb_S512x512_S512x512_0_0 _ U) $$ H8
    iintro H8
    iapply (load_owned c arg12 (Rect.unit (s := S8x512) ![6, 0] S1x512.size inb_S8x512_S1x512_6_0) fullShare C') $$ H12
    iintro H12
    iapply (load_owned c arg12 (Rect.unit (s := S8x512) ![7, 0] S1x512.size inb_S8x512_S1x512_7_0) fullShare C') $$ H12
    iintro H12
    simp only [Prog.bind_op, Prog.bind_ret, Prog.bind_assoc]
    iapply (load_whole c arg6 inb_S512x512_S512x512_0_0 p) $$ H6
    iintro H6
    iapply (load_whole c arg7 inb_S512x512_S512x512_0_0 q) $$ H7
    iintro H7
    simp only [Prog.bind_op, Prog.bind_ret, Prog.bind_assoc]
    iapply (load_whole c arg4 inb_S3x512_S3x512_0_0 k) $$ H4
    iintro H4
    iapply (load_whole c arg5 inb_S1x512_S1x512_0_0 b) $$ H5
    iintro H5
    iapply (load_whole c arg9 inb_S512x512_S512x512_0_0 M) $$ H9
    iintro H9
    iapply (store_owned c arg9 inb_S512x512_S512x512_0_0 _ M) $$ H9
    iintro H9
    iapply (load_whole c arg12 inb_S8x512_S8x512_0_0 C') $$ H12
    iintro H12
    iapply (store_owned c arg12 inb_S8x512_S8x512_0_0 _ C') $$ H12
    iintro H12
    by_cases h2 : k0_cond2 i = 1#1
    · rw [dif_pos h2, if_pos h2]
      simp only [Prog.bind_op, Prog.bind_ret, Prog.bind_assoc]
      iapply (load_whole c arg10 inb_S8x512_S8x512_0_0 P) $$ H10
      iintro H10
      iapply (store_owned c arg10 inb_S8x512_S8x512_0_0 _ P) $$ H10
      iintro H10
      by_cases h3 : k0_cond3 i = 1#1
      · rw [dif_pos h3, if_pos h3]
        simp only [Prog.bind_op, Prog.bind_ret, Prog.bind_assoc]
        iapply (load_whole c arg11 inb_S512x512_S512x512_0_0 Z) $$ H11
        iintro H11
        iapply (store_owned c arg11 inb_S512x512_S512x512_0_0 _ Z) $$ H11
        iintro H11
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [dif_neg h3, if_neg h3]
        simp only [Prog.bind_op, Prog.bind_ret, Prog.bind_assoc]
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · rw [dif_neg h2, if_neg h2]
      simp only [Prog.bind_op, Prog.bind_ret, Prog.bind_assoc]
      by_cases h3 : k0_cond3 i = 1#1
      · rw [dif_pos h3, if_pos h3]
        iapply (load_whole c arg11 inb_S512x512_S512x512_0_0 Z) $$ H11
        iintro H11
        iapply (store_owned c arg11 inb_S512x512_S512x512_0_0 _ Z) $$ H11
        iintro H11
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [dif_neg h3, if_neg h3]
        sl_step
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

end Body

end Cert.Kernel6Ideal.Hand
-- ==== Proof.LaterProjectRun.lean ====
/-
  The in-projection program's run, at any float instance: the data of its launch, what is in scratch between points, and the
  run of the whole program to a state with the arguments unchanged, every semaphore at zero and the four results at their
  blocks' values. Two of the result windows are written at one point only, the tail at point 31 and the short sequences'
  product at point 32, and are kept until the end.
-/
module

public import proofs.«01_k».proof.Proof.LaterProject
public import proofs.«01_k».proof.Proof.Gen.Kernel6Ideal.Points
public import proofs.«01_k».proof.Proof.Gen.Kernel6Ideal.Frame
public import Idealize.ShloMosaic.Lib.Pipeline.FrameSuffix
public import Idealize.ShloMosaic.Lib.Pipeline.TableIdle
public import Idealize.ShloMosaic.Lib.Pipeline.Value

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.ShloMosaic.ValueIdx Idealize.ShloMosaic.ValueKit
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem point_lt (t : Fin cfg0.N) : t.val < 33 := Nat.lt_of_lt_of_eq t.isLt N_0

/-- Point `n`. -/
abbrev pointAt (n : ℕ) (h : n < 33) : Fin cfg0.N := ⟨n, by rw [show cfg0.N = 33 from N_0]; exact h⟩

theorem first_iff : ∀ t : Fin cfg0.N, first (grid0.coords t) = 1#1 ↔ t.val = 0 := by decide +kernel
theorem cond2_iff : ∀ t : Fin cfg0.N, k0_cond2 (grid0.coords t) = 1#1 ↔ t.val = 31 := by decide +kernel
theorem cond3_iff : ∀ t : Fin cfg0.N, k0_cond3 (grid0.coords t) = 1#1 ↔ t.val = 32 := by decide +kernel
theorem idle9 : ∀ t : Fin cfg0.N, cfg0.idle 9 (cfg0.grid.coords t) = !decide (t.val = 31) := by decide +kernel
theorem idle10 : ∀ t : Fin cfg0.N, cfg0.idle 10 (cfg0.grid.coords t) = !decide (t.val = 32) := by decide +kernel
theorem flush9 : ∀ t : Fin cfg0.N, (cfg0.win 9).flush t = decide (t.val = 32) := by decide +kernel
theorem flush10 : ∀ t : Fin cfg0.N, (cfg0.win 10).flush t = decide (t.val = 32) := by decide +kernel
theorem kept9 : cfg0.fresh 9 32 = false := by decide +kernel

/-! ## What the points compute -/

/-- The gated product's block of point `t`. -/
def gatedAt (c : Dev nD) (t : Fin cfg0.N) : S512x512.Idx → Elt F .f32 := k0_pay5 (iblk m c 0 t) (iblk m c 1 t) (iblk m c 2 t)
/-- The first result's block of point `t`. -/
def firstAt (c : Dev nD) (t : Fin cfg0.N) : S512x512.Idx → Elt F .f32 := k0_pay3 (iblk m c 0 t) (iblk m c 1 t) (iblk m c 2 t)
/-- What is in scratch when point `t` reads it: zeros at the first point, else the last rows of the block before. -/
def carried (c : Dev nD) (t : Fin cfg0.N) : S8x512.Idx → Elt F .f32 :=
  if t.val = 0 then k0_pay1 (F := F) else k0_pay16 (gatedAt m c ⟨t.val - 1, Nat.lt_of_le_of_lt (Nat.sub_le _ _) t.isLt⟩)
/-- The mixed rows of point `t`. -/
def mixedAt (c : Dev nD) (t : Fin cfg0.N) : S512x512.Idx → Elt F .bf16 :=
  mixedRows (grid0.coords t) (iblk m c 0 t) (iblk m c 1 t) (iblk m c 2 t) (iblk m c 3 t) (iblk m c 4 t) (iblk m c 5 t) (iblk m c 6 t) (carried m c t)
/-- The long sequence's tail. -/
def tailOf (c : Dev nD) : S8x512.Idx → Elt F .f32 := k0_pay17 (gatedAt m c (pointAt 31 (by decide)))
/-- The short sequences' product. -/
def shortOf (c : Dev nD) : S512x512.Idx → Elt F .f32 := gatedAt m c (pointAt 32 (by decide))

/-! ## The proof data -/

/-- What scratch holds after point `t`: the last rows of its gated product. -/
def Held (c : Dev nD) (n : ℕ) (C : S8x512.Idx → Elt F .f32) : Prop :=
  ∀ t : Fin cfg0.N, t.val + 1 = n → C = k0_pay16 (gatedAt m c t)

/-- Between points: scratch at the last rows of the point before. -/
def Inv (c : Dev nD) (n : ℕ) : sProp 𝕄 :=
  iprop((∃ C, ⌜Held m c n C⌝ ∗ owns (c : Thread nD τ) (Memref.whole cc0_scratch0) fullShare C) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => firstAt m c t
    | ⟨8, _⟩ => mixedAt m c t
    | ⟨9, _⟩ => tailOf m c
    | ⟨10, _⟩ => shortOf m c
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = firstAt m c t := by dsimp only [dats]
theorem after0_8 (c : Dev nD) (t : Fin cfg0.N) : (dats m 0 c).after 8 t = mixedAt m c t := by dsimp only [dats]
theorem after0_9 (c : Dev nD) (t : Fin cfg0.N) : (dats m 0 c).after 9 t = tailOf m c := by dsimp only [dats]
theorem after0_10 (c : Dev nD) (t : Fin cfg0.N) : (dats m 0 c).after 10 t = shortOf m c := by dsimp only [dats]

theorem found0 (c : Dev nD) (t : Fin cfg0.N) (d) : (dats m 0 c).before 0 t d = iblk m c 0 t :=
  before0_0_of m (dats m 0 c) (A_eq m c 0) (after0_0 m c) t d
theorem found1 (c : Dev nD) (t : Fin cfg0.N) (d) : (dats m 0 c).before 1 t d = iblk m c 1 t :=
  before0_1_of m (dats m 0 c) (A_eq m c 1) (after0_1 m c) t d
theorem found2 (c : Dev nD) (t : Fin cfg0.N) (d) : (dats m 0 c).before 2 t d = iblk m c 2 t :=
  before0_2_of m (dats m 0 c) (A_eq m c 2) (after0_2 m c) t d
theorem found3 (c : Dev nD) (t : Fin cfg0.N) (d) : (dats m 0 c).before 3 t d = iblk m c 3 t :=
  before0_3_of m (dats m 0 c) (A_eq m c 3) (after0_3 m c) t d
theorem found4 (c : Dev nD) (t : Fin cfg0.N) (d) : (dats m 0 c).before 4 t d = iblk m c 4 t :=
  before0_4_of m (dats m 0 c) (A_eq m c 4) (after0_4 m c) t d
theorem found5 (c : Dev nD) (t : Fin cfg0.N) (d) : (dats m 0 c).before 5 t d = iblk m c 5 t :=
  before0_5_of m (dats m 0 c) (A_eq m c 5) (after0_5 m c) t d
theorem found6 (c : Dev nD) (t : Fin cfg0.N) (d) : (dats m 0 c).before 6 t d = iblk m c 6 t :=
  before0_6_of m (dats m 0 c) (A_eq m c 6) (after0_6 m c) t d

/-- The last point finds the tail as point 31 wrote it. -/
theorem found9 (c : Dev nD) (t : Fin cfg0.N) (ht : t.val = 32) (d) : (dats m 0 c).before 9 t d = tailOf m c := by
  have h := (dats m 0 c).before_out_traj 9 rfl (fun _ _ => rfl) (fun s _ _ _ => (after0_9 m c s).trans (after0_9 m c _).symm) t.val t rfl d
  have e : ¬ cfg0.fresh 9 t.val = true := by rw [ht, kept9]; decide
  exact (h.trans (if_neg e)).trans (after0_9 m c _)

/-! ## One point -/

/-- How the two late windows are left: written at their point, as found before it, kept after it. -/
def left9 (c : Dev nD) (t : Fin cfg0.N) : sProp 𝕄 :=
  match cfg0.idle 9 (cfg0.grid.coords t) with
  | true =>
    match (cfg0.win 9).flush t with
    | false => iprop(∃ d, owns (c : Thread nD τ) ((cfg0.win 9).stage (cfg0.slots t 9)) fullShare ((dats m 0 c).before 9 t d))
    | true => owns (c : Thread nD τ) ((cfg0.win 9).stage (cfg0.slots t 9)) fullShare ((dats m 0 c).after 9 t)
  | false => owns (c : Thread nD τ) ((cfg0.win 9).stage (cfg0.slots t 9)) fullShare ((dats m 0 c).after 9 t)
def left10 (c : Dev nD) (t : Fin cfg0.N) : sProp 𝕄 :=
  match cfg0.idle 10 (cfg0.grid.coords t) with
  | true =>
    match (cfg0.win 10).flush t with
    | false => iprop(∃ d, owns (c : Thread nD τ) ((cfg0.win 10).stage (cfg0.slots t 10)) fullShare ((dats m 0 c).before 10 t d))
    | true => owns (c : Thread nD τ) ((cfg0.win 10).stage (cfg0.slots t 10)) fullShare ((dats m 0 c).after 10 t)
  | false => owns (c : Thread nD τ) ((cfg0.win 10).stage (cfg0.slots t 10)) fullShare ((dats m 0 c).after 10 t)

theorem leave9 (c : Dev nD) (t : Fin cfg0.N) (d) :
    (owns (c : Thread nD τ) (win0_9.stage (cfg0.slots t 9)) fullShare
      (if k0_cond2 (grid0.coords t) = 1#1 then k0_pay17 (gatedAt m c t) else (dats m 0 c).before 9 t d) : sProp 𝕄) ⊢ left9 m c t := by
  unfold left9
  rewrite [idle9 t, flush9 t]
  by_cases h : t.val = 31
  · rewrite [if_pos ((cond2_iff t).mpr h), after0_9, decide_eq_true h]
    obtain rfl : t = pointAt 31 (by decide) := Fin.ext h
    exact .rfl
  · rewrite [if_neg (fun e => h ((cond2_iff t).mp e)), decide_eq_false h]
    by_cases h' : t.val = 32
    · rewrite [decide_eq_true h', after0_9, found9 m c t h']
      exact .rfl
    · rewrite [decide_eq_false h']
      show _ ⊢ iprop(∃ d, owns (c : Thread nD τ) ((cfg0.win 9).stage (cfg0.slots t 9)) fullShare ((dats m 0 c).before 9 t d))
      iintro H
      iexists d
      iexact H

theorem leave10 (c : Dev nD) (t : Fin cfg0.N) (d) :
    (owns (c : Thread nD τ) (win0_10.stage (cfg0.slots t 10)) fullShare
      (if k0_cond3 (grid0.coords t) = 1#1 then gatedAt m c t else (dats m 0 c).before 10 t d) : sProp 𝕄) ⊢ left10 m c t := by
  unfold left10
  rewrite [idle10 t, flush10 t]
  by_cases h : t.val = 32
  · rewrite [if_pos ((cond3_iff t).mpr h), after0_10, decide_eq_true h]
    obtain rfl : t = pointAt 32 (by decide) := Fin.ext h
    exact .rfl
  · rewrite [if_neg (fun e => h ((cond3_iff t).mp e)), decide_eq_false h]
    show _ ⊢ iprop(∃ d, owns (c : Thread nD τ) ((cfg0.win 10).stage (cfg0.slots t 10)) fullShare ((dats m 0 c).before 10 t d))
    iintro H
    iexists d
    iexact H

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ left9 m c t ∗ left10 m c t)

/-- What one run of the body leaves at point `t`, found the late windows at `P` and `Z`. -/
def runPost (c : Dev nD) (t : Fin cfg0.N) (P : S8x512.Idx → Elt F .f32) (Z : S512x512.Idx → Elt F .f32) : sProp 𝕄 :=
  holds c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0)
    (iblk m c 0 t) (iblk m c 1 t) (iblk m c 2 t) (iblk m c 3 t) (iblk m c 4 t) (iblk m c 5 t) (iblk m c 6 t) (firstAt m c t) (mixedAt m c t)
    (if k0_cond2 (grid0.coords t) = 1#1 then k0_pay17 (gatedAt m c t) else P) (if k0_cond3 (grid0.coords t) = 1#1 then gatedAt m c t else Z)
    (k0_pay16 (gatedAt m c t))

/-- The scratch as the point reads it. -/
theorem carried_eq (c : Dev nD) (t : Fin cfg0.N) (C : S8x512.Idx → Elt F .f32) (h : Held m c t.val C) :
    carried m c t = if first (grid0.coords t) = 1#1 then k0_pay1 (F := F) else C := by
  unfold carried
  by_cases ht : t.val = 0
  · rw [if_pos ht, if_pos ((first_iff t).mpr ht)]
  · rw [if_neg ht, if_neg (fun e => ht ((first_iff t).mp e))]
    exact (h _ (by show t.val - 1 + 1 = t.val; omega)).symm

theorem run_point (c : Dev nD) (t : Fin cfg0.N) (U : S512x512.Idx → Elt F .f32) (M : S512x512.Idx → Elt F .bf16) (P : S8x512.Idx → Elt F .f32)
    (Z : S512x512.Idx → Elt F .f32) (C : S8x512.Idx → Elt F .f32) (h : Held m c t.val C) :
    holds c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0)
      (iblk m c 0 t) (iblk m c 1 t) (iblk m c 2 t) (iblk m c 3 t) (iblk m c 4 t) (iblk m c 5 t) (iblk m c 6 t) U M P Z C
      ⊢ wp frame (wpE (defs₀ (F := F)) Variants.none (c : Thread nD τ) none) Set.univ (bodyAt0 t) (fun _ => runPost m c t P Z) :=
  body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) U M P Z C (carried m c t) (carried_eq m c t C h)

theorem held_succ (c : Dev nD) (t : Fin cfg0.N) : Held m c (t.val + 1) (k0_pay16 (gatedAt m c t)) := by
  intro s hs
  obtain rfl : s = t := Fin.ext (by omega)
  rfl

theorem leave_point (c : Dev nD) (t : Fin cfg0.N) (d9) (d10) (W : Waits sig Unit) :
    (iprop(wp frame (wpE (defs₀ (F := F)) Variants.none (c : Thread nD τ) none) Set.univ (bodyAt0 t)
        (fun _ => runPost m c t ((dats m 0 c).before 9 t d9) ((dats m 0 c).before 10 t d10))
      ∗ (∃ r, prngReg c r) ∗ owes (c : Thread nD τ) 0 W) : sProp 𝕄)
      ⊢ wp frame (wpE (defs₀ (F := F)) Variants.none (c : Thread nD τ) none) Set.univ (bodyAt0 t) (fun _ => bodyPost m c t) := by
  refine BIBase.Entails.trans (wp_frame_r _ _ _) (wp_mono _ _ _ fun _ => ?_)
  unfold bodyPost runPost holds
  rw [show (dats m 0 c).Φ t.succ = Inv m c (t.val + 1) from rfl, after0_0, after0_1, after0_2, after0_3, after0_4, after0_5, after0_6, after0_7, after0_8]
  unfold Dat.owesAt Pipeline.owesWithin
  rw [show (dats m 0 c).owed t.succ = 0 from rfl]
  unfold Inv
  iintro ⟨⟨H0, H1, H2, H3, H4, H5, H6, H7, H8, H9, H10, HC⟩, Hg, HW⟩
  isplitl [HC Hg]
  · isplitl [HC]
    · iexists (k0_pay16 (gatedAt m c t))
      isplitr; · ipureintro; exact held_succ m c t
      iexact HC
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (leave9 m c t d9)
    iexact H9
  iapply (leave10 m c t d10)
  iexact H10

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = Inv m c t.val from rfl]
  unfold Dat.owesAt Pipeline.owesWithin
  rw [show (dats m 0 c).owed t.castSucc = 0 from rfl]
  simp only [found0, found1, found2, found3, found4, found5, found6]
  unfold Inv
  iintro ⟨⟨⟨%C, %hheld, HC⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (leave_point m c t d9 d10 W)
  isplitl [HC H0 H1 H2 H3 H4 H5 H6 H7 H8 H9 H10]
  · iapply (run_point m c t _ _ _ _ C hheld)
    unfold holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HC
  · isplitl [Hg]; · iexact Hg
    iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row t]
  exact triple_restated (sound_body m c t) rfl .rfl fun _ => .rfl

/-! ## The run -/

theorem enter (c : Dev nD) : (Pipeline.ΦA cfg0.spec c : sProp 𝕄) ⊢ Inv m c 0 := by
  unfold Inv Pipeline.ΦA
  rw [show (Pipeline.scopedRest cfg0.spec c : sProp 𝕄) = Pipeline.scopedRest spec0 c from rfl, scopedRest0_eq]
  iintro ⟨⟨%C, HC⟩, Hg⟩
  isplitl [HC]
  · iexists C
    rw [owns_whole]
    isplitr; · ipureintro; exact fun t ht => absurd ht (Nat.succ_ne_zero _)
    iexact HC
  iexact Hg

theorem exit (c : Dev nD) (n : ℕ) : (Inv m c n : sProp 𝕄) ⊢ Pipeline.ΦA cfg0.spec c := by
  unfold Inv Pipeline.ΦA
  rw [show (Pipeline.scopedRest cfg0.spec c : sProp 𝕄) = Pipeline.scopedRest spec0 c from rfl, scopedRest0_eq]
  simp only [owns_whole]
  iintro ⟨⟨%C, -, HC⟩, Hg⟩
  isplitl [HC]; · iexists C; iexact HC
  iexact Hg

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := enter m) (hout := fun c => exit m c _)

/-! ## The results -/

/-- Blocks of 512 rows, one for each point, as one array. -/
def stacked {β : Type} (f : Fin cfg0.N → S512x512.Idx → β) : S16896x512.Idx → β := fun i =>
  f (pointAt ((i 0).val / 512) (by have h : (i 0).val < 16896 := (i 0).isLt; omega)) (ix2 ⟨(i 0).val % 512, Nat.mod_lt _ (by omega)⟩ (i 1))

theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![0, 0] := by decide +kernel
theorem index10 : ∀ t : Fin cfg0.N, win0_10.index t = ![0, 0] := by decide +kernel

theorem stacked_at {β : Type} (f : Fin cfg0.N → S512x512.Idx → β) (t : Fin cfg0.N) (y : S512x512.Idx) (i : S16896x512.Idx)
    (h0 : (i 0).val = 512 * t.val + (y 0).val) (h1 : (i 1).val = (y 1).val) : stacked f i = f t y := by
  have hy : (y 0).val < 512 := (y 0).isLt
  have et : pointAt ((i 0).val / 512) (by have h : (i 0).val < 16896 := (i 0).isLt; omega) = t := Fin.ext (by show (i 0).val / 512 = t.val; omega)
  have ey : (ix2 ⟨(i 0).val % 512, Nat.mod_lt _ (by omega)⟩ (i 1) : S512x512.Idx) = y := by
    funext a
    apply Fin.ext
    match a with
    | ⟨0, _⟩ => show (i 0).val % 512 = (y 0).val; omega
    | ⟨1, _⟩ => exact h1
  show f (pointAt ((i 0).val / 512) _) (ix2 ⟨(i 0).val % 512, _⟩ (i 1)) = f t y
  rw [et, ey]

theorem arr7 (c : Dev nD) : (dats m 0 c).arrAt 7 cfg0.N = stacked (firstAt m c) := by
  refine (dats m 0 c).arrAt_eq_of_emb 7 (stacked (firstAt m c)) (fun t hf y => ?_) (fun i => ?_)
  · have h0 : (((cfg0.win 7).blk t).view.emb y (0 : Fin 2)).val = 512 * t.val + (y (0 : Fin 2)).val := by
      blk_simp [index7]; show t.val * 512 + (y (0 : Fin 2)).val = 512 * t.val + (y (0 : Fin 2)).val; omega
    have h1 : (((cfg0.win 7).blk t).view.emb y (1 : Fin 2)).val = (y (1 : Fin 2)).val := by
      blk_simp [index7]; try rfl
    exact (stacked_at (firstAt m c) t y _ h0 h1).symm
  · have hi : (i (0 : Fin 2)).val < 16896 := (i (0 : Fin 2)).isLt
    have hi1 : (i (1 : Fin 2)).val < 512 := (i (1 : Fin 2)).isLt
    refine ⟨pointAt ((i (0 : Fin 2)).val / 512) (by omega), flush0_7 _, ?_⟩
    mem_blk [index7]
    refine ⟨?_, ?_⟩
    · show (i (0 : Fin 2)).val / 512 * 512 ≤ (i (0 : Fin 2)).val ∧ (i (0 : Fin 2)).val < (i (0 : Fin 2)).val / 512 * 512 + 512
      omega
    · show 0 * 512 ≤ (i (1 : Fin 2)).val ∧ (i (1 : Fin 2)).val < 0 * 512 + 512
      omega
theorem arr8 (c : Dev nD) : (dats m 0 c).arrAt 8 cfg0.N = stacked (mixedAt m c) := by
  refine (dats m 0 c).arrAt_eq_of_emb 8 (stacked (mixedAt m c)) (fun t hf y => ?_) (fun i => ?_)
  · have h0 : (((cfg0.win 8).blk t).view.emb y (0 : Fin 2)).val = 512 * t.val + (y (0 : Fin 2)).val := by
      blk_simp [index8]; show t.val * 512 + (y (0 : Fin 2)).val = 512 * t.val + (y (0 : Fin 2)).val; omega
    have h1 : (((cfg0.win 8).blk t).view.emb y (1 : Fin 2)).val = (y (1 : Fin 2)).val := by
      blk_simp [index8]; try rfl
    exact (stacked_at (mixedAt m c) t y _ h0 h1).symm
  · have hi : (i (0 : Fin 2)).val < 16896 := (i (0 : Fin 2)).isLt
    have hi1 : (i (1 : Fin 2)).val < 512 := (i (1 : Fin 2)).isLt
    refine ⟨pointAt ((i (0 : Fin 2)).val / 512) (by omega), flush0_8 _, ?_⟩
    mem_blk [index8]
    refine ⟨?_, ?_⟩
    · show (i (0 : Fin 2)).val / 512 * 512 ≤ (i (0 : Fin 2)).val ∧ (i (0 : Fin 2)).val < (i (0 : Fin 2)).val / 512 * 512 + 512
      omega
    · show 0 * 512 ≤ (i (1 : Fin 2)).val ∧ (i (1 : Fin 2)).val < 0 * 512 + 512
      omega
theorem arr9 (c : Dev nD) : (dats m 0 c).arrAt 9 cfg0.N = tailOf m c := by
  refine (dats m 0 c).arrAt_eq_of_emb 9 (tailOf m c) (fun t hf y => ?_) (fun i => ?_)
  · have h : ((cfg0.win 9).blk t).view.emb y = y := by
      funext a
      apply Fin.ext
      match a with
      | ⟨0, _⟩ => blk_simp [index9]; try rfl
      | ⟨1, _⟩ => blk_simp [index9]; try rfl
    exact (congrArg (tailOf m c) h).symm
  · have hi : (i (0 : Fin 2)).val < 8 := (i (0 : Fin 2)).isLt
    have hi1 : (i (1 : Fin 2)).val < 512 := (i (1 : Fin 2)).isLt
    refine ⟨pointAt 32 (by decide), (flush0_9 _).mpr rfl, ?_⟩
    mem_blk [index9]
    refine ⟨?_, ?_⟩
    · show 0 * 8 ≤ (i (0 : Fin 2)).val ∧ (i (0 : Fin 2)).val < 0 * 8 + 8
      omega
    · show 0 * 512 ≤ (i (1 : Fin 2)).val ∧ (i (1 : Fin 2)).val < 0 * 512 + 512
      omega
theorem arr10 (c : Dev nD) : (dats m 0 c).arrAt 10 cfg0.N = shortOf m c := by
  refine (dats m 0 c).arrAt_eq_of_emb 10 (shortOf m c) (fun t hf y => ?_) (fun i => ?_)
  · have h : ((cfg0.win 10).blk t).view.emb y = y := by
      funext a
      apply Fin.ext
      match a with
      | ⟨0, _⟩ => blk_simp [index10]; try rfl
      | ⟨1, _⟩ => blk_simp [index10]; try rfl
    exact (congrArg (shortOf m c) h).symm
  · have hi : (i (0 : Fin 2)).val < 512 := (i (0 : Fin 2)).isLt
    have hi1 : (i (1 : Fin 2)).val < 512 := (i (1 : Fin 2)).isLt
    refine ⟨pointAt 32 (by decide), (flush0_10 _).mpr rfl, ?_⟩
    mem_blk [index10]
    refine ⟨?_, ?_⟩
    · show 0 * 512 ≤ (i (0 : Fin 2)).val ∧ (i (0 : Fin 2)).val < 0 * 512 + 512
      omega
    · show 0 * 512 ≤ (i (1 : Fin 2)).val ∧ (i (1 : Fin 2)).val < 0 * 512 + 512
      omega

/-! ## What the later lines leave -/

theorem W_main_v19 (c : Dev nD) : Pipeline.afterTail₀ cfgs (dats m) 0 (V0 m) [hostOps1] c main_v19
    = (extf .f32 (stacked (mixedAt m c)) bitsLt_bf16_f32 : S16896x512.Idx → Elt F .f32) := by
  have e : Pipeline.withArrays spec0 c (V0 m c) (fun w => (dats m 0 c).arrAt w cfg0.N) (Proc.devRef .tc main_v18_1) = stacked (mixedAt m c) :=
    (Pipeline.withArrays_arr spec0 launch0.win.arr_inj c (V0 m c) _ 8).trans (arr8 m c)
  unfold Pipeline.afterTail₀
  simp only [List.flatten_cons, List.flatten_nil, List.append_nil]
  rw [← e]
  after_results
  try rfl
theorem W_main_v21 (c : Dev nD) : Pipeline.afterTail₀ cfgs (dats m) 0 (V0 m) [hostOps1] c main_v21
    = (shapeCast S1x2x512 (extractStridedSlice S2x512 ![6, 0] (tailOf m c) slices_S8x512_S2x512_6_0) shapeCasts_S2x512_S1x2x512 : S1x2x512.Idx → Elt F .f32) := by
  have e : Pipeline.withArrays spec0 c (V0 m c) (fun w => (dats m 0 c).arrAt w cfg0.N) (Proc.devRef .tc main_v18_2) = tailOf m c :=
    (Pipeline.withArrays_arr spec0 launch0.win.arr_inj c (V0 m c) _ 9).trans (arr9 m c)
  unfold Pipeline.afterTail₀
  simp only [List.flatten_cons, List.flatten_nil, List.append_nil]
  rw [← e]
  after_results
  try rfl
theorem W_main_v23 (c : Dev nD) : Pipeline.afterTail₀ cfgs (dats m) 0 (V0 m) [hostOps1] c main_v23
    = (extractStridedSlice S32x2x512 ![0, 14, 0] (shapeCast S32x16x512 (shortOf m c) shapeCasts_S512x512_S32x16x512) slices_S32x16x512_S32x2x512_0_14_0 : S32x2x512.Idx → Elt F .f32) := by
  have e : Pipeline.withArrays spec0 c (V0 m c) (fun w => (dats m 0 c).arrAt w cfg0.N) (Proc.devRef .tc main_v18_3) = shortOf m c :=
    (Pipeline.withArrays_arr spec0 launch0.win.arr_inj c (V0 m c) _ 10).trans (arr10 m c)
  unfold Pipeline.afterTail₀
  simp only [List.flatten_cons, List.flatten_nil, List.append_nil]
  rw [← e]
  after_results
  try rfl

/-- The whole program: the arguments end as launched, the semaphores at zero, and the four results at their values. -/
theorem run_value : θ_run defs (onTc (τ := τ) (main (F := F))) ⟨m, fun _ => 0, ρ⟩ (fun r => (∀ c : Dev nD,
      r.2.mem ((c.tc : Thread nD τ).loc main_v18_0) = stacked (firstAt m c)
      ∧ r.2.mem ((c.tc : Thread nD τ).loc main_v19) = (extf .f32 (stacked (mixedAt m c)) bitsLt_bf16_f32 : S16896x512.Idx → Elt F .f32)
      ∧ r.2.mem ((c.tc : Thread nD τ).loc main_v21) = (shapeCast S1x2x512 (extractStridedSlice S2x512 ![6, 0] (tailOf m c) slices_S8x512_S2x512_6_0) shapeCasts_S2x512_S1x2x512 : S1x2x512.Idx → Elt F .f32)
      ∧ r.2.mem ((c.tc : Thread nD τ).loc main_v23) = (extractStridedSlice S32x2x512 ![0, 14, 0] (shapeCast S32x16x512 (shortOf m c) shapeCasts_S512x512_S32x16x512) slices_S32x16x512_S32x2x512_0_14_0 : S32x2x512.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).1 7).trans (arr7 m c),
     ((h.1 c).2 main_v19 (Pipeline.mem_restRefs_of main_v19 (by decide) (by decide))).trans (W_main_v19 m c),
     ((h.1 c).2 main_v21 (Pipeline.mem_restRefs_of main_v21 (by decide) (by decide))).trans (W_main_v21 m c),
     ((h.1 c).2 main_v23 (Pipeline.mem_restRefs_of main_v23 (by decide) (by decide))).trans (W_main_v23 m c),
     ((h.1 c).1 0).trans (((dats m 0 c).arrAt_in 0 rfl _).trans (V_main_arg0 m c)),
     ((h.1 c).2 main_arg1 (Pipeline.mem_restRefs_of main_arg1 (by decide) (by decide))).trans (W_main_arg1 m (dats m) c),
     ((h.1 c).2 main_arg2 (Pipeline.mem_restRefs_of main_arg2 (by decide) (by decide))).trans (W_main_arg2 m (dats m) c),
     ((h.1 c).2 main_arg3 (Pipeline.mem_restRefs_of main_arg3 (by decide) (by decide))).trans (W_main_arg3 m (dats m) c),
     ((h.1 c).2 main_arg4 (Pipeline.mem_restRefs_of main_arg4 (by decide) (by decide))).trans (W_main_arg4 m (dats m) c),
     ((h.1 c).2 main_arg5 (Pipeline.mem_restRefs_of main_arg5 (by decide) (by decide))).trans (W_main_arg5 m (dats m) c)⟩, h.2⟩) (run_main m ρ)

end Cert.Kernel6Ideal.Hand
-- ==== Proof.LaterProjectRef.lean ====
/-
  The values of layer 1's in-projection reference: it is layer 0's (Proof/ProjectRef.lean) of the arrays whose first layer is
  the weights' second, so its four results at an entry are those stated there. No program runs here.
-/
module

public import proofs.«01_k».proof.Proof.ProjectRef
public import proofs.«01_k».proof.Proof.Gen.Reference6Ideal.Run

@[expose] public section

set_option maxRecDepth 16384

noncomputable section

namespace Cert.Reference6Ideal.Hand

open Cert.Reference6Ideal Cert.Reference6Ideal.Gen Cert.Projection
open Idealize.ShloMosaic Idealize.ShloMosaic.TcCoe Idealize.ShloMosaic.ValueIdx Idealize.ShloMosaic.StableHlo
open Idealize.SL Idealize.SL.RA Idealize.SL.BI
open Cert.Reference5Ideal.Hand (first mixed tail ends gates conv convLong convShort long short prods proj rowsHalf rows)

/-! ### An array of two layers seen from its second -/

abbrev second2 {n : ℕ} (v : (⟨2, ![2, n]⟩ : Shape).Idx → EReal) : (⟨2, ![2, n]⟩ : Shape).Idx → EReal := fun i => v (ix2 1 (i 1))
abbrev second3 {n k : ℕ} (v : (⟨3, ![2, n, k]⟩ : Shape).Idx → EReal) : (⟨3, ![2, n, k]⟩ : Shape).Idx → EReal := fun i => v (ix3 1 (i 1) (i 2))
abbrev second4 {n k l : ℕ} (v : (⟨4, ![2, n, k, l]⟩ : Shape).Idx → EReal) : (⟨4, ![2, n, k, l]⟩ : Shape).Idx → EReal :=
  fun i => v (ix4 1 (i 1) (i 2) (i 3))

/-- The second layer's part is the first layer's part of the array seen from its second layer. -/
theorem slice2 {n : ℕ} (v : (⟨2, ![2, n]⟩ : Shape).Idx → EReal) (h) (h') :
    extractStridedSlice ⟨2, ![1, n]⟩ ![1, 0] v h = extractStridedSlice ⟨2, ![1, n]⟩ ![0, 0] (second2 v) h' := by
  funext y
  have h0 : (y 0).val < 1 := (y 0).isLt
  refine (extractStridedSlice_apply _ _ _ _ (ix2 1 (y 1)) fun a => ?_).trans
    (Eq.trans (b := second2 v (ix2 (0 : Fin 2) (y 1))) rfl (extractStridedSlice_apply ![0, 0] (second2 v) h' y (ix2 (0 : Fin 2) (y 1)) fun a => ?_).symm)
  all_goals match a with
    | ⟨0, _⟩ => first | (show 1 = 1 + (y 0).val; omega) | (show 0 = 0 + (y 0).val; omega)
    | ⟨1, _⟩ => show (y 1).val = 0 + (y 1).val; omega
theorem slice3 {n k : ℕ} (v : (⟨3, ![2, n, k]⟩ : Shape).Idx → EReal) (h) (h') :
    extractStridedSlice ⟨3, ![1, n, k]⟩ ![1, 0, 0] v h = extractStridedSlice ⟨3, ![1, n, k]⟩ ![0, 0, 0] (second3 v) h' := by
  funext y
  have h0 : (y 0).val < 1 := (y 0).isLt
  refine (extractStridedSlice_apply _ _ _ _ (ix3 1 (y 1) (y 2)) fun a => ?_).trans
    (Eq.trans (b := second3 v (ix3 (0 : Fin 2) (y 1) (y 2))) rfl (extractStridedSlice_apply ![0, 0, 0] (second3 v) h' y (ix3 (0 : Fin 2) (y 1) (y 2)) fun a => ?_).symm)
  all_goals match a with
    | ⟨0, _⟩ => first | (show 1 = 1 + (y 0).val; omega) | (show 0 = 0 + (y 0).val; omega)
    | ⟨1, _⟩ => show (y 1).val = 0 + (y 1).val; omega
    | ⟨2, _⟩ => show (y 2).val = 0 + (y 2).val; omega
theorem slice4 {n k l : ℕ} (v : (⟨4, ![2, n, k, l]⟩ : Shape).Idx → EReal) (h) (h') :
    extractStridedSlice ⟨4, ![1, n, k, l]⟩ ![1, 0, 0, 0] v h = extractStridedSlice ⟨4, ![1, n, k, l]⟩ ![0, 0, 0, 0] (second4 v) h' := by
  funext y
  have h0 : (y 0).val < 1 := (y 0).isLt
  refine (extractStridedSlice_apply _ _ _ _ (ix4 1 (y 1) (y 2) (y 3)) fun a => ?_).trans
    (Eq.trans (b := second4 v (ix4 (0 : Fin 2) (y 1) (y 2) (y 3))) rfl (extractStridedSlice_apply ![0, 0, 0, 0] (second4 v) h' y (ix4 (0 : Fin 2) (y 1) (y 2) (y 3)) fun a => ?_).symm)
  all_goals match a with
    | ⟨0, _⟩ => first | (show 1 = 1 + (y 0).val; omega) | (show 0 = 0 + (y 0).val; omega)
    | ⟨1, _⟩ => show (y 1).val = 0 + (y 1).val; omega
    | ⟨2, _⟩ => show (y 2).val = 0 + (y 2).val; omega
    | ⟨3, _⟩ => show (y 3).val = 0 + (y 3).val; omega

/-! ### What the reference's run states -/

variable (m : (ℓ : Loc nD τ sig) → Buf (Elt Ideal) ℓ) (c : Dev nD)

/-- The arrays that a memory holds, the weights and the cache seen from the second layer. -/
abbrev given : Given where
  X := m ((c.tc : Thread nD τ).loc main_arg0)
  g := second2 (m ((c.tc : Thread nD τ).loc main_arg2))
  W := second3 (m ((c.tc : Thread nD τ).loc main_arg3))
  taps := second3 (m ((c.tc : Thread nD τ).loc main_arg4))
  cache := second4 (m ((c.tc : Thread nD τ).loc main_arg1))
  b := second2 (m ((c.tc : Thread nD τ).loc main_arg5))

theorem row_part (v : S2x1024.Idx → EReal) (h) : extractStridedSlice S1x1024 ![1, 0] v h
    = extractStridedSlice S1x1024 ![0, 0] (second2 v) Cert.Reference5Ideal.Gen.slices_S2x1024_S1x1024_0_0 := slice2 v _ _
theorem half_part (v : S2x512.Idx → EReal) (h) : extractStridedSlice S1x512 ![1, 0] v h
    = extractStridedSlice S1x512 ![0, 0] (second2 v) Cert.Reference5Ideal.Gen.slices_S2x512_S1x512_0_0 := slice2 v _ _
theorem matrix_part (v : S2x1024x2048.Idx → EReal) (h) : extractStridedSlice S1x1024x2048 ![1, 0, 0] v h
    = extractStridedSlice S1x1024x2048 ![0, 0, 0] (second3 v) Cert.Reference5Ideal.Gen.slices_S2x1024x2048_S1x1024x2048_0_0_0 := slice3 v _ _
theorem taps_part (v : S2x3x512.Idx → EReal) (h) : extractStridedSlice S1x3x512 ![1, 0, 0] v h
    = extractStridedSlice S1x3x512 ![0, 0, 0] (second3 v) Cert.Reference5Ideal.Gen.slices_S2x3x512_S1x3x512_0_0_0 := slice3 v _ _
theorem cache_part (v : S2x32x2x512.Idx → EReal) (h) : extractStridedSlice S1x32x2x512 ![1, 0, 0, 0] v h
    = extractStridedSlice S1x32x2x512 ![0, 0, 0, 0] (second4 v) Cert.Reference5Ideal.Gen.slices_S2x32x2x512_S1x32x2x512_0_0_0_0 := slice4 v _ _

theorem mixed_eq : Cert.Reference6Ideal.Value.res_main_v90 m c = mixed (given m c) := by
  unfold Cert.Reference6Ideal.Value.res_main_v90 mixed gates conv convLong convShort long short prods proj rowsHalf rows
  rw [row_part, half_part, matrix_part, taps_part, cache_part]
  rfl

end Cert.Reference6Ideal.Hand
-- ==== Proof.LaterProjectSpec.lean ====
/-
  The in-projection kernel's values over the extended reals: each of its four results is, entry for entry, the reference's
  result of the same arguments. No program runs here.
-/
module

public import proofs.«01_k».proof.Proof.LaterProjectRun
public import proofs.«01_k».proof.Proof.LaterProjectRef
public import Idealize.ShloMosaic.Lib.KernelVsHost
public import Idealize.ShloMosaic.Lib.MatmulPlain

@[expose] public section

set_option maxRecDepth 16384

noncomputable section

namespace Cert.Kernel6Ideal.Hand

open Cert.Kernel6Ideal Cert.Kernel6Ideal.Gen Cert.Projection
open Cert.Reference6Ideal.Hand (second2 second3 second4)
open Idealize.ShloMosaic Idealize.ShloMosaic.TcCoe Idealize.ShloMosaic.Tactic Idealize.ShloMosaic.ValueIdx Idealize.ShloMosaic.ValueKit
open scoped BigOperators

/-! ## What the region finds -/

section Found

variable {F : FTy → Type} [FloatOps F] (m : (ℓ : Loc nD τ sig) → Buf (Elt F) ℓ) (c : Dev nD)

abbrev rowsOf : S16896x1024.Idx → Elt F .f32 := m ((c : Thread nD τ).loc main_arg0)
abbrev cacheOf : S2x32x2x512.Idx → Elt F .f32 := m ((c : Thread nD τ).loc main_arg1)
abbrev normOf : S2x1024.Idx → Elt F .f32 := m ((c : Thread nD τ).loc main_arg2)
abbrev projOf : S2x1024x2048.Idx → Elt F .f32 := m ((c : Thread nD τ).loc main_arg3)
abbrev tapsOf : S2x3x512.Idx → Elt F .f32 := m ((c : Thread nD τ).loc main_arg4)
abbrev mixNormOf : S2x512.Idx → Elt F .f32 := m ((c : Thread nD τ).loc main_arg5)

/-- Layer 1's cache, two rows a short sequence. -/
abbrev cacheRows : S32x2x512.Idx → Elt F .f32 :=
  shapeCast S32x2x512 (extractStridedSlice S1x32x2x512 ![1, 0, 0, 0] (cacheOf m c) slices_S2x32x2x512_S1x32x2x512_1_0_0_0) shapeCasts_S1x32x2x512_S32x2x512

theorem V_main_v9 : (V m c main_v9 : S1x1024.Idx → Elt F .f32)
    = shapeCast S1x1024 (shapeCast S1024 (extractStridedSlice S1x1024 ![1, 0] (normOf m c) slices_S2x1024_S1x1024_1_0) shapeCasts_S1x1024_S1024) shapeCasts_S1024_S1x1024 := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  after_results
  try rfl
theorem V_main_v12 : (V m c main_v12 : S1024x2048.Idx → Elt F .bf16)
    = truncf .bf16 (shapeCast S1024x2048 (extractStridedSlice S1x1024x2048 ![1, 0, 0] (projOf m c) slices_S2x1024x2048_S1x1024x2048_1_0_0) shapeCasts_S1x1024x2048_S1024x2048 : FVec F S1024x2048 .f32) bitsLt_bf16_f32 := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append, List.nil_append]
  after_results
  try rfl
theorem V_main_v14 : (V m c main_v14 : S3x512.Idx → Elt F .f32)
    = shapeCast S3x512 (extractStridedSlice S1x3x512 ![1, 0, 0] (tapsOf m c) slices_S2x3x512_S1x3x512_1_0_0) shapeCasts_S1x3x512_S3x512 := by
  show StableHlo.after (List.flatten [hostOps0, hostOps0_1, hostOps0_2, hostOps0_3, hostOps0_4]) (fun b => m (c, b)) (Proc.devRef .tc main_v14) = _
  simp only [hostOps0, hostOps0_1, hostOps0_2, hostOps0_3, hostOps0_4, List.flatten_cons, List.flatten_nil, List.append_nil, List.cons_append, List.nil_append]
  after_results
  try rfl
theorem V_main_v17 : (V m c main_v17 : S1x512.Idx → Elt F .f32)
    = shapeCast S1x512 (shapeCast S512 (extractStridedSlice S1x512 ![1, 0] (mixNormOf m c) slices_S2x512_S1x512_1_0) shapeCasts_S1x512_S512) shapeCasts_S512_S1x512 := by
  show StableHlo.after (List.flatten [hostOps0, hostOps0_1, hostOps0_2, hostOps0_3, hostOps0_4]) (fun b => m (c, b)) (Proc.devRef .tc main_v17) = _
  simp only [hostOps0, hostOps0_1, hostOps0_2, hostOps0_3, hostOps0_4, List.flatten_cons, List.flatten_nil, List.append_nil, List.cons_append, List.nil_append]
  after_results
  try rfl
theorem V_main_v4 : (V m c main_v4 : S512x512.Idx → Elt F .f32)
    = shapeCast S512x512 (pad S32x16x512 ![0, 0, 0] ![0, 15, 0] ![0, 0, 0] (extractStridedSlice S32x1x512 ![0, 1, 0] (cacheRows m c) slices_S32x2x512_S32x1x512_0_1_0)
        (sitofp .f32 (constantI S_ 32 0#32)) pads_S32x1x512_S32x16x512_000_0150_000 h_S_) shapeCasts_S32x16x512_S512x512 := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_results
  try rfl
theorem V_main_v6 : (V m c main_v6 : S512x512.Idx → Elt F .f32)
    = shapeCast S512x512 (pad S32x16x512 ![0, 0, 0] ![0, 14, 0] ![0, 0, 0] (cacheRows m c)
        (sitofp .f32 (constantI S_ 32 0#32)) pads_S32x2x512_S32x16x512_000_0140_000 h_S_) shapeCasts_S32x16x512_S512x512 := by
  show StableHlo.after (List.flatten [hostOps0, hostOps0_1, hostOps0_2, hostOps0_3, hostOps0_4]) (fun b => m (c, b)) (Proc.devRef .tc main_v6) = _
  simp only [hostOps0, hostOps0_1, hostOps0_2, hostOps0_3, hostOps0_4, List.flatten_cons, List.flatten_nil, List.append_nil, List.cons_append, List.nil_append]
  after_results
  try rfl

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel

/-- Row `r` of point `t` among all the tokens. -/
abbrev tokenAt (t : Fin cfg0.N) (r : Fin 512) : Fin 16896 := ⟨512 * t.val + r.val, by have := point_lt t; have := r.isLt; omega⟩

/-- Point `t`'s token rows are rows `512 t` to `512 t + 511`. -/
theorem iblk_rows (t : Fin cfg0.N) (r : Fin 512) (k : Fin 1024) :
    (iblk m c 0 t : S512x1024.Idx → Elt F .f32) (ix2 r k) = (V m c main_arg0 : S16896x1024.Idx → Elt F .f32) (ix2 (tokenAt t r) k) := by
  unfold iblk
  rw [View.read_apply, cast_eq]
  refine congrArg (V m c main_arg0 : S16896x1024.Idx → Elt F .f32) (funext fun a => Fin.ext ?_)
  match a with
  | ⟨0, _⟩ => blk_simp [index0]; show t.val * 512 + r.val = 512 * t.val + r.val; omega
  | ⟨1, _⟩ => blk_simp [index0]; try rfl

/-- Each of the other blocks is its whole array, at every point. -/
theorem iblk_norm (t : Fin cfg0.N) : (iblk m c 1 t : S1x1024.Idx → Elt F .f32) = V m c main_v9 := by
  funext y
  unfold iblk
  rw [View.read_apply, cast_eq]
  refine congrArg (V m c main_v9 : S1x1024.Idx → Elt F .f32) (funext fun a => Fin.ext ?_)
  match a with
  | ⟨0, _⟩ => blk_simp [index1]; try rfl
  | ⟨1, _⟩ => blk_simp [index1]; try rfl
theorem iblk_proj (t : Fin cfg0.N) : (iblk m c 2 t : S1024x2048.Idx → Elt F .bf16) = V m c main_v12 := by
  funext y
  unfold iblk
  rw [View.read_apply, cast_eq]
  refine congrArg (V m c main_v12 : S1024x2048.Idx → Elt F .bf16) (funext fun a => Fin.ext ?_)
  match a with
  | ⟨0, _⟩ => blk_simp [index2]; try rfl
  | ⟨1, _⟩ => blk_simp [index2]; try rfl
theorem iblk_taps (t : Fin cfg0.N) : (iblk m c 3 t : S3x512.Idx → Elt F .f32) = V m c main_v14 := by
  funext y
  unfold iblk
  rw [View.read_apply, cast_eq]
  refine congrArg (V m c main_v14 : S3x512.Idx → Elt F .f32) (funext fun a => Fin.ext ?_)
  match a with
  | ⟨0, _⟩ => blk_simp [index3]; try rfl
  | ⟨1, _⟩ => blk_simp [index3]; try rfl
theorem iblk_mixNorm (t : Fin cfg0.N) : (iblk m c 4 t : S1x512.Idx → Elt F .f32) = V m c main_v17 := by
  funext y
  unfold iblk
  rw [View.read_apply, cast_eq]
  refine congrArg (V m c main_v17 : S1x512.Idx → Elt F .f32) (funext fun a => Fin.ext ?_)
  match a with
  | ⟨0, _⟩ => blk_simp [index4]; try rfl
  | ⟨1, _⟩ => blk_simp [index4]; try rfl
theorem iblk_one (t : Fin cfg0.N) : (iblk m c 5 t : S512x512.Idx → Elt F .f32) = V m c main_v4 := by
  funext y
  unfold iblk
  rw [View.read_apply, cast_eq]
  refine congrArg (V m c main_v4 : S512x512.Idx → Elt F .f32) (funext fun a => Fin.ext ?_)
  match a with
  | ⟨0, _⟩ => blk_simp [index5]; try rfl
  | ⟨1, _⟩ => blk_simp [index5]; try rfl
theorem iblk_two (t : Fin cfg0.N) : (iblk m c 6 t : S512x512.Idx → Elt F .f32) = V m c main_v6 := by
  funext y
  unfold iblk
  rw [View.read_apply, cast_eq]
  refine congrArg (V m c main_v6 : S512x512.Idx → Elt F .f32) (funext fun a => Fin.ext ?_)
  match a with
  | ⟨0, _⟩ => blk_simp [index6]; try rfl
  | ⟨1, _⟩ => blk_simp [index6]; try rfl

/-- The cache's row of a short sequence. -/
theorem cacheRows_apply (b : Fin 32) (p : Fin 2) (d : Fin 512) : cacheRows m c (ix3 b p d) = cacheOf m c (ix4 1 b p d) := by
  refine (shapeCast_apply _ _ _ (ix4 0 b p d : S1x32x2x512.Idx) ?_).trans (extractStridedSlice_apply _ _ _ _ (ix4 1 b p d : S2x32x2x512.Idx) fun a => ?_)
  · rw [Shape.rowMajor_val_four, Shape.rowMajor_val_three]
    show ((0 * 32 + b.val) * 2 + p.val) * 512 + d.val = (b.val * 2 + p.val) * 512 + d.val
    omega
  · match a with
    | ⟨0, _⟩ => rfl
    | ⟨1, _⟩ => show b.val = 0 + b.val; omega
    | ⟨2, _⟩ => show p.val = 0 + p.val; omega
    | ⟨3, _⟩ => show d.val = 0 + d.val; omega

/-- At a short sequence's first row, the one-back block holds the cache's later row. -/
theorem one_apply (t : Fin cfg0.N) (r d : Fin 512) (h : r.val % 16 = 0) :
    (iblk m c 5 t : S512x512.Idx → Elt F .f32) (ix2 r d) = cacheOf m c (ix4 1 ⟨r.val / 16, by have := r.isLt; omega⟩ 1 d) := by
  have hr := r.isLt
  rw [iblk_one, V_main_v4]
  refine (shapeCast_apply _ _ _ (ix3 ⟨r.val / 16, by omega⟩ 0 d : S32x16x512.Idx) ?_).trans
    ((pad_apply_of_inside _ _ _ _ _ _ _ _ (ix3 ⟨r.val / 16, by omega⟩ 0 d : S32x1x512.Idx) fun a => ?_).trans
      ((extractStridedSlice_apply _ _ _ _ (ix3 ⟨r.val / 16, by omega⟩ 1 d : S32x2x512.Idx) fun a => ?_).trans (cacheRows_apply m c _ _ _)))
  · rw [Shape.rowMajor_val_three, Shape.rowMajor_val_two]
    show (r.val / 16 * 16 + 0) * 512 + d.val = r.val * 512 + d.val
    omega
  · match a with
    | ⟨0, _⟩ => show r.val / 16 = 0 + r.val / 16 * (0 + 1); omega
    | ⟨1, _⟩ => rfl
    | ⟨2, _⟩ => show d.val = 0 + d.val * (0 + 1); omega
  · match a with
    | ⟨0, _⟩ => show r.val / 16 = 0 + r.val / 16; omega
    | ⟨1, _⟩ => rfl
    | ⟨2, _⟩ => show d.val = 0 + d.val; omega

/-- At a short sequence's first two rows, the two-back block holds the cache's rows. -/
theorem two_apply (t : Fin cfg0.N) (r d : Fin 512) (h : r.val % 16 < 2) :
    (iblk m c 6 t : S512x512.Idx → Elt F .f32) (ix2 r d) = cacheOf m c (ix4 1 ⟨r.val / 16, by have := r.isLt; omega⟩ ⟨r.val % 16, h⟩ d) := by
  have hr := r.isLt
  rw [iblk_two, V_main_v6]
  refine (shapeCast_apply _ _ _ (ix3 ⟨r.val / 16, by omega⟩ ⟨r.val % 16, by omega⟩ d : S32x16x512.Idx) ?_).trans
    ((pad_apply_of_inside _ _ _ _ _ _ _ _ (ix3 ⟨r.val / 16, by omega⟩ ⟨r.val % 16, h⟩ d : S32x2x512.Idx) fun a => ?_).trans (cacheRows_apply m c _ _ _))
  · rw [Shape.rowMajor_val_three, Shape.rowMajor_val_two]
    show (r.val / 16 * 16 + r.val % 16) * 512 + d.val = r.val * 512 + d.val
    omega
  · match a with
    | ⟨0, _⟩ => show r.val / 16 = 0 + r.val / 16 * (0 + 1); omega
    | ⟨1, _⟩ => show r.val % 16 = 0 + r.val % 16 * (0 + 1); omega
    | ⟨2, _⟩ => show d.val = 0 + d.val * (0 + 1); omega

end Found

/-! ## The kernel's projection -/

section Projected

/-- A column of 512 entries repeated along the rows reads its entry at the row. -/
theorem column_apply (v : S512x1.Idx → EReal) (r : Fin 512) (d : Fin 1024) :
    broadcastTo S512x1024 v broadcasts_S512x1_S512x1024 (ix2 r d) = v (ix2 r 0) := by
  refine broadcastTo_apply _ _ _ _ fun a => ?_
  match a with
  | ⟨0, _⟩ => rfl
  | ⟨1, _⟩ => rfl
theorem column_half {α : Type} (v : S512x1.Idx → α) (r d : Fin 512) :
    broadcastTo S512x512 v broadcasts_S512x1_S512x512 (ix2 r d) = v (ix2 r 0) := by
  refine broadcastTo_apply _ _ _ _ fun a => ?_
  match a with
  | ⟨0, _⟩ => rfl
  | ⟨1, _⟩ => rfl
/-- A row repeated along the columns reads its entry at the column. -/
theorem row_half (v : S1x512.Idx → EReal) (r d : Fin 512) :
    broadcastTo S512x512 v broadcasts_S1x512_S512x512 (ix2 r d) = v (ix2 0 d) := by
  refine broadcastTo_apply _ _ _ _ fun a => ?_
  match a with
  | ⟨0, _⟩ => rfl
  | ⟨1, _⟩ => rfl

/-- The sum of a row's 1024 entries. -/
theorem row_sum (v : FVec Ideal S512x1024 .f32) (r : Fin 512) :
    shapeCast S512x1 (multiReduction .add [1] S512 v 0x00000000#32 reduces_S512x1024_S512 (.inl rfl) rfl) shapeCasts_S512_S512x1 (ix2 r 0)
      = ∑ k : Fin 1024, v (ix2 r k) := by
  refine (shapeCast_apply _ _ _ (ix1 r) ?_).trans ?_
  · rw [Shape.rowMajor_val_one, Shape.rowMajor_val_two]
    show r.val = r.val * 1 + 0
    omega
  refine (Ideal.multiReduction_add_single v _ reduces_S512x1024_S512 (.inl rfl) rfl (ix1 r)).trans
    (Finset.sum_congr rfl fun k _ => congrArg v (funext fun a => Fin.ext ?_))
  match a with
  | ⟨0, _⟩ => rfl
  | ⟨1, _⟩ => rfl
/-- The sum of a row's 512 entries. -/
theorem row_sum_half (v : FVec Ideal S512x512 .f32) (r : Fin 512) :
    shapeCast S512x1 (multiReduction .add [1] S512 v 0x00000000#32 reduces_S512x512_S512 (.inl rfl) rfl) shapeCasts_S512_S512x1 (ix2 r 0)
      = ∑ k : Fin 512, v (ix2 r k) := by
  refine (shapeCast_apply _ _ _ (ix1 r) ?_).trans ?_
  · rw [Shape.rowMajor_val_one, Shape.rowMajor_val_two]
    show r.val = r.val * 1 + 0
    omega
  refine (Ideal.multiReduction_add_single v _ reduces_S512x512_S512 (.inl rfl) rfl (ix1 r)).trans
    (Finset.sum_congr rfl fun k _ => congrArg v (funext fun a => Fin.ext ?_))
  match a with
  | ⟨0, _⟩ => rfl
  | ⟨1, _⟩ => rfl

theorem dot_eq : dot_S512x1024_S1024x2048_S512x2048_1_0_0_1_n_n = DotDims.plain 512 1024 2048 := rfl

theorem mm_apply (a : FVec Ideal S512x1024 .bf16) (b : FVec Ideal S1024x2048 .bf16) (r : Fin 512) (j : Fin 2048) :
    matmul dot_S512x1024_S1024x2048_S512x2048_1_0_0_1_n_n none a b (constant S512x2048 .f32 0x00000000#32) (ix2 r j)
      = ∑ k : Fin 1024, a (ix2 r k) * b (ix2 k j) := by
  have h := Ideal.matmul_plain_apply (M := 512) (K := 1024) (N := 2048) none a b (constant S512x2048 .f32 0x00000000#32) r j
  rw [← dot_eq] at h
  refine h.trans ?_
  rw [show constant (F := Ideal) S512x2048 .f32 0x00000000#32 (ix2 r j) = 0 from Ideal.ofBits_zero_f32, zero_add]

variable (x : FVec Ideal S512x1024 .f32) (g : FVec Ideal S1x1024 .f32) (w : FVec Ideal S1024x2048 .bf16)

/-- The kernel's normalised rows. -/
def normedRows : FVec Ideal S512x1024 .f32 :=
  mulf (mulf x (broadcastTo S512x1024 (rsqrt (addf (divf (shapeCast S512x1 (multiReduction .add [1] S512 (mulf x x) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 g broadcasts_S1x1024_S512x1024)

theorem normedRows_apply (r : Fin 512) (d : Fin 1024) :
    normedRows x g (ix2 r d) = normed 0x44800000#32 (fun k => x (ix2 r k)) (fun k => g (ix2 1 k)) d := by
  unfold normedRows
  show x (ix2 r d) * broadcastTo S512x1024 _ broadcasts_S512x1_S512x1024 (ix2 r d) * broadcastTo S512x1024 g broadcasts_S1x1024_S512x1024 (ix2 r d) = _
  have hw : broadcastTo S512x1024 g broadcasts_S1x1024_S512x1024 (ix2 r d) = g (ix2 1 d) := by
    refine broadcastTo_apply _ _ _ (ix2 0 d) fun a => ?_
    match a with
    | ⟨0, _⟩ => rfl
    | ⟨1, _⟩ => rfl
  rw [hw, column_apply]
  show x (ix2 r d) * Ideal.rsqrt (Ideal.div (shapeCast S512x1 (multiReduction .add [1] S512 (mulf x x) 0x00000000#32
      reduces_S512x1024_S512 (.inl rfl) rfl) shapeCasts_S512_S512x1 (ix2 r 0)) _ + _) * _ = _
  rw [row_sum]
  rfl

theorem same_shape {α : Type} {s : Shape} (v : s.Idx → α) (h : s.ShapeCasts s) : shapeCast s v h = v :=
  funext fun i => shapeCast_apply v h i i rfl

theorem pay2_apply (r : Fin 512) (j : Fin 2048) : k0_pay2 (F := Ideal) x g w (ix2 r j)
    = ∑ k : Fin 1024, normed 0x44800000#32 (fun k => x (ix2 r k)) (fun k => g (ix2 1 k)) k * w (ix2 k j) := by
  unfold k0_pay2
  simp only [same_shape]
  refine (mm_apply (truncf .bf16 (normedRows x g) bitsLt_bf16_f32) w r j).trans (Finset.sum_congr rfl fun k _ => ?_)
  exact congrArg (fun z : EReal => z * w (ix2 k j)) (normedRows_apply x g r k)

theorem part_apply (o : ℕ) (h : S512x2048.Slices ![0, o] S512x512) (r d : Fin 512) (ho : o + d.val < 2048) :
    extractStridedSlice S512x512 ![0, o] (k0_pay2 (F := Ideal) x g w) h (ix2 r d) = k0_pay2 (F := Ideal) x g w (ix2 r ⟨o + d.val, ho⟩) := by
  refine extractStridedSlice_apply _ _ _ _ (ix2 r ⟨o + d.val, ho⟩) fun a => ?_
  match a with
  | ⟨0, _⟩ => show r.val = 0 + r.val; omega
  | ⟨1, _⟩ => rfl

end Projected

/-! ## The kernel's mixed rows -/

section Mixed

/-- The row's number, and its number within its sequence of sixteen. -/
theorem rowNo_apply : ∀ r : Fin 512, rowNo (ix2 r 0) = BitVec.ofNat 32 r.val := by decide +kernel
theorem inSeq_apply : ∀ r : Fin 512, k0_pay11 rowNo (ix2 r 0) = BitVec.ofNat 32 (r.val % 16) := by decide +kernel
theorem isFirst : ∀ r : Fin 512, IntOp.cmpi .eq (BitVec.ofNat 32 r.val) 0#32 = BitVec.ofBool (decide (r.val = 0)) := by decide +kernel
theorem isSecond : ∀ r : Fin 512, IntOp.cmpi .eq (BitVec.ofNat 32 r.val) 1#32 = BitVec.ofBool (decide (r.val = 1)) := by decide +kernel
theorem startsSeq : ∀ r : Fin 512, IntOp.cmpi .eq (BitVec.ofNat 32 (r.val % 16)) 0#32 = BitVec.ofBool (decide (r.val % 16 = 0)) := by decide +kernel
theorem earlyInSeq : ∀ r : Fin 512, IntOp.cmpi .slt (BitVec.ofNat 32 (r.val % 16)) 2#32 = BitVec.ofBool (decide (r.val % 16 < 2)) := by decide +kernel
theorem isShort : ∀ t : Fin cfg0.N, Scalar.cmpi .eq (BitVec.ofNat 32 (grid0.coords t 0).val) 32#32 = BitVec.ofBool (decide (t.val = 32)) := by decide +kernel

theorem select_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

/-- The rows moved down by one and by two, around the end. -/
theorem rolled1 (v : S512x512.Idx → EReal) (r d : Fin 512) (h : 1 ≤ r.val) :
    dynamicRotate 0 1#32 none v rotates_S512x512_d0 (ix2 r d) = v (ix2 ⟨r.val - 1, by have := r.isLt; omega⟩ d) := by
  have hr := r.isLt
  refine dynamicRotate_apply _ _ _ _ _ _ fun b => ?_
  match b with
  | ⟨0, _⟩ => show r.val - 1 = (r.val + 512 - 1 % 512) % 512; omega
  | ⟨1, _⟩ => rfl
theorem rolled2 (v : S512x512.Idx → EReal) (r d : Fin 512) (h : 2 ≤ r.val) :
    dynamicRotate 0 2#32 none v rotates_S512x512_d0 (ix2 r d) = v (ix2 ⟨r.val - 2, by have := r.isLt; omega⟩ d) := by
  have hr := r.isLt
  refine dynamicRotate_apply _ _ _ _ _ _ fun b => ?_
  match b with
  | ⟨0, _⟩ => show r.val - 2 = (r.val + 512 - 2 % 512) % 512; omega
  | ⟨1, _⟩ => rfl

variable (z : FVec Ideal S512x512 .f32) (c6 c7 : FVec Ideal S1x512 .f32) (p q : FVec Ideal S512x512 .f32)

/-- One back within the long sequence: the carried row at the block's first row. -/
theorem oneBack (r d : Fin 512) : k0_pay9 (F := Ideal) (dynamicRotate 0 1#32 none z rotates_S512x512_d0) c7 k0_pay8 (ix2 r d)
    = if h : r.val < 1 then c7 (ix2 0 d) else z (ix2 ⟨r.val - 1, by have := r.isLt; omega⟩ d) := by
  unfold k0_pay9 k0_pay8
  simp only [same_shape]
  show Scalar.select (broadcastTo S512x512 (cmpi .eq rowNo (broadcast S512x1 0#32)) broadcasts_S512x1_S512x512 (ix2 r d))
    (broadcastTo S512x512 c7 broadcasts_S1x512_S512x512 (ix2 r d)) _ = _
  rw [column_half, row_half]
  show Scalar.select (IntOp.cmpi .eq (rowNo (ix2 r 0)) 0#32) _ _ = _
  rw [rowNo_apply, isFirst, select_ofBool]
  by_cases h : r.val < 1
  · rw [dif_pos h, if_pos (by omega)]
  · rw [dif_neg h, if_neg (by omega), rolled1 z r d (by omega)]

/-- Two back within the long sequence: the carried rows at the block's first two rows. -/
theorem twoBack (r d : Fin 512) : k0_pay10 (F := Ideal) rowNo (dynamicRotate 0 2#32 none z rotates_S512x512_d0) c6 c7 (ix2 r d)
    = if r.val = 0 then c6 (ix2 0 d) else if r.val = 1 then c7 (ix2 0 d)
      else z (ix2 ⟨r.val - 2, by have := r.isLt; omega⟩ d) := by
  unfold k0_pay10
  simp only [same_shape]
  show Scalar.select (broadcastTo S512x512 (cmpi .eq rowNo (broadcast S512x1 0#32)) broadcasts_S512x1_S512x512 (ix2 r d))
    (broadcastTo S512x512 c6 broadcasts_S1x512_S512x512 (ix2 r d))
    (Scalar.select (broadcastTo S512x512 (cmpi .eq rowNo (broadcast S512x1 1#32)) broadcasts_S512x1_S512x512 (ix2 r d))
      (broadcastTo S512x512 c7 broadcasts_S1x512_S512x512 (ix2 r d)) _) = _
  rw [column_half, column_half, row_half, row_half]
  show Scalar.select (IntOp.cmpi .eq (rowNo (ix2 r 0)) 0#32) _ (Scalar.select (IntOp.cmpi .eq (rowNo (ix2 r 0)) 1#32) _ _) = _
  rw [rowNo_apply, isFirst, isSecond, select_ofBool, select_ofBool]
  by_cases h : r.val = 0
  · rw [if_pos h, if_pos h]
  · rw [if_neg h, if_neg h]
    by_cases h' : r.val = 1
    · rw [if_pos h', if_pos h']
    · rw [if_neg h', if_neg h', rolled2 z r d (by omega)]

/-- One back within a short sequence. -/
theorem oneBackShort (r d : Fin 512) : k0_pay12 (F := Ideal) rowNo (dynamicRotate 0 1#32 none z rotates_S512x512_d0) p (ix2 r d)
    = if r.val % 16 = 0 then p (ix2 r d) else z (ix2 ⟨r.val - 1, by have := r.isLt; omega⟩ d) := by
  unfold k0_pay12
  simp only [same_shape]
  show Scalar.select (broadcastTo S512x512 (cmpi .eq (k0_pay11 rowNo) (broadcast S512x1 0#32)) broadcasts_S512x1_S512x512 (ix2 r d)) _ _ = _
  rw [column_half]
  show Scalar.select (IntOp.cmpi .eq (k0_pay11 rowNo (ix2 r 0)) 0#32) _ _ = _
  rw [inSeq_apply, startsSeq, select_ofBool]
  by_cases h : r.val % 16 = 0
  · rw [if_pos h, if_pos h]
  · rw [if_neg h, if_neg h, rolled1 z r d (by omega)]

/-- Two back within a short sequence. -/
theorem twoBackShort (r d : Fin 512) : select (broadcastTo S512x512 (k0_pay14 rowNo) broadcasts_S512x1_S512x512)
      (k0_pay13 (F := Ideal) q) (dynamicRotate 0 2#32 none z rotates_S512x512_d0) (ix2 r d)
    = if r.val % 16 < 2 then q (ix2 r d) else z (ix2 ⟨r.val - 2, by have := r.isLt; omega⟩ d) := by
  unfold k0_pay14 k0_pay13
  simp only [same_shape]
  show Scalar.select (broadcastTo S512x512 (cmpi .slt (k0_pay11 rowNo) (broadcast S512x1 2#32)) broadcasts_S512x1_S512x512 (ix2 r d)) _ _ = _
  rw [column_half]
  show Scalar.select (IntOp.cmpi .slt (k0_pay11 rowNo (ix2 r 0)) 2#32) _ _ = _
  rw [inSeq_apply, earlyInSeq, select_ofBool]
  by_cases h : r.val % 16 < 2
  · rw [if_pos h, if_pos h]
  · rw [if_neg h, if_neg h, rolled2 z r d (by omega)]

variable (k : FVec Ideal S3x512 .f32) (b : FVec Ideal S1x512 .f32) (G V2 V1 : FVec Ideal S512x512 .f32)

theorem tap_apply (a : Fin 3) (h : S3x512.Slices ![a.val, 0] S1x512) (r d : Fin 512) :
    broadcastTo S512x512 (extractStridedSlice S1x512 ![a.val, 0] k h) broadcasts_S1x512_S512x512 (ix2 r d) = k (ix2 a d) := by
  rw [row_half]
  refine extractStridedSlice_apply _ _ _ _ (ix2 a d) fun e => ?_
  match e with
  | ⟨0, _⟩ => show a.val = a.val + 0; omega
  | ⟨1, _⟩ => show d.val = 0 + d.val; omega

/-- The kernel's gated convolution rows. -/
def convRows : FVec Ideal S512x512 .f32 :=
  mulf G (addf (addf (mulf (broadcastTo S512x512 (extractStridedSlice S1x512 ![0, 0] k slices_S3x512_o0_0_S1x512) broadcasts_S1x512_S512x512) V2)
    (mulf (broadcastTo S512x512 (extractStridedSlice S1x512 ![1, 0] k slices_S3x512_o1_0_S1x512) broadcasts_S1x512_S512x512) V1))
    (mulf (broadcastTo S512x512 (extractStridedSlice S1x512 ![2, 0] k slices_S3x512_o2_0_S1x512) broadcasts_S1x512_S512x512) z))

theorem convRows_apply (r d : Fin 512) : convRows z k G V2 V1 (ix2 r d)
    = G (ix2 r d) * (k (ix2 0 d) * V2 (ix2 r d) + k (ix2 1 d) * V1 (ix2 r d) + k (ix2 2 d) * z (ix2 r d)) := by
  unfold convRows
  show G (ix2 r d) * (broadcastTo S512x512 (extractStridedSlice S1x512 ![(0 : Fin 3).val, 0] k slices_S3x512_o0_0_S1x512) broadcasts_S1x512_S512x512 (ix2 r d) * V2 (ix2 r d)
    + broadcastTo S512x512 (extractStridedSlice S1x512 ![(1 : Fin 3).val, 0] k slices_S3x512_o1_0_S1x512) broadcasts_S1x512_S512x512 (ix2 r d) * V1 (ix2 r d)
    + broadcastTo S512x512 (extractStridedSlice S1x512 ![(2 : Fin 3).val, 0] k slices_S3x512_o2_0_S1x512) broadcasts_S1x512_S512x512 (ix2 r d) * z (ix2 r d)) = _
  rw [tap_apply, tap_apply, tap_apply]

/-- The kernel's second norm, of its gated convolution rows. -/
def mixNormed (Y : FVec Ideal S512x512 .f32) : FVec Ideal S512x512 .bf16 :=
  truncf .bf16 (mulf (mulf Y (broadcastTo S512x512 (rsqrt (addf (divf (shapeCast S512x1 (multiReduction .add [1] S512 (mulf Y Y) 0x00000000#32
      reduces_S512x512_S512 (.inl rfl) rfl) shapeCasts_S512_S512x1) (broadcast S512x1 (Scalar.ofBits .f32 0x44000000#32)))
      (broadcast S512x1 (Scalar.ofBits .f32 0x358637BD#32)))) broadcasts_S512x1_S512x512))
    (broadcastTo S512x512 b broadcasts_S1x512_S512x512)) bitsLt_bf16_f32

theorem mixNormed_apply (Y : FVec Ideal S512x512 .f32) (r d : Fin 512) :
    mixNormed b Y (ix2 r d) = normed 0x44000000#32 (fun k => Y (ix2 r k)) (fun k => b (ix2 1 k)) d := by
  unfold mixNormed
  show Y (ix2 r d) * broadcastTo S512x512 _ broadcasts_S512x1_S512x512 (ix2 r d) * broadcastTo S512x512 b broadcasts_S1x512_S512x512 (ix2 r d) = _
  rw [row_half, column_half]
  show Y (ix2 r d) * Ideal.rsqrt (Ideal.div (shapeCast S512x1 (multiReduction .add [1] S512 (mulf Y Y) 0x00000000#32
      reduces_S512x512_S512 (.inl rfl) rfl) shapeCasts_S512_S512x1 (ix2 r 0)) _ + _) * _ = _
  rw [row_sum_half]
  rfl

end Mixed

/-! ## The kernel's results are the reference's -/

section Same

variable (m : (ℓ : Loc nD τ sig) → Buf (Elt Ideal) ℓ) (c : Dev nD)

/-- The arrays that the kernel's memory holds, the weights and the cache seen from the second layer. -/
abbrev givenOf : Given where
  X := rowsOf m c
  g := second2 (normOf m c)
  W := second3 (projOf m c)
  taps := second3 (tapsOf m c)
  cache := second4 (cacheOf m c)
  b := second2 (mixNormOf m c)

theorem rows_found (t : Fin cfg0.N) (r : Fin 512) (k : Fin 1024) :
    (iblk m c 0 t : S512x1024.Idx → EReal) (ix2 r k) = (givenOf m c).X (ix2 (tokenAt t r) k) :=
  (iblk_rows m c t r k).trans (congrFun (V_main_arg0 m c) _)

theorem norm_found (t : Fin cfg0.N) (k : Fin 1024) : (iblk m c 1 t : S1x1024.Idx → EReal) (ix2 0 k) = (givenOf m c).g (ix2 0 k) := by
  rw [iblk_norm, V_main_v9]
  refine (shapeCast_apply _ _ _ (ix1 k : S1024.Idx) ?_).trans ((shapeCast_apply _ _ _ (ix2 0 k : S1x1024.Idx) ?_).trans
    (extractStridedSlice_apply _ _ _ _ (ix2 1 k : S2x1024.Idx) fun a => ?_))
  · rw [Shape.rowMajor_val_one, Shape.rowMajor_val_two]
    show k.val = 0 * 1024 + k.val
    omega
  · rw [Shape.rowMajor_val_one, Shape.rowMajor_val_two]
    show 0 * 1024 + k.val = k.val
    omega
  · match a with
    | ⟨0, _⟩ => rfl
    | ⟨1, _⟩ => show k.val = 0 + k.val; omega

theorem mixNorm_found (t : Fin cfg0.N) (k : Fin 512) : (iblk m c 4 t : S1x512.Idx → EReal) (ix2 0 k) = (givenOf m c).b (ix2 0 k) := by
  rw [iblk_mixNorm, V_main_v17]
  refine (shapeCast_apply _ _ _ (ix1 k : S512.Idx) ?_).trans ((shapeCast_apply _ _ _ (ix2 0 k : S1x512.Idx) ?_).trans
    (extractStridedSlice_apply _ _ _ _ (ix2 1 k : S2x512.Idx) fun a => ?_))
  · rw [Shape.rowMajor_val_one, Shape.rowMajor_val_two]
    show k.val = 0 * 512 + k.val
    omega
  · rw [Shape.rowMajor_val_one, Shape.rowMajor_val_two]
    show 0 * 512 + k.val = k.val
    omega
  · match a with
    | ⟨0, _⟩ => rfl
    | ⟨1, _⟩ => show k.val = 0 + k.val; omega

theorem proj_found (t : Fin cfg0.N) (k : Fin 1024) (j : Fin 2048) :
    (iblk m c 2 t : S1024x2048.Idx → EReal) (ix2 k j) = (givenOf m c).W (ix3 0 k j) := by
  refine (congrFun (iblk_proj m c t) _).trans ((congrFun (V_main_v12 m c) _).trans ?_)
  show shapeCast S1024x2048 (extractStridedSlice S1x1024x2048 ![1, 0, 0] (projOf m c) slices_S2x1024x2048_S1x1024x2048_1_0_0)
    shapeCasts_S1x1024x2048_S1024x2048 (ix2 k j) = _
  refine (shapeCast_apply _ _ _ (ix3 0 k j : S1x1024x2048.Idx) ?_).trans
    (extractStridedSlice_apply _ _ _ _ (ix3 1 k j : S2x1024x2048.Idx) fun a => ?_)
  · rw [Shape.rowMajor_val_three, Shape.rowMajor_val_two]
    show (0 * 1024 + k.val) * 2048 + j.val = k.val * 2048 + j.val
    omega
  · match a with
    | ⟨0, _⟩ => rfl
    | ⟨1, _⟩ => show k.val = 0 + k.val; omega
    | ⟨2, _⟩ => show j.val = 0 + j.val; omega

theorem taps_found (t : Fin cfg0.N) (a : Fin 3) (d : Fin 512) :
    (iblk m c 3 t : S3x512.Idx → EReal) (ix2 a d) = (givenOf m c).taps (ix3 0 a d) := by
  rw [iblk_taps, V_main_v14]
  refine (shapeCast_apply _ _ _ (ix3 0 a d : S1x3x512.Idx) ?_).trans
    (extractStridedSlice_apply _ _ _ _ (ix3 1 a d : S2x3x512.Idx) fun e => ?_)
  · rw [Shape.rowMajor_val_three, Shape.rowMajor_val_two]
    show (0 * 3 + a.val) * 512 + d.val = a.val * 512 + d.val
    omega
  · match e with
    | ⟨0, _⟩ => rfl
    | ⟨1, _⟩ => show a.val = 0 + a.val; omega
    | ⟨2, _⟩ => show d.val = 0 + d.val; omega

/-- The kernel's projection is the plain one. -/
theorem projection (t : Fin cfg0.N) (r : Fin 512) (j : Fin 2048) :
    k0_pay2 (F := Ideal) (iblk m c 0 t) (iblk m c 1 t) (iblk m c 2 t) (ix2 r j) = projected (givenOf m c) (tokenAt t r) j := by
  refine (pay2_apply (iblk m c 0 t) (iblk m c 1 t) (iblk m c 2 t) r j).trans (Finset.sum_congr rfl fun k _ => ?_)
  refine congrArg₂ (fun x y : EReal => x * y) ?_ (proj_found m c t k j)
  exact congrArg₂ (fun X w => normed 0x44800000#32 X w k) (funext fun k => rows_found m c t r k) (funext fun k => norm_found m c t k)

theorem firstAt_apply (t : Fin cfg0.N) (r d : Fin 512) :
    firstAt m c t (ix2 r d) = projected (givenOf m c) (tokenAt t r) ⟨d.val, by omega⟩ := by
  unfold firstAt k0_pay3
  refine (part_apply _ _ _ 0 _ r d (by omega)).trans ((projection m c t r _).trans (congrArg (projected _ _) (Fin.ext (Nat.zero_add _))))

theorem gateAt_apply (t : Fin cfg0.N) (r d : Fin 512) :
    k0_pay4 (F := Ideal) (iblk m c 0 t) (iblk m c 1 t) (iblk m c 2 t) (ix2 r d) = projected (givenOf m c) (tokenAt t r) ⟨512 + d.val, by omega⟩ := by
  unfold k0_pay4
  exact (part_apply _ _ _ 512 _ r d (by omega)).trans (projection m c t r _)

theorem gatedAt_apply (t : Fin cfg0.N) (r d : Fin 512) : gatedAt m c t (ix2 r d) = prodAt (givenOf m c) (512 * t.val + r.val) d := by
  refine Eq.trans ?_ (prodAt_eq (givenOf m c) (tokenAt t r) d).symm
  unfold gatedAt k0_pay5 prod
  exact congrArg₂ (fun x y : EReal => x * y) ((part_apply _ _ _ 1024 _ r d (by omega)).trans (projection m c t r _))
    ((part_apply _ _ _ 1536 _ r d (by omega)).trans (projection m c t r _))

/-- Row `a` of a block's last eight rows. -/
theorem lastRows_apply (Y : FVec Ideal S512x512 .f32) (a : Fin 8) (d : Fin 512) :
    extractStridedSlice S8x512 ![504, 0] Y slices_S512x512_o504_0_S8x512 (ix2 a d) = Y (ix2 ⟨504 + a.val, by omega⟩ d) := by
  refine extractStridedSlice_apply _ _ _ _ (ix2 ⟨504 + a.val, by omega⟩ d : S512x512.Idx) fun e => ?_
  match e with
  | ⟨0, _⟩ => rfl
  | ⟨1, _⟩ => show d.val = 0 + d.val; omega

/-- What a point finds carried, at one of the eight rows. -/
theorem carried_apply (t : Fin cfg0.N) (a : Fin 8) (d : Fin 512) :
    carried m c t (ix2 a d) = if t.val = 0 then 0 else prodAt (givenOf m c) (512 * t.val + a.val - 8) d := by
  unfold carried
  by_cases h : t.val = 0
  · rw [if_pos h, if_pos h]
    unfold k0_pay1
    simp only [same_shape]
    exact Ideal.ofBits_zero_f32
  · rw [if_neg h, if_neg h]
    unfold k0_pay16
    simp only [same_shape]
    rw [lastRows_apply, gatedAt_apply]
    refine congrArg (fun n => prodAt (givenOf m c) n d) ?_
    show 512 * (t.val - 1) + (504 + a.val) = 512 * t.val + a.val - 8
    omega

theorem sixth_apply (C : FVec Ideal S8x512 .f32) (d : Fin 512) : sixth (F := Ideal) C (ix2 0 d) = C (ix2 6 d) := by
  refine congrArg C (funext fun a => Fin.ext ?_)
  match a with
  | ⟨0, _⟩ => exact rect_emb_unit_val _ _ _ _ _
  | ⟨1, _⟩ => exact (rect_emb_unit_val _ _ _ _ _).trans (Nat.zero_add _)
theorem seventh_apply (C : FVec Ideal S8x512 .f32) (d : Fin 512) : seventh (F := Ideal) C (ix2 0 d) = C (ix2 7 d) := by
  refine congrArg C (funext fun a => Fin.ext ?_)
  match a with
  | ⟨0, _⟩ => exact rect_emb_unit_val _ _ _ _ _
  | ⟨1, _⟩ => exact (rect_emb_unit_val _ _ _ _ _).trans (Nat.zero_add _)

/-- The kernel's one-back block. -/
def back1 (t : Fin cfg0.N) : FVec Ideal S512x512 .f32 :=
  Scalar.select (Scalar.cmpi .eq (BitVec.ofNat 32 (grid0.coords t 0).val) 32#32)
    (k0_pay12 (F := Ideal) rowNo (dynamicRotate 0 1#32 none (gatedAt m c t) rotates_S512x512_d0) (iblk m c 5 t))
    (k0_pay9 (F := Ideal) (dynamicRotate 0 1#32 none (gatedAt m c t) rotates_S512x512_d0) (seventh (carried m c t)) k0_pay8)
/-- The kernel's two-back block. -/
def back2 (t : Fin cfg0.N) : FVec Ideal S512x512 .f32 :=
  Scalar.select (Scalar.cmpi .eq (BitVec.ofNat 32 (grid0.coords t 0).val) 32#32)
    (select (broadcastTo S512x512 (k0_pay14 rowNo) broadcasts_S512x1_S512x512)
      (k0_pay13 (F := Ideal) (iblk m c 6 t)) (dynamicRotate 0 2#32 none (gatedAt m c t) rotates_S512x512_d0))
    (k0_pay10 (F := Ideal) rowNo (dynamicRotate 0 2#32 none (gatedAt m c t) rotates_S512x512_d0) (sixth (carried m c t)) (seventh (carried m c t)))

theorem back1_apply (t : Fin cfg0.N) (r d : Fin 512) : back1 m c t (ix2 r d) = before (givenOf m c) 1 (tokenAt t r) d := by
  have hr := r.isLt
  have ht := point_lt t
  unfold back1 before
  rw [isShort, select_ofBool]
  by_cases h : t.val = 32
  · rw [if_pos h, oneBackShort, if_neg (show ¬ 512 * t.val + r.val < 16384 by omega)]
    by_cases h' : r.val % 16 = 0
    · rw [if_pos h', dif_pos (show (512 * t.val + r.val - 16384) % 16 < 1 by omega), one_apply m c t r d h']
      refine congrArg₂ (fun (x : Fin 32) (y : Fin 2) => cacheOf m c (ix4 1 x y d)) (Fin.ext ?_) (Fin.ext ?_)
      · show r.val / 16 = (512 * t.val + r.val - 16384) / 16
        omega
      · show 1 = ((512 * t.val + r.val - 16384) % 16 + 2 - 1) % 2
        omega
    · rw [if_neg h', dif_neg (show ¬ (512 * t.val + r.val - 16384) % 16 < 1 by omega), gatedAt_apply]
      refine congrArg (fun n => prodAt (givenOf m c) n d) ?_
      show 512 * t.val + (r.val - 1) = 512 * t.val + r.val - 1
      omega
  · rw [if_neg h, oneBack, if_pos (show 512 * t.val + r.val < 16384 by omega)]
    by_cases h' : r.val < 1
    · rw [dif_pos h', seventh_apply, carried_apply]
      by_cases h0 : t.val = 0
      · rw [if_pos h0, if_pos (show 512 * t.val + r.val < 1 by omega)]
      · rw [if_neg h0, if_neg (show ¬ 512 * t.val + r.val < 1 by omega)]
        refine congrArg (fun n => prodAt (givenOf m c) n d) ?_
        show 512 * t.val + 7 - 8 = 512 * t.val + r.val - 1
        omega
    · rw [dif_neg h', if_neg (show ¬ 512 * t.val + r.val < 1 by omega), gatedAt_apply]
      refine congrArg (fun n => prodAt (givenOf m c) n d) ?_
      show 512 * t.val + (r.val - 1) = 512 * t.val + r.val - 1
      omega

theorem back2_apply (t : Fin cfg0.N) (r d : Fin 512) : back2 m c t (ix2 r d) = before (givenOf m c) 2 (tokenAt t r) d := by
  have hr := r.isLt
  have ht := point_lt t
  unfold back2 before
  rw [isShort, select_ofBool]
  by_cases h : t.val = 32
  · rw [if_pos h, twoBackShort, if_neg (show ¬ 512 * t.val + r.val < 16384 by omega)]
    by_cases h' : r.val % 16 < 2
    · rw [if_pos h', dif_pos (show (512 * t.val + r.val - 16384) % 16 < 2 by omega), two_apply m c t r d h']
      refine congrArg₂ (fun (x : Fin 32) (y : Fin 2) => cacheOf m c (ix4 1 x y d)) (Fin.ext ?_) (Fin.ext ?_)
      · show r.val / 16 = (512 * t.val + r.val - 16384) / 16
        omega
      · show r.val % 16 = ((512 * t.val + r.val - 16384) % 16 + 2 - 2) % 2
        omega
    · rw [if_neg h', dif_neg (show ¬ (512 * t.val + r.val - 16384) % 16 < 2 by omega), gatedAt_apply]
      refine congrArg (fun n => prodAt (givenOf m c) n d) ?_
      show 512 * t.val + (r.val - 2) = 512 * t.val + r.val - 2
      omega
  · rw [if_neg h, twoBack, if_pos (show 512 * t.val + r.val < 16384 by omega)]
    by_cases h' : r.val < 2
    · by_cases h0 : t.val = 0
      · rw [if_pos (show 512 * t.val + r.val < 2 by omega)]
        by_cases h1 : r.val = 0
        · rw [if_pos h1, sixth_apply, carried_apply, if_pos h0]
        · rw [if_neg h1, if_pos (show r.val = 1 by omega), seventh_apply, carried_apply, if_pos h0]
      · rw [if_neg (show ¬ 512 * t.val + r.val < 2 by omega)]
        by_cases h1 : r.val = 0
        · rw [if_pos h1, sixth_apply, carried_apply, if_neg h0]
          refine congrArg (fun n => prodAt (givenOf m c) n d) ?_
          show 512 * t.val + 6 - 8 = 512 * t.val + r.val - 2
          omega
        · rw [if_neg h1, if_pos (show r.val = 1 by omega), seventh_apply, carried_apply, if_neg h0]
          refine congrArg (fun n => prodAt (givenOf m c) n d) ?_
          show 512 * t.val + 7 - 8 = 512 * t.val + r.val - 2
          omega
    · rw [if_neg (show ¬ r.val = 0 by omega), if_neg (show ¬ r.val = 1 by omega), if_neg (show ¬ 512 * t.val + r.val < 2 by omega), gatedAt_apply]
      refine congrArg (fun n => prodAt (givenOf m c) n d) ?_
      show 512 * t.val + (r.val - 2) = 512 * t.val + r.val - 2
      omega

theorem mixedAt_eq (t : Fin cfg0.N) : mixedAt m c t = mixNormed (iblk m c 4 t) (convRows (gatedAt m c t) (iblk m c 3 t)
    (k0_pay4 (F := Ideal) (iblk m c 0 t) (iblk m c 1 t) (iblk m c 2 t)) (back2 m c t) (back1 m c t)) := by
  unfold mixedAt mixedRows k0_pay15 mixNormed convRows back1 back2 k0_pay6 k0_pay7 gatedAt
  simp only [same_shape]

theorem mixedAt_apply (t : Fin cfg0.N) (r d : Fin 512) : mixedAt m c t (ix2 r d) = mixedRow (givenOf m c) (tokenAt t r) d := by
  rw [mixedAt_eq, mixNormed_apply]
  unfold mixedRow
  refine congrArg₂ (fun X w => normed 0x44000000#32 X w d) (funext fun e => ?_) (funext fun e => mixNorm_found m c t e)
  rw [convRows_apply, back1_apply, back2_apply, gateAt_apply, gatedAt_apply, taps_found, taps_found, taps_found]
  unfold gatedConv
  rw [← prodAt_eq]

/-! ### The four results -/

theorem stacked_apply (f : Fin cfg0.N → S512x512.Idx → EReal) (R : Fin 16896 → Fin 512 → EReal)
    (h : ∀ t r d, f t (ix2 r d) = R (tokenAt t r) d) (n : Fin 16896) (d : Fin 512) : stacked f (ix2 n d) = R n d := by
  have hn := n.isLt
  refine (h (pointAt (n.val / 512) (by omega)) ⟨n.val % 512, Nat.mod_lt _ (by omega)⟩ d).trans (congrArg (fun q => R q d) (Fin.ext ?_))
  show 512 * (n.val / 512) + n.val % 512 = n.val
  omega

theorem same_first : Cert.Reference5Ideal.Hand.first (givenOf m c) = stacked (firstAt m c) := by
  funext i
  obtain ⟨n, d, rfl⟩ : ∃ (n : Fin 16896) (d : Fin 512), i = ix2 n d := ⟨i 0, i 1, eq_ix2 i⟩
  exact (Cert.Reference5Ideal.Hand.first_apply (givenOf m c) n d).trans
    (stacked_apply (firstAt m c) (fun n d => projected (givenOf m c) n ⟨d.val, by omega⟩) (firstAt_apply m c) n d).symm

theorem same_mixed : Cert.Reference5Ideal.Hand.mixed (givenOf m c) = (extf .f32 (stacked (mixedAt m c)) bitsLt_bf16_f32 : FVec Ideal S16896x512 .f32) := by
  funext i
  obtain ⟨n, d, rfl⟩ : ∃ (n : Fin 16896) (d : Fin 512), i = ix2 n d := ⟨i 0, i 1, eq_ix2 i⟩
  exact (Cert.Reference5Ideal.Hand.mixed_apply (givenOf m c) n d).trans
    (stacked_apply (mixedAt m c) (mixedRow (givenOf m c)) (mixedAt_apply m c) n d).symm

theorem same_tail : Cert.Reference5Ideal.Hand.tail (givenOf m c)
    = shapeCast S1x2x512 (extractStridedSlice S2x512 ![6, 0] (tailOf m c) slices_S8x512_S2x512_6_0) shapeCasts_S2x512_S1x2x512 := by
  funext i
  obtain ⟨o, p, d, rfl⟩ : ∃ (o : Fin 1) (p : Fin 2) (d : Fin 512), i = ix3 o p d := ⟨i 0, i 1, i 2, eq_ix3 i⟩
  obtain rfl : o = 0 := Subsingleton.elim _ _
  have hp := p.isLt
  refine (Cert.Reference5Ideal.Hand.tail_apply (givenOf m c) p d).trans (Eq.symm ?_)
  refine (shapeCast_apply _ _ _ (ix2 p d : S2x512.Idx) ?_).trans
    ((extractStridedSlice_apply _ _ _ _ (ix2 ⟨6 + p.val, by omega⟩ d : S8x512.Idx) fun a => ?_).trans ?_)
  · rw [Shape.rowMajor_val_three, Shape.rowMajor_val_two]
    show p.val * 512 + d.val = (0 * 2 + p.val) * 512 + d.val
    omega
  · match a with
    | ⟨0, _⟩ => rfl
    | ⟨1, _⟩ => show d.val = 0 + d.val; omega
  · unfold tailOf k0_pay17
    refine (lastRows_apply _ _ d).trans ((gatedAt_apply m c _ _ d).trans (congrArg (fun n => prodAt (givenOf m c) n d) ?_))
    show 512 * 31 + (504 + (6 + p.val)) = 16382 + p.val
    omega

theorem same_ends : Cert.Reference5Ideal.Hand.ends (givenOf m c)
    = extractStridedSlice S32x2x512 ![0, 14, 0] (shapeCast S32x16x512 (shortOf m c) shapeCasts_S512x512_S32x16x512) slices_S32x16x512_S32x2x512_0_14_0 := by
  funext i
  obtain ⟨b, p, d, rfl⟩ : ∃ (b : Fin 32) (p : Fin 2) (d : Fin 512), i = ix3 b p d := ⟨i 0, i 1, i 2, eq_ix3 i⟩
  have hb := b.isLt
  have hp := p.isLt
  refine (Cert.Reference5Ideal.Hand.ends_apply (givenOf m c) b p d).trans (Eq.symm ?_)
  refine (extractStridedSlice_apply _ _ _ _ (ix3 b ⟨14 + p.val, by omega⟩ d : S32x16x512.Idx) fun a => ?_).trans
    ((shapeCast_apply _ _ _ (ix2 ⟨16 * b.val + (14 + p.val), by omega⟩ d : S512x512.Idx) ?_).trans ?_)
  · match a with
    | ⟨0, _⟩ => show b.val = 0 + b.val; omega
    | ⟨1, _⟩ => rfl
    | ⟨2, _⟩ => show d.val = 0 + d.val; omega
  · rw [Shape.rowMajor_val_three, Shape.rowMajor_val_two]
    show (16 * b.val + (14 + p.val)) * 512 + d.val = (b.val * 16 + (14 + p.val)) * 512 + d.val
    omega
  · unfold shortOf
    refine (gatedAt_apply m c _ _ d).trans (congrArg (fun n => prodAt (givenOf m c) n d) ?_)
    show 512 * 32 + (16 * b.val + (14 + p.val)) = 16384 + 16 * b.val + (14 + p.val)
    omega

end Same

end Cert.Kernel6Ideal.Hand
-- ==== Proof.lean ====
/-
  The proof of `Cert.Claim`: the dispatch's frames, and its values against the reference's two row scatters; the experts'
  frames at each layer, and their values against the reference's gated product of each row with its expert's matrices; the
  final combine's frames, and its two results against the reference's normalised sums; layer 0's combine's frames, and its rows
  against the reference's sums; each layer's in-projection's frames, and
  its four results against the reference's projection and convolution. The runs and their values are proved once for any
  float instance (Proof/DispatchRun.lean, Proof/ExpertRun.lean, for layer 0 Proof/FirstExpertRun.lean, Proof/CombineRun.lean,
  for layer 0 Proof/FirstCombineRun.lean,
  and Proof/ProjectRun.lean), the references' in Proof/DispatchSpec.lean, Proof/ExpertSpec.lean, Proof/FirstExpertSpec.lean,
  Proof/CombineSpec.lean, Proof/FirstCombineSpec.lean and Proof/ProjectRef.lean, which Proof/ProjectSpec.lean meets
  (layer 1's in files of the same names after `Later`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_places_distinct
public import proofs.«01_k».proof.Proof.Gen.Pre_tables_in_range
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Pre_places_in_range
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Frame
public import proofs.«01_k».proof.Proof.Gen.Reference7Ideal
public import proofs.«01_k».proof.Proof.Gen.Reference7Ideal.Run
public import proofs.«01_k».proof.Proof.DispatchSpec
public import proofs.«01_k».proof.Proof.ExpertSpec
public import proofs.«01_k».proof.Proof.FirstExpertSpec
public import proofs.«01_k».proof.Proof.CombineSpec
public import proofs.«01_k».proof.Proof.FirstCombineSpec
public import proofs.«01_k».proof.Proof.ProjectRun
public import proofs.«01_k».proof.Proof.ProjectRef
public import proofs.«01_k».proof.Proof.ProjectSpec
public import proofs.«01_k».proof.Proof.LaterProjectRun
public import proofs.«01_k».proof.Proof.LaterProjectRef
public import proofs.«01_k».proof.Proof.LaterProjectSpec
public import Idealize.ShloMosaic.Adequacy
public import Idealize.ShloMosaic.Init

@[expose] public section

noncomputable section

namespace Cert.Proof

open Idealize.ShloMosaic Idealize.ShloMosaic.TcCoe Idealize.SL.Sem
open Cert.KernelIdeal.Hand

/-- At a memory that meets the precondition the position words are slots, pairwise distinct. -/
theorem places_bits (m : (ℓ : Loc Cert.Kernel.nD Cert.Kernel.τ Cert.Kernel.sig) → Buf (Elt Bits) ℓ) (h : Cert.Pre_Kernel m)
    (c : Dev Cert.KernelIdeal.nD) : Places (posOf (F := Bits) m c) :=
  places_of_pre _ _ (h c)
theorem places_ideal (m : (ℓ : Loc Cert.KernelIdeal.nD Cert.KernelIdeal.τ Cert.KernelIdeal.sig) → Buf (Elt Ideal) ℓ) (h : Cert.Pre_KernelIdeal m)
    (c : Dev Cert.KernelIdeal.nD) : Places (posOf (F := Ideal) m c) :=
  places_of_pre _ _ (h c)

/-! The program at bits is the ideal program's text read at bits: the same body table and the same @main. -/

theorem same_defs₀ : Cert.Kernel.defs₀ (F := Bits) = Cert.KernelIdeal.defs₀ := by
  unfold Cert.Kernel.defs₀ Cert.KernelIdeal.defs₀
  refine congrArg Defs.onTc ?_
  funext l a
  match l, a with
  | 0, (t, s) => rfl
theorem same_defs : Cert.Kernel.defs (F := Bits) = Cert.KernelIdeal.defs := congrArg (Pipeline.defs Cert.KernelIdeal.pcfgs) same_defs₀
theorem same_main : Cert.Kernel.main (F := Bits) = Cert.KernelIdeal.main := rfl

/-- The dispatch's run at bits. -/
theorem run_bits (m : (ℓ : Loc Cert.Kernel.nD Cert.Kernel.τ Cert.Kernel.sig) → Buf (Elt Bits) ℓ) (ρ : Dev Cert.Kernel.nD → PrngReg) (h : Cert.Pre_Kernel m) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_v0) = placed (posOf (F := Bits) m c) (rowsOf (F := Bits) m c) 33
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [same_defs, same_main]
  exact run_value (F := Bits) m ρ (places_bits m h)

/-- The dispatch at bits: it runs, leaves its arguments and ends with every semaphore at zero. -/
theorem frame_kernel : Cert.quiescent_Kernel := fun m ρ h =>
  (θ_run Cert.Kernel.defs _ _).mono (fun _ h => ⟨fun c => (h.1 c).2, h.2⟩) (run_bits m ρ h)

/-- The same at the ideal instance. -/
theorem frame_kernelIdeal : Cert.quiescent_KernelIdeal := fun m ρ h =>
  (θ_run Cert.KernelIdeal.defs _ _).mono (fun _ h => ⟨fun c => (h.1 c).2, h.2⟩) (run_value (F := Ideal) m ρ (places_ideal m h))

/-- The reference's frames: a straight line of host operations, no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_referenceIdeal_pre : Cert.quiescent_ReferenceIdeal_pre_places_distinct := fun m ρ _ =>
  frame_referenceIdeal m ρ trivial
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The dispatch and the two scatters leave the same buffer, at the ideal instance … -/
theorem values_ideal : Cert.algebraic_KernelIdeal_ReferenceIdeal := fun m ρ m' ρ' h hargs =>
  ⟨fun c => placed (posOf (F := Ideal) m c) (rowsOf m c) 33,
    (θ_run Cert.KernelIdeal.defs _ _).mono (fun _ h => h.1) (run_value (F := Ideal) m ρ (places_ideal m h)),
    (θ_run Cert.ReferenceIdeal.defs _ _).mono (fun r hr c => ⟨(hr c).1.trans (by
        rw [(hargs c).1, (hargs c).2]
        exact scatters_eq (F := Ideal) (places_ideal m h c) (rowsOf m c) _ _), (hr c).2⟩)
      (Cert.ReferenceIdeal.Value.run (F := Ideal) m' ρ')⟩

/-- … and bit for bit. -/
theorem values_bits : Cert.bitexact_Kernel_Reference := fun m ρ m' ρ' h hargs =>
  ⟨fun c => placed (posOf (F := Bits) m c) (rowsOf (F := Bits) m c) 33,
    (θ_run Cert.Kernel.defs _ _).mono (fun _ h => h.1) (run_bits m ρ h),
    (θ_run Cert.Reference.defs _ _).mono (fun r hr c => ⟨(hr c).1.trans (by
        rw [(hargs c).1, (hargs c).2]
        exact scatters_eq (F := Bits) (places_bits m h c) (rowsOf (F := Bits) m c) _ _), (hr c).2⟩)
      (Cert.Reference.Value.run (F := Bits) m' ρ')⟩

/-! ## The experts of layer 1 -/

namespace Experts

open Cert.Kernel2Ideal.Hand

/-- At a memory that meets the precondition the tables are in range. -/
theorem range_bits (m : (ℓ : Loc Cert.Kernel2.nD Cert.Kernel2.τ Cert.Kernel2.sig) → Buf (Elt Bits) ℓ) (h : Cert.Pre_Kernel2 m) :
    InRange (F := Bits) (expOf (F := Bits) m) (cntOf (F := Bits) m) :=
  range_of_pre (F := Bits) _ _ _ _ _ _ (h 0)
theorem range_ideal (m : (ℓ : Loc Cert.Kernel2Ideal.nD Cert.Kernel2Ideal.τ Cert.Kernel2Ideal.sig) → Buf (Elt Ideal) ℓ) (h : Cert.Pre_Kernel2Ideal m) :
    InRange (F := Ideal) (expOf (F := Ideal) m) (cntOf (F := Ideal) m) :=
  range_of_pre (F := Ideal) _ _ _ _ _ _ (h 0)

/-! The program at bits is the ideal program's text read at bits. -/

theorem same_defs₀ : Cert.Kernel2.defs₀ (F := Bits) = Cert.Kernel2Ideal.defs₀ := by
  unfold Cert.Kernel2.defs₀ Cert.Kernel2Ideal.defs₀
  refine congrArg Defs.onTc ?_
  funext l a
  match l, a with
  | 0, (t, s) => rfl
theorem same_defs : Cert.Kernel2.defs (F := Bits) = Cert.Kernel2Ideal.defs := congrArg (Pipeline.defs Cert.Kernel2Ideal.pcfgs) same_defs₀
theorem same_main : Cert.Kernel2.main (F := Bits) = Cert.Kernel2Ideal.main := rfl

/-- The experts at bits: they run, leave their arguments and end with every semaphore at zero. -/
theorem frame_kernel : Cert.quiescent_Kernel2 := fun m ρ h => by
  rw [same_defs, same_main]
  exact (θ_run Cert.Kernel2Ideal.defs _ _).mono (fun _ h => ⟨fun c => (h.1 c).2, h.2⟩) (run_value (F := Bits) m ρ (range_bits m h))

/-- The same at the ideal instance. -/
theorem frame_kernelIdeal : Cert.quiescent_Kernel2Ideal := fun m ρ h =>
  (θ_run Cert.Kernel2Ideal.defs _ _).mono (fun _ h => ⟨fun c => (h.1 c).2, h.2⟩) (run_value (F := Ideal) m ρ (range_ideal m h))

/-- The reference's frames: a straight line of host operations, no semaphore. -/
theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_referenceIdeal_pre : Cert.quiescent_Reference2Ideal_pre_tables_in_range := fun m ρ _ =>
  frame_referenceIdeal m ρ trivial

/-- The experts' kernel and the reference leave the same array, at the ideal instance. -/
theorem values_ideal : Cert.algebraic_Kernel2Ideal_Reference2Ideal := fun m ρ m' ρ' h hargs =>
  ⟨fun c => resultOf (F := Ideal) m (range_ideal m h) c,
    (θ_run Cert.Kernel2Ideal.defs _ _).mono (fun _ h => h.1) (run_value (F := Ideal) m ρ (range_ideal m h)),
    (θ_run Cert.Reference2Ideal.defs _ _).mono (fun r hr c => ⟨(hr c).1.trans (by
        rw [res_eq, (hargs c).1, (hargs c).2.1, (hargs c).2.2.1, (hargs c).2.2.2.1, (hargs c).2.2.2.2.1, (hargs c).2.2.2.2.2]
        exact same_values m (range_ideal m h) c), (hr c).2⟩)
      (Cert.Reference2Ideal.Value.run (F := Ideal) m' ρ')⟩

end Experts

/-! ## The experts of layer 0 -/

namespace FirstExperts

open Cert.Kernel3Ideal.Hand

/-- At a memory that meets the precondition the tables are in range. -/
theorem range_bits (m : (ℓ : Loc Cert.Kernel3.nD Cert.Kernel3.τ Cert.Kernel3.sig) → Buf (Elt Bits) ℓ) (h : Cert.Pre_Kernel3 m) :
    InRange (F := Bits) (expOf (F := Bits) m) (cntOf (F := Bits) m) :=
  range_of_pre (F := Bits) _ _ _ _ _ _ (h 0)
theorem range_ideal (m : (ℓ : Loc Cert.Kernel3Ideal.nD Cert.Kernel3Ideal.τ Cert.Kernel3Ideal.sig) → Buf (Elt Ideal) ℓ) (h : Cert.Pre_Kernel3Ideal m) :
    InRange (F := Ideal) (expOf (F := Ideal) m) (cntOf (F := Ideal) m) :=
  range_of_pre (F := Ideal) _ _ _ _ _ _ (h 0)

/-! The program at bits is the ideal program's text read at bits. -/

theorem same_defs₀ : Cert.Kernel3.defs₀ (F := Bits) = Cert.Kernel3Ideal.defs₀ := by
  unfold Cert.Kernel3.defs₀ Cert.Kernel3Ideal.defs₀
  refine congrArg Defs.onTc ?_
  funext l a
  match l, a with
  | 0, (t, s) => rfl
theorem same_defs : Cert.Kernel3.defs (F := Bits) = Cert.Kernel3Ideal.defs := congrArg (Pipeline.defs Cert.Kernel3Ideal.pcfgs) same_defs₀
theorem same_main : Cert.Kernel3.main (F := Bits) = Cert.Kernel3Ideal.main := rfl

/-- The experts at bits: they run, leave their arguments and end with every semaphore at zero. -/
theorem frame_kernel : Cert.quiescent_Kernel3 := fun m ρ h => by
  rw [same_defs, same_main]
  exact (θ_run Cert.Kernel3Ideal.defs _ _).mono (fun _ h => ⟨fun c => (h.1 c).2, h.2⟩) (run_value (F := Bits) m ρ (range_bits m h))

/-- The same at the ideal instance. -/
theorem frame_kernelIdeal : Cert.quiescent_Kernel3Ideal := fun m ρ h =>
  (θ_run Cert.Kernel3Ideal.defs _ _).mono (fun _ h => ⟨fun c => (h.1 c).2, h.2⟩) (run_value (F := Ideal) m ρ (range_ideal m h))

/-- The reference's frames: a straight line of host operations, no semaphore. -/
theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_referenceIdeal_pre : Cert.quiescent_Reference3Ideal_pre_tables_in_range := fun m ρ _ =>
  frame_referenceIdeal m ρ trivial

/-- The experts' kernel and the reference leave the same array, at the ideal instance. -/
theorem values_ideal : Cert.algebraic_Kernel3Ideal_Reference3Ideal := fun m ρ m' ρ' h hargs =>
  ⟨fun c => resultOf (F := Ideal) m (range_ideal m h) c,
    (θ_run Cert.Kernel3Ideal.defs _ _).mono (fun _ h => h.1) (run_value (F := Ideal) m ρ (range_ideal m h)),
    (θ_run Cert.Reference3Ideal.defs _ _).mono (fun r hr c => ⟨(hr c).1.trans (by
        rw [res_eq, (hargs c).1, (hargs c).2.1, (hargs c).2.2.1, (hargs c).2.2.2.1, (hargs c).2.2.2.2.1, (hargs c).2.2.2.2.2]
        exact same_values m (range_ideal m h) c), (hr c).2⟩)
      (Cert.Reference3Ideal.Value.run (F := Ideal) m' ρ')⟩

end FirstExperts

/-! ## The final combine -/

namespace Combine

open Cert.Kernel4Ideal.Hand

/-- At a memory that meets the precondition every position word names an expert row. -/
theorem named_bits (m : (ℓ : Loc Cert.Kernel4.nD Cert.Kernel4.τ Cert.Kernel4.sig) → Buf (Elt Bits) ℓ) (h : Cert.Pre_Kernel4 m) (c : Dev Cert.Kernel4Ideal.nD) :
    Named (posOf (F := Bits) m c) :=
  named_of_pre (F := Bits) _ _ _ _ _ (h c)
theorem named_ideal (m : (ℓ : Loc Cert.Kernel4Ideal.nD Cert.Kernel4Ideal.τ Cert.Kernel4Ideal.sig) → Buf (Elt Ideal) ℓ) (h : Cert.Pre_Kernel4Ideal m) (c : Dev Cert.Kernel4Ideal.nD) :
    Named (posOf (F := Ideal) m c) :=
  named_of_pre (F := Ideal) _ _ _ _ _ (h c)

/-! The program at bits is the ideal program's text read at bits. -/

theorem same_defs₀ : Cert.Kernel4.defs₀ (F := Bits) = Cert.Kernel4Ideal.defs₀ := by
  unfold Cert.Kernel4.defs₀ Cert.Kernel4Ideal.defs₀
  refine congrArg Defs.onTc ?_
  funext l a
  match l, a with
  | 0, (t, s) => rfl
theorem same_defs : Cert.Kernel4.defs (F := Bits) = Cert.Kernel4Ideal.defs := congrArg (Pipeline.defs Cert.Kernel4Ideal.pcfgs) same_defs₀
theorem same_main : Cert.Kernel4.main (F := Bits) = Cert.Kernel4Ideal.main := rfl

/-- The combine at bits: it runs, leaves its arguments and ends with every semaphore at zero. -/
theorem frame_kernel : Cert.quiescent_Kernel4 := fun m ρ h => by
  rw [same_defs, same_main]
  exact (θ_run Cert.Kernel4Ideal.defs _ _).mono (fun _ h => ⟨fun c => (h.1 c).2.2, h.2⟩) (run_value (F := Bits) m ρ (named_bits m h))

/-- The same at the ideal instance. -/
theorem frame_kernelIdeal : Cert.quiescent_Kernel4Ideal := fun m ρ h =>
  (θ_run Cert.Kernel4Ideal.defs _ _).mono (fun _ h => ⟨fun c => (h.1 c).2.2, h.2⟩) (run_value (F := Ideal) m ρ (named_ideal m h))

/-- The reference's frames: a straight line of host operations, no semaphore. -/
theorem frame_referenceIdeal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)
theorem frame_referenceIdeal_pre : Cert.quiescent_Reference4Ideal_pre_places_in_range := fun m ρ _ =>
  frame_referenceIdeal m ρ trivial

/-- The combine and the reference leave the same two results, at the ideal instance. -/
theorem values_ideal : Cert.algebraic_Kernel4Ideal_Reference4Ideal := fun m ρ m' ρ' h hargs => by
  have same (c : Dev Cert.Kernel4Ideal.nD) : referenceOf m' c = resultOf (F := Ideal) m c := by
    unfold referenceOf
    rw [(hargs c).1, (hargs c).2.1, (hargs c).2.2.1, (hargs c).2.2.2.1, (hargs c).2.2.2.2]
    exact same_values m c (named_ideal m h c)
  refine ⟨_, _, (θ_run Cert.Kernel4Ideal.defs _ _).mono (fun _ h => h.1) (run_value (F := Ideal) m ρ (named_ideal m h)),
    (θ_run Cert.Reference4Ideal.defs _ _).mono (fun r hr c => ⟨(hr c).1.trans ?_, (hr c).2.1.trans ?_, (hr c).2.2⟩)
      (Cert.Reference4Ideal.Value.run (F := Ideal) m' ρ')⟩
  · rw [first_eq, same]
  · rw [second_eq, same]

end Combine

namespace Project

open Cert.Kernel5Ideal.Hand

/-! The program at bits is the ideal program's text read at bits. -/

theorem same_defs₀ : Cert.Kernel5.defs₀ (F := Bits) = Cert.Kernel5Ideal.defs₀ := by
  unfold Cert.Kernel5.defs₀ Cert.Kernel5Ideal.defs₀
  refine congrArg Defs.onTc ?_
  funext l a
  match l, a with
  | 0, (t, s) => rfl
theorem same_defs : Cert.Kernel5.defs (F := Bits) = Cert.Kernel5Ideal.defs := congrArg (Pipeline.defs Cert.Kernel5Ideal.pcfgs) same_defs₀
theorem same_main : Cert.Kernel5.main (F := Bits) = Cert.Kernel5Ideal.main := rfl

/-- The in-projection at bits: it runs, leaves its arguments and ends with every semaphore at zero. -/
theorem frame_kernel : Cert.quiescent_Kernel5 := fun m ρ _ => by
  rw [same_defs, same_main]
  exact (θ_run Cert.Kernel5Ideal.defs _ _).mono (fun _ h => ⟨fun c => (h.1 c).2.2.2.2, h.2⟩) (run_value (F := Bits) m ρ)

/-- The same at the ideal instance. -/
theorem frame_kernelIdeal : Cert.quiescent_Kernel5Ideal := fun m ρ _ =>
  (θ_run Cert.Kernel5Ideal.defs _ _).mono (fun _ h => ⟨fun c => (h.1 c).2.2.2.2, h.2⟩) (run_value (F := Ideal) m ρ)

/-- The reference's frame: a straight line of host operations, no semaphore. -/
theorem frame_referenceIdeal : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The in-projection and the reference leave the same four results, at the ideal instance. -/
theorem values_ideal : Cert.algebraic_Kernel5Ideal_Reference5Ideal := fun m ρ m' ρ' _ hargs => by
  have same (c : Dev Cert.Kernel5Ideal.nD) : Cert.Reference5Ideal.Hand.given m' c = givenOf m c := by
    unfold Cert.Reference5Ideal.Hand.given givenOf
    rw [(hargs c).1, (hargs c).2.1, (hargs c).2.2.1, (hargs c).2.2.2.1, (hargs c).2.2.2.2.1, (hargs c).2.2.2.2.2.1, (hargs c).2.2.2.2.2.2]
  refine ⟨_, _, _, _, (θ_run Cert.Kernel5Ideal.defs _ _).mono (fun _ h => h.1) (run_value (F := Ideal) m ρ),
    (θ_run Cert.Reference5Ideal.defs _ _).mono
      (fun r hr c => ⟨(hr c).1.trans ?_, (hr c).2.1.trans ?_, (hr c).2.2.1.trans ?_, (hr c).2.2.2.1.trans ?_, (hr c).2.2.2.2⟩)
      (Cert.Reference5Ideal.Value.run (F := Ideal) m' ρ')⟩
  · refine Eq.trans (b := Cert.Reference5Ideal.Hand.first (Cert.Reference5Ideal.Hand.given m' c)) rfl ?_
    rw [same, same_first]
  · rw [Cert.Reference5Ideal.Hand.mixed_eq, same, same_mixed]
  · rw [Cert.Reference5Ideal.Hand.tail_eq, same, same_tail]
  · rw [Cert.Reference5Ideal.Hand.ends_eq, same, same_ends]

end Project

namespace LaterProject

open Cert.Reference6Ideal.Hand (row_part matrix_part cache_part)
open Cert.Kernel6Ideal.Hand

/-! The program at bits is the ideal program's text read at bits. -/

theorem same_defs₀ : Cert.Kernel6.defs₀ (F := Bits) = Cert.Kernel6Ideal.defs₀ := by
  unfold Cert.Kernel6.defs₀ Cert.Kernel6Ideal.defs₀
  refine congrArg Defs.onTc ?_
  funext l a
  match l, a with
  | 0, (t, s) => rfl
theorem same_defs : Cert.Kernel6.defs (F := Bits) = Cert.Kernel6Ideal.defs := congrArg (Pipeline.defs Cert.Kernel6Ideal.pcfgs) same_defs₀
theorem same_main : Cert.Kernel6.main (F := Bits) = Cert.Kernel6Ideal.main := rfl

/-- Layer 1's in-projection at bits: it runs, leaves its arguments and ends with every semaphore at zero. -/
theorem frame_kernel : Cert.quiescent_Kernel6 := fun m ρ _ => by
  rw [same_defs, same_main]
  exact (θ_run Cert.Kernel6Ideal.defs _ _).mono (fun _ h => ⟨fun c => (h.1 c).2.2.2.2, h.2⟩) (run_value (F := Bits) m ρ)

/-- The same at the ideal instance. -/
theorem frame_kernelIdeal : Cert.quiescent_Kernel6Ideal := fun m ρ _ =>
  (θ_run Cert.Kernel6Ideal.defs _ _).mono (fun _ h => ⟨fun c => (h.1 c).2.2.2.2, h.2⟩) (run_value (F := Ideal) m ρ)

/-- The reference's frame: a straight line of host operations, no semaphore. -/
theorem frame_referenceIdeal : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Layer 1's in-projection and the reference leave the same four results, at the ideal instance. -/
theorem values_ideal : Cert.algebraic_Kernel6Ideal_Reference6Ideal := fun m ρ m' ρ' _ hargs => by
  have same (c : Dev Cert.Kernel6Ideal.nD) : Cert.Reference6Ideal.Hand.given m' c = givenOf m c := by
    unfold Cert.Reference6Ideal.Hand.given givenOf
    rw [(hargs c).1, (hargs c).2.1, (hargs c).2.2.1, (hargs c).2.2.2.1, (hargs c).2.2.2.2.1, (hargs c).2.2.2.2.2]
  refine ⟨_, _, _, _, (θ_run Cert.Kernel6Ideal.defs _ _).mono (fun _ h => h.1) (run_value (F := Ideal) m ρ),
    (θ_run Cert.Reference6Ideal.defs _ _).mono
      (fun r hr c => ⟨(hr c).1.trans ?_, (hr c).2.1.trans ?_, (hr c).2.2.1.trans ?_, (hr c).2.2.2.1.trans ?_, (hr c).2.2.2.2⟩)
      (Cert.Reference6Ideal.Value.run (F := Ideal) m' ρ')⟩
  · rw [row_part, matrix_part]
    refine Eq.trans (b := Cert.Reference5Ideal.Hand.first (Cert.Reference6Ideal.Hand.given m' c)) rfl ?_
    rw [same, same_first]
  · rw [Cert.Reference6Ideal.Hand.mixed_eq, same, same_mixed]
  · rw [row_part, matrix_part]
    refine Eq.trans (b := Cert.Reference5Ideal.Hand.tail (Cert.Reference6Ideal.Hand.given m' c)) rfl ?_
    rw [same, same_tail]
  · rw [row_part, matrix_part, cache_part]
    refine Eq.trans (b := Cert.Reference5Ideal.Hand.ends (Cert.Reference6Ideal.Hand.given m' c)) rfl ?_
    rw [same, same_ends]

end LaterProject

/-! ## The combine of layer 0 -/

namespace FirstCombine

open Cert.Kernel7Ideal.Hand
open Cert.Kernel4Ideal.Hand (Named named_of_pre sums)

/-- At a memory that meets the precondition every position word names an expert row. -/
theorem named_bits (m : (ℓ : Loc Cert.Kernel7.nD Cert.Kernel7.τ Cert.Kernel7.sig) → Buf (Elt Bits) ℓ) (h : Cert.Pre_Kernel7 m) (c : Dev Cert.Kernel7Ideal.nD) :
    Named (posOf (F := Bits) m c) :=
  named_of_pre (F := Bits) _ _ _ _ _ (h c)
theorem named_ideal (m : (ℓ : Loc Cert.Kernel7Ideal.nD Cert.Kernel7Ideal.τ Cert.Kernel7Ideal.sig) → Buf (Elt Ideal) ℓ) (h : Cert.Pre_Kernel7Ideal m) (c : Dev Cert.Kernel7Ideal.nD) :
    Named (posOf (F := Ideal) m c) :=
  named_of_pre (F := Ideal) _ _ _ _ _ (h c)

/-! The program at bits is the ideal program's text read at bits. -/

theorem same_defs₀ : Cert.Kernel7.defs₀ (F := Bits) = Cert.Kernel7Ideal.defs₀ := by
  unfold Cert.Kernel7.defs₀ Cert.Kernel7Ideal.defs₀
  refine congrArg Defs.onTc ?_
  funext l a
  match l, a with
  | 0, (t, s) => rfl
theorem same_defs : Cert.Kernel7.defs (F := Bits) = Cert.Kernel7Ideal.defs := congrArg (Pipeline.defs Cert.Kernel7Ideal.pcfgs) same_defs₀
theorem same_main : Cert.Kernel7.main (F := Bits) = Cert.Kernel7Ideal.main := rfl

/-- The combine at bits: it runs, leaves its arguments and ends with every semaphore at zero. -/
theorem frame_kernel : Cert.quiescent_Kernel7 := fun m ρ h => by
  rw [same_defs, same_main]
  exact (θ_run Cert.Kernel7Ideal.defs _ _).mono (fun _ h => ⟨fun c => (h.1 c).2, h.2⟩) (run_value (F := Bits) m ρ (named_bits m h))

/-- The same at the ideal instance. -/
theorem frame_kernelIdeal : Cert.quiescent_Kernel7Ideal := fun m ρ h =>
  (θ_run Cert.Kernel7Ideal.defs _ _).mono (fun _ h => ⟨fun c => (h.1 c).2, h.2⟩) (run_value (F := Ideal) m ρ (named_ideal m h))

/-- The reference's frames: a straight line of host operations, no semaphore. -/
theorem frame_referenceIdeal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_referenceIdeal_pre : Cert.quiescent_Reference7Ideal_pre_places_in_range := fun m ρ _ =>
  frame_referenceIdeal m ρ trivial

/-- The combine and the reference leave the same rows, at the ideal instance. -/
theorem values_ideal : Cert.algebraic_Kernel7Ideal_Reference7Ideal := fun m ρ m' ρ' h hargs =>
  ⟨fun c => resultOf (F := Ideal) m c,
    (θ_run Cert.Kernel7Ideal.defs _ _).mono (fun _ h => h.1) (run_value (F := Ideal) m ρ (named_ideal m h)),
    (θ_run Cert.Reference7Ideal.defs _ _).mono (fun r hr c => ⟨(hr c).1.trans (by
        rw [(hargs c).1, (hargs c).2.1, (hargs c).2.2.1, (hargs c).2.2.2.2]
        exact Eq.trans (b := sums (posOf m c) (midOf m c) (gateOf m c) (rowsOf m c)) rfl (same_values m c (named_ideal m h c))), (hr c).2⟩)
      (Cert.Reference7Ideal.Value.run (F := Ideal) m' ρ')⟩

end FirstCombine

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_places_distinct.Gen.facts, Cert.Pre_tables_in_range.Gen.facts, Cert.Pre_places_in_range.Gen.facts,
    frame_kernel, frame_kernelIdeal, frame_referenceIdeal, frame_referenceIdeal_pre, frame_reference,
    Experts.frame_kernel, Experts.frame_kernelIdeal, Experts.frame_referenceIdeal, Experts.frame_referenceIdeal_pre,
    FirstExperts.frame_kernel, FirstExperts.frame_kernelIdeal, FirstExperts.frame_referenceIdeal, FirstExperts.frame_referenceIdeal_pre,
    Combine.frame_kernel, Combine.frame_kernelIdeal, Combine.frame_referenceIdeal, Combine.frame_referenceIdeal_pre,
    Project.frame_kernel, Project.frame_kernelIdeal, Project.frame_referenceIdeal,
    LaterProject.frame_kernel, LaterProject.frame_kernelIdeal, LaterProject.frame_referenceIdeal,
    FirstCombine.frame_kernel, FirstCombine.frame_kernelIdeal, FirstCombine.frame_referenceIdeal, FirstCombine.frame_referenceIdeal_pre,
    trivial, values_ideal, values_bits, trivial, Experts.values_ideal, trivial, FirstExperts.values_ideal,
    trivial, Combine.values_ideal, trivial, Project.values_ideal, trivial, LaterProject.values_ideal,
    trivial, FirstCombine.values_ideal⟩

end Cert.Proof

end
